-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_keys [hPre_finite_keys : Cert.Pre_finite_keys.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_keys.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_keys [hPre_finite_keys : Cert.Pre_finite_keys.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_keys.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_heads [hPre_finite_heads : Cert.Pre_finite_heads.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_heads.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_heads [hPre_finite_heads : Cert.Pre_finite_heads.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_heads.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Kernel3Ideal_pre_finite_keys [hKernel3Ideal : Cert.Kernel3Ideal.Facts] [hPre_finite_keys : Cert.Pre_finite_keys.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_keys m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Reference3Ideal_pre_finite_keys [hReference3Ideal : Cert.Reference3Ideal.Facts] [hPre_finite_keys : Cert.Pre_finite_keys.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_keys m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite_heads [hKernel6Ideal : Cert.Kernel6Ideal.Facts] [hPre_finite_heads : Cert.Pre_finite_heads.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_heads m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite_heads [hReference6Ideal : Cert.Reference6Ideal.Facts] [hPre_finite_heads : Cert.Pre_finite_heads.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_heads m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  IdealRules.named_const.Statement Cert.KernelIdeal.κ "qscale" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  IdealRules.named_const.Statement Cert.Kernel3Ideal.κ "xscale" .f32 0x3E0293EE#32 (((11863283 / 134217728) * (Real.log 2)⁻¹ : ℝ) : EReal)

def algebraic_Kernel3Ideal_Reference3Ideal_pre_finite_keys [hKernel3Ideal : Cert.Kernel3Ideal.Facts] [hReference3Ideal : Cert.Reference3Ideal.Facts] [hPre_finite_keys : Cert.Pre_finite_keys.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_keys m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v49) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_v21) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  IdealRules.named_const.Statement Cert.Kernel6Ideal.κ "mscale" .f32 0x3E16C740#32 (((3424635 / 33554432) * (Real.log 2)⁻¹ : ℝ) : EReal)
  ∧ IdealRules.named_const.Statement Cert.Kernel6Ideal.κ "mask" .f32 0xF149F2CA#32 ⊥

def algebraic_Kernel6Ideal_Reference6Ideal_pre_finite_heads [hKernel6Ideal : Cert.Kernel6Ideal.Facts] [hReference6Ideal : Cert.Reference6Ideal.Facts] [hPre_finite_heads : Cert.Pre_finite_heads.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_heads m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v21)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v21) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v25) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_scores : Cert.Pre_finite_scores.Facts) (hPre_finite_keys : Cert.Pre_finite_keys.Facts) (hPre_finite_heads : Cert.Pre_finite_heads.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_keys (hKernel3Ideal := hKernel3Ideal) (hPre_finite_keys := hPre_finite_keys)
    ∧ quiescent_Reference3Ideal (hReference3Ideal := hReference3Ideal)
    ∧ quiescent_Reference3Ideal_pre_finite_keys (hReference3Ideal := hReference3Ideal) (hPre_finite_keys := hPre_finite_keys)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_heads (hKernel6Ideal := hKernel6Ideal) (hPre_finite_heads := hPre_finite_heads)
    ∧ quiescent_Reference6Ideal (hReference6Ideal := hReference6Ideal)
    ∧ quiescent_Reference6Ideal_pre_finite_heads (hReference6Ideal := hReference6Ideal) (hPre_finite_heads := hPre_finite_heads)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_keys (hKernel3Ideal := hKernel3Ideal) (hReference3Ideal := hReference3Ideal) (hPre_finite_keys := hPre_finite_keys)
    ∧ algebraic_Kernel4Ideal_Reference4Ideal (hKernel4Ideal := hKernel4Ideal) (hReference4Ideal := hReference4Ideal)
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_heads (hKernel6Ideal := hKernel6Ideal) (hReference6Ideal := hReference6Ideal) (hPre_finite_heads := hPre_finite_heads)
-- ==== Pre_finite_heads.lean ====
abbrev S16x2048x6x96 : Shape := ⟨4, ![16, 2048, 6, 96]⟩
abbrev S16x2048x6x64 : Shape := ⟨4, ![16, 2048, 6, 64]⟩
abbrev S_ : Shape := ⟨0, ![]⟩

class Facts : Prop where
  bcast_S_S16x2048x6x96 : S_.BroadcastsInDim S16x2048x6x96 (![] : Fin 0 → Fin S16x2048x6x96.rank)
  reducesTo_S16x2048x6x96_S_d0_1_2_3 : S16x2048x6x96.ReducesTo [0, 1, 2, 3] S_
  h_S_ : 0 < S_.numel

variable [Facts]

def fn {F : FTy → Type} [FloatOps F] (main_arg0 : FVec F S16x2048x6x96 .f32) (main_arg1 : FVec F S16x2048x6x96 .f32) (main_arg2 : FVec F S16x2048x6x64 .f32) : IVec S_ 1 :=
  let main_v0 : FVec F S16x2048x6x96 .f32 := Host.absf main_arg0
  let main_cst : FVec F S_ .f32 := constant S_ .f32 0x7F800000#32
  let main_v1 : FVec F S16x2048x6x96 .f32 := broadcastInDim S16x2048x6x96 ![] bcast_S_S16x2048x6x96 main_cst
  let main_v2 : IVec S16x2048x6x96 1 := cmpf .olt main_v0 main_v1
  let main_c : IVec S_ 1 := constantI S_ 1 1#1
  let main_v3 : IVec S_ 1 := (fun x v => Host.reduce IntOp.andi x v reducesTo_S16x2048x6x96_S_d0_1_2_3 h_S_) main_v2 main_c
  let main_v4 : FVec F S16x2048x6x96 .f32 := Host.absf main_arg1
  let main_cst_0 : FVec F S_ .f32 := constant S_ .f32 0x7F800000#32
  let main_v5 : FVec F S16x2048x6x96 .f32 := broadcastInDim S16x2048x6x96 ![] bcast_S_S16x2048x6x96 main_cst_0
  let main_v6 : IVec S16x2048x6x96 1 := cmpf .olt main_v4 main_v5
  let main_c_1 : IVec S_ 1 := constantI S_ 1 1#1
  let main_v7 : IVec S_ 1 := (fun x v => Host.reduce IntOp.andi x v reducesTo_S16x2048x6x96_S_d0_1_2_3 h_S_) main_v6 main_c_1
  let main_v8 : IVec S_ 1 := andi main_v3 main_v7
  main_v8
-- ==== Pre_finite_keys.lean ====
abbrev S16x2048x1024 : Shape := ⟨3, ![16, 2048, 1024]⟩
abbrev S16x2048x384 : Shape := ⟨3, ![16, 2048, 384]⟩
abbrev S16x2048x256 : Shape := ⟨3, ![16, 2048, 256]⟩
abbrev S16x256x512 : Shape := ⟨3, ![16, 256, 512]⟩
abbrev S2x1024x1024 : Shape := ⟨3, ![2, 1024, 1024]⟩
abbrev S2x1024 : Shape := ⟨2, ![2, 1024]⟩
abbrev S2x1024x512 : Shape := ⟨3, ![2, 1024, 512]⟩
abbrev S2x512x1024 : Shape := ⟨3, ![2, 512, 1024]⟩
abbrev S_ : Shape := ⟨0, ![]⟩

class Facts : Prop where
  bitsLt_bf16_f32 : FTy.bits .bf16 < FTy.bits .f32
  bcast_S_S16x256x512 : S_.BroadcastsInDim S16x256x512 (![] : Fin 0 → Fin S16x256x512.rank)
  reducesTo_S16x256x512_S_d0_1_2 : S16x256x512.ReducesTo [0, 1, 2] S_
  h_S_ : 0 < S_.numel
  bcast_S_S2x1024 : S_.BroadcastsInDim S2x1024 (![] : Fin 0 → Fin S2x1024.rank)
  reducesTo_S2x1024_S_d0_1 : S2x1024.ReducesTo [0, 1] S_
  bcast_S_S2x1024x512 : S_.BroadcastsInDim S2x1024x512 (![] : Fin 0 → Fin S2x1024x512.rank)
  reducesTo_S2x1024x512_S_d0_1_2 : S2x1024x512.ReducesTo [0, 1, 2] S_

variable [Facts]

def fn {F : FTy → Type} [FloatOps F] (main_arg0 : FVec F S16x2048x1024 .f32) (main_arg1 : FVec F S16x2048x384 .bf16) (main_arg2 : FVec F S16x2048x384 .bf16) (main_arg3 : FVec F S16x2048x256 .bf16) (main_arg4 : FVec F S16x256x512 .bf16) (main_arg5 : FVec F S16x256x512 .bf16) (main_arg6 : FVec F S2x1024x1024 .f32) (main_arg7 : FVec F S2x1024 .f32) (main_arg8 : FVec F S2x1024x512 .f32) (main_arg9 : FVec F S2x512x1024 .f32) : IVec S_ 1 :=
  let main_v0 : FVec F S16x256x512 .f32 := (extf .f32 · bitsLt_bf16_f32) main_arg4
  let main_v1 : FVec F S16x256x512 .f32 := Host.absf main_v0
  let main_cst : FVec F S_ .f32 := constant S_ .f32 0x7F800000#32
  let main_v2 : FVec F S16x256x512 .f32 := broadcastInDim S16x256x512 ![] bcast_S_S16x256x512 main_cst
  let main_v3 : IVec S16x256x512 1 := cmpf .olt main_v1 main_v2
  let main_c : IVec S_ 1 := constantI S_ 1 1#1
  let main_v4 : IVec S_ 1 := (fun x v => Host.reduce IntOp.andi x v reducesTo_S16x256x512_S_d0_1_2 h_S_) main_v3 main_c
  let main_v5 : FVec F S2x1024 .f32 := Host.absf main_arg7
  let main_cst_0 : FVec F S_ .f32 := constant S_ .f32 0x7F800000#32
  let main_v6 : FVec F S2x1024 .f32 := broadcastInDim S2x1024 ![] bcast_S_S2x1024 main_cst_0
  let main_v7 : IVec S2x1024 1 := cmpf .olt main_v5 main_v6
  let main_c_1 : IVec S_ 1 := constantI S_ 1 1#1
  let main_v8 : IVec S_ 1 := (fun x v => Host.reduce IntOp.andi x v reducesTo_S2x1024_S_d0_1 h_S_) main_v7 main_c_1
  let main_v9 : IVec S_ 1 := andi main_v4 main_v8
  let main_v10 : FVec F S2x1024x512 .f32 := Host.absf main_arg8
  let main_cst_2 : FVec F S_ .f32 := constant S_ .f32 0x7F800000#32
  let main_v11 : FVec F S2x1024x512 .f32 := broadcastInDim S2x1024x512 ![] bcast_S_S2x1024x512 main_cst_2
  let main_v12 : IVec S2x1024x512 1 := cmpf .olt main_v10 main_v11
  let main_c_3 : IVec S_ 1 := constantI S_ 1 1#1
  let main_v13 : IVec S_ 1 := (fun x v => Host.reduce IntOp.andi x v reducesTo_S2x1024x512_S_d0_1_2 h_S_) main_v12 main_c_3
  let main_v14 : IVec S_ 1 := andi main_v9 main_v13
  main_v14
-- ==== Pre_finite_scores.lean ====
abbrev S16x2048x384 : Shape := ⟨3, ![16, 2048, 384]⟩
abbrev S16x2048x6 : Shape := ⟨3, ![16, 2048, 6]⟩
abbrev S_ : Shape := ⟨0, ![]⟩

class Facts : Prop where
  bcast_S_S16x2048x384 : S_.BroadcastsInDim S16x2048x384 (![] : Fin 0 → Fin S16x2048x384.rank)
  reducesTo_S16x2048x384_S_d0_1_2 : S16x2048x384.ReducesTo [0, 1, 2] S_
  h_S_ : 0 < S_.numel
  bcast_S_S16x2048x6 : S_.BroadcastsInDim S16x2048x6 (![] : Fin 0 → Fin S16x2048x6.rank)
  reducesTo_S16x2048x6_S_d0_1_2 : S16x2048x6.ReducesTo [0, 1, 2] S_

variable [Facts]

def fn {F : FTy → Type} [FloatOps F] (main_arg0 : FVec F S16x2048x384 .f32) (main_arg1 : FVec F S16x2048x384 .f32) (main_arg2 : FVec F S16x2048x384 .f32) (main_arg3 : FVec F S16x2048x6 .f32) : IVec S_ 1 :=
  let main_v0 : FVec F S16x2048x384 .f32 := Host.absf main_arg0
  let main_cst : FVec F S_ .f32 := constant S_ .f32 0x7F800000#32
  let main_v1 : FVec F S16x2048x384 .f32 := broadcastInDim S16x2048x384 ![] bcast_S_S16x2048x384 main_cst
  let main_v2 : IVec S16x2048x384 1 := cmpf .olt main_v0 main_v1
  let main_c : IVec S_ 1 := constantI S_ 1 1#1
  let main_v3 : IVec S_ 1 := (fun x v => Host.reduce IntOp.andi x v reducesTo_S16x2048x384_S_d0_1_2 h_S_) main_v2 main_c
  let main_v4 : FVec F S16x2048x384 .f32 := Host.absf main_arg1
  let main_cst_0 : FVec F S_ .f32 := constant S_ .f32 0x7F800000#32
  let main_v5 : FVec F S16x2048x384 .f32 := broadcastInDim S16x2048x384 ![] bcast_S_S16x2048x384 main_cst_0
  let main_v6 : IVec S16x2048x384 1 := cmpf .olt main_v4 main_v5
  let main_c_1 : IVec S_ 1 := constantI S_ 1 1#1
  let main_v7 : IVec S_ 1 := (fun x v => Host.reduce IntOp.andi x v reducesTo_S16x2048x384_S_d0_1_2 h_S_) main_v6 main_c_1
  let main_v8 : IVec S_ 1 := andi main_v3 main_v7
  let main_v9 : FVec F S16x2048x6 .f32 := Host.absf main_arg3
  let main_cst_2 : FVec F S_ .f32 := constant S_ .f32 0x7F800000#32
  let main_v10 : FVec F S16x2048x6 .f32 := broadcastInDim S16x2048x6 ![] bcast_S_S16x2048x6 main_cst_2
  let main_v11 : IVec S16x2048x6 1 := cmpf .olt main_v9 main_v10
  let main_c_3 : IVec S_ 1 := constantI S_ 1 1#1
  let main_v12 : IVec S_ 1 := (fun x v => Host.reduce IntOp.andi x v reducesTo_S16x2048x6_S_d0_1_2 h_S_) main_v11 main_c_3
  let main_v13 : IVec S_ 1 := andi main_v8 main_v12
  main_v13
-- ==== Kernel.lean ====
abbrev S16x2048x384 : Shape := ⟨3, ![16, 2048, 384]⟩
abbrev S16x2048x6 : Shape := ⟨3, ![16, 2048, 6]⟩
abbrev S_ : Shape := ⟨0, ![]⟩
abbrev S16x2048x128 : Shape := ⟨3, ![16, 2048, 128]⟩
abbrev S16x8x256x384 : Shape := ⟨4, ![16, 8, 256, 384]⟩
abbrev S16x8x384x256 : Shape := ⟨4, ![16, 8, 384, 256]⟩
abbrev S16x2048x8 : Shape := ⟨3, ![16, 2048, 8]⟩
abbrev S16x8x256x8 : Shape := ⟨4, ![16, 8, 256, 8]⟩
abbrev S16x8x8x256 : Shape := ⟨4, ![16, 8, 8, 256]⟩
abbrev S1x1x384x256 : Shape := ⟨4, ![1, 1, 384, 256]⟩
abbrev S1x2048x384 : Shape := ⟨3, ![1, 2048, 384]⟩
abbrev S1x8x384x256 : Shape := ⟨4, ![1, 8, 384, 256]⟩
abbrev S1x2048x128 : Shape := ⟨3, ![1, 2048, 128]⟩
abbrev S1x1x8x256 : Shape := ⟨4, ![1, 1, 8, 256]⟩
abbrev S1x256x384 : Shape := ⟨3, ![1, 256, 384]⟩
abbrev S1x6x256x256 : Shape := ⟨4, ![1, 6, 256, 256]⟩
abbrev S6x256x256 : Shape := ⟨3, ![6, 256, 256]⟩
abbrev S128x256 : Shape := ⟨2, ![128, 256]⟩
abbrev S1x1x128x256 : Shape := ⟨4, ![1, 1, 128, 256]⟩
abbrev S1x256x128 : Shape := ⟨3, ![1, 256, 128]⟩
abbrev S256x128 : Shape := ⟨2, ![256, 128]⟩
abbrev S256x256 : Shape := ⟨2, ![256, 256]⟩
abbrev S1x1x1x256 : Shape := ⟨4, ![1, 1, 1, 256]⟩
abbrev S1x256 : Shape := ⟨2, ![1, 256]⟩
abbrev S1x128x1 : Shape := ⟨3, ![1, 128, 1]⟩
abbrev S128x1 : Shape := ⟨2, ![128, 1]⟩
abbrev S256 : Shape := ⟨1, ![256]⟩
abbrev S64x256 : Shape := ⟨2, ![64, 256]⟩
abbrev S1x1x64x256 : Shape := ⟨4, ![1, 1, 64, 256]⟩
abbrev S1x128x256 : Shape := ⟨3, ![1, 128, 256]⟩
abbrev S16x256 : Shape := ⟨2, ![16, 256]⟩
abbrev S80x256 : Shape := ⟨2, ![80, 256]⟩
abbrev S1x256x256 : Shape := ⟨3, ![1, 256, 256]⟩

abbrev nBuf : Space → Nat
  | .hbm => 17
  | .vmem => 14
  | .smem => 0
  | _ => 0

abbrev bufTy : (tb : Table) → Fin (tcTables nBuf tb) → BufTy
  | .hbm, ⟨0, _⟩ => ⟨S16x2048x384, .f32⟩
  | .hbm, ⟨1, _⟩ => ⟨S16x2048x384, .f32⟩
  | .hbm, ⟨2, _⟩ => ⟨S16x2048x384, .f32⟩
  | .hbm, ⟨3, _⟩ => ⟨S16x2048x6, .f32⟩
  | .hbm, ⟨4, _⟩ => ⟨S_, .i32⟩
  | .hbm, ⟨5, _⟩ => ⟨S_, .f32⟩
  | .hbm, ⟨6, _⟩ => ⟨S16x2048x128, .f32⟩
  | .hbm, ⟨7, _⟩ => ⟨S16x8x256x384, .f32⟩
  | .hbm, ⟨8, _⟩ => ⟨S16x8x384x256, .f32⟩
  | .hbm, ⟨9, _⟩ => ⟨S16x2048x384, .bf16⟩
  | .hbm, ⟨10, _⟩ => ⟨S16x8x256x384, .f32⟩
  | .hbm, ⟨11, _⟩ => ⟨S16x8x384x256, .f32⟩
  | .hbm, ⟨12, _⟩ => ⟨S16x8x384x256, .bf16⟩
  | .hbm, ⟨13, _⟩ => ⟨S16x2048x8, .f32⟩
  | .hbm, ⟨14, _⟩ => ⟨S16x8x256x8, .f32⟩
  | .hbm, ⟨15, _⟩ => ⟨S16x8x8x256, .f32⟩
  | .hbm, ⟨16, _⟩ => ⟨S16x2048x384, .bf16⟩
  | .local _ .vmem, ⟨0, _⟩ => ⟨S1x1x384x256, .f32⟩
  | .local _ .vmem, ⟨1, _⟩ => ⟨S1x1x384x256, .f32⟩
  | .local _ .vmem, ⟨2, _⟩ => ⟨S1x2048x384, .bf16⟩
  | .local _ .vmem, ⟨3, _⟩ => ⟨S1x2048x384, .bf16⟩
  | .local _ .vmem, ⟨4, _⟩ => ⟨S1x8x384x256, .bf16⟩
  | .local _ .vmem, ⟨5, _⟩ => ⟨S1x8x384x256, .bf16⟩
  | .local _ .vmem, ⟨6, _⟩ => ⟨S1x2048x128, .f32⟩
  | .local _ .vmem, ⟨7, _⟩ => ⟨S1x2048x128, .f32⟩
  | .local _ .vmem, ⟨8, _⟩ => ⟨S1x1x8x256, .f32⟩
  | .local _ .vmem, ⟨9, _⟩ => ⟨S1x1x8x256, .f32⟩
  | .local _ .vmem, ⟨10, _⟩ => ⟨S1x256x384, .bf16⟩
  | .local _ .vmem, ⟨11, _⟩ => ⟨S1x256x384, .bf16⟩
  | .local _ .vmem, ⟨12, _⟩ => ⟨S1x6x256x256, .f32⟩
  | .local _ .vmem, ⟨13, _⟩ => ⟨S6x256x256, .bf16⟩
  | _, _ => ⟨S16x2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c256_i32 : BitVec 32 := 256#32
  let v60 : BitVec 32 := Scalar.muli arg1 c256_i32
  v60
def k0_off1 (i : grid0.Coords) : Fin 3 → Nat :=
  let c0_26 : Index := 0#32
  let arg1 : BitVec 32 := BitVec.ofNat 32 (i 1).val
  let c256_i32 : BitVec 32 := 256#32
  let v60 : BitVec 32 := Scalar.muli arg1 c256_i32
  let v61 : BitVec 32 := v60
  let v62 : Index := Scalar.indexCast v61
  let c0_27 : Index := 0#32
  ![0, v62.toNat, 0]
def k0_off2 (i : grid0.Coords) : Fin 3 → Nat :=
  let c0_30 : Index := 0#32
  let arg1 : BitVec 32 := BitVec.ofNat 32 (i 1).val
  let c256_i32 : BitVec 32 := 256#32
  let v60 : BitVec 32 := Scalar.muli arg1 c256_i32
  let v61 : BitVec 32 := v60
  let v68 : Index := Scalar.indexCast v61
  let c128_31 : Index := 128#32
  ![0, v68.toNat, 128]
def k0_off3 (i : grid0.Coords) : Fin 3 → Nat :=
  let c0_34 : Index := 0#32
  let arg1 : BitVec 32 := BitVec.ofNat 32 (i 1).val
  let c256_i32 : BitVec 32 := 256#32
  let v60 : BitVec 32 := Scalar.muli arg1 c256_i32
  let v61 : BitVec 32 := v60
  let v74 : Index := Scalar.indexCast v61
  let c256_35 : Index := 256#32
  ![0, v74.toNat, 256]
def k0_off4 (i : grid0.Coords) (c0_i32_49 : BitVec 32) : Fin 3 → Nat :=
  let c0_50 : Index := 0#32
  let arg1 : BitVec 32 := BitVec.ofNat 32 (i 1).val
  let c256_i32 : BitVec 32 := 256#32
  let v60 : BitVec 32 := Scalar.muli arg1 c256_i32
  let v61 : BitVec 32 := v60
  let v91 : BitVec 32 := Scalar.addi v61 c0_i32_49
  let v92 : Index := Scalar.indexCast v91
  let c0_51 : Index := 0#32
  ![0, v92.toNat, 0]
def k0_off5 (i : grid0.Coords) (c0_i32_80 : BitVec 32) : Fin 3 → Nat :=
  let c0_81 : Index := 0#32
  let arg1 : BitVec 32 := BitVec.ofNat 32 (i 1).val
  let c256_i32 : BitVec 32 := 256#32
  let v60 : BitVec 32 := Scalar.muli arg1 c256_i32
  let v61 : BitVec 32 := v60
  let v142 : BitVec 32 := Scalar.addi v61 c0_i32_80
  let v143 : Index := Scalar.indexCast v142
  let c1_82 : Index := 1#32
  ![0, v143.toNat, 1]
def k0_off6 (i : grid0.Coords) (c0_i32_111 : BitVec 32) : Fin 3 → Nat :=
  let c0_112 : Index := 0#32
  let arg1 : BitVec 32 := BitVec.ofNat 32 (i 1).val
  let c256_i32 : BitVec 32 := 256#32
  let v60 : BitVec 32 := Scalar.muli arg1 c256_i32
  let v61 : BitVec 32 := v60
  let v193 : BitVec 32 := Scalar.addi v61 c0_i32_111
  let v194 : Index := Scalar.indexCast v193
  let c2_113 : Index := 2#32
  ![0, v194.toNat, 2]
def k0_off7 (i : grid0.Coords) (c0_i32_142 : BitVec 32) : Fin 3 → Nat :=
  let c0_143 : Index := 0#32
  let arg1 : BitVec 32 := BitVec.ofNat 32 (i 1).val
  let c256_i32 : BitVec 32 := 256#32
  let v60 : BitVec 32 := Scalar.muli arg1 c256_i32
  let v61 : BitVec 32 := v60
  let v244 : BitVec 32 := Scalar.addi v61 c0_i32_142
  let v245 : Index := Scalar.indexCast v244
  let c3_144 : Index := 3#32
  ![0, v245.toNat, 3]
def k0_off8 (i : grid0.Coords) (c0_i32_173 : BitVec 32) : Fin 3 → Nat :=
  let c0_174 : Index := 0#32
  let arg1 : BitVec 32 := BitVec.ofNat 32 (i 1).val
  let c256_i32 : BitVec 32 := 256#32
  let v60 : BitVec 32 := Scalar.muli arg1 c256_i32
  let v61 : BitVec 32 := v60
  let v295 : BitVec 32 := Scalar.addi v61 c0_i32_173
  let v296 : Index := Scalar.indexCast v295
  let c4_175 : Index := 4#32
  ![0, v296.toNat, 4]
def k0_off9 (i : grid0.Coords) (c0_i32_204 : BitVec 32) : Fin 3 → Nat :=
  let c0_205 : Index := 0#32
  let arg1 : BitVec 32 := BitVec.ofNat 32 (i 1).val
  let c256_i32 : BitVec 32 := 256#32
  let v60 : BitVec 32 := Scalar.muli arg1 c256_i32
  let v61 : BitVec 32 := v60
  let v346 : BitVec 32 := Scalar.addi v61 c0_i32_204
  let v347 : Index := Scalar.indexCast v346
  let c5_206 : Index := 5#32
  ![0, v347.toNat, 5]
@[reducible] def k0_t1_loop (i : grid0.Coords) : Scf.Loop 32 :=
  let c0_i32_249 : BitVec 32 := 0#32
  let arg1 : BitVec 32 := BitVec.ofNat 32 (i 1).val
  let v410 : BitVec 32 := Scalar.subi arg1 c0_i32_249
  let c1_i32 : BitVec 32 := 1#32
  let v412 : BitVec 32 := Scalar.divsi v410 c1_i32
  let v413 : BitVec 32 := Scalar.muli v412 c1_i32
  let v414 : BitVec 32 := Scalar.addi c0_i32_249 v413
  let c1_i32_250 : BitVec 32 := 1#32
  ⟨c0_i32_249, v414, c1_i32_250⟩
def k0_mult2 (i : grid0.Coords) (k0_t1 : Fin (k0_t1_loop i).trips) : BitVec 32 :=
  let c0_i32_249 : BitVec 32 := 0#32
  let c1_i32_250 : BitVec 32 := 1#32
  let arg10 : BitVec 32 := Scf.iv c0_i32_249 c1_i32_250 k0_t1
  let c256_i32_387 : BitVec 32 := 256#32
  let v660 : BitVec 32 := Scalar.muli arg10 c256_i32_387
  v660
def k0_off10 (i : grid0.Coords) (k0_t1 : Fin (k0_t1_loop i).trips) : Fin 3 → Nat :=
  let c0_388 : Index := 0#32
  let c0_i32_249 : BitVec 32 := 0#32
  let c1_i32_250 : BitVec 32 := 1#32
  let arg10 : BitVec 32 := Scf.iv c0_i32_249 c1_i32_250 k0_t1
  let c256_i32_387 : BitVec 32 := 256#32
  let v660 : BitVec 32 := Scalar.muli arg10 c256_i32_387
  let v661 : BitVec 32 := v660
  let v662 : Index := Scalar.indexCast v661
  let c0_389 : Index := 0#32
  ![0, v662.toNat, 0]
def k0_off11 (i : grid0.Coords) (k0_t1 : Fin (k0_t1_loop i).trips) : Fin 3 → Nat :=
  let c0_392 : Index := 0#32
  let c0_i32_249 : BitVec 32 := 0#32
  let c1_i32_250 : BitVec 32 := 1#32
  let arg10 : BitVec 32 := Scf.iv c0_i32_249 c1_i32_250 k0_t1
  let c256_i32_387 : BitVec 32 := 256#32
  let v660 : BitVec 32 := Scalar.muli arg10 c256_i32_387
  let v661 : BitVec 32 := v660
  let v668 : Index := Scalar.indexCast v661
  let c128_393 : Index := 128#32
  ![0, v668.toNat, 128]
def k0_off12 (i : grid0.Coords) (k0_t1 : Fin (k0_t1_loop i).trips) : Fin 3 → Nat :=
  let c0_396 : Index := 0#32
  let c0_i32_249 : BitVec 32 := 0#32
  let c1_i32_250 : BitVec 32 := 1#32
  let arg10 : BitVec 32 := Scf.iv c0_i32_249 c1_i32_250 k0_t1
  let c256_i32_387 : BitVec 32 := 256#32
  let v660 : BitVec 32 := Scalar.muli arg10 c256_i32_387
  let v661 : BitVec 32 := v660
  let v674 : Index := Scalar.indexCast v661
  let c256_397 : Index := 256#32
  ![0, v674.toNat, 256]
def k0_off13 (i : grid0.Coords) (k0_t1 : Fin (k0_t1_loop i).trips) : Fin 4 → Nat :=
  let c0_402 : Index := 0#32
  let c0_i32_249 : BitVec 32 := 0#32
  let c1_i32_250 : BitVec 32 := 1#32
  let arg10 : BitVec 32 := Scf.iv c0_i32_249 c1_i32_250 k0_t1
  let c0_i32_400 : BitVec 32 := 0#32
  let v680 : BitVec 1 := Scalar.cmpi .eq arg10 c0_i32_400
  let arg1 : BitVec 32 := BitVec.ofNat 32 (i 1).val
  let c1_i32_401 : BitVec 32 := 1#32
  let v681 : BitVec 32 := Scalar.subi arg10 c1_i32_401
  let v682 : BitVec 32 := Scalar.select v680 arg1 v681
  let v683 : Index := Scalar.indexCast v682
  let c0_403 : Index := 0#32
  let c0_404 : Index := 0#32
  ![0, v683.toNat, 0, 0]
def k0_off14 (i : grid0.Coords) (k0_t1 : Fin (k0_t1_loop i).trips) : Fin 4 → Nat :=
  let c0_405 : Index := 0#32
  let c0_i32_249 : BitVec 32 := 0#32
  let c1_i32_250 : BitVec 32 := 1#32
  let arg10 : BitVec 32 := Scf.iv c0_i32_249 c1_i32_250 k0_t1
  let c0_i32_400 : BitVec 32 := 0#32
  let v680 : BitVec 1 := Scalar.cmpi .eq arg10 c0_i32_400
  let arg1 : BitVec 32 := BitVec.ofNat 32 (i 1).val
  let c1_i32_401 : BitVec 32 := 1#32
  let v681 : BitVec 32 := Scalar.subi arg10 c1_i32_401
  let v682 : BitVec 32 := Scalar.select v680 arg1 v681
  let v686 : Index := Scalar.indexCast v682
  let c64_406 : Index := 64#32
  let c0_407 : Index := 0#32
  ![0, v686.toNat, 64, 0]
def k0_off15 (i : grid0.Coords) (k0_t1 : Fin (k0_t1_loop i).trips) : Fin 4 → Nat :=
  let c0_408 : Index := 0#32
  let c0_i32_249 : BitVec 32 := 0#32
  let c1_i32_250 : BitVec 32 := 1#32
  let arg10 : BitVec 32 := Scf.iv c0_i32_249 c1_i32_250 k0_t1
  let c0_i32_400 : BitVec 32 := 0#32
  let v680 : BitVec 1 := Scalar.cmpi .eq arg10 c0_i32_400
  let arg1 : BitVec 32 := BitVec.ofNat 32 (i 1).val
  let c1_i32_401 : BitVec 32 := 1#32
  let v681 : BitVec 32 := Scalar.subi arg10 c1_i32_401
  let v682 : BitVec 32 := Scalar.select v680 arg1 v681
  let v689 : Index := Scalar.indexCast v682
  let c128_409 : Index := 128#32
  let c0_410 : Index := 0#32
  ![0, v689.toNat, 128, 0]
def k0_off16 (i : grid0.Coords) (k0_t1 : Fin (k0_t1_loop i).trips) : Fin 4 → Nat :=
  let c0_411 : Index := 0#32
  let c0_i32_249 : BitVec 32 := 0#32
  let c1_i32_250 : BitVec 32 := 1#32
  let arg10 : BitVec 32 := Scf.iv c0_i32_249 c1_i32_250 k0_t1
  let c0_i32_400 : BitVec 32 := 0#32
  let v680 : BitVec 1 := Scalar.cmpi .eq arg10 c0_i32_400
  let arg1 : BitVec 32 := BitVec.ofNat 32 (i 1).val
  let c1_i32_401 : BitVec 32 := 1#32
  let v681 : BitVec 32 := Scalar.subi arg10 c1_i32_401
  let v682 : BitVec 32 := Scalar.select v680 arg1 v681
  let v692 : Index := Scalar.indexCast v682
  let c192_412 : Index := 192#32
  let c0_413 : Index := 0#32
  ![0, v692.toNat, 192, 0]
def k0_off17 (i : grid0.Coords) (k0_t1 : Fin (k0_t1_loop i).trips) : Fin 4 → Nat :=
  let c0_414 : Index := 0#32
  let c0_i32_249 : BitVec 32 := 0#32
  let c1_i32_250 : BitVec 32 := 1#32
  let arg10 : BitVec 32 := Scf.iv c0_i32_249 c1_i32_250 k0_t1
  let c0_i32_400 : BitVec 32 := 0#32
  let v680 : BitVec 1 := Scalar.cmpi .eq arg10 c0_i32_400
  let arg1 : BitVec 32 := BitVec.ofNat 32 (i 1).val
  let c1_i32_401 : BitVec 32 := 1#32
  let v681 : BitVec 32 := Scalar.subi arg10 c1_i32_401
  let v682 : BitVec 32 := Scalar.select v680 arg1 v681
  let v695 : Index := Scalar.indexCast v682
  let c256_415 : Index := 256#32
  let c0_416 : Index := 0#32
  ![0, v695.toNat, 256, 0]
def k0_off18 (i : grid0.Coords) (k0_t1 : Fin (k0_t1_loop i).trips) : Fin 4 → Nat :=
  let c0_417 : Index := 0#32
  let c0_i32_249 : BitVec 32 := 0#32
  let c1_i32_250 : BitVec 32 := 1#32
  let arg10 : BitVec 32 := Scf.iv c0_i32_249 c1_i32_250 k0_t1
  let c0_i32_400 : BitVec 32 := 0#32
  let v680 : BitVec 1 := Scalar.cmpi .eq arg10 c0_i32_400
  let arg1 : BitVec 32 := BitVec.ofNat 32 (i 1).val
  let c1_i32_401 : BitVec 32 := 1#32
  let v681 : BitVec 32 := Scalar.subi arg10 c1_i32_401
  let v682 : BitVec 32 := Scalar.select v680 arg1 v681
  let v698 : Index := Scalar.indexCast v682
  let c320_418 : Index := 320#32
  let c0_419 : Index := 0#32
  ![0, v698.toNat, 320, 0]
def k0_off19 (i : grid0.Coords) (k0_t1 : Fin (k0_t1_loop i).trips) (c0_i32_440 : BitVec 32) : Fin 3 → Nat :=
  let c0_441 : Index := 0#32
  let c0_i32_249 : BitVec 32 := 0#32
  let c1_i32_250 : BitVec 32 := 1#32
  let arg10 : BitVec 32 := Scf.iv c0_i32_249 c1_i32_250 k0_t1
  let c256_i32_387 : BitVec 32 := 256#32
  let v660 : BitVec 32 := Scalar.muli arg10 c256_i32_387
  let v661 : BitVec 32 := v660
  let v728 : BitVec 32 := Scalar.addi v661 c0_i32_440
  let v729 : Index := Scalar.indexCast v728
  let c0_442 : Index := 0#32
  ![0, v729.toNat, 0]
def k0_off20 (i : grid0.Coords) (k0_t1 : Fin (k0_t1_loop i).trips) (c0_i32_483 : BitVec 32) : Fin 3 → Nat :=
  let c0_484 : Index := 0#32
  let c0_i32_249 : BitVec 32 := 0#32
  let c1_i32_250 : BitVec 32 := 1#32
  let arg10 : BitVec 32 := Scf.iv c0_i32_249 c1_i32_250 k0_t1
  let c256_i32_387 : BitVec 32 := 256#32
  let v660 : BitVec 32 := Scalar.muli arg10 c256_i32_387
  let v661 : BitVec 32 := v660
  let v791 : BitVec 32 := Scalar.addi v661 c0_i32_483
  let v792 : Index := Scalar.indexCast v791
  let c1_485 : Index := 1#32
  ![0, v792.toNat, 1]
def k0_off21 (i : grid0.Coords) (k0_t1 : Fin (k0_t1_loop i).trips) (c0_i32_526 : BitVec 32) : Fin 3 → Nat :=
  let c0_527 : Index := 0#32
  let c0_i32_249 : BitVec 32 := 0#32
  let c1_i32_250 : BitVec 32 := 1#32
  let arg10 : BitVec 32 := Scf.iv c0_i32_249 c1_i32_250 k0_t1
  let c256_i32_387 : BitVec 32 := 256#32
  let v660 : BitVec 32 := Scalar.muli arg10 c256_i32_387
  let v661 : BitVec 32 := v660
  let v854 : BitVec 32 := Scalar.addi v661 c0_i32_526
  let v855 : Index := Scalar.indexCast v854
  let c2_528 : Index := 2#32
  ![0, v855.toNat, 2]
def k0_off22 (i : grid0.Coords) (k0_t1 : Fin (k0_t1_loop i).trips) (c0_i32_569 : BitVec 32) : Fin 3 → Nat :=
  let c0_570 : Index := 0#32
  let c0_i32_249 : BitVec 32 := 0#32
  let c1_i32_250 : BitVec 32 := 1#32
  let arg10 : BitVec 32 := Scf.iv c0_i32_249 c1_i32_250 k0_t1
  let c256_i32_387 : BitVec 32 := 256#32
  let v660 : BitVec 32 := Scalar.muli arg10 c256_i32_387
  let v661 : BitVec 32 := v660
  let v917 : BitVec 32 := Scalar.addi v661 c0_i32_569
  let v918 : Index := Scalar.indexCast v917
  let c3_571 : Index := 3#32
  ![0, v918.toNat, 3]
def k0_off23 (i : grid0.Coords) (k0_t1 : Fin (k0_t1_loop i).trips) (c0_i32_612 : BitVec 32) : Fin 3 → Nat :=
  let c0_613 : Index := 0#32
  let c0_i32_249 : BitVec 32 := 0#32
  let c1_i32_250 : BitVec 32 := 1#32
  let arg10 : BitVec 32 := Scf.iv c0_i32_249 c1_i32_250 k0_t1
  let c256_i32_387 : BitVec 32 := 256#32
  let v660 : BitVec 32 := Scalar.muli arg10 c256_i32_387
  let v661 : BitVec 32 := v660
  let v980 : BitVec 32 := Scalar.addi v661 c0_i32_612
  let v981 : Index := Scalar.indexCast v980
  let c4_614 : Index := 4#32
  ![0, v981.toNat, 4]
def k0_off24 (i : grid0.Coords) (k0_t1 : Fin (k0_t1_loop i).trips) (c0_i32_655 : BitVec 32) : Fin 3 → Nat :=
  let c0_656 : Index := 0#32
  let c0_i32_249 : BitVec 32 := 0#32
  let c1_i32_250 : BitVec 32 := 1#32
  let arg10 : BitVec 32 := Scf.iv c0_i32_249 c1_i32_250 k0_t1
  let c256_i32_387 : BitVec 32 := 256#32
  let v660 : BitVec 32 := Scalar.muli arg10 c256_i32_387
  let v661 : BitVec 32 := v660
  let v1043 : BitVec 32 := Scalar.addi v661 c0_i32_655
  let v1044 : Index := Scalar.indexCast v1043
  let c5_657 : Index := 5#32
  ![0, v1044.toNat, 5]
@[reducible] def k0_t2_loop (i : grid0.Coords) : Scf.Loop 32 :=
  let c0_i32_249 : BitVec 32 := 0#32
  let arg1 : BitVec 32 := BitVec.ofNat 32 (i 1).val
  let v410 : BitVec 32 := Scalar.subi arg1 c0_i32_249
  let c1_i32 : BitVec 32 := 1#32
  let v412 : BitVec 32 := Scalar.divsi v410 c1_i32
  let v413 : BitVec 32 := Scalar.muli v412 c1_i32
  let v414 : BitVec 32 := Scalar.addi c0_i32_249 v413
  let v411 : BitVec 32 := Scalar.addi c0_i32_249 v410
  let c1_i32_251 : BitVec 32 := 1#32
  ⟨v414, v411, c1_i32_251⟩
def k0_mult3 (i : grid0.Coords) (k0_t2 : Fin (k0_t2_loop i).trips) : BitVec 32 :=
  let c0_i32_249 : BitVec 32 := 0#32
  let arg1 : BitVec 32 := BitVec.ofNat 32 (i 1).val
  let v410 : BitVec 32 := Scalar.subi arg1 c0_i32_249
  let c1_i32 : BitVec 32 := 1#32
  let v412 : BitVec 32 := Scalar.divsi v410 c1_i32
  let v413 : BitVec 32 := Scalar.muli v412 c1_i32
  let v414 : BitVec 32 := Scalar.addi c0_i32_249 v413
  let c1_i32_251 : BitVec 32 := 1#32
  let arg10 : BitVec 32 := Scf.iv v414 c1_i32_251 k0_t2
  let c256_i32_387 : BitVec 32 := 256#32
  let v660 : BitVec 32 := Scalar.muli arg10 c256_i32_387
  v660
def k0_off25 (i : grid0.Coords) (k0_t2 : Fin (k0_t2_loop i).trips) : Fin 3 → Nat :=
  let c0_388 : Index := 0#32
  let c0_i32_249 : BitVec 32 := 0#32
  let arg1 : BitVec 32 := BitVec.ofNat 32 (i 1).val
  let v410 : BitVec 32 := Scalar.subi arg1 c0_i32_249
  let c1_i32 : BitVec 32 := 1#32
  let v412 : BitVec 32 := Scalar.divsi v410 c1_i32
  let v413 : BitVec 32 := Scalar.muli v412 c1_i32
  let v414 : BitVec 32 := Scalar.addi c0_i32_249 v413
  let c1_i32_251 : BitVec 32 := 1#32
  let arg10 : BitVec 32 := Scf.iv v414 c1_i32_251 k0_t2
  let c256_i32_387 : BitVec 32 := 256#32
  let v660 : BitVec 32 := Scalar.muli arg10 c256_i32_387
  let v661 : BitVec 32 := v660
  let v662 : Index := Scalar.indexCast v661
  let c0_389 : Index := 0#32
  ![0, v662.toNat, 0]
def k0_off26 (i : grid0.Coords) (k0_t2 : Fin (k0_t2_loop i).trips) : Fin 3 → Nat :=
  let c0_392 : Index := 0#32
  let c0_i32_249 : BitVec 32 := 0#32
  let arg1 : BitVec 32 := BitVec.ofNat 32 (i 1).val
  let v410 : BitVec 32 := Scalar.subi arg1 c0_i32_249
  let c1_i32 : BitVec 32 := 1#32
  let v412 : BitVec 32 := Scalar.divsi v410 c1_i32
  let v413 : BitVec 32 := Scalar.muli v412 c1_i32
  let v414 : BitVec 32 := Scalar.addi c0_i32_249 v413
  let c1_i32_251 : BitVec 32 := 1#32
  let arg10 : BitVec 32 := Scf.iv v414 c1_i32_251 k0_t2
  let c256_i32_387 : BitVec 32 := 256#32
  let v660 : BitVec 32 := Scalar.muli arg10 c256_i32_387
  let v661 : BitVec 32 := v660
  let v668 : Index := Scalar.indexCast v661
  let c128_393 : Index := 128#32
  ![0, v668.toNat, 128]
def k0_off27 (i : grid0.Coords) (k0_t2 : Fin (k0_t2_loop i).trips) : Fin 3 → Nat :=
  let c0_396 : Index := 0#32
  let c0_i32_249 : BitVec 32 := 0#32
  let arg1 : BitVec 32 := BitVec.ofNat 32 (i 1).val
  let v410 : BitVec 32 := Scalar.subi arg1 c0_i32_249
  let c1_i32 : BitVec 32 := 1#32
  let v412 : BitVec 32 := Scalar.divsi v410 c1_i32
  let v413 : BitVec 32 := Scalar.muli v412 c1_i32
  let v414 : BitVec 32 := Scalar.addi c0_i32_249 v413
  let c1_i32_251 : BitVec 32 := 1#32
  let arg10 : BitVec 32 := Scf.iv v414 c1_i32_251 k0_t2
  let c256_i32_387 : BitVec 32 := 256#32
  let v660 : BitVec 32 := Scalar.muli arg10 c256_i32_387
  let v661 : BitVec 32 := v660
  let v674 : Index := Scalar.indexCast v661
  let c256_397 : Index := 256#32
  ![0, v674.toNat, 256]
def k0_off28 (i : grid0.Coords) (k0_t2 : Fin (k0_t2_loop i).trips) : Fin 4 → Nat :=
  let c0_402 : Index := 0#32
  let c0_i32_249 : BitVec 32 := 0#32
  let arg1 : BitVec 32 := BitVec.ofNat 32 (i 1).val
  let v410 : BitVec 32 := Scalar.subi arg1 c0_i32_249
  let c1_i32 : BitVec 32 := 1#32
  let v412 : BitVec 32 := Scalar.divsi v410 c1_i32
  let v413 : BitVec 32 := Scalar.muli v412 c1_i32
  let v414 : BitVec 32 := Scalar.addi c0_i32_249 v413
  let c1_i32_251 : BitVec 32 := 1#32
  let arg10 : BitVec 32 := Scf.iv v414 c1_i32_251 k0_t2
  let c0_i32_400 : BitVec 32 := 0#32
  let v680 : BitVec 1 := Scalar.cmpi .eq arg10 c0_i32_400
  let c1_i32_401 : BitVec 32 := 1#32
  let v681 : BitVec 32 := Scalar.subi arg10 c1_i32_401
  let v682 : BitVec 32 := Scalar.select v680 arg1 v681
  let v683 : Index := Scalar.indexCast v682
  let c0_403 : Index := 0#32
  let c0_404 : Index := 0#32
  ![0, v683.toNat, 0, 0]
def k0_off29 (i : grid0.Coords) (k0_t2 : Fin (k0_t2_loop i).trips) : Fin 4 → Nat :=
  let c0_405 : Index := 0#32
  let c0_i32_249 : BitVec 32 := 0#32
  let arg1 : BitVec 32 := BitVec.ofNat 32 (i 1).val
  let v410 : BitVec 32 := Scalar.subi arg1 c0_i32_249
  let c1_i32 : BitVec 32 := 1#32
  let v412 : BitVec 32 := Scalar.divsi v410 c1_i32
  let v413 : BitVec 32 := Scalar.muli v412 c1_i32
  let v414 : BitVec 32 := Scalar.addi c0_i32_249 v413
  let c1_i32_251 : BitVec 32 := 1#32
  let arg10 : BitVec 32 := Scf.iv v414 c1_i32_251 k0_t2
  let c0_i32_400 : BitVec 32 := 0#32
  let v680 : BitVec 1 := Scalar.cmpi .eq arg10 c0_i32_400
  let c1_i32_401 : BitVec 32 := 1#32
  let v681 : BitVec 32 := Scalar.subi arg10 c1_i32_401
  let v682 : BitVec 32 := Scalar.select v680 arg1 v681
  let v686 : Index := Scalar.indexCast v682
  let c64_406 : Index := 64#32
  let c0_407 : Index := 0#32
  ![0, v686.toNat, 64, 0]
def k0_off30 (i : grid0.Coords) (k0_t2 : Fin (k0_t2_loop i).trips) : Fin 4 → Nat :=
  let c0_408 : Index := 0#32
  let c0_i32_249 : BitVec 32 := 0#32
  let arg1 : BitVec 32 := BitVec.ofNat 32 (i 1).val
  let v410 : BitVec 32 := Scalar.subi arg1 c0_i32_249
  let c1_i32 : BitVec 32 := 1#32
  let v412 : BitVec 32 := Scalar.divsi v410 c1_i32
  let v413 : BitVec 32 := Scalar.muli v412 c1_i32
  let v414 : BitVec 32 := Scalar.addi c0_i32_249 v413
  let c1_i32_251 : BitVec 32 := 1#32
  let arg10 : BitVec 32 := Scf.iv v414 c1_i32_251 k0_t2
  let c0_i32_400 : BitVec 32 := 0#32
  let v680 : BitVec 1 := Scalar.cmpi .eq arg10 c0_i32_400
  let c1_i32_401 : BitVec 32 := 1#32
  let v681 : BitVec 32 := Scalar.subi arg10 c1_i32_401
  let v682 : BitVec 32 := Scalar.select v680 arg1 v681
  let v689 : Index := Scalar.indexCast v682
  let c128_409 : Index := 128#32
  let c0_410 : Index := 0#32
  ![0, v689.toNat, 128, 0]
def k0_off31 (i : grid0.Coords) (k0_t2 : Fin (k0_t2_loop i).trips) : Fin 4 → Nat :=
  let c0_411 : Index := 0#32
  let c0_i32_249 : BitVec 32 := 0#32
  let arg1 : BitVec 32 := BitVec.ofNat 32 (i 1).val
  let v410 : BitVec 32 := Scalar.subi arg1 c0_i32_249
  let c1_i32 : BitVec 32 := 1#32
  let v412 : BitVec 32 := Scalar.divsi v410 c1_i32
  let v413 : BitVec 32 := Scalar.muli v412 c1_i32
  let v414 : BitVec 32 := Scalar.addi c0_i32_249 v413
  let c1_i32_251 : BitVec 32 := 1#32
  let arg10 : BitVec 32 := Scf.iv v414 c1_i32_251 k0_t2
  let c0_i32_400 : BitVec 32 := 0#32
  let v680 : BitVec 1 := Scalar.cmpi .eq arg10 c0_i32_400
  let c1_i32_401 : BitVec 32 := 1#32
  let v681 : BitVec 32 := Scalar.subi arg10 c1_i32_401
  let v682 : BitVec 32 := Scalar.select v680 arg1 v681
  let v692 : Index := Scalar.indexCast v682
  let c192_412 : Index := 192#32
  let c0_413 : Index := 0#32
  ![0, v692.toNat, 192, 0]
def k0_off32 (i : grid0.Coords) (k0_t2 : Fin (k0_t2_loop i).trips) : Fin 4 → Nat :=
  let c0_414 : Index := 0#32
  let c0_i32_249 : BitVec 32 := 0#32
  let arg1 : BitVec 32 := BitVec.ofNat 32 (i 1).val
  let v410 : BitVec 32 := Scalar.subi arg1 c0_i32_249
  let c1_i32 : BitVec 32 := 1#32
  let v412 : BitVec 32 := Scalar.divsi v410 c1_i32
  let v413 : BitVec 32 := Scalar.muli v412 c1_i32
  let v414 : BitVec 32 := Scalar.addi c0_i32_249 v413
  let c1_i32_251 : BitVec 32 := 1#32
  let arg10 : BitVec 32 := Scf.iv v414 c1_i32_251 k0_t2
  let c0_i32_400 : BitVec 32 := 0#32
  let v680 : BitVec 1 := Scalar.cmpi .eq arg10 c0_i32_400
  let c1_i32_401 : BitVec 32 := 1#32
  let v681 : BitVec 32 := Scalar.subi arg10 c1_i32_401
  let v682 : BitVec 32 := Scalar.select v680 arg1 v681
  let v695 : Index := Scalar.indexCast v682
  let c256_415 : Index := 256#32
  let c0_416 : Index := 0#32
  ![0, v695.toNat, 256, 0]
def k0_off33 (i : grid0.Coords) (k0_t2 : Fin (k0_t2_loop i).trips) : Fin 4 → Nat :=
  let c0_417 : Index := 0#32
  let c0_i32_249 : BitVec 32 := 0#32
  let arg1 : BitVec 32 := BitVec.ofNat 32 (i 1).val
  let v410 : BitVec 32 := Scalar.subi arg1 c0_i32_249
  let c1_i32 : BitVec 32 := 1#32
  let v412 : BitVec 32 := Scalar.divsi v410 c1_i32
  let v413 : BitVec 32 := Scalar.muli v412 c1_i32
  let v414 : BitVec 32 := Scalar.addi c0_i32_249 v413
  let c1_i32_251 : BitVec 32 := 1#32
  let arg10 : BitVec 32 := Scf.iv v414 c1_i32_251 k0_t2
  let c0_i32_400 : BitVec 32 := 0#32
  let v680 : BitVec 1 := Scalar.cmpi .eq arg10 c0_i32_400
  let c1_i32_401 : BitVec 32 := 1#32
  let v681 : BitVec 32 := Scalar.subi arg10 c1_i32_401
  let v682 : BitVec 32 := Scalar.select v680 arg1 v681
  let v698 : Index := Scalar.indexCast v682
  let c320_418 : Index := 320#32
  let c0_419 : Index := 0#32
  ![0, v698.toNat, 320, 0]
def k0_off34 (i : grid0.Coords) (k0_t2 : Fin (k0_t2_loop i).trips) (c0_i32_440 : BitVec 32) : Fin 3 → Nat :=
  let c0_441 : Index := 0#32
  let c0_i32_249 : BitVec 32 := 0#32
  let arg1 : BitVec 32 := BitVec.ofNat 32 (i 1).val
  let v410 : BitVec 32 := Scalar.subi arg1 c0_i32_249
  let c1_i32 : BitVec 32 := 1#32
  let v412 : BitVec 32 := Scalar.divsi v410 c1_i32
  let v413 : BitVec 32 := Scalar.muli v412 c1_i32
  let v414 : BitVec 32 := Scalar.addi c0_i32_249 v413
  let c1_i32_251 : BitVec 32 := 1#32
  let arg10 : BitVec 32 := Scf.iv v414 c1_i32_251 k0_t2
  let c256_i32_387 : BitVec 32 := 256#32
  let v660 : BitVec 32 := Scalar.muli arg10 c256_i32_387
  let v661 : BitVec 32 := v660
  let v728 : BitVec 32 := Scalar.addi v661 c0_i32_440
  let v729 : Index := Scalar.indexCast v728
  let c0_442 : Index := 0#32
  ![0, v729.toNat, 0]
def k0_off35 (i : grid0.Coords) (k0_t2 : Fin (k0_t2_loop i).trips) (c0_i32_483 : BitVec 32) : Fin 3 → Nat :=
  let c0_484 : Index := 0#32
  let c0_i32_249 : BitVec 32 := 0#32
  let arg1 : BitVec 32 := BitVec.ofNat 32 (i 1).val
  let v410 : BitVec 32 := Scalar.subi arg1 c0_i32_249
  let c1_i32 : BitVec 32 := 1#32
  let v412 : BitVec 32 := Scalar.divsi v410 c1_i32
  let v413 : BitVec 32 := Scalar.muli v412 c1_i32
  let v414 : BitVec 32 := Scalar.addi c0_i32_249 v413
  let c1_i32_251 : BitVec 32 := 1#32
  let arg10 : BitVec 32 := Scf.iv v414 c1_i32_251 k0_t2
  let c256_i32_387 : BitVec 32 := 256#32
  let v660 : BitVec 32 := Scalar.muli arg10 c256_i32_387
  let v661 : BitVec 32 := v660
  let v791 : BitVec 32 := Scalar.addi v661 c0_i32_483
  let v792 : Index := Scalar.indexCast v791
  let c1_485 : Index := 1#32
  ![0, v792.toNat, 1]
def k0_off36 (i : grid0.Coords) (k0_t2 : Fin (k0_t2_loop i).trips) (c0_i32_526 : BitVec 32) : Fin 3 → Nat :=
  let c0_527 : Index := 0#32
  let c0_i32_249 : BitVec 32 := 0#32
  let arg1 : BitVec 32 := BitVec.ofNat 32 (i 1).val
  let v410 : BitVec 32 := Scalar.subi arg1 c0_i32_249
  let c1_i32 : BitVec 32 := 1#32
  let v412 : BitVec 32 := Scalar.divsi v410 c1_i32
  let v413 : BitVec 32 := Scalar.muli v412 c1_i32
  let v414 : BitVec 32 := Scalar.addi c0_i32_249 v413
  let c1_i32_251 : BitVec 32 := 1#32
  let arg10 : BitVec 32 := Scf.iv v414 c1_i32_251 k0_t2
  let c256_i32_387 : BitVec 32 := 256#32
  let v660 : BitVec 32 := Scalar.muli arg10 c256_i32_387
  let v661 : BitVec 32 := v660
  let v854 : BitVec 32 := Scalar.addi v661 c0_i32_526
  let v855 : Index := Scalar.indexCast v854
  let c2_528 : Index := 2#32
  ![0, v855.toNat, 2]
def k0_off37 (i : grid0.Coords) (k0_t2 : Fin (k0_t2_loop i).trips) (c0_i32_569 : BitVec 32) : Fin 3 → Nat :=
  let c0_570 : Index := 0#32
  let c0_i32_249 : BitVec 32 := 0#32
  let arg1 : BitVec 32 := BitVec.ofNat 32 (i 1).val
  let v410 : BitVec 32 := Scalar.subi arg1 c0_i32_249
  let c1_i32 : BitVec 32 := 1#32
  let v412 : BitVec 32 := Scalar.divsi v410 c1_i32
  let v413 : BitVec 32 := Scalar.muli v412 c1_i32
  let v414 : BitVec 32 := Scalar.addi c0_i32_249 v413
  let c1_i32_251 : BitVec 32 := 1#32
  let arg10 : BitVec 32 := Scf.iv v414 c1_i32_251 k0_t2
  let c256_i32_387 : BitVec 32 := 256#32
  let v660 : BitVec 32 := Scalar.muli arg10 c256_i32_387
  let v661 : BitVec 32 := v660
  let v917 : BitVec 32 := Scalar.addi v661 c0_i32_569
  let v918 : Index := Scalar.indexCast v917
  let c3_571 : Index := 3#32
  ![0, v918.toNat, 3]
def k0_off38 (i : grid0.Coords) (k0_t2 : Fin (k0_t2_loop i).trips) (c0_i32_612 : BitVec 32) : Fin 3 → Nat :=
  let c0_613 : Index := 0#32
  let c0_i32_249 : BitVec 32 := 0#32
  let arg1 : BitVec 32 := BitVec.ofNat 32 (i 1).val
  let v410 : BitVec 32 := Scalar.subi arg1 c0_i32_249
  let c1_i32 : BitVec 32 := 1#32
  let v412 : BitVec 32 := Scalar.divsi v410 c1_i32
  let v413 : BitVec 32 := Scalar.muli v412 c1_i32
  let v414 : BitVec 32 := Scalar.addi c0_i32_249 v413
  let c1_i32_251 : BitVec 32 := 1#32
  let arg10 : BitVec 32 := Scf.iv v414 c1_i32_251 k0_t2
  let c256_i32_387 : BitVec 32 := 256#32
  let v660 : BitVec 32 := Scalar.muli arg10 c256_i32_387
  let v661 : BitVec 32 := v660
  let v980 : BitVec 32 := Scalar.addi v661 c0_i32_612
  let v981 : Index := Scalar.indexCast v980
  let c4_614 : Index := 4#32
  ![0, v981.toNat, 4]
def k0_off39 (i : grid0.Coords) (k0_t2 : Fin (k0_t2_loop i).trips) (c0_i32_655 : BitVec 32) : Fin 3 → Nat :=
  let c0_656 : Index := 0#32
  let c0_i32_249 : BitVec 32 := 0#32
  let arg1 : BitVec 32 := BitVec.ofNat 32 (i 1).val
  let v410 : BitVec 32 := Scalar.subi arg1 c0_i32_249
  let c1_i32 : BitVec 32 := 1#32
  let v412 : BitVec 32 := Scalar.divsi v410 c1_i32
  let v413 : BitVec 32 := Scalar.muli v412 c1_i32
  let v414 : BitVec 32 := Scalar.addi c0_i32_249 v413
  let c1_i32_251 : BitVec 32 := 1#32
  let arg10 : BitVec 32 := Scf.iv v414 c1_i32_251 k0_t2
  let c256_i32_387 : BitVec 32 := 256#32
  let v660 : BitVec 32 := Scalar.muli arg10 c256_i32_387
  let v661 : BitVec 32 := v660
  let v1043 : BitVec 32 := Scalar.addi v661 c0_i32_655
  let v1044 : Index := Scalar.indexCast v1043
  let c5_657 : Index := 5#32
  ![0, v1044.toNat, 5]
def k0_off40 (i : grid0.Coords) : Fin 4 → Nat :=
  let c0_254 : Index := 0#32
  let arg1 : BitVec 32 := BitVec.ofNat 32 (i 1).val
  let c1_i32_252 : BitVec 32 := 1#32
  let v417 : BitVec 32 := Scalar.subi arg1 c1_i32_252
  let c0_i32_253 : BitVec 32 := 0#32
  let v418 : BitVec 32 := Scalar.maxsi v417 c0_i32_253
  let v419 : Index := Scalar.indexCast v418
  let c0_255 : Index := 0#32
  let c0_256 : Index := 0#32
  ![0, v419.toNat, 0, 0]
def k0_off41 (i : grid0.Coords) : Fin 4 → Nat :=
  let c0_257 : Index := 0#32
  let arg1 : BitVec 32 := BitVec.ofNat 32 (i 1).val
  let c1_i32_252 : BitVec 32 := 1#32
  let v417 : BitVec 32 := Scalar.subi arg1 c1_i32_252
  let c0_i32_253 : BitVec 32 := 0#32
  let v418 : BitVec 32 := Scalar.maxsi v417 c0_i32_253
  let v422 : Index := Scalar.indexCast v418
  let c64 : Index := 64#32
  let c0_258 : Index := 0#32
  ![0, v422.toNat, 64, 0]
def k0_off42 (i : grid0.Coords) : Fin 4 → Nat :=
  let c0_259 : Index := 0#32
  let arg1 : BitVec 32 := BitVec.ofNat 32 (i 1).val
  let c1_i32_252 : BitVec 32 := 1#32
  let v417 : BitVec 32 := Scalar.subi arg1 c1_i32_252
  let c0_i32_253 : BitVec 32 := 0#32
  let v418 : BitVec 32 := Scalar.maxsi v417 c0_i32_253
  let v425 : Index := Scalar.indexCast v418
  let c128_260 : Index := 128#32
  let c0_261 : Index := 0#32
  ![0, v425.toNat, 128, 0]
def k0_off43 (i : grid0.Coords) : Fin 4 → Nat :=
  let c0_262 : Index := 0#32
  let arg1 : BitVec 32 := BitVec.ofNat 32 (i 1).val
  let c1_i32_252 : BitVec 32 := 1#32
  let v417 : BitVec 32 := Scalar.subi arg1 c1_i32_252
  let c0_i32_253 : BitVec 32 := 0#32
  let v418 : BitVec 32 := Scalar.maxsi v417 c0_i32_253
  let v428 : Index := Scalar.indexCast v418
  let c192 : Index := 192#32
  let c0_263 : Index := 0#32
  ![0, v428.toNat, 192, 0]
def k0_off44 (i : grid0.Coords) : Fin 4 → Nat :=
  let c0_264 : Index := 0#32
  let arg1 : BitVec 32 := BitVec.ofNat 32 (i 1).val
  let c1_i32_252 : BitVec 32 := 1#32
  let v417 : BitVec 32 := Scalar.subi arg1 c1_i32_252
  let c0_i32_253 : BitVec 32 := 0#32
  let v418 : BitVec 32 := Scalar.maxsi v417 c0_i32_253
  let v431 : Index := Scalar.indexCast v418
  let c256_265 : Index := 256#32
  let c0_266 : Index := 0#32
  ![0, v431.toNat, 256, 0]
def k0_off45 (i : grid0.Coords) : Fin 4 → Nat :=
  let c0_267 : Index := 0#32
  let arg1 : BitVec 32 := BitVec.ofNat 32 (i 1).val
  let c1_i32_252 : BitVec 32 := 1#32
  let v417 : BitVec 32 := Scalar.subi arg1 c1_i32_252
  let c0_i32_253 : BitVec 32 := 0#32
  let v418 : BitVec 32 := Scalar.maxsi v417 c0_i32_253
  let v434 : Index := Scalar.indexCast v418
  let c320 : Index := 320#32
  let c0_268 : Index := 0#32
  ![0, v434.toNat, 320, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x384x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "qscale" => some (((1 / 8) * (Real.log 2)⁻¹ : ℝ) : EReal)
  | _ => none
-- ==== ReferenceIdeal.lean ====
abbrev S16x2048x384 : Shape := ⟨3, ![16, 2048, 384]⟩
abbrev S16x2048x6 : Shape := ⟨3, ![16, 2048, 6]⟩
abbrev S16x2048x6x64 : Shape := ⟨4, ![16, 2048, 6, 64]⟩
abbrev S2048 : Shape := ⟨1, ![2048]⟩
abbrev S16x6x2048 : Shape := ⟨3, ![16, 6, 2048]⟩
abbrev S16x6x2048x2048 : Shape := ⟨4, ![16, 6, 2048, 2048]⟩
abbrev S_ : Shape := ⟨0, ![]⟩
abbrev S16x6x2048x1 : Shape := ⟨4, ![16, 6, 2048, 1]⟩
abbrev S16x6x1x2048 : Shape := ⟨4, ![16, 6, 1, 2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S16x6x64x2048 : Shape := ⟨4, ![16, 6, 64, 2048]⟩

abbrev nBuf : Space → Nat
  | .hbm => 48
  | .vmem => 0
  | .smem => 0
  | _ => 0

abbrev bufTy : (tb : Table) → Fin (tcTables nBuf tb) → BufTy
  | .hbm, ⟨0, _⟩ => ⟨S16x2048x384, .f32⟩
  | .hbm, ⟨1, _⟩ => ⟨S16x2048x384, .f32⟩
  | .hbm, ⟨2, _⟩ => ⟨S16x2048x384, .f32⟩
  | .hbm, ⟨3, _⟩ => ⟨S16x2048x6, .f32⟩
  | .hbm, ⟨4, _⟩ => ⟨S16x2048x6x64, .f32⟩
  | .hbm, ⟨5, _⟩ => ⟨S16x2048x6x64, .f32⟩
  | .hbm, ⟨6, _⟩ => ⟨S16x2048x6x64, .f32⟩
  | .hbm, ⟨7, _⟩ => ⟨S2048, .i32⟩
  | .hbm, ⟨8, _⟩ => ⟨S16x6x2048, .f32⟩
  | .hbm, ⟨9, _⟩ => ⟨S16x6x2048x2048, .f32⟩
  | .hbm, ⟨10, _⟩ => ⟨S_, .f32⟩
  | .hbm, ⟨11, _⟩ => ⟨S16x6x2048x2048, .f32⟩
  | .hbm, ⟨12, _⟩ => ⟨S16x6x2048x2048, .f32⟩
  | .hbm, ⟨13, _⟩ => ⟨S16x6x2048x1, .f32⟩
  | .hbm, ⟨14, _⟩ => ⟨S16x6x1x2048, .f32⟩
  | .hbm, ⟨15, _⟩ => ⟨S16x6x2048x2048, .f32⟩
  | .hbm, ⟨16, _⟩ => ⟨S16x6x2048x2048, .f32⟩
  | .hbm, ⟨17, _⟩ => ⟨S16x6x2048x2048, .f32⟩
  | .hbm, ⟨18, _⟩ => ⟨S16x6x2048x2048, .f32⟩
  | .hbm, ⟨19, _⟩ => ⟨S2048x1, .i32⟩
  | .hbm, ⟨20, _⟩ => ⟨S1x2048, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S1x1x2048x2048, .i1⟩
  | .hbm, ⟨25, _⟩ => ⟨S_, .f32⟩
  | .hbm, ⟨26, _⟩ => ⟨S_, .f32⟩
  | .hbm, ⟨27, _⟩ => ⟨S16x6x2048x2048, .i1⟩
  | .hbm, ⟨28, _⟩ => ⟨S16x6x2048x2048, .f32⟩
  | .hbm, ⟨29, _⟩ => ⟨S16x6x2048x2048, .f32⟩
  | .hbm, ⟨30, _⟩ => ⟨S_, .f32⟩
  | .hbm, ⟨31, _⟩ => ⟨S16x6x2048, .f32⟩
  | .hbm, ⟨32, _⟩ => ⟨S_, .f32⟩
  | .hbm, ⟨33, _⟩ => ⟨S16x6x2048, .f32⟩
  | .hbm, ⟨34, _⟩ => ⟨S16x6x2048, .f32⟩
  | .hbm, ⟨35, _⟩ => ⟨S16x6x2048x1, .f32⟩
  | .hbm, ⟨36, _⟩ => ⟨S16x6x2048x2048, .f32⟩
  | .hbm, ⟨37, _⟩ => ⟨S16x6x2048x2048, .f32⟩
  | .hbm, ⟨38, _⟩ => ⟨S16x6x2048x2048, .f32⟩
  | .hbm, ⟨39, _⟩ => ⟨S_, .f32⟩
  | .hbm, ⟨40, _⟩ => ⟨S16x6x2048, .f32⟩
  | .hbm, ⟨41, _⟩ => ⟨S16x6x2048x1, .f32⟩
  | .hbm, ⟨42, _⟩ => ⟨S16x6x2048x2048, .f32⟩
  | .hbm, ⟨43, _⟩ => ⟨S16x6x2048x2048, .f32⟩
  | .hbm, ⟨44, _⟩ => ⟨S16x6x64x2048, .f32⟩
  | .hbm, ⟨45, _⟩ => ⟨S16x2048x6x64, .f32⟩
  | .hbm, ⟨46, _⟩ => ⟨S16x2048x384, .f32⟩
  | .hbm, ⟨47, _⟩ => ⟨S16x2048x384, .bf16⟩
  | _, _ => ⟨S16x2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel2.lean ====
abbrev S16x2048x1024 : Shape := ⟨3, ![16, 2048, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S32768x1024 : Shape := ⟨2, ![32768, 1024]⟩
abbrev S2x1x1024 : Shape := ⟨3, ![2, 1, 1024]⟩
abbrev S1x1x1024 : Shape := ⟨3, ![1, 1, 1024]⟩
abbrev S1024x1024 : Shape := ⟨2, ![1024, 1024]⟩
abbrev S1x1024x5632 : Shape := ⟨3, ![1, 1024, 5632]⟩
abbrev S1x2816x1024 : Shape := ⟨3, ![1, 2816, 1024]⟩
abbrev S1024x2816 : Shape := ⟨2, ![1024, 2816]⟩
abbrev S1x1024 : Shape := ⟨2, ![1, 1024]⟩
abbrev S1024x1 : Shape := ⟨2, ![1024, 1]⟩
abbrev S1x1024x256 : Shape := ⟨3, ![1, 1024, 256]⟩
abbrev S1024x256 : Shape := ⟨2, ![1024, 256]⟩
abbrev S2816x1024 : Shape := ⟨2, ![2816, 1024]⟩

abbrev nBuf : Space → Nat
  | .hbm => 11
  | .vmem => 10
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S1024, .f32⟩
  | .hbm, ⟨5, _⟩ => ⟨S32768x1024, .f32⟩
  | .hbm, ⟨6, _⟩ => ⟨S2x1x1024, .f32⟩
  | .hbm, ⟨7, _⟩ => ⟨S2x1024x5632, .bf16⟩
  | .hbm, ⟨8, _⟩ => ⟨S2x2816x1024, .bf16⟩
  | .hbm, ⟨9, _⟩ => ⟨S1x1x1024, .f32⟩
  | .hbm, ⟨10, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S1x1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x2816, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S16x2048x1024 : Shape := ⟨3, ![16, 2048, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1x1024 : Shape := ⟨2, ![1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16x2048x5632 : Shape := ⟨3, ![16, 2048, 5632]⟩
abbrev S16x2048x2816 : Shape := ⟨3, ![16, 2048, 2816]⟩
abbrev S32768x1024 : Shape := ⟨2, ![32768, 1024]⟩

abbrev nBuf : Space → Nat
  | .hbm => 62
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S1x1024x5632, .f32⟩
  | .hbm, ⟨24, _⟩ => ⟨S1024x5632, .f32⟩
  | .hbm, ⟨25, _⟩ => ⟨S1x2816x1024, .f32⟩
  | .hbm, ⟨26, _⟩ => ⟨S2816x1024, .f32⟩
  | .hbm, ⟨27, _⟩ => ⟨S16x2048x5632, .f32⟩
  | .hbm, ⟨28, _⟩ => ⟨S16x2048x2816, .f32⟩
  | .hbm, ⟨29, _⟩ => ⟨S16x2048x2816, .f32⟩
  | .hbm, ⟨30, _⟩ => ⟨S16x2048x2816, .f32⟩
  | .hbm, ⟨31, _⟩ => ⟨S16x2048x2816, .f32⟩
  | .hbm, ⟨32, _⟩ => ⟨S_, .f32⟩
  | .hbm, ⟨33, _⟩ => ⟨S16x2048x2816, .f32⟩
  | .hbm, ⟨34, _⟩ => ⟨S16x2048x2816, .f32⟩
  | .hbm, ⟨35, _⟩ => ⟨S_, .f32⟩
  | .hbm, ⟨36, _⟩ => ⟨S16x2048x2816, .f32⟩
  | .hbm, ⟨37, _⟩ => ⟨S16x2048x2816, .f32⟩
  | .hbm, ⟨38, _⟩ => ⟨S16x2048x2816, .f32⟩
  | .hbm, ⟨39, _⟩ => ⟨S16x2048x2816, .f32⟩
  | .hbm, ⟨40, _⟩ => ⟨S16x2048x1024, .f32⟩
  | .hbm, ⟨41, _⟩ => ⟨S_, .f32⟩
  | .hbm, ⟨42, _⟩ => ⟨S16x2048x1024, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S_, .f32⟩
  | .hbm, ⟨47, _⟩ => ⟨S16x2048, .f32⟩
  | .hbm, ⟨48, _⟩ => ⟨S16x2048x1, .f32⟩
  | .hbm, ⟨49, _⟩ => ⟨S_, .f32⟩
  | .hbm, ⟨50, _⟩ => ⟨S16x2048x1, .f32⟩
  | .hbm, ⟨51, _⟩ => ⟨S16x2048x1, .f32⟩
  | .hbm, ⟨52, _⟩ => ⟨S_, .f32⟩
  | .hbm, ⟨53, _⟩ => ⟨S16x2048x1, .f32⟩
  | .hbm, ⟨54, _⟩ => ⟨S16x2048x1, .f32⟩
  | .hbm, ⟨55, _⟩ => ⟨S16x2048x1, .f32⟩
  | .hbm, ⟨56, _⟩ => ⟨S16x2048x1024, .f32⟩
  | .hbm, ⟨57, _⟩ => ⟨S16x2048x1024, .f32⟩
  | .hbm, ⟨58, _⟩ => ⟨S1x1x1024, .f32⟩
  | .hbm, ⟨59, _⟩ => ⟨S16x2048x1024, .f32⟩
  | .hbm, ⟨60, _⟩ => ⟨S16x2048x1024, .f32⟩
  | .hbm, ⟨61, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x2048x384 : Shape := ⟨3, ![16, 2048, 384]⟩
abbrev S16x2048x256 : Shape := ⟨3, ![16, 2048, 256]⟩
abbrev S16x256x512 : Shape := ⟨3, ![16, 256, 512]⟩
abbrev S2x1024x1024 : Shape := ⟨3, ![2, 1024, 1024]⟩
abbrev S2x1024 : Shape := ⟨2, ![2, 1024]⟩
abbrev S2x1024x512 : Shape := ⟨3, ![2, 1024, 512]⟩
abbrev S2x512x1024 : Shape := ⟨3, ![2, 512, 1024]⟩
abbrev S2x1x1024 : Shape := ⟨3, ![2, 1, 1024]⟩
abbrev S1x512x1024 : Shape := ⟨3, ![1, 512, 1024]⟩
abbrev S1x512x384 : Shape := ⟨3, ![1, 512, 384]⟩
abbrev S1x512x256 : Shape := ⟨3, ![1, 512, 256]⟩
abbrev S1x1024x1024 : Shape := ⟨3, ![1, 1024, 1024]⟩
abbrev S1x1x1024 : Shape := ⟨3, ![1, 1, 1024]⟩
abbrev S1x1024x512 : Shape := ⟨3, ![1, 1024, 512]⟩
abbrev S1x256x512 : Shape := ⟨3, ![1, 256, 512]⟩
abbrev S512x384 : Shape := ⟨2, ![512, 384]⟩
abbrev S512x256 : Shape := ⟨2, ![512, 256]⟩
abbrev S512x1024 : Shape := ⟨2, ![512, 1024]⟩
abbrev S1024x1024 : Shape := ⟨2, ![1024, 1024]⟩
abbrev S1x1024 : Shape := ⟨2, ![1, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S512x128 : Shape := ⟨2, ![512, 128]⟩
abbrev S1x256x128 : Shape := ⟨3, ![1, 256, 128]⟩
abbrev S256x128 : Shape := ⟨2, ![256, 128]⟩

abbrev nBuf : Space → Nat
  | .hbm => 15
  | .vmem => 18
  | .smem => 0
  | _ => 0

abbrev bufTy : (tb : Table) → Fin (tcTables nBuf tb) → BufTy
  | .hbm, ⟨0, _⟩ => ⟨S16x2048x1024, .f32⟩
  | .hbm, ⟨1, _⟩ => ⟨S16x2048x384, .bf16⟩
  | .hbm, ⟨2, _⟩ => ⟨S16x2048x384, .bf16⟩
  | .hbm, ⟨3, _⟩ => ⟨S16x2048x256, .bf16⟩
  | .hbm, ⟨4, _⟩ => ⟨S16x256x512, .bf16⟩
  | .hbm, ⟨5, _⟩ => ⟨S16x256x512, .bf16⟩
  | .hbm, ⟨6, _⟩ => ⟨S2x1024x1024, .f32⟩
  | .hbm, ⟨7, _⟩ => ⟨S2x1024, .f32⟩
  | .hbm, ⟨8, _⟩ => ⟨S2x1024x512, .f32⟩
  | .hbm, ⟨9, _⟩ => ⟨S2x512x1024, .f32⟩
  | .hbm, ⟨10, _⟩ => ⟨S2x1024x1024, .bf16⟩
  | .hbm, ⟨11, _⟩ => ⟨S2x1024x512, .bf16⟩
  | .hbm, ⟨12, _⟩ => ⟨S2x512x1024, .bf16⟩
  | .hbm, ⟨13, _⟩ => ⟨S2x1x1024, .f32⟩
  | .hbm, ⟨14, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x384, .bf16⟩
  | .local _ .vmem, ⟨3, _⟩ => ⟨S1x512x384, .bf16⟩
  | .local _ .vmem, ⟨4, _⟩ => ⟨S1x512x384, .bf16⟩
  | .local _ .vmem, ⟨5, _⟩ => ⟨S1x512x384, .bf16⟩
  | .local _ .vmem, ⟨6, _⟩ => ⟨S1x512x256, .bf16⟩
  | .local _ .vmem, ⟨7, _⟩ => ⟨S1x512x256, .bf16⟩
  | .local _ .vmem, ⟨8, _⟩ => ⟨S1x1024x1024, .bf16⟩
  | .local _ .vmem, ⟨9, _⟩ => ⟨S1x1x1024, .f32⟩
  | .local _ .vmem, ⟨10, _⟩ => ⟨S1x1024x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x512x1024, .bf16⟩
  | .local _ .vmem, ⟨16, _⟩ => ⟨S1x512x1024, .f32⟩
  | .local _ .vmem, ⟨17, _⟩ => ⟨S1x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel3Ideal.lean ====
variable {F : FTy → Type} [FloatOps F] [Named F]
def κ : String → Option EReal := fun
  | "xscale" => some (((11863283 / 134217728) * (Real.log 2)⁻¹ : ℝ) : EReal)
  | _ => none
-- ==== Reference3Ideal.lean ====
abbrev S16x2048x1024 : Shape := ⟨3, ![16, 2048, 1024]⟩
abbrev S16x2048x384 : Shape := ⟨3, ![16, 2048, 384]⟩
abbrev S16x2048x256 : Shape := ⟨3, ![16, 2048, 256]⟩
abbrev S16x256x512 : Shape := ⟨3, ![16, 256, 512]⟩
abbrev S2x1024x1024 : Shape := ⟨3, ![2, 1024, 1024]⟩
abbrev S2x1024 : Shape := ⟨2, ![2, 1024]⟩
abbrev S2x1024x512 : Shape := ⟨3, ![2, 1024, 512]⟩
abbrev S2x512x1024 : Shape := ⟨3, ![2, 512, 1024]⟩
abbrev S1x1024x1024 : Shape := ⟨3, ![1, 1024, 1024]⟩
abbrev S1024x1024 : Shape := ⟨2, ![1024, 1024]⟩
abbrev S_ : Shape := ⟨0, ![]⟩
abbrev S16x2048 : Shape := ⟨2, ![16, 2048]⟩
abbrev S16x2048x1 : Shape := ⟨3, ![16, 2048, 1]⟩
abbrev S1x1024 : Shape := ⟨2, ![1, 1024]⟩
abbrev S1024 : Shape := ⟨1, ![1024]⟩
abbrev S1x1x1024 : Shape := ⟨3, ![1, 1, 1024]⟩
abbrev S1x1024x512 : Shape := ⟨3, ![1, 1024, 512]⟩
abbrev S1024x512 : Shape := ⟨2, ![1024, 512]⟩
abbrev S16x2048x512 : Shape := ⟨3, ![16, 2048, 512]⟩
abbrev S16x2048x4x128 : Shape := ⟨4, ![16, 2048, 4, 128]⟩
abbrev S16x256x4x128 : Shape := ⟨4, ![16, 256, 4, 128]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x128x2048 : Shape := ⟨4, ![16, 4, 128, 2048]⟩
abbrev S1x512x1024 : Shape := ⟨3, ![1, 512, 1024]⟩
abbrev S512x1024 : Shape := ⟨2, ![512, 1024]⟩

abbrev nBuf : Space → Nat
  | .hbm => 67
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x384, .bf16⟩
  | .hbm, ⟨2, _⟩ => ⟨S16x2048x384, .bf16⟩
  | .hbm, ⟨3, _⟩ => ⟨S16x2048x256, .bf16⟩
  | .hbm, ⟨4, _⟩ => ⟨S16x256x512, .bf16⟩
  | .hbm, ⟨5, _⟩ => ⟨S16x256x512, .bf16⟩
  | .hbm, ⟨6, _⟩ => ⟨S2x1024x1024, .f32⟩
  | .hbm, ⟨7, _⟩ => ⟨S2x1024, .f32⟩
  | .hbm, ⟨8, _⟩ => ⟨S2x1024x512, .f32⟩
  | .hbm, ⟨9, _⟩ => ⟨S2x512x1024, .f32⟩
  | .hbm, ⟨10, _⟩ => ⟨S16x2048x1024, .bf16⟩
  | .hbm, ⟨11, _⟩ => ⟨S16x2048x1024, .f32⟩
  | .hbm, ⟨12, _⟩ => ⟨S1x1024x1024, .f32⟩
  | .hbm, ⟨13, _⟩ => ⟨S1024x1024, .f32⟩
  | .hbm, ⟨14, _⟩ => ⟨S16x2048x1024, .f32⟩
  | .hbm, ⟨15, _⟩ => ⟨S16x2048x1024, .f32⟩
  | .hbm, ⟨16, _⟩ => ⟨S16x2048x1024, .f32⟩
  | .hbm, ⟨17, _⟩ => ⟨S_, .f32⟩
  | .hbm, ⟨18, _⟩ => ⟨S16x2048, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S16x2048x1, .f32⟩
  | .hbm, ⟨27, _⟩ => ⟨S16x2048x1024, .f32⟩
  | .hbm, ⟨28, _⟩ => ⟨S16x2048x1024, .f32⟩
  | .hbm, ⟨29, _⟩ => ⟨S1x1024, .f32⟩
  | .hbm, ⟨30, _⟩ => ⟨S1024, .f32⟩
  | .hbm, ⟨31, _⟩ => ⟨S1x1x1024, .f32⟩
  | .hbm, ⟨32, _⟩ => ⟨S16x2048x1024, .f32⟩
  | .hbm, ⟨33, _⟩ => ⟨S16x2048x1024, .f32⟩
  | .hbm, ⟨34, _⟩ => ⟨S1x1024x512, .f32⟩
  | .hbm, ⟨35, _⟩ => ⟨S1024x512, .f32⟩
  | .hbm, ⟨36, _⟩ => ⟨S16x2048x512, .f32⟩
  | .hbm, ⟨37, _⟩ => ⟨S16x2048x4x128, .f32⟩
  | .hbm, ⟨38, _⟩ => ⟨S16x256x512, .f32⟩
  | .hbm, ⟨39, _⟩ => ⟨S16x256x4x128, .f32⟩
  | .hbm, ⟨40, _⟩ => ⟨S16x256x512, .f32⟩
  | .hbm, ⟨41, _⟩ => ⟨S16x256x4x128, .f32⟩
  | .hbm, ⟨42, _⟩ => ⟨S16x4x2048x256, .f32⟩
  | .hbm, ⟨43, _⟩ => ⟨S_, .f32⟩
  | .hbm, ⟨44, _⟩ => ⟨S16x4x2048x256, .f32⟩
  | .hbm, ⟨45, _⟩ => ⟨S16x4x2048x256, .f32⟩
  | .hbm, ⟨46, _⟩ => ⟨S_, .f32⟩
  | .hbm, ⟨47, _⟩ => ⟨S16x4x2048, .f32⟩
  | .hbm, ⟨48, _⟩ => ⟨S_, .f32⟩
  | .hbm, ⟨49, _⟩ => ⟨S16x4x2048, .f32⟩
  | .hbm, ⟨50, _⟩ => ⟨S16x4x2048, .f32⟩
  | .hbm, ⟨51, _⟩ => ⟨S16x4x2048x1, .f32⟩
  | .hbm, ⟨52, _⟩ => ⟨S16x4x2048x256, .f32⟩
  | .hbm, ⟨53, _⟩ => ⟨S16x4x2048x256, .f32⟩
  | .hbm, ⟨54, _⟩ => ⟨S16x4x2048x256, .f32⟩
  | .hbm, ⟨55, _⟩ => ⟨S_, .f32⟩
  | .hbm, ⟨56, _⟩ => ⟨S16x4x2048, .f32⟩
  | .hbm, ⟨57, _⟩ => ⟨S16x4x2048x1, .f32⟩
  | .hbm, ⟨58, _⟩ => ⟨S16x4x2048x256, .f32⟩
  | .hbm, ⟨59, _⟩ => ⟨S16x4x2048x256, .f32⟩
  | .hbm, ⟨60, _⟩ => ⟨S16x4x128x2048, .f32⟩
  | .hbm, ⟨61, _⟩ => ⟨S16x2048x4x128, .f32⟩
  | .hbm, ⟨62, _⟩ => ⟨S16x2048x512, .f32⟩
  | .hbm, ⟨63, _⟩ => ⟨S1x512x1024, .f32⟩
  | .hbm, ⟨64, _⟩ => ⟨S512x1024, .f32⟩
  | .hbm, ⟨65, _⟩ => ⟨S16x2048x1024, .f32⟩
  | .hbm, ⟨66, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Kernel4.lean ====
abbrev S16x256x1024 : Shape := ⟨3, ![16, 256, 1024]⟩
abbrev S2x1024 : Shape := ⟨2, ![2, 1024]⟩
abbrev S2x1024x1024 : Shape := ⟨3, ![2, 1024, 1024]⟩
abbrev S2x1x1024 : Shape := ⟨3, ![2, 1, 1024]⟩
abbrev S16x256x512 : Shape := ⟨3, ![16, 256, 512]⟩
abbrev S1x256x1024 : Shape := ⟨3, ![1, 256, 1024]⟩
abbrev S1x1x1024 : Shape := ⟨3, ![1, 1, 1024]⟩
abbrev S1x1024x1024 : Shape := ⟨3, ![1, 1024, 1024]⟩
abbrev S1x256x512 : Shape := ⟨3, ![1, 256, 512]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024x1024 : Shape := ⟨2, ![1024, 1024]⟩
abbrev S256x512 : Shape := ⟨2, ![256, 512]⟩

abbrev nBuf : Space → Nat
  | .hbm => 7
  | .vmem => 8
  | .smem => 0
  | _ => 0

abbrev bufTy : (tb : Table) → Fin (tcTables nBuf tb) → BufTy
  | .hbm, ⟨0, _⟩ => ⟨S16x256x1024, .f32⟩
  | .hbm, ⟨1, _⟩ => ⟨S2x1024, .f32⟩
  | .hbm, ⟨2, _⟩ => ⟨S2x1024x1024, .f32⟩
  | .hbm, ⟨3, _⟩ => ⟨S2x1x1024, .f32⟩
  | .hbm, ⟨4, _⟩ => ⟨S2x1024x1024, .bf16⟩
  | .hbm, ⟨5, _⟩ => ⟨S16x256x512, .bf16⟩
  | .hbm, ⟨6, _⟩ => ⟨S16x256x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1024x1024, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S16x256x1024 : Shape := ⟨3, ![16, 256, 1024]⟩
abbrev S2x1024 : Shape := ⟨2, ![2, 1024]⟩
abbrev S2x1024x1024 : Shape := ⟨3, ![2, 1024, 1024]⟩
abbrev S_ : Shape := ⟨0, ![]⟩
abbrev S16x256 : Shape := ⟨2, ![16, 256]⟩
abbrev S16x256x1 : Shape := ⟨3, ![16, 256, 1]⟩
abbrev S1x1024 : Shape := ⟨2, ![1, 1024]⟩
abbrev S1024 : Shape := ⟨1, ![1024]⟩
abbrev S1x1x1024 : Shape := ⟨3, ![1, 1, 1024]⟩
abbrev S1x1024x1024 : Shape := ⟨3, ![1, 1024, 1024]⟩
abbrev S1024x1024 : Shape := ⟨2, ![1024, 1024]⟩
abbrev S16x256x512 : Shape := ⟨3, ![16, 256, 512]⟩

abbrev nBuf : Space → Nat
  | .hbm => 28
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S2x1024, .f32⟩
  | .hbm, ⟨2, _⟩ => ⟨S2x1024x1024, .f32⟩
  | .hbm, ⟨3, _⟩ => ⟨S16x256x1024, .f32⟩
  | .hbm, ⟨4, _⟩ => ⟨S_, .f32⟩
  | .hbm, ⟨5, _⟩ => ⟨S16x256, .f32⟩
  | .hbm, ⟨6, _⟩ => ⟨S16x256x1, .f32⟩
  | .hbm, ⟨7, _⟩ => ⟨S_, .f32⟩
  | .hbm, ⟨8, _⟩ => ⟨S16x256x1, .f32⟩
  | .hbm, ⟨9, _⟩ => ⟨S16x256x1, .f32⟩
  | .hbm, ⟨10, _⟩ => ⟨S_, .f32⟩
  | .hbm, ⟨11, _⟩ => ⟨S16x256x1, .f32⟩
  | .hbm, ⟨12, _⟩ => ⟨S16x256x1, .f32⟩
  | .hbm, ⟨13, _⟩ => ⟨S16x256x1, .f32⟩
  | .hbm, ⟨14, _⟩ => ⟨S16x256x1024, .f32⟩
  | .hbm, ⟨15, _⟩ => ⟨S16x256x1024, .f32⟩
  | .hbm, ⟨16, _⟩ => ⟨S1x1024, .f32⟩
  | .hbm, ⟨17, _⟩ => ⟨S1024, .f32⟩
  | .hbm, ⟨18, _⟩ => ⟨S1x1x1024, .f32⟩
  | .hbm, ⟨19, _⟩ => ⟨S16x256x1024, .f32⟩
  | .hbm, ⟨20, _⟩ => ⟨S16x256x1024, .f32⟩
  | .hbm, ⟨21, _⟩ => ⟨S1x1024x1024, .f32⟩
  | .hbm, ⟨22, _⟩ => ⟨S1024x1024, .f32⟩
  | .hbm, ⟨23, _⟩ => ⟨S16x256x1024, .f32⟩
  | .hbm, ⟨24, _⟩ => ⟨S16x256x512, .f32⟩
  | .hbm, ⟨25, _⟩ => ⟨S16x256x512, .f32⟩
  | .hbm, ⟨26, _⟩ => ⟨S16x256x512, .bf16⟩
  | .hbm, ⟨27, _⟩ => ⟨S16x256x512, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel5.lean ====
abbrev S16x2048x1024 : Shape := ⟨3, ![16, 2048, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S32768x1024 : Shape := ⟨2, ![32768, 1024]⟩
abbrev S2x1x1024 : Shape := ⟨3, ![2, 1, 1024]⟩
abbrev S1024x1024 : Shape := ⟨2, ![1024, 1024]⟩
abbrev S1x1x1024 : Shape := ⟨3, ![1, 1, 1024]⟩
abbrev S1x1024x5632 : Shape := ⟨3, ![1, 1024, 5632]⟩
abbrev S1x2816x1024 : Shape := ⟨3, ![1, 2816, 1024]⟩
abbrev S1024x2816 : Shape := ⟨2, ![1024, 2816]⟩
abbrev S1x1024 : Shape := ⟨2, ![1, 1024]⟩
abbrev S1024 : Shape := ⟨1, ![1024]⟩
abbrev S1024x1 : Shape := ⟨2, ![1024, 1]⟩
abbrev S1x1024x256 : Shape := ⟨3, ![1, 1024, 256]⟩
abbrev S1024x256 : Shape := ⟨2, ![1024, 256]⟩
abbrev S2816x1024 : Shape := ⟨2, ![2816, 1024]⟩

abbrev nBuf : Space → Nat
  | .hbm => 9
  | .vmem => 10
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S32768x1024, .f32⟩
  | .hbm, ⟨5, _⟩ => ⟨S2x1x1024, .f32⟩
  | .hbm, ⟨6, _⟩ => ⟨S2x1024x5632, .bf16⟩
  | .hbm, ⟨7, _⟩ => ⟨S2x2816x1024, .bf16⟩
  | .hbm, ⟨8, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S1x1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x2816, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S16x2048x1024 : Shape := ⟨3, ![16, 2048, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S_ : Shape := ⟨0, ![]⟩
abbrev S16x2048 : Shape := ⟨2, ![16, 2048]⟩
abbrev S16x2048x1 : Shape := ⟨3, ![16, 2048, 1]⟩
abbrev S1x1024 : Shape := ⟨2, ![1, 1024]⟩
abbrev S1024 : Shape := ⟨1, ![1024]⟩
abbrev S1x1x1024 : Shape := ⟨3, ![1, 1, 1024]⟩
abbrev S1x1024x5632 : Shape := ⟨3, ![1, 1024, 5632]⟩
abbrev S1024x5632 : Shape := ⟨2, ![1024, 5632]⟩
abbrev S16x2048x5632 : Shape := ⟨3, ![16, 2048, 5632]⟩
abbrev S16x2048x2816 : Shape := ⟨3, ![16, 2048, 2816]⟩
abbrev S1x2816x1024 : Shape := ⟨3, ![1, 2816, 1024]⟩
abbrev S2816x1024 : Shape := ⟨2, ![2816, 1024]⟩
abbrev S32768x1024 : Shape := ⟨2, ![32768, 1024]⟩

abbrev nBuf : Space → Nat
  | .hbm => 45
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S16x2048x1024, .f32⟩
  | .hbm, ⟨5, _⟩ => ⟨S_, .f32⟩
  | .hbm, ⟨6, _⟩ => ⟨S16x2048, .f32⟩
  | .hbm, ⟨7, _⟩ => ⟨S16x2048x1, .f32⟩
  | .hbm, ⟨8, _⟩ => ⟨S_, .f32⟩
  | .hbm, ⟨9, _⟩ => ⟨S16x2048x1, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S16x2048x1, .f32⟩
  | .hbm, ⟨15, _⟩ => ⟨S16x2048x1024, .f32⟩
  | .hbm, ⟨16, _⟩ => ⟨S16x2048x1024, .f32⟩
  | .hbm, ⟨17, _⟩ => ⟨S1x1024, .f32⟩
  | .hbm, ⟨18, _⟩ => ⟨S1024, .f32⟩
  | .hbm, ⟨19, _⟩ => ⟨S1x1x1024, .f32⟩
  | .hbm, ⟨20, _⟩ => ⟨S16x2048x1024, .f32⟩
  | .hbm, ⟨21, _⟩ => ⟨S16x2048x1024, .f32⟩
  | .hbm, ⟨22, _⟩ => ⟨S1x1024x5632, .f32⟩
  | .hbm, ⟨23, _⟩ => ⟨S1024x5632, .f32⟩
  | .hbm, ⟨24, _⟩ => ⟨S16x2048x5632, .f32⟩
  | .hbm, ⟨25, _⟩ => ⟨S16x2048x2816, .f32⟩
  | .hbm, ⟨26, _⟩ => ⟨S16x2048x2816, .f32⟩
  | .hbm, ⟨27, _⟩ => ⟨S16x2048x2816, .f32⟩
  | .hbm, ⟨28, _⟩ => ⟨S16x2048x2816, .f32⟩
  | .hbm, ⟨29, _⟩ => ⟨S_, .f32⟩
  | .hbm, ⟨30, _⟩ => ⟨S16x2048x2816, .f32⟩
  | .hbm, ⟨31, _⟩ => ⟨S16x2048x2816, .f32⟩
  | .hbm, ⟨32, _⟩ => ⟨S_, .f32⟩
  | .hbm, ⟨33, _⟩ => ⟨S16x2048x2816, .f32⟩
  | .hbm, ⟨34, _⟩ => ⟨S16x2048x2816, .f32⟩
  | .hbm, ⟨35, _⟩ => ⟨S16x2048x2816, .f32⟩
  | .hbm, ⟨36, _⟩ => ⟨S16x2048x2816, .f32⟩
  | .hbm, ⟨37, _⟩ => ⟨S1x2816x1024, .f32⟩
  | .hbm, ⟨38, _⟩ => ⟨S2816x1024, .f32⟩
  | .hbm, ⟨39, _⟩ => ⟨S16x2048x1024, .f32⟩
  | .hbm, ⟨40, _⟩ => ⟨S_, .f32⟩
  | .hbm, ⟨41, _⟩ => ⟨S16x2048x1024, .f32⟩
  | .hbm, ⟨42, _⟩ => ⟨S16x2048x1024, .f32⟩
  | .hbm, ⟨43, _⟩ => ⟨S16x2048x1024, .f32⟩
  | .hbm, ⟨44, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel6.lean ====
abbrev S16x2048x6x96 : Shape := ⟨4, ![16, 2048, 6, 96]⟩
abbrev S16x2048x6x64 : Shape := ⟨4, ![16, 2048, 6, 64]⟩
abbrev S_ : Shape := ⟨0, ![]⟩
abbrev S16x2048x3x64 : Shape := ⟨4, ![16, 2048, 3, 64]⟩
abbrev S16x2048x3x128 : Shape := ⟨4, ![16, 2048, 3, 128]⟩
abbrev S16x2048x6x32 : Shape := ⟨4, ![16, 2048, 6, 32]⟩
abbrev S16x2048x3x256 : Shape := ⟨4, ![16, 2048, 3, 256]⟩
abbrev S16x2048x768 : Shape := ⟨3, ![16, 2048, 768]⟩
abbrev S16x8x256x768 : Shape := ⟨4, ![16, 8, 256, 768]⟩
abbrev S16x8x768x256 : Shape := ⟨4, ![16, 8, 768, 256]⟩
abbrev S16x2048x384 : Shape := ⟨3, ![16, 2048, 384]⟩
abbrev S16x8x256x384 : Shape := ⟨4, ![16, 8, 256, 384]⟩
abbrev S16x8x384x256 : Shape := ⟨4, ![16, 8, 384, 256]⟩
abbrev S1x1x768x256 : Shape := ⟨4, ![1, 1, 768, 256]⟩
abbrev S1x2048x768 : Shape := ⟨3, ![1, 2048, 768]⟩
abbrev S1x8x384x256 : Shape := ⟨4, ![1, 8, 384, 256]⟩
abbrev S1x256x384 : Shape := ⟨3, ![1, 256, 384]⟩
abbrev S1x6x256x256 : Shape := ⟨4, ![1, 6, 256, 256]⟩
abbrev S6x256x256 : Shape := ⟨3, ![6, 256, 256]⟩
abbrev S256x256 : Shape := ⟨2, ![256, 256]⟩
abbrev S128x256 : Shape := ⟨2, ![128, 256]⟩
abbrev S1x1x256x256 : Shape := ⟨4, ![1, 1, 256, 256]⟩
abbrev S1x256x256 : Shape := ⟨3, ![1, 256, 256]⟩
abbrev S1x1x128x256 : Shape := ⟨4, ![1, 1, 128, 256]⟩
abbrev S256 : Shape := ⟨1, ![256]⟩
abbrev S1x256 : Shape := ⟨2, ![1, 256]⟩
abbrev S64x256 : Shape := ⟨2, ![64, 256]⟩
abbrev S1x1x64x256 : Shape := ⟨4, ![1, 1, 64, 256]⟩
abbrev S1x128x256 : Shape := ⟨3, ![1, 128, 256]⟩
abbrev S16x256 : Shape := ⟨2, ![16, 256]⟩
abbrev S80x256 : Shape := ⟨2, ![80, 256]⟩
abbrev S256x128 : Shape := ⟨2, ![256, 128]⟩
abbrev S1x256x128 : Shape := ⟨3, ![1, 256, 128]⟩

abbrev nBuf : Space → Nat
  | .hbm => 27
  | .vmem => 10
  | .smem => 0
  | _ => 0

abbrev bufTy : (tb : Table) → Fin (tcTables nBuf tb) → BufTy
  | .hbm, ⟨0, _⟩ => ⟨S16x2048x6x96, .f32⟩
  | .hbm, ⟨1, _⟩ => ⟨S16x2048x6x96, .f32⟩
  | .hbm, ⟨2, _⟩ => ⟨S16x2048x6x64, .f32⟩
  | .hbm, ⟨3, _⟩ => ⟨S_, .f32⟩
  | .hbm, ⟨4, _⟩ => ⟨S16x2048x3x64, .f32⟩
  | .hbm, ⟨5, _⟩ => ⟨S16x2048x6x64, .f32⟩
  | .hbm, ⟨6, _⟩ => ⟨S16x2048x3x128, .f32⟩
  | .hbm, ⟨7, _⟩ => ⟨S16x2048x6x32, .f32⟩
  | .hbm, ⟨8, _⟩ => ⟨S16x2048x3x64, .f32⟩
  | .hbm, ⟨9, _⟩ => ⟨S16x2048x3x256, .f32⟩
  | .hbm, ⟨10, _⟩ => ⟨S16x2048x768, .f32⟩
  | .hbm, ⟨11, _⟩ => ⟨S16x8x256x768, .f32⟩
  | .hbm, ⟨12, _⟩ => ⟨S16x8x768x256, .f32⟩
  | .hbm, ⟨13, _⟩ => ⟨S_, .f32⟩
  | .hbm, ⟨14, _⟩ => ⟨S16x2048x3x64, .f32⟩
  | .hbm, ⟨15, _⟩ => ⟨S16x2048x6x64, .f32⟩
  | .hbm, ⟨16, _⟩ => ⟨S16x2048x3x128, .f32⟩
  | .hbm, ⟨17, _⟩ => ⟨S16x2048x6x32, .f32⟩
  | .hbm, ⟨18, _⟩ => ⟨S16x2048x3x64, .f32⟩
  | .hbm, ⟨19, _⟩ => ⟨S16x2048x3x256, .f32⟩
  | .hbm, ⟨20, _⟩ => ⟨S16x2048x768, .f32⟩
  | .hbm, ⟨21, _⟩ => ⟨S16x2048x768, .bf16⟩
  | .hbm, ⟨22, _⟩ => ⟨S16x2048x384, .f32⟩
  | .hbm, ⟨23, _⟩ => ⟨S16x8x256x384, .f32⟩
  | .hbm, ⟨24, _⟩ => ⟨S16x8x384x256, .f32⟩
  | .hbm, ⟨25, _⟩ => ⟨S16x8x384x256, .bf16⟩
  | .hbm, ⟨26, _⟩ => ⟨S16x2048x384, .bf16⟩
  | .local _ .vmem, ⟨0, _⟩ => ⟨S1x1x768x256, .f32⟩
  | .local _ .vmem, ⟨1, _⟩ => ⟨S1x1x768x256, .f32⟩
  | .local _ .vmem, ⟨2, _⟩ => ⟨S1x2048x768, .bf16⟩
  | .local _ .vmem, ⟨3, _⟩ => ⟨S1x2048x768, .bf16⟩
  | .local _ .vmem, ⟨4, _⟩ => ⟨S1x8x384x256, .bf16⟩
  | .local _ .vmem, ⟨5, _⟩ => ⟨S1x8x384x256, .bf16⟩
  | .local _ .vmem, ⟨6, _⟩ => ⟨S1x256x384, .bf16⟩
  | .local _ .vmem, ⟨7, _⟩ => ⟨S1x256x384, .bf16⟩
  | .local _ .vmem, ⟨8, _⟩ => ⟨S1x6x256x256, .f32⟩
  | .local _ .vmem, ⟨9, _⟩ => ⟨S6x256x256, .bf16⟩
  | _, _ => ⟨S16x2048x6x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c256_i32 : BitVec 32 := 256#32
  let v96 : BitVec 32 := Scalar.muli arg1 c256_i32
  v96
def k0_off1 (i : grid0.Coords) : Fin 3 → Nat :=
  let c0_36 : Index := 0#32
  let arg1 : BitVec 32 := BitVec.ofNat 32 (i 1).val
  let c256_i32 : BitVec 32 := 256#32
  let v96 : BitVec 32 := Scalar.muli arg1 c256_i32
  let v97 : BitVec 32 := v96
  let v98 : Index := Scalar.indexCast v97
  let c0_37 : Index := 0#32
  ![0, v98.toNat, 0]
def k0_off2 (i : grid0.Coords) : Fin 3 → Nat :=
  let c0_40 : Index := 0#32
  let arg1 : BitVec 32 := BitVec.ofNat 32 (i 1).val
  let c256_i32 : BitVec 32 := 256#32
  let v96 : BitVec 32 := Scalar.muli arg1 c256_i32
  let v97 : BitVec 32 := v96
  let v104 : Index := Scalar.indexCast v97
  let c256_41 : Index := 256#32
  ![0, v104.toNat, 256]
def k0_off3 (i : grid0.Coords) : Fin 3 → Nat :=
  let c0_44 : Index := 0#32
  let arg1 : BitVec 32 := BitVec.ofNat 32 (i 1).val
  let c256_i32 : BitVec 32 := 256#32
  let v96 : BitVec 32 := Scalar.muli arg1 c256_i32
  let v97 : BitVec 32 := v96
  let v110 : Index := Scalar.indexCast v97
  let c512_45 : Index := 512#32
  ![0, v110.toNat, 512]
@[reducible] def k0_t1_loop (i : grid0.Coords) : Scf.Loop 32 :=
  let c0_i32_150 : BitVec 32 := 0#32
  let arg1 : BitVec 32 := BitVec.ofNat 32 (i 1).val
  let v278 : BitVec 32 := Scalar.subi arg1 c0_i32_150
  let c1_i32 : BitVec 32 := 1#32
  let v280 : BitVec 32 := Scalar.divsi v278 c1_i32
  let v281 : BitVec 32 := Scalar.muli v280 c1_i32
  let v282 : BitVec 32 := Scalar.addi c0_i32_150 v281
  let c1_i32_151 : BitVec 32 := 1#32
  ⟨c0_i32_150, v282, c1_i32_151⟩
def k0_mult2 (i : grid0.Coords) (k0_t1 : Fin (k0_t1_loop i).trips) : BitVec 32 :=
  let c0_i32_150 : BitVec 32 := 0#32
  let c1_i32_151 : BitVec 32 := 1#32
  let arg8 : BitVec 32 := Scf.iv c0_i32_150 c1_i32_151 k0_t1
  let c256_i32_288 : BitVec 32 := 256#32
  let v528 : BitVec 32 := Scalar.muli arg8 c256_i32_288
  v528
def k0_off4 (i : grid0.Coords) (k0_t1 : Fin (k0_t1_loop i).trips) : Fin 3 → Nat :=
  let c0_289 : Index := 0#32
  let c0_i32_150 : BitVec 32 := 0#32
  let c1_i32_151 : BitVec 32 := 1#32
  let arg8 : BitVec 32 := Scf.iv c0_i32_150 c1_i32_151 k0_t1
  let c256_i32_288 : BitVec 32 := 256#32
  let v528 : BitVec 32 := Scalar.muli arg8 c256_i32_288
  let v529 : BitVec 32 := v528
  let v530 : Index := Scalar.indexCast v529
  let c0_290 : Index := 0#32
  ![0, v530.toNat, 0]
def k0_off5 (i : grid0.Coords) (k0_t1 : Fin (k0_t1_loop i).trips) : Fin 3 → Nat :=
  let c0_293 : Index := 0#32
  let c0_i32_150 : BitVec 32 := 0#32
  let c1_i32_151 : BitVec 32 := 1#32
  let arg8 : BitVec 32 := Scf.iv c0_i32_150 c1_i32_151 k0_t1
  let c256_i32_288 : BitVec 32 := 256#32
  let v528 : BitVec 32 := Scalar.muli arg8 c256_i32_288
  let v529 : BitVec 32 := v528
  let v536 : Index := Scalar.indexCast v529
  let c256_294 : Index := 256#32
  ![0, v536.toNat, 256]
def k0_off6 (i : grid0.Coords) (k0_t1 : Fin (k0_t1_loop i).trips) : Fin 3 → Nat :=
  let c0_297 : Index := 0#32
  let c0_i32_150 : BitVec 32 := 0#32
  let c1_i32_151 : BitVec 32 := 1#32
  let arg8 : BitVec 32 := Scf.iv c0_i32_150 c1_i32_151 k0_t1
  let c256_i32_288 : BitVec 32 := 256#32
  let v528 : BitVec 32 := Scalar.muli arg8 c256_i32_288
  let v529 : BitVec 32 := v528
  let v542 : Index := Scalar.indexCast v529
  let c512_298 : Index := 512#32
  ![0, v542.toNat, 512]
def k0_off7 (i : grid0.Coords) (k0_t1 : Fin (k0_t1_loop i).trips) : Fin 4 → Nat :=
  let c0_303 : Index := 0#32
  let c0_i32_150 : BitVec 32 := 0#32
  let c1_i32_151 : BitVec 32 := 1#32
  let arg8 : BitVec 32 := Scf.iv c0_i32_150 c1_i32_151 k0_t1
  let c0_i32_301 : BitVec 32 := 0#32
  let v548 : BitVec 1 := Scalar.cmpi .eq arg8 c0_i32_301
  let arg1 : BitVec 32 := BitVec.ofNat 32 (i 1).val
  let c1_i32_302 : BitVec 32 := 1#32
  let v549 : BitVec 32 := Scalar.subi arg8 c1_i32_302
  let v550 : BitVec 32 := Scalar.select v548 arg1 v549
  let v551 : Index := Scalar.indexCast v550
  let c0_304 : Index := 0#32
  let c0_305 : Index := 0#32
  ![0, v551.toNat, 0, 0]
def k0_off8 (i : grid0.Coords) (k0_t1 : Fin (k0_t1_loop i).trips) : Fin 4 → Nat :=
  let c0_306 : Index := 0#32
  let c0_i32_150 : BitVec 32 := 0#32
  let c1_i32_151 : BitVec 32 := 1#32
  let arg8 : BitVec 32 := Scf.iv c0_i32_150 c1_i32_151 k0_t1
  let c0_i32_301 : BitVec 32 := 0#32
  let v548 : BitVec 1 := Scalar.cmpi .eq arg8 c0_i32_301
  let arg1 : BitVec 32 := BitVec.ofNat 32 (i 1).val
  let c1_i32_302 : BitVec 32 := 1#32
  let v549 : BitVec 32 := Scalar.subi arg8 c1_i32_302
  let v550 : BitVec 32 := Scalar.select v548 arg1 v549
  let v554 : Index := Scalar.indexCast v550
  let c64_307 : Index := 64#32
  let c0_308 : Index := 0#32
  ![0, v554.toNat, 64, 0]
def k0_off9 (i : grid0.Coords) (k0_t1 : Fin (k0_t1_loop i).trips) : Fin 4 → Nat :=
  let c0_309 : Index := 0#32
  let c0_i32_150 : BitVec 32 := 0#32
  let c1_i32_151 : BitVec 32 := 1#32
  let arg8 : BitVec 32 := Scf.iv c0_i32_150 c1_i32_151 k0_t1
  let c0_i32_301 : BitVec 32 := 0#32
  let v548 : BitVec 1 := Scalar.cmpi .eq arg8 c0_i32_301
  let arg1 : BitVec 32 := BitVec.ofNat 32 (i 1).val
  let c1_i32_302 : BitVec 32 := 1#32
  let v549 : BitVec 32 := Scalar.subi arg8 c1_i32_302
  let v550 : BitVec 32 := Scalar.select v548 arg1 v549
  let v557 : Index := Scalar.indexCast v550
  let c128_310 : Index := 128#32
  let c0_311 : Index := 0#32
  ![0, v557.toNat, 128, 0]
def k0_off10 (i : grid0.Coords) (k0_t1 : Fin (k0_t1_loop i).trips) : Fin 4 → Nat :=
  let c0_312 : Index := 0#32
  let c0_i32_150 : BitVec 32 := 0#32
  let c1_i32_151 : BitVec 32 := 1#32
  let arg8 : BitVec 32 := Scf.iv c0_i32_150 c1_i32_151 k0_t1
  let c0_i32_301 : BitVec 32 := 0#32
  let v548 : BitVec 1 := Scalar.cmpi .eq arg8 c0_i32_301
  let arg1 : BitVec 32 := BitVec.ofNat 32 (i 1).val
  let c1_i32_302 : BitVec 32 := 1#32
  let v549 : BitVec 32 := Scalar.subi arg8 c1_i32_302
  let v550 : BitVec 32 := Scalar.select v548 arg1 v549
  let v560 : Index := Scalar.indexCast v550
  let c192_313 : Index := 192#32
  let c0_314 : Index := 0#32
  ![0, v560.toNat, 192, 0]
def k0_off11 (i : grid0.Coords) (k0_t1 : Fin (k0_t1_loop i).trips) : Fin 4 → Nat :=
  let c0_315 : Index := 0#32
  let c0_i32_150 : BitVec 32 := 0#32
  let c1_i32_151 : BitVec 32 := 1#32
  let arg8 : BitVec 32 := Scf.iv c0_i32_150 c1_i32_151 k0_t1
  let c0_i32_301 : BitVec 32 := 0#32
  let v548 : BitVec 1 := Scalar.cmpi .eq arg8 c0_i32_301
  let arg1 : BitVec 32 := BitVec.ofNat 32 (i 1).val
  let c1_i32_302 : BitVec 32 := 1#32
  let v549 : BitVec 32 := Scalar.subi arg8 c1_i32_302
  let v550 : BitVec 32 := Scalar.select v548 arg1 v549
  let v563 : Index := Scalar.indexCast v550
  let c256_316 : Index := 256#32
  let c0_317 : Index := 0#32
  ![0, v563.toNat, 256, 0]
def k0_off12 (i : grid0.Coords) (k0_t1 : Fin (k0_t1_loop i).trips) : Fin 4 → Nat :=
  let c0_318 : Index := 0#32
  let c0_i32_150 : BitVec 32 := 0#32
  let c1_i32_151 : BitVec 32 := 1#32
  let arg8 : BitVec 32 := Scf.iv c0_i32_150 c1_i32_151 k0_t1
  let c0_i32_301 : BitVec 32 := 0#32
  let v548 : BitVec 1 := Scalar.cmpi .eq arg8 c0_i32_301
  let arg1 : BitVec 32 := BitVec.ofNat 32 (i 1).val
  let c1_i32_302 : BitVec 32 := 1#32
  let v549 : BitVec 32 := Scalar.subi arg8 c1_i32_302
  let v550 : BitVec 32 := Scalar.select v548 arg1 v549
  let v566 : Index := Scalar.indexCast v550
  let c320_319 : Index := 320#32
  let c0_320 : Index := 0#32
  ![0, v566.toNat, 320, 0]
@[reducible] def k0_t2_loop (i : grid0.Coords) : Scf.Loop 32 :=
  let c0_i32_150 : BitVec 32 := 0#32
  let arg1 : BitVec 32 := BitVec.ofNat 32 (i 1).val
  let v278 : BitVec 32 := Scalar.subi arg1 c0_i32_150
  let c1_i32 : BitVec 32 := 1#32
  let v280 : BitVec 32 := Scalar.divsi v278 c1_i32
  let v281 : BitVec 32 := Scalar.muli v280 c1_i32
  let v282 : BitVec 32 := Scalar.addi c0_i32_150 v281
  let v279 : BitVec 32 := Scalar.addi c0_i32_150 v278
  let c1_i32_152 : BitVec 32 := 1#32
  ⟨v282, v279, c1_i32_152⟩
def k0_mult3 (i : grid0.Coords) (k0_t2 : Fin (k0_t2_loop i).trips) : BitVec 32 :=
  let c0_i32_150 : BitVec 32 := 0#32
  let arg1 : BitVec 32 := BitVec.ofNat 32 (i 1).val
  let v278 : BitVec 32 := Scalar.subi arg1 c0_i32_150
  let c1_i32 : BitVec 32 := 1#32
  let v280 : BitVec 32 := Scalar.divsi v278 c1_i32
  let v281 : BitVec 32 := Scalar.muli v280 c1_i32
  let v282 : BitVec 32 := Scalar.addi c0_i32_150 v281
  let c1_i32_152 : BitVec 32 := 1#32
  let arg8 : BitVec 32 := Scf.iv v282 c1_i32_152 k0_t2
  let c256_i32_288 : BitVec 32 := 256#32
  let v528 : BitVec 32 := Scalar.muli arg8 c256_i32_288
  v528
def k0_off13 (i : grid0.Coords) (k0_t2 : Fin (k0_t2_loop i).trips) : Fin 3 → Nat :=
  let c0_289 : Index := 0#32
  let c0_i32_150 : BitVec 32 := 0#32
  let arg1 : BitVec 32 := BitVec.ofNat 32 (i 1).val
  let v278 : BitVec 32 := Scalar.subi arg1 c0_i32_150
  let c1_i32 : BitVec 32 := 1#32
  let v280 : BitVec 32 := Scalar.divsi v278 c1_i32
  let v281 : BitVec 32 := Scalar.muli v280 c1_i32
  let v282 : BitVec 32 := Scalar.addi c0_i32_150 v281
  let c1_i32_152 : BitVec 32 := 1#32
  let arg8 : BitVec 32 := Scf.iv v282 c1_i32_152 k0_t2
  let c256_i32_288 : BitVec 32 := 256#32
  let v528 : BitVec 32 := Scalar.muli arg8 c256_i32_288
  let v529 : BitVec 32 := v528
  let v530 : Index := Scalar.indexCast v529
  let c0_290 : Index := 0#32
  ![0, v530.toNat, 0]
def k0_off14 (i : grid0.Coords) (k0_t2 : Fin (k0_t2_loop i).trips) : Fin 3 → Nat :=
  let c0_293 : Index := 0#32
  let c0_i32_150 : BitVec 32 := 0#32
  let arg1 : BitVec 32 := BitVec.ofNat 32 (i 1).val
  let v278 : BitVec 32 := Scalar.subi arg1 c0_i32_150
  let c1_i32 : BitVec 32 := 1#32
  let v280 : BitVec 32 := Scalar.divsi v278 c1_i32
  let v281 : BitVec 32 := Scalar.muli v280 c1_i32
  let v282 : BitVec 32 := Scalar.addi c0_i32_150 v281
  let c1_i32_152 : BitVec 32 := 1#32
  let arg8 : BitVec 32 := Scf.iv v282 c1_i32_152 k0_t2
  let c256_i32_288 : BitVec 32 := 256#32
  let v528 : BitVec 32 := Scalar.muli arg8 c256_i32_288
  let v529 : BitVec 32 := v528
  let v536 : Index := Scalar.indexCast v529
  let c256_294 : Index := 256#32
  ![0, v536.toNat, 256]
def k0_off15 (i : grid0.Coords) (k0_t2 : Fin (k0_t2_loop i).trips) : Fin 3 → Nat :=
  let c0_297 : Index := 0#32
  let c0_i32_150 : BitVec 32 := 0#32
  let arg1 : BitVec 32 := BitVec.ofNat 32 (i 1).val
  let v278 : BitVec 32 := Scalar.subi arg1 c0_i32_150
  let c1_i32 : BitVec 32 := 1#32
  let v280 : BitVec 32 := Scalar.divsi v278 c1_i32
  let v281 : BitVec 32 := Scalar.muli v280 c1_i32
  let v282 : BitVec 32 := Scalar.addi c0_i32_150 v281
  let c1_i32_152 : BitVec 32 := 1#32
  let arg8 : BitVec 32 := Scf.iv v282 c1_i32_152 k0_t2
  let c256_i32_288 : BitVec 32 := 256#32
  let v528 : BitVec 32 := Scalar.muli arg8 c256_i32_288
  let v529 : BitVec 32 := v528
  let v542 : Index := Scalar.indexCast v529
  let c512_298 : Index := 512#32
  ![0, v542.toNat, 512]
def k0_off16 (i : grid0.Coords) (k0_t2 : Fin (k0_t2_loop i).trips) : Fin 4 → Nat :=
  let c0_303 : Index := 0#32
  let c0_i32_150 : BitVec 32 := 0#32
  let arg1 : BitVec 32 := BitVec.ofNat 32 (i 1).val
  let v278 : BitVec 32 := Scalar.subi arg1 c0_i32_150
  let c1_i32 : BitVec 32 := 1#32
  let v280 : BitVec 32 := Scalar.divsi v278 c1_i32
  let v281 : BitVec 32 := Scalar.muli v280 c1_i32
  let v282 : BitVec 32 := Scalar.addi c0_i32_150 v281
  let c1_i32_152 : BitVec 32 := 1#32
  let arg8 : BitVec 32 := Scf.iv v282 c1_i32_152 k0_t2
  let c0_i32_301 : BitVec 32 := 0#32
  let v548 : BitVec 1 := Scalar.cmpi .eq arg8 c0_i32_301
  let c1_i32_302 : BitVec 32 := 1#32
  let v549 : BitVec 32 := Scalar.subi arg8 c1_i32_302
  let v550 : BitVec 32 := Scalar.select v548 arg1 v549
  let v551 : Index := Scalar.indexCast v550
  let c0_304 : Index := 0#32
  let c0_305 : Index := 0#32
  ![0, v551.toNat, 0, 0]
def k0_off17 (i : grid0.Coords) (k0_t2 : Fin (k0_t2_loop i).trips) : Fin 4 → Nat :=
  let c0_306 : Index := 0#32
  let c0_i32_150 : BitVec 32 := 0#32
  let arg1 : BitVec 32 := BitVec.ofNat 32 (i 1).val
  let v278 : BitVec 32 := Scalar.subi arg1 c0_i32_150
  let c1_i32 : BitVec 32 := 1#32
  let v280 : BitVec 32 := Scalar.divsi v278 c1_i32
  let v281 : BitVec 32 := Scalar.muli v280 c1_i32
  let v282 : BitVec 32 := Scalar.addi c0_i32_150 v281
  let c1_i32_152 : BitVec 32 := 1#32
  let arg8 : BitVec 32 := Scf.iv v282 c1_i32_152 k0_t2
  let c0_i32_301 : BitVec 32 := 0#32
  let v548 : BitVec 1 := Scalar.cmpi .eq arg8 c0_i32_301
  let c1_i32_302 : BitVec 32 := 1#32
  let v549 : BitVec 32 := Scalar.subi arg8 c1_i32_302
  let v550 : BitVec 32 := Scalar.select v548 arg1 v549
  let v554 : Index := Scalar.indexCast v550
  let c64_307 : Index := 64#32
  let c0_308 : Index := 0#32
  ![0, v554.toNat, 64, 0]
def k0_off18 (i : grid0.Coords) (k0_t2 : Fin (k0_t2_loop i).trips) : Fin 4 → Nat :=
  let c0_309 : Index := 0#32
  let c0_i32_150 : BitVec 32 := 0#32
  let arg1 : BitVec 32 := BitVec.ofNat 32 (i 1).val
  let v278 : BitVec 32 := Scalar.subi arg1 c0_i32_150
  let c1_i32 : BitVec 32 := 1#32
  let v280 : BitVec 32 := Scalar.divsi v278 c1_i32
  let v281 : BitVec 32 := Scalar.muli v280 c1_i32
  let v282 : BitVec 32 := Scalar.addi c0_i32_150 v281
  let c1_i32_152 : BitVec 32 := 1#32
  let arg8 : BitVec 32 := Scf.iv v282 c1_i32_152 k0_t2
  let c0_i32_301 : BitVec 32 := 0#32
  let v548 : BitVec 1 := Scalar.cmpi .eq arg8 c0_i32_301
  let c1_i32_302 : BitVec 32 := 1#32
  let v549 : BitVec 32 := Scalar.subi arg8 c1_i32_302
  let v550 : BitVec 32 := Scalar.select v548 arg1 v549
  let v557 : Index := Scalar.indexCast v550
  let c128_310 : Index := 128#32
  let c0_311 : Index := 0#32
  ![0, v557.toNat, 128, 0]
def k0_off19 (i : grid0.Coords) (k0_t2 : Fin (k0_t2_loop i).trips) : Fin 4 → Nat :=
  let c0_312 : Index := 0#32
  let c0_i32_150 : BitVec 32 := 0#32
  let arg1 : BitVec 32 := BitVec.ofNat 32 (i 1).val
  let v278 : BitVec 32 := Scalar.subi arg1 c0_i32_150
  let c1_i32 : BitVec 32 := 1#32
  let v280 : BitVec 32 := Scalar.divsi v278 c1_i32
  let v281 : BitVec 32 := Scalar.muli v280 c1_i32
  let v282 : BitVec 32 := Scalar.addi c0_i32_150 v281
  let c1_i32_152 : BitVec 32 := 1#32
  let arg8 : BitVec 32 := Scf.iv v282 c1_i32_152 k0_t2
  let c0_i32_301 : BitVec 32 := 0#32
  let v548 : BitVec 1 := Scalar.cmpi .eq arg8 c0_i32_301
  let c1_i32_302 : BitVec 32 := 1#32
  let v549 : BitVec 32 := Scalar.subi arg8 c1_i32_302
  let v550 : BitVec 32 := Scalar.select v548 arg1 v549
  let v560 : Index := Scalar.indexCast v550
  let c192_313 : Index := 192#32
  let c0_314 : Index := 0#32
  ![0, v560.toNat, 192, 0]
def k0_off20 (i : grid0.Coords) (k0_t2 : Fin (k0_t2_loop i).trips) : Fin 4 → Nat :=
  let c0_315 : Index := 0#32
  let c0_i32_150 : BitVec 32 := 0#32
  let arg1 : BitVec 32 := BitVec.ofNat 32 (i 1).val
  let v278 : BitVec 32 := Scalar.subi arg1 c0_i32_150
  let c1_i32 : BitVec 32 := 1#32
  let v280 : BitVec 32 := Scalar.divsi v278 c1_i32
  let v281 : BitVec 32 := Scalar.muli v280 c1_i32
  let v282 : BitVec 32 := Scalar.addi c0_i32_150 v281
  let c1_i32_152 : BitVec 32 := 1#32
  let arg8 : BitVec 32 := Scf.iv v282 c1_i32_152 k0_t2
  let c0_i32_301 : BitVec 32 := 0#32
  let v548 : BitVec 1 := Scalar.cmpi .eq arg8 c0_i32_301
  let c1_i32_302 : BitVec 32 := 1#32
  let v549 : BitVec 32 := Scalar.subi arg8 c1_i32_302
  let v550 : BitVec 32 := Scalar.select v548 arg1 v549
  let v563 : Index := Scalar.indexCast v550
  let c256_316 : Index := 256#32
  let c0_317 : Index := 0#32
  ![0, v563.toNat, 256, 0]
def k0_off21 (i : grid0.Coords) (k0_t2 : Fin (k0_t2_loop i).trips) : Fin 4 → Nat :=
  let c0_318 : Index := 0#32
  let c0_i32_150 : BitVec 32 := 0#32
  let arg1 : BitVec 32 := BitVec.ofNat 32 (i 1).val
  let v278 : BitVec 32 := Scalar.subi arg1 c0_i32_150
  let c1_i32 : BitVec 32 := 1#32
  let v280 : BitVec 32 := Scalar.divsi v278 c1_i32
  let v281 : BitVec 32 := Scalar.muli v280 c1_i32
  let v282 : BitVec 32 := Scalar.addi c0_i32_150 v281
  let c1_i32_152 : BitVec 32 := 1#32
  let arg8 : BitVec 32 := Scf.iv v282 c1_i32_152 k0_t2
  let c0_i32_301 : BitVec 32 := 0#32
  let v548 : BitVec 1 := Scalar.cmpi .eq arg8 c0_i32_301
  let c1_i32_302 : BitVec 32 := 1#32
  let v549 : BitVec 32 := Scalar.subi arg8 c1_i32_302
  let v550 : BitVec 32 := Scalar.select v548 arg1 v549
  let v566 : Index := Scalar.indexCast v550
  let c320_319 : Index := 320#32
  let c0_320 : Index := 0#32
  ![0, v566.toNat, 320, 0]
def k0_off22 (i : grid0.Coords) : Fin 4 → Nat :=
  let c0_155 : Index := 0#32
  let arg1 : BitVec 32 := BitVec.ofNat 32 (i 1).val
  let c1_i32_153 : BitVec 32 := 1#32
  let v285 : BitVec 32 := Scalar.subi arg1 c1_i32_153
  let c0_i32_154 : BitVec 32 := 0#32
  let v286 : BitVec 32 := Scalar.maxsi v285 c0_i32_154
  let v287 : Index := Scalar.indexCast v286
  let c0_156 : Index := 0#32
  let c0_157 : Index := 0#32
  ![0, v287.toNat, 0, 0]
def k0_off23 (i : grid0.Coords) : Fin 4 → Nat :=
  let c0_158 : Index := 0#32
  let arg1 : BitVec 32 := BitVec.ofNat 32 (i 1).val
  let c1_i32_153 : BitVec 32 := 1#32
  let v285 : BitVec 32 := Scalar.subi arg1 c1_i32_153
  let c0_i32_154 : BitVec 32 := 0#32
  let v286 : BitVec 32 := Scalar.maxsi v285 c0_i32_154
  let v290 : Index := Scalar.indexCast v286
  let c64 : Index := 64#32
  let c0_159 : Index := 0#32
  ![0, v290.toNat, 64, 0]
def k0_off24 (i : grid0.Coords) : Fin 4 → Nat :=
  let c0_160 : Index := 0#32
  let arg1 : BitVec 32 := BitVec.ofNat 32 (i 1).val
  let c1_i32_153 : BitVec 32 := 1#32
  let v285 : BitVec 32 := Scalar.subi arg1 c1_i32_153
  let c0_i32_154 : BitVec 32 := 0#32
  let v286 : BitVec 32 := Scalar.maxsi v285 c0_i32_154
  let v293 : Index := Scalar.indexCast v286
  let c128_161 : Index := 128#32
  let c0_162 : Index := 0#32
  ![0, v293.toNat, 128, 0]
def k0_off25 (i : grid0.Coords) : Fin 4 → Nat :=
  let c0_163 : Index := 0#32
  let arg1 : BitVec 32 := BitVec.ofNat 32 (i 1).val
  let c1_i32_153 : BitVec 32 := 1#32
  let v285 : BitVec 32 := Scalar.subi arg1 c1_i32_153
  let c0_i32_154 : BitVec 32 := 0#32
  let v286 : BitVec 32 := Scalar.maxsi v285 c0_i32_154
  let v296 : Index := Scalar.indexCast v286
  let c192 : Index := 192#32
  let c0_164 : Index := 0#32
  ![0, v296.toNat, 192, 0]
def k0_off26 (i : grid0.Coords) : Fin 4 → Nat :=
  let c0_165 : Index := 0#32
  let arg1 : BitVec 32 := BitVec.ofNat 32 (i 1).val
  let c1_i32_153 : BitVec 32 := 1#32
  let v285 : BitVec 32 := Scalar.subi arg1 c1_i32_153
  let c0_i32_154 : BitVec 32 := 0#32
  let v286 : BitVec 32 := Scalar.maxsi v285 c0_i32_154
  let v299 : Index := Scalar.indexCast v286
  let c256_166 : Index := 256#32
  let c0_167 : Index := 0#32
  ![0, v299.toNat, 256, 0]
def k0_off27 (i : grid0.Coords) : Fin 4 → Nat :=
  let c0_168 : Index := 0#32
  let arg1 : BitVec 32 := BitVec.ofNat 32 (i 1).val
  let c1_i32_153 : BitVec 32 := 1#32
  let v285 : BitVec 32 := Scalar.subi arg1 c1_i32_153
  let c0_i32_154 : BitVec 32 := 0#32
  let v286 : BitVec 32 := Scalar.maxsi v285 c0_i32_154
  let v302 : Index := Scalar.indexCast v286
  let c320 : Index := 320#32
  let c0_169 : Index := 0#32
  ![0, v302.toNat, 320, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x768x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel6Ideal.lean ====
variable {F : FTy → Type} [FloatOps F] [Named F]
def κ : String → Option EReal := fun
  | "mask" => some ⊥
  | "mscale" => some (((3424635 / 33554432) * (Real.log 2)⁻¹ : ℝ) : EReal)
  | _ => none
-- ==== Reference6Ideal.lean ====
abbrev S16x2048x6x96 : Shape := ⟨4, ![16, 2048, 6, 96]⟩
abbrev S16x2048x6x64 : Shape := ⟨4, ![16, 2048, 6, 64]⟩
abbrev S2048 : Shape := ⟨1, ![2048]⟩
abbrev S16x6x2048x2048 : Shape := ⟨4, ![16, 6, 2048, 2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S16x6x2048 : Shape := ⟨3, ![16, 6, 2048]⟩
abbrev S16x6x2048x1 : Shape := ⟨4, ![16, 6, 2048, 1]⟩
abbrev S16x6x64x2048 : Shape := ⟨4, ![16, 6, 64, 2048]⟩
abbrev S16x2048x384 : Shape := ⟨3, ![16, 2048, 384]⟩

abbrev nBuf : Space → Nat
  | .hbm => 37
  | .vmem => 0
  | .smem => 0
  | _ => 0

abbrev bufTy : (tb : Table) → Fin (tcTables nBuf tb) → BufTy
  | .hbm, ⟨0, _⟩ => ⟨S16x2048x6x96, .f32⟩
  | .hbm, ⟨1, _⟩ => ⟨S16x2048x6x96, .f32⟩
  | .hbm, ⟨2, _⟩ => ⟨S16x2048x6x64, .f32⟩
  | .hbm, ⟨3, _⟩ => ⟨S2048, .i32⟩
  | .hbm, ⟨4, _⟩ => ⟨S16x6x2048x2048, .f32⟩
  | .hbm, ⟨5, _⟩ => ⟨S_, .f32⟩
  | .hbm, ⟨6, _⟩ => ⟨S16x6x2048x2048, .f32⟩
  | .hbm, ⟨7, _⟩ => ⟨S16x6x2048x2048, .f32⟩
  | .hbm, ⟨8, _⟩ => ⟨S2048x1, .i32⟩
  | .hbm, ⟨9, _⟩ => ⟨S1x2048, .i32⟩
  | .hbm, ⟨10, _⟩ => ⟨S2048x2048, .i32⟩
  | .hbm, ⟨11, _⟩ => ⟨S2048x2048, .i32⟩
  | .hbm, ⟨12, _⟩ => ⟨S2048x2048, .i1⟩
  | .hbm, ⟨13, _⟩ => ⟨S1x1x2048x2048, .i1⟩
  | .hbm, ⟨14, _⟩ => ⟨S_, .f32⟩
  | .hbm, ⟨15, _⟩ => ⟨S_, .f32⟩
  | .hbm, ⟨16, _⟩ => ⟨S16x6x2048x2048, .i1⟩
  | .hbm, ⟨17, _⟩ => ⟨S16x6x2048x2048, .f32⟩
  | .hbm, ⟨18, _⟩ => ⟨S16x6x2048x2048, .f32⟩
  | .hbm, ⟨19, _⟩ => ⟨S_, .f32⟩
  | .hbm, ⟨20, _⟩ => ⟨S16x6x2048, .f32⟩
  | .hbm, ⟨21, _⟩ => ⟨S_, .f32⟩
  | .hbm, ⟨22, _⟩ => ⟨S16x6x2048, .f32⟩
  | .hbm, ⟨23, _⟩ => ⟨S16x6x2048, .f32⟩
  | .hbm, ⟨24, _⟩ => ⟨S16x6x2048x1, .f32⟩
  | .hbm, ⟨25, _⟩ => ⟨S16x6x2048x2048, .f32⟩
  | .hbm, ⟨26, _⟩ => ⟨S16x6x2048x2048, .f32⟩
  | .hbm, ⟨27, _⟩ => ⟨S16x6x2048x2048, .f32⟩
  | .hbm, ⟨28, _⟩ => ⟨S_, .f32⟩
  | .hbm, ⟨29, _⟩ => ⟨S16x6x2048, .f32⟩
  | .hbm, ⟨30, _⟩ => ⟨S16x6x2048x1, .f32⟩
  | .hbm, ⟨31, _⟩ => ⟨S16x6x2048x2048, .f32⟩
  | .hbm, ⟨32, _⟩ => ⟨S16x6x2048x2048, .f32⟩
  | .hbm, ⟨33, _⟩ => ⟨S16x6x64x2048, .f32⟩
  | .hbm, ⟨34, _⟩ => ⟨S16x2048x6x64, .f32⟩
  | .hbm, ⟨35, _⟩ => ⟨S16x2048x384, .f32⟩
  | .hbm, ⟨36, _⟩ => ⟨S16x2048x384, .bf16⟩
  | _, _ => ⟨S16x2048x6x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Proof.Fox.IdealRun.lean ====
/- The forgetting attention's kernel body, run once for the program `KernelIdeal` at symbolic operands: its loads, stores
   and its counted loop, from any contents of the staging buffers and of the two scratch buffers. -/
module

public import proofs.«01_k».proof.Proof.Gen.KernelIdeal.Frame
public import proofs.«01_k».proof.Proof.Gen.KernelIdeal.Loops
public import Idealize.ShloMosaic.Lib.Tactic
public import Idealize.ShloMosaic.Lib.Pipeline.Kit

@[expose] public section

set_option maxRecDepth 16384

noncomputable section

namespace Cert.KernelIdeal.Fox

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The body's triple: from the input blocks read at their contents, the output's buffer and the two scratch buffers
    at any, it returns with the inputs as they were, the pieces `L` it wrote over the output's buffer, and the scratch
    buffers at some contents. -/
def run (c : Dev nD) (i : grid0.Coords) (arg2 : Memref sig .tc .vmem S1x1x384x256 .f32) (harg2 : arg2.IsWhole) (arg3 : Memref sig .tc .vmem S1x2048x384 .bf16) (harg3 : arg3.IsWhole) (arg4 : Memref sig .tc .vmem S1x8x384x256 .bf16) (harg4 : arg4.IsWhole) (arg5 : Memref sig .tc .vmem S1x2048x128 .f32) (harg5 : arg5.IsWhole) (arg6 : Memref sig .tc .vmem S1x1x8x256 .f32) (harg6 : arg6.IsWhole) (arg7 : Memref sig .tc .vmem S1x256x384 .bf16) (harg7 : arg7.IsWhole) (arg8 : Memref sig .tc .vmem S1x6x256x256 .f32) (harg8 : arg8.IsWhole) (arg9 : Memref sig .tc .vmem S6x256x256 .bf16) (harg9 : arg9.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) :
    { L : BufTy.Contents (Elt F) arg8.view.ty → BufTy.Contents (Elt F) arg9.view.ty → List (View.Piece (Elt F) S1x256x384 .bf16) // ∀ (E : Set ℕ) (f7 : BufTy.Contents (Elt F) arg7.view.ty) (f8 : BufTy.Contents (Elt F) arg8.view.ty) (f9 : BufTy.Contents (Elt F) arg9.view.ty),
      (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)) : sProp 𝕄)
      ⊢ wp frame (wpE (defs₀ (F := F)) Variants.none (c : Thread nD τ) none) E (cc0_fox_attn i arg2 harg2 arg3 harg3 arg4 harg4 arg5 harg5 arg6 harg6 arg7 harg7 arg8 harg8 arg9 harg9)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} arg7.view.writes (Elt F) f7 (L f8 f9)) ∗ (∃ f, (arg8.view.loc (c : Thread nD τ) ↦[arg8.view.set]{fullShare} f)) ∗ (∃ f, (arg9.view.loc (c : Thread nD τ) ↦[arg9.view.set]{fullShare} f)))) } := by
  refine ⟨?_, fun E f7 f8 f9 => ?run⟩
  case run =>
    simp only [cc0_fox_attn_eq_skeleton]; unfold cc0_fox_attn_skel
    iintro ⟨H2, H3, H4, H5, H6, H7, H8, H9⟩
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9

end Cert.KernelIdeal.Fox

end
-- ==== Proof.Fox.IdealFrame.lean ====
/- The frame of the program `KernelIdeal`: the forgetting attention's launch, its body at every grid point by the one run of
   `Fox/IdealRun.lean`, the output's contents forgotten. -/
module

public import proofs.«01_k».proof.Proof.Fox.IdealRun

@[expose] public section

set_option maxRecDepth 16384

noncomputable section

namespace Cert.KernelIdeal.Fox

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationLoose cellOf)
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data: each input's buffer at its block after the body, the output's forgotten. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Pipeline.Dat.unnamed (cfg := cfg0) 5 t
  Φ _ := Pipeline.ΦA spec0 c
  q _ := fullShare
  owed _ := 0

/-- The windows whose contents are forgotten: the output's. -/
def forgets (w : Fin cfg0.W) : Bool := w.val == 5

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, the scratch buffers spelt out. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, owns (c : Thread nD τ) (st0_5 t) fullShare X))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4]
  unfold Pipeline.ΦA
  rw [scopedRest0_eq]
  simp only [← owns_whole]
  unfold owns
  iintro ⟨⟨⟨⟨%s8, %f8, -, H8⟩, ⟨%s9, %f9, -, H9⟩⟩, Hr⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, -, H5⟩⟩
  iapply (wp_wand_r Idealize.ShloMosaic.frame (wpE (defs₀ (F := F)) Variants.none (c : Thread nD τ) none) Set.univ)
  isplitl [H0 H1 H2 H3 H4 H5 H8 H9]
  · iapply ((run c (grid0.coords t) _ _ _ _ _ _ _ _ _ _ _ _ _ _ _ _ f0 f1 f2 f3 f4).2 Set.univ f5 f8 f9)
    isplitl [H0]; · iexact H0
    isplitl [H1]; · iexact H1
    isplitl [H2]; · iexact H2
    isplitl [H3]; · iexact H3
    isplitl [H4]; · iexact H4
    isplitl [H5]; · iexact H5
    isplitl [H8]; · iexact H8
    iexact H9
  iintro %_ ⟨H0, H1, H2, H3, H4, H5, ⟨%g8, H8⟩, ⟨%g9, H9⟩⟩
  isplitl [H8 H9 Hr]
  · isplitl [H8 H9]
    · isplitl [H8]
      · iexists _; iexists g8; isplitr
        · ipureintro; rfl
        · iexact H8
      · iexists _; iexists g9; isplitr
        · ipureintro; rfl
        · iexact H9
    · iexact Hr
  isplitl [Ho]; · iexact Ho
  isplitl [H0]
  · iexists f0; isplitr
    · ipureintro; exact h0
    · iexact H0
  isplitl [H1]
  · iexists f1; isplitr
    · ipureintro; exact h1
    · iexact H1
  isplitl [H2]
  · iexists f2; isplitr
    · ipureintro; exact h2
    · iexact H2
  isplitl [H3]
  · iexists f3; isplitr
    · ipureintro; exact h3
    · iexact H3
  isplitl [H4]
  · iexists f4; isplitr
    · ipureintro; exact h4
    · iexact H4
  iexists _; iexists _; isplitr
  swap; · iexact H5
  ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation at every point, the output forgotten. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch: every run of @main ends with the inputs' arrays and the buffers no window stages as the region found
    them, every semaphore counter at zero. -/
theorem run_main : θ_run defs (onTc (τ := τ) (main (F := F))) (s₀ m ρ)
    (fun r => RDat.FramePost cfg0 (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the four arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m ρ)

end Cert.KernelIdeal.Fox

end
-- ==== Proof.Fox.Ops.lean ====
/- The vector operations of one head's step of the forgetting attention, as the kernel body applies them, and each read
   at an index over the extended reals. -/
module

public import proofs.«01_k».proof.Proof.Gen.KernelIdeal.Skeleton
public import Idealize.ShloMosaic.Lib.Pointwise
public import Idealize.ShloMosaic.Lib.WordCmp

@[expose] public section

set_option maxRecDepth 16384

noncomputable section

namespace Cert.KernelIdeal.Fox

open Cert.KernelIdeal Cert.KernelIdeal.Gen
open Idealize.ShloMosaic

/-- A chunk's scores before the gates: the keys' chunk against the head's queries. -/
def opMM (K : FVec Ideal S1x256x128 .bf16) (q : FVec Ideal S128x256 .bf16) : FVec Ideal S256x256 .f32 :=
  matmul dot_S256x128_S128x256_S256x256_1_0_0_1_n_n none (shapeCast S256x128 K shapeCasts_S1x256x128_S256x128) q (constant S256x256 .f32 0x00000000#32)

/-- The gates' term of a strip: the query's cumulative log gate less the key's, both in units of log 2. -/
def opGate (cr : FVec Ideal S1x1x1x256 .f32) (cc : FVec Ideal S1x128x1 .f32) : FVec Ideal S128x256 .f32 :=
  subf (broadcastTo S128x256 (mulf (shapeCast S1x256 cr shapeCasts_S1x1x1x256_S1x256) (broadcast S1x256 (Named.named κ "log2e" 0x3FB8AA3B#32))) broadcasts_S1x256_S128x256)
    (broadcastTo S128x256 (mulf (shapeCast S128x1 cc shapeCasts_S1x128x1_S128x1) (broadcast S128x1 (Named.named κ "log2e" 0x3FB8AA3B#32))) broadcasts_S128x1_S128x256)

/-- The first strip of a chunk's scores. -/
def opS0 (mm : FVec Ideal S256x256 .f32) (cr : FVec Ideal S1x1x1x256 .f32) (cc : FVec Ideal S1x128x1 .f32) : FVec Ideal S128x256 .f32 :=
  addf (extractStridedSlice S128x256 ![0, 0] mm slices_S256x256_o0_0_S128x256) (opGate cr cc)

/-- The second strip. -/
def opS1 (mm : FVec Ideal S256x256 .f32) (cr : FVec Ideal S1x1x1x256 .f32) (cc : FVec Ideal S1x128x1 .f32) : FVec Ideal S128x256 .f32 :=
  addf (extractStridedSlice S128x256 ![128, 0] mm slices_S256x256_o128_0_S128x256) (opGate cr cc)

/-- The maximum of two strips over the keys. -/
def opMx (s0 s1 : FVec Ideal S128x256 .f32) : FVec Ideal S1x256 .f32 :=
  maximumf (shapeCast S1x256 (multiReduction .maximumf [0] S256 s0 0xFF800000#32 reduces_S128x256_S256 (.inl rfl) rfl) shapeCasts_S256_S1x256)
    (shapeCast S1x256 (multiReduction .maximumf [0] S256 s1 0xFF800000#32 reduces_S128x256_S256 (.inl rfl) rfl) shapeCasts_S256_S1x256)

/-- A strip's weights: two to the power of its scores less the running maximum. -/
def opPr (st : FVec Ideal S1x1x128x256 .f32) (mn : FVec Ideal S1x256 .f32) : FVec Ideal S1x128x256 .bf16 :=
  shapeCast S1x128x256 (truncf .bf16 (exp2 (subf (shapeCast S128x256 st shapeCasts_S1x1x128x256_S128x256) (broadcastTo S128x256 mn broadcasts_S1x256_S128x256))) bitsLt_bf16_f32) shapeCasts_S128x256_S1x128x256

/-- The values' chunk and a row of ones, against the weights. -/
def opPV (vt : FVec Ideal S1x1x64x256 .bf16) (P : FVec Ideal S1x256x256 .bf16) : FVec Ideal S80x256 .f32 :=
  matmul dot_S80x256_S256x256_S80x256_1_0_0_1_n_n none
    (concatenate S80x256 0 [⟨S64x256, shapeCast S64x256 vt shapeCasts_S1x1x64x256_S64x256⟩, ⟨S16x256, broadcast S16x256 (Scalar.ofBits .bf16 0x3F80#16)⟩] concatenates_S64x256_S16x256_S80x256_d0)
    (shapeCast S256x256 P shapeCasts_S1x256x256_S256x256) (constant S80x256 .f32 0x00000000#32)

/-- The factor that brings the sums of the earlier chunks to the new maximum. -/
def opAl (m mn : FVec Ideal S1x256 .f32) : FVec Ideal S1x256 .f32 := exp2 (subf m mn)

/-- The new sum of the weights. -/
def opL (l al : FVec Ideal S1x256 .f32) (pv : FVec Ideal S80x256 .f32) : FVec Ideal S1x256 .f32 :=
  addf (mulf al l) (extractStridedSlice S1x256 ![64, 0] pv slices_S80x256_o64_0_S1x256)

/-- The new weighted sum of the values. -/
def opAcc (a : FVec Ideal S64x256 .f32) (al : FVec Ideal S1x256 .f32) (pv : FVec Ideal S80x256 .f32) : FVec Ideal S64x256 .f32 :=
  addf (mulf (broadcastTo S64x256 al broadcasts_S1x256_S64x256) a) (extractStridedSlice S64x256 ![0, 0] pv slices_S80x256_o0_0_S64x256)

/-- One over log 2: the gates' constant, as the idealized kernel names it. -/
def c2 : EReal := (((Real.log 2)⁻¹ : ℝ) : EReal)

/-- One over eight times log 2: the queries' constant. -/
def cq : EReal := (((1 / 8) * (Real.log 2)⁻¹ : ℝ) : EReal)

theorem named_log2e : (Named.named (F := Ideal) (φ := .f32) κ "log2e" 0x3FB8AA3B#32 : EReal) = c2 :=
  IdealRules.named_const.ideal_named_scalar _ _ _ _ rfl

theorem named_qscale : (Named.named (F := Ideal) (φ := .f32) κ "qscale" 0x3E38AA3B#32 : EReal) = cq :=
  IdealRules.named_const.ideal_named_scalar _ _ _ _ rfl

theorem named_mask : (Named.named (F := Ideal) (φ := .f32) κ "mask" 0xF149F2CA#32 : EReal) = ⊥ :=
  IdealRules.named_const.ideal_named_scalar _ _ _ _ rfl

theorem opS0_apply (K : FVec Ideal S1x256x128 .bf16) (q : FVec Ideal S128x256 .bf16) (cr : FVec Ideal S1x1x1x256 .f32) (cc : FVec Ideal S1x128x1 .f32) (r : Fin 128) (c : Fin 256) :
    opS0 (opMM K q) cr cc (ix2 r c) = ∑ x, K (ix3 0 ⟨r, by omega⟩ x) * q (ix2 x c) + (cr (ix4 0 0 0 c) * c2 - cc (ix3 0 r 0) * c2) := by
  pointwise [opS0, opMM, opGate]
  rw [named_log2e]

theorem opS1_apply (K : FVec Ideal S1x256x128 .bf16) (q : FVec Ideal S128x256 .bf16) (cr : FVec Ideal S1x1x1x256 .f32) (cc : FVec Ideal S1x128x1 .f32) (r : Fin 128) (c : Fin 256) :
    opS1 (opMM K q) cr cc (ix2 r c) = ∑ x, K (ix3 0 ⟨128 + r, by omega⟩ x) * q (ix2 x c) + (cr (ix4 0 0 0 c) * c2 - cc (ix3 0 r 0) * c2) := by
  pointwise [opS1, opMM, opGate]
  rw [named_log2e]

theorem opMx_apply (s0 s1 : FVec Ideal S128x256 .f32) (c : Fin 256) : opMx s0 s1 (ix2 0 c) =
    max (Finset.univ.fold max (Ideal.ofBits FTy.f32 4286578688#32) (fun x : Fin 128 => s0 (ix2 x c))) (Finset.univ.fold max (Ideal.ofBits FTy.f32 4286578688#32) (fun x : Fin 128 => s1 (ix2 x c))) := by
  pointwise [opMx]

theorem opPr_apply (st : FVec Ideal S1x1x128x256 .f32) (mn : FVec Ideal S1x256 .f32) (r : Fin 128) (c : Fin 256) :
    opPr st mn (ix3 0 r c) = (FloatOps.exp2 (F := Ideal) (φ := .f32) (st (ix4 0 0 r c) - mn (ix2 0 c)) : EReal) := by
  pointwise [opPr]

theorem opL_apply (l al : FVec Ideal S1x256 .f32) (vt : FVec Ideal S1x1x64x256 .bf16) (P : FVec Ideal S1x256x256 .bf16) (c : Fin 256) :
    opL l al (opPV vt P) (ix2 0 c) = al (ix2 0 c) * l (ix2 0 c) + ∑ x, P (ix3 0 x c) := by
  pointwise [opL, opPV]

theorem opAcc_apply (a : FVec Ideal S64x256 .f32) (al : FVec Ideal S1x256 .f32) (vt : FVec Ideal S1x1x64x256 .bf16) (P : FVec Ideal S1x256x256 .bf16) (d : Fin 64) (c : Fin 256) :
    opAcc a al (opPV vt P) (ix2 d c) = al (ix2 0 c) * a (ix2 d c) + ∑ x, vt (ix4 0 0 d x) * P (ix3 0 x c) := by
  pointwise [opAcc, opPV]

/-- A head's queries: the block's half for the head scaled, the other head's half zero. -/
def opQ (q : FVec Ideal S1x1x128x256 .f32) (lo hi : BitVec 32) : FVec Ideal S128x256 .bf16 :=
  select (andi (cmpi .sge (iota .tc S128x256 32 [0] iota_S128x256_d0_w32) (broadcast S128x256 lo)) (cmpi .slt (iota .tc S128x256 32 [0] iota_S128x256_d0_w32) (broadcast S128x256 hi)))
    (truncf .bf16 (mulf (shapeCast S128x256 q shapeCasts_S1x1x128x256_S128x256) (broadcast S128x256 (Named.named κ "qscale" 0x3E38AA3B#32))) bitsLt_bf16_f32)
    (broadcast S128x256 (Scalar.ofBits .bf16 0x0000#16))

/-- A strip of the diagonal chunk's scores, masked above the diagonal. -/
def opMask (off : BitVec 32) (s : FVec Ideal S128x256 .f32) : FVec Ideal S128x256 .f32 :=
  select (cmpi .sle (addi (iota .tc S128x256 32 [0] iota_S128x256_d0_w32) (broadcast S128x256 off)) (iota .tc S128x256 32 [1] iota_S128x256_d1_w32)) s
    (broadcast S128x256 (Named.named κ "mask" 0xF149F2CA#32))

/-- Two heads' results, divided by their sums and laid side by side. -/
def opOut (a0 : FVec Ideal S64x256 .f32) (l0 : FVec Ideal S1x256 .f32) (a1 : FVec Ideal S64x256 .f32) (l1 : FVec Ideal S1x256 .f32) : FVec Ideal S1x256x128 .bf16 :=
  shapeCast S1x256x128 (truncf .bf16 (transpose S256x128 [1, 0] (concatenate S128x256 0 [⟨S64x256, divf a0 (broadcastTo S64x256 l0 broadcasts_S1x256_S64x256)⟩, ⟨S64x256, divf a1 (broadcastTo S64x256 l1 broadcasts_S1x256_S64x256)⟩] concatenates_S64x256_S64x256_S128x256_d0) transposes_S128x256_p1_0_S256x128) bitsLt_bf16_f32) shapeCasts_S256x128_S1x256x128

theorem opQ_lo_apply (q : FVec Ideal S1x1x128x256 .f32) (x : Fin 128) (c : Fin 256) :
    opQ q 0#32 64#32 (ix2 x c) = if (x : ℕ) < 64 then q (ix4 0 0 x c) * cq else 0 := by
  pointwise [opQ]
  rw [named_qscale, show IntOp.andi (IntOp.cmpi CmpIPredicate.sge (BitVec.ofNat 32 ↑x) 0#32) (IntOp.cmpi CmpIPredicate.slt (BitVec.ofNat 32 ↑x) 64#32) = if (x : ℕ) < 64 then 1#1 else 0#1 from by revert x; decide]
  split <;> rfl

theorem opQ_hi_apply (q : FVec Ideal S1x1x128x256 .f32) (x : Fin 128) (c : Fin 256) :
    opQ q 64#32 128#32 (ix2 x c) = if 64 ≤ (x : ℕ) then q (ix4 0 0 x c) * cq else 0 := by
  pointwise [opQ]
  rw [named_qscale, show IntOp.andi (IntOp.cmpi CmpIPredicate.sge (BitVec.ofNat 32 ↑x) 64#32) (IntOp.cmpi CmpIPredicate.slt (BitVec.ofNat 32 ↑x) 128#32) = if 64 ≤ (x : ℕ) then 1#1 else 0#1 from by revert x; decide]
  split <;> rfl

theorem opMask_apply (off : ℕ) (hoff : off ≤ 128) (s : FVec Ideal S128x256 .f32) (x : Fin 128) (c : Fin 256) :
    opMask (BitVec.ofNat 32 off) s (ix2 x c) = if (x : ℕ) + off ≤ c then s (ix2 x c) else ⊥ := by
  pointwise [opMask]
  have h : IntOp.cmpi CmpIPredicate.sle (IntOp.addi (BitVec.ofNat 32 ↑x) (BitVec.ofNat 32 off)) (BitVec.ofNat 32 ↑c) = if (x : ℕ) + off ≤ c then 1#1 else 0#1 := by
    rw [show IntOp.addi (BitVec.ofNat 32 ↑x) (BitVec.ofNat 32 off) = BitVec.ofNat 32 (x + off) from (BitVec.ofNat_add ..).symm]
    split
    · next h => exact (WordCmp.cmpi_sle_ofNat_eq_one_iff (by have := x.isLt; norm_num; omega) (by have := c.isLt; norm_num; omega)).mpr h
    · next h => exact (WordCmp.cmpi_sle_ofNat_eq_zero_iff (by have := x.isLt; norm_num; omega) (by have := c.isLt; norm_num; omega)).mpr (by omega)
  rw [named_mask, h]
  split <;> rfl

theorem opOut_apply (a0 : FVec Ideal S64x256 .f32) (l0 : FVec Ideal S1x256 .f32) (a1 : FVec Ideal S64x256 .f32) (l1 : FVec Ideal S1x256 .f32) (x : Fin 128) (c : Fin 256) :
    opOut a0 l0 a1 l1 (ix3 0 c x) = if h : (x : ℕ) < 64 then Ideal.div (a0 (ix2 ⟨x, h⟩ c)) (l0 (ix2 0 c))
      else Ideal.div (a1 (ix2 ⟨x - 64, by omega⟩ c)) (l1 (ix2 0 c)) := by
  pointwise [opOut]

end Cert.KernelIdeal.Fox

end
-- ==== Proof.Fox.Trip.lean ====
/- One trip of the forgetting attention's loop, each head's step in the vocabulary of `Ops`. -/
module

public import proofs.«01_k».proof.Proof.Gen.KernelIdeal.Loops
public import proofs.«01_k».proof.Proof.Fox.Ops

@[expose] public section

set_option maxRecDepth 16384

noncomputable section

namespace Cert.KernelIdeal.Fox

open Cert.KernelIdeal Cert.KernelIdeal.Gen
open Idealize.ShloMosaic
open Idealize.ShloMosaic.TcCoe

/-- The loop's carried values: six chunk maxima, then each head's running maximum, sum and weighted sum. -/
abbrev Acc : Type := FVec Ideal S1x256 .f32 × FVec Ideal S1x256 .f32 × FVec Ideal S1x256 .f32 × FVec Ideal S1x256 .f32 × FVec Ideal S1x256 .f32 × FVec Ideal S1x256 .f32
  × FVec Ideal S1x256 .f32 × FVec Ideal S1x256 .f32 × FVec Ideal S64x256 .f32 × FVec Ideal S1x256 .f32 × FVec Ideal S1x256 .f32 × FVec Ideal S64x256 .f32
  × FVec Ideal S1x256 .f32 × FVec Ideal S1x256 .f32 × FVec Ideal S64x256 .f32 × FVec Ideal S1x256 .f32 × FVec Ideal S1x256 .f32 × FVec Ideal S64x256 .f32
  × FVec Ideal S1x256 .f32 × FVec Ideal S1x256 .f32 × FVec Ideal S64x256 .f32 × FVec Ideal S1x256 .f32 × FVec Ideal S1x256 .f32 × FVec Ideal S64x256 .f32

/-- The chunk maxima, by head. -/
def aCm (a : Acc) : Fin 6 → FVec Ideal S1x256 .f32 := ![a.1, a.2.1, a.2.2.1, a.2.2.2.1, a.2.2.2.2.1, a.2.2.2.2.2.1]
/-- The running maxima, by head. -/
def aM (a : Acc) : Fin 6 → FVec Ideal S1x256 .f32 := ![a.2.2.2.2.2.2.1, a.2.2.2.2.2.2.2.2.2.1, a.2.2.2.2.2.2.2.2.2.2.2.2.1, a.2.2.2.2.2.2.2.2.2.2.2.2.2.2.2.1, a.2.2.2.2.2.2.2.2.2.2.2.2.2.2.2.2.2.2.1, a.2.2.2.2.2.2.2.2.2.2.2.2.2.2.2.2.2.2.2.2.2.1]
/-- The running sums, by head. -/
def aL (a : Acc) : Fin 6 → FVec Ideal S1x256 .f32 := ![a.2.2.2.2.2.2.2.1, a.2.2.2.2.2.2.2.2.2.2.1, a.2.2.2.2.2.2.2.2.2.2.2.2.2.1, a.2.2.2.2.2.2.2.2.2.2.2.2.2.2.2.2.1, a.2.2.2.2.2.2.2.2.2.2.2.2.2.2.2.2.2.2.2.1, a.2.2.2.2.2.2.2.2.2.2.2.2.2.2.2.2.2.2.2.2.2.2.1]
/-- The running weighted sums, by head. -/
def aA (a : Acc) : Fin 6 → FVec Ideal S64x256 .f32 := ![a.2.2.2.2.2.2.2.2.1, a.2.2.2.2.2.2.2.2.2.2.2.1, a.2.2.2.2.2.2.2.2.2.2.2.2.2.2.1, a.2.2.2.2.2.2.2.2.2.2.2.2.2.2.2.2.2.1, a.2.2.2.2.2.2.2.2.2.2.2.2.2.2.2.2.2.2.2.2.1, a.2.2.2.2.2.2.2.2.2.2.2.2.2.2.2.2.2.2.2.2.2.2.2]

/-- The carried values from their families. -/
def mkAcc (cm m l : Fin 6 → FVec Ideal S1x256 .f32) (A : Fin 6 → FVec Ideal S64x256 .f32) : Acc :=
  (cm 0, cm 1, cm 2, cm 3, cm 4, cm 5, m 0, l 0, A 0, m 1, l 1, A 1, m 2, l 2, A 2, m 3, l 3, A 3, m 4, l 4, A 4, m 5, l 5, A 5)

/-- A head's strip of the scores' scratch buffer. -/
abbrev rS (h : Fin 6) (b : Fin 2) : Rect S1x6x256x256 := Rect.unit (s := S1x6x256x256) ![0, h.val, 128 * b.val, 0] S1x1x128x256.size (by revert h b; decide)
/-- A head's strip of the weights' scratch buffer. -/
abbrev rP (h : Fin 6) (b : Fin 2) : Rect S6x256x256 := Rect.unit (s := S6x256x256) ![h.val, 128 * b.val, 0] S1x128x256.size (by revert h b; decide)
/-- A head's block of the weights' scratch buffer. -/
abbrev rP2 (h : Fin 6) : Rect S6x256x256 := Rect.unit (s := S6x256x256) ![h.val, 0, 0] S1x256x256.size (by revert h; decide)
/-- A head's row of the queries' gates. -/
abbrev rR (h : Fin 6) : Rect S1x1x8x256 := Rect.unit (s := S1x1x8x256) ![0, 0, h.val, 0] S1x1x1x256.size (by revert h; decide)

/-- The twelve strips stored into the weights' buffer, the last first. -/
def pcs9 (P : Fin 6 → Fin 2 → FVec Ideal S1x128x256 .bf16) : List (View.Piece (Elt Ideal) S6x256x256 .bf16) :=
  [⟨rP 5 1, P 5 1⟩, ⟨rP 5 0, P 5 0⟩, ⟨rP 4 1, P 4 1⟩, ⟨rP 4 0, P 4 0⟩, ⟨rP 3 1, P 3 1⟩, ⟨rP 3 0, P 3 0⟩, ⟨rP 2 1, P 2 1⟩, ⟨rP 2 0, P 2 0⟩, ⟨rP 1 1, P 1 1⟩, ⟨rP 1 0, P 1 0⟩, ⟨rP 0 1, P 0 1⟩, ⟨rP 0 0, P 0 0⟩]
/-- The twelve strips stored into the scores' buffer, the last first. -/
def pcs8 (S : Fin 6 → Fin 2 → FVec Ideal S1x1x128x256 .f32) : List (View.Piece (Elt Ideal) S1x6x256x256 .f32) :=
  [⟨rS 5 1, S 5 1⟩, ⟨rS 5 0, S 5 0⟩, ⟨rS 4 1, S 4 1⟩, ⟨rS 4 0, S 4 0⟩, ⟨rS 3 1, S 3 1⟩, ⟨rS 3 0, S 3 0⟩, ⟨rS 2 1, S 2 1⟩, ⟨rS 2 0, S 2 0⟩, ⟨rS 1 1, S 1 1⟩, ⟨rS 1 0, S 1 0⟩, ⟨rS 0 1, S 0 1⟩, ⟨rS 0 0, S 0 0⟩]

/-- Trip `k`'s chunk of the keys, for each head (two heads share their lanes). -/
def ldK (Y3 : FVec Ideal S1x2048x384 .bf16) (i : grid0.Coords) (k : Fin (k0_t1_loop i).trips) : Fin 6 → FVec Ideal S1x256x128 .bf16 :=
  ![View.ld (Val := Elt Ideal) (e' := .bf16) Y3 (Rect.unit (s := S1x2048x384) (k0_off10 i k) S1x256x128.size (k0_off10_inb i k)), View.ld (Val := Elt Ideal) (e' := .bf16) Y3 (Rect.unit (s := S1x2048x384) (k0_off10 i k) S1x256x128.size (k0_off10_inb i k)),
    View.ld (Val := Elt Ideal) (e' := .bf16) Y3 (Rect.unit (s := S1x2048x384) (k0_off11 i k) S1x256x128.size (k0_off11_inb i k)), View.ld (Val := Elt Ideal) (e' := .bf16) Y3 (Rect.unit (s := S1x2048x384) (k0_off11 i k) S1x256x128.size (k0_off11_inb i k)),
    View.ld (Val := Elt Ideal) (e' := .bf16) Y3 (Rect.unit (s := S1x2048x384) (k0_off12 i k) S1x256x128.size (k0_off12_inb i k)), View.ld (Val := Elt Ideal) (e' := .bf16) Y3 (Rect.unit (s := S1x2048x384) (k0_off12 i k) S1x256x128.size (k0_off12_inb i k))]

/-- The chunk of the values trip `k` weighs, for each head. -/
def ldV (Y4 : FVec Ideal S1x8x384x256 .bf16) (i : grid0.Coords) (k : Fin (k0_t1_loop i).trips) : Fin 6 → FVec Ideal S1x1x64x256 .bf16 :=
  ![View.ld (Val := Elt Ideal) (e' := .bf16) Y4 (Rect.unit (s := S1x8x384x256) (k0_off13 i k) S1x1x64x256.size (k0_off13_inb i k)), View.ld (Val := Elt Ideal) (e' := .bf16) Y4 (Rect.unit (s := S1x8x384x256) (k0_off14 i k) S1x1x64x256.size (k0_off14_inb i k)),
    View.ld (Val := Elt Ideal) (e' := .bf16) Y4 (Rect.unit (s := S1x8x384x256) (k0_off15 i k) S1x1x64x256.size (k0_off15_inb i k)), View.ld (Val := Elt Ideal) (e' := .bf16) Y4 (Rect.unit (s := S1x8x384x256) (k0_off16 i k) S1x1x64x256.size (k0_off16_inb i k)),
    View.ld (Val := Elt Ideal) (e' := .bf16) Y4 (Rect.unit (s := S1x8x384x256) (k0_off17 i k) S1x1x64x256.size (k0_off17_inb i k)), View.ld (Val := Elt Ideal) (e' := .bf16) Y4 (Rect.unit (s := S1x8x384x256) (k0_off18 i k) S1x1x64x256.size (k0_off18_inb i k))]

/-- Trip `k`'s strip of the keys' gates, for each head. -/
def ldC (Y5 : FVec Ideal S1x2048x128 .f32) (i : grid0.Coords) (k : Fin (k0_t1_loop i).trips) (b : Fin 2) : Fin 6 → FVec Ideal S1x128x1 .f32 :=
  ![View.ld (Val := Elt Ideal) (e' := .f32) Y5 (Rect.unit (s := S1x2048x128) (k0_off19 i k (BitVec.ofNat 32 (128 * b.val))) S1x128x1.size (k0_off19_inb i k b)), View.ld (Val := Elt Ideal) (e' := .f32) Y5 (Rect.unit (s := S1x2048x128) (k0_off20 i k (BitVec.ofNat 32 (128 * b.val))) S1x128x1.size (k0_off20_inb i k b)),
    View.ld (Val := Elt Ideal) (e' := .f32) Y5 (Rect.unit (s := S1x2048x128) (k0_off21 i k (BitVec.ofNat 32 (128 * b.val))) S1x128x1.size (k0_off21_inb i k b)), View.ld (Val := Elt Ideal) (e' := .f32) Y5 (Rect.unit (s := S1x2048x128) (k0_off22 i k (BitVec.ofNat 32 (128 * b.val))) S1x128x1.size (k0_off22_inb i k b)),
    View.ld (Val := Elt Ideal) (e' := .f32) Y5 (Rect.unit (s := S1x2048x128) (k0_off23 i k (BitVec.ofNat 32 (128 * b.val))) S1x128x1.size (k0_off23_inb i k b)), View.ld (Val := Elt Ideal) (e' := .f32) Y5 (Rect.unit (s := S1x2048x128) (k0_off24 i k (BitVec.ofNat 32 (128 * b.val))) S1x128x1.size (k0_off24_inb i k b))]

/-- Trip `k`'s scores, by head and strip. -/
def tS (Y3 : FVec Ideal S1x2048x384 .bf16) (Y5 : FVec Ideal S1x2048x128 .f32) (Y6 : FVec Ideal S1x1x8x256 .f32) (q : Fin 6 → FVec Ideal S128x256 .bf16)
    (i : grid0.Coords) (k : Fin (k0_t1_loop i).trips) (h : Fin 6) (b : Fin 2) : FVec Ideal S128x256 .f32 :=
  match b with
  | 0 => opS0 (opMM (ldK Y3 i k h) (q h)) (View.ld (Val := Elt Ideal) (e' := .f32) Y6 (rR h)) (ldC Y5 i k 0 h)
  | 1 => opS1 (opMM (ldK Y3 i k h) (q h)) (View.ld (Val := Elt Ideal) (e' := .f32) Y6 (rR h)) (ldC Y5 i k 1 h)

/-- A step's new running maximum. -/
def tM (a : Acc) (h : Fin 6) : FVec Ideal S1x256 .f32 := maximumf (aM a h) (aCm a h)

/-- The weights of the scores the buffer holds. -/
def tP (Y8 : FVec Ideal S1x6x256x256 .f32) (a : Acc) (h : Fin 6) (b : Fin 2) : FVec Ideal S1x128x256 .bf16 := opPr (View.ld (Val := Elt Ideal) (e' := .f32) Y8 (rS h b)) (tM a h)

/-- A step's new running sum. -/
def tL (V : Fin 6 → FVec Ideal S1x1x64x256 .bf16) (P : Fin 6 → FVec Ideal S1x256x256 .bf16) (a : Acc) (h : Fin 6) : FVec Ideal S1x256 .f32 :=
  opL (aL a h) (opAl (aM a h) (tM a h)) (opPV (V h) (P h))

/-- A step's new running weighted sum. -/
def tA (V : Fin 6 → FVec Ideal S1x1x64x256 .bf16) (P : Fin 6 → FVec Ideal S1x256x256 .bf16) (a : Acc) (h : Fin 6) : FVec Ideal S64x256 .f32 :=
  opAcc (aA a h) (opAl (aM a h) (tM a h)) (opPV (V h) (P h))

section
variable (𝒱 : Variants) (c : Dev nD) (bd : Option 𝒱.V) (i : grid0.Coords) (arg2 : Memref sig .tc .vmem S1x1x384x256 .f32) (harg2 : arg2.IsWhole) (arg3 : Memref sig .tc .vmem S1x2048x384 .bf16) (harg3 : arg3.IsWhole) (arg4 : Memref sig .tc .vmem S1x8x384x256 .bf16) (harg4 : arg4.IsWhole) (arg5 : Memref sig .tc .vmem S1x2048x128 .f32) (harg5 : arg5.IsWhole) (arg6 : Memref sig .tc .vmem S1x1x8x256 .f32) (harg6 : arg6.IsWhole) (arg7 : Memref sig .tc .vmem S1x256x384 .bf16) (harg7 : arg7.IsWhole) (arg8 : Memref sig .tc .vmem S1x6x256x256 .f32) (harg8 : arg8.IsWhole) (arg9 : Memref sig .tc .vmem S6x256x256 .bf16) (harg9 : arg9.IsWhole) (arg1 : BitVec 32) (q : Fin 6 → FVec Ideal S128x256 .bf16) (v136 : FVec Ideal S1x256 .f32) (v187 : FVec Ideal S1x256 .f32) (v238 : FVec Ideal S1x256 .f32) (v289 : FVec Ideal S1x256 .f32) (v340 : FVec Ideal S1x256 .f32) (v391 : FVec Ideal S1x256 .f32) (v392 : FVec Ideal S1x256 .f32) (v393 : FVec Ideal S1x256 .f32) (v394 : FVec Ideal S64x256 .f32) (v395 : FVec Ideal S1x256 .f32) (v396 : FVec Ideal S1x256 .f32)
  (X3 : BufTy.Contents (Elt Ideal) arg3.view.ty) (X4 : BufTy.Contents (Elt Ideal) arg4.view.ty) (X5 : BufTy.Contents (Elt Ideal) arg5.view.ty) (X6 : BufTy.Contents (Elt Ideal) arg6.view.ty)

/-- Trip `k`'s stores into the scores' buffer. -/
theorem trip_L8 (k : Fin (k0_t1_loop i).trips) (a : Acc) (f8 : BufTy.Contents (Elt Ideal) arg8.view.ty) (f9 : BufTy.Contents (Elt Ideal) arg9.view.ty) :
    (trip_k0_t1 (F := Ideal) 𝒱 c bd i arg2 harg2 arg3 harg3 arg4 harg4 arg5 harg5 arg6 harg6 arg7 harg7 arg8 harg8 arg9 harg9 arg1 (q 0) (q 1) (q 2) (q 3) (q 4) (q 5) v136 v187 v238 v289 v340 v391 v392 v393 v394 v395 v396 X3 X4 X5 X6 k).2.1 a f8 f9
      = pcs8 fun h b => shapeCast S1x1x128x256 (tS (arg3.view.read (Elt Ideal) X3) (arg5.view.read (Elt Ideal) X5) (arg6.view.read (Elt Ideal) X6) q i k h b) shapeCasts_S128x256_S1x1x128x256 := by
  unfold trip_k0_t1
  dsimp only
  rfl

/-- Trip `k`'s stores into the weights' buffer. -/
theorem trip_L9 (k : Fin (k0_t1_loop i).trips) (a : Acc) (f8 : BufTy.Contents (Elt Ideal) arg8.view.ty) (f9 : BufTy.Contents (Elt Ideal) arg9.view.ty) :
    (trip_k0_t1 (F := Ideal) 𝒱 c bd i arg2 harg2 arg3 harg3 arg4 harg4 arg5 harg5 arg6 harg6 arg7 harg7 arg8 harg8 arg9 harg9 arg1 (q 0) (q 1) (q 2) (q 3) (q 4) (q 5) v136 v187 v238 v289 v340 v391 v392 v393 v394 v395 v396 X3 X4 X5 X6 k).2.2.1 a f8 f9
      = pcs9 (tP (arg8.view.read (Elt Ideal) f8) a) := by
  unfold trip_k0_t1
  dsimp only
  rfl

/-- What trip `k` carries on. -/
theorem trip_R (k : Fin (k0_t1_loop i).trips) (a : Acc) (f8 : BufTy.Contents (Elt Ideal) arg8.view.ty) (f9 : BufTy.Contents (Elt Ideal) arg9.view.ty) :
    (trip_k0_t1 (F := Ideal) 𝒱 c bd i arg2 harg2 arg3 harg3 arg4 harg4 arg5 harg5 arg6 harg6 arg7 harg7 arg8 harg8 arg9 harg9 arg1 (q 0) (q 1) (q 2) (q 3) (q 4) (q 5) v136 v187 v238 v289 v340 v391 v392 v393 v394 v395 v396 X3 X4 X5 X6 k).1 a f8 f9
      = mkAcc (fun h => opMx (tS (arg3.view.read (Elt Ideal) X3) (arg5.view.read (Elt Ideal) X5) (arg6.view.read (Elt Ideal) X6) q i k h 0) (tS (arg3.view.read (Elt Ideal) X3) (arg5.view.read (Elt Ideal) X5) (arg6.view.read (Elt Ideal) X6) q i k h 1))
          (tM a)
          (tL (ldV (arg4.view.read (Elt Ideal) X4) i k) (fun h => arg9.view.readCov (pcs9 (tP (arg8.view.read (Elt Ideal) f8) a)) (rP2 h).toLoadRect) a)
          (tA (ldV (arg4.view.read (Elt Ideal) X4) i k) (fun h => arg9.view.readCov (pcs9 (tP (arg8.view.read (Elt Ideal) f8) a)) (rP2 h).toLoadRect) a) := by
  unfold trip_k0_t1
  dsimp only
  rfl

end

end Cert.KernelIdeal.Fox

end
-- ==== Proof.Fox.Buffers.lean ====
/- What the two scratch buffers of the forgetting attention hold after a trip's strips are stored, and where a load at a
   computed offset reads. -/
module

public import proofs.«01_k».proof.Proof.Fox.Trip
public import Idealize.ShloMosaic.Lib.WritesUnit
public import Idealize.ShloMosaic.Lib.Pipeline.ValueKit.Tiles

@[expose] public section

set_option maxRecDepth 16384

noncomputable section

namespace Cert.KernelIdeal.Fox

open Cert.KernelIdeal Cert.KernelIdeal.Gen
open Idealize.ShloMosaic
open Idealize.ShloMosaic.TcCoe

/-- The row of a 256-row block that row `r` of its strip `b` is. -/
def row (b : Fin 2) (r : Fin 128) : Fin 256 := ⟨128 * b.val + r.val, by omega⟩

/-- After the twelve strips are stored, the scores' buffer holds strip `b` of head `h` at its rows. -/
theorem read_pcs8 {sig : RefSig} {κ : Kind} {sp : Space} (v : View sig κ sp S1x6x256x256 .f32) (f : v.ty.Contents (Elt Ideal)) (S : Fin 6 → Fin 2 → FVec Ideal S1x1x128x256 .f32)
    (tl : List (View.Piece (Elt Ideal) S1x6x256x256 .f32)) (h : Fin 6) (b : Fin 2) (r : Fin 128) (c : Fin 256) :
    v.read (Elt Ideal) (v.writes (Elt Ideal) f (pcs8 S ++ tl)) (ix4 0 h (row b r) c) = S h b (ix4 0 0 r c) := by
  have hr := r.isLt
  fin_cases h <;> fin_cases b <;>
  · simp only [pcs8, List.cons_append, List.nil_append]
    repeat first
      | (refine (View.read_writes_cons_unit_of_not_mem (s := S1x6x256x256) _ _ _ _ _ _ rfl (1 : Fin 4) ?_).trans ?_; (focus (simp [ix4]; done)))
      | (refine (View.read_writes_cons_unit_of_not_mem (s := S1x6x256x256) _ _ _ _ _ _ rfl (2 : Fin 4) ?_).trans ?_; (focus (simp [ix4, row]; done)))
      | (refine (View.read_writes_cons_unit_of_not_mem (s := S1x6x256x256) _ _ _ _ _ _ rfl (2 : Fin 4) ?_).trans ?_; (focus (simp [ix4, row]; omega)))
      | (refine View.read_writes_cons_unit_of_mem (s := S1x6x256x256) _ _ _ _ _ _ (ix4 0 0 r c) rfl ?_; (intro a; fin_cases a <;> simp [row, ix4]); done)

/-- After the twelve strips are stored, the weights' buffer holds strip `b` of head `h` at its rows. -/
theorem read_pcs9 {sig : RefSig} {κ : Kind} {sp : Space} (v : View sig κ sp S6x256x256 .bf16) (f : v.ty.Contents (Elt Ideal)) (S : Fin 6 → Fin 2 → FVec Ideal S1x128x256 .bf16)
    (tl : List (View.Piece (Elt Ideal) S6x256x256 .bf16)) (h : Fin 6) (b : Fin 2) (r : Fin 128) (c : Fin 256) :
    v.read (Elt Ideal) (v.writes (Elt Ideal) f (pcs9 S ++ tl)) (ix3 h (row b r) c) = S h b (ix3 0 r c) := by
  have hr := r.isLt
  fin_cases h <;> fin_cases b <;>
  · simp only [pcs9, List.cons_append, List.nil_append]
    repeat first
      | (refine (View.read_writes_cons_unit_of_not_mem (s := S6x256x256) _ _ _ _ _ _ rfl (0 : Fin 3) ?_).trans ?_; (focus (simp [ix3]; done)))
      | (refine (View.read_writes_cons_unit_of_not_mem (s := S6x256x256) _ _ _ _ _ _ rfl (1 : Fin 3) ?_).trans ?_; (focus (simp [ix3, row]; done)))
      | (refine (View.read_writes_cons_unit_of_not_mem (s := S6x256x256) _ _ _ _ _ _ rfl (1 : Fin 3) ?_).trans ?_; (focus (simp [ix3, row]; omega)))
      | (refine View.read_writes_cons_unit_of_mem (s := S6x256x256) _ _ _ _ _ _ (ix3 0 r c) rfl ?_; (intro a; fin_cases a <;> simp [row, ix3]); done)

/-- A head's block of the weights read back after the twelve strips are stored. -/
theorem readCov_pcs9 {sig : RefSig} {κ : Kind} {sp : Space} (v : View sig κ sp S6x256x256 .bf16) (S : Fin 6 → Fin 2 → FVec Ideal S1x128x256 .bf16)
    (tl : List (View.Piece (Elt Ideal) S6x256x256 .bf16)) (h : Fin 6) (b : Fin 2) (r : Fin 128) (c : Fin 256) :
    (v.readCov (pcs9 S ++ tl) (rP2 h).toLoadRect : FVec Ideal S1x256x256 .bf16) (ix3 0 (row b r) c) = S h b (ix3 0 r c) := by
  rw [← read_pcs9 v v.junk S tl h b r c]
  exact View.ld_unit_apply_of (v.read (Elt Ideal) (v.writes (Elt Ideal) v.junk (pcs9 S ++ tl))) _ _ _ _ _ (by intro a; fin_cases a <;> simp [ix3])

/-- The key a row of a chunk is. -/
def jx (k : ℕ) (r : Fin 256) : Fin 2048 := ⟨(256 * k + r.val) % 2048, Nat.mod_lt _ (by decide)⟩
/-- The chunk of the values a trip weighs, of query tile `t`. -/
def ch (t k : ℕ) : ℕ := if k = 0 then t else k - 1
/-- A head's channel, of its 64. -/
def hd (h : Fin 6) (d : Fin 64) : Fin 384 := ⟨64 * h.val + d.val, by omega⟩
/-- A lane of a head's pair of heads. -/
def hp (h : Fin 6) (x : Fin 128) : Fin 384 := ⟨128 * (h.val / 2) + x.val, by omega⟩

theorem k0_t1_trips : ∀ i : grid0.Coords, (k0_t1_loop i).trips = (i 1).val := by decide +kernel

theorem k_lt (i : grid0.Coords) (k : Fin (k0_t1_loop i).trips) : k.val < 7 := lt_of_lt_of_le k.isLt (k0_t1_abs i).2.1

theorem off13_eq : ∀ (i : grid0.Coords) (k : Fin (k0_t1_loop i).trips), k0_off13 i k = ![0, ch (i 1).val k.val, 64 * 0, 0] := by decide +kernel
theorem off14_eq : ∀ (i : grid0.Coords) (k : Fin (k0_t1_loop i).trips), k0_off14 i k = ![0, ch (i 1).val k.val, 64 * 1, 0] := by decide +kernel
theorem off15_eq : ∀ (i : grid0.Coords) (k : Fin (k0_t1_loop i).trips), k0_off15 i k = ![0, ch (i 1).val k.val, 64 * 2, 0] := by decide +kernel
theorem off16_eq : ∀ (i : grid0.Coords) (k : Fin (k0_t1_loop i).trips), k0_off16 i k = ![0, ch (i 1).val k.val, 64 * 3, 0] := by decide +kernel
theorem off17_eq : ∀ (i : grid0.Coords) (k : Fin (k0_t1_loop i).trips), k0_off17 i k = ![0, ch (i 1).val k.val, 64 * 4, 0] := by decide +kernel
theorem off18_eq : ∀ (i : grid0.Coords) (k : Fin (k0_t1_loop i).trips), k0_off18 i k = ![0, ch (i 1).val k.val, 64 * 5, 0] := by decide +kernel

/-- What a load of the keys' chunk at `256·k` and lane `o` reads. -/
theorem ldK_read (Y : FVec Ideal S1x2048x384 .bf16) (off : Fin 3 → ℕ) (inb) (k o : ℕ) (e : off = ![0, 256 * k, o]) (r : Fin 256) (x : Fin 128) (hk : 256 * k + r < 2048) (ho : o + x < 384) :
    (View.ld (Val := Elt Ideal) (e' := .bf16) Y (Rect.unit (s := S1x2048x384) off S1x256x128.size inb) : FVec Ideal S1x256x128 .bf16) (ix3 0 r x) = Y (ix3 0 (jx k r) ⟨o + x, ho⟩) := by
  subst e
  refine View.ld_unit_apply_of (Val := Elt Ideal) (e := .bf16) (S := S1x2048x384) Y _ _ _ _ _ ?_
  intro a; fin_cases a <;> simp [ix3, jx]; omega

/-- What a load of the values' chunk `k` at channel `o` reads. -/
theorem ldV_read (Y : FVec Ideal S1x8x384x256 .bf16) (off : Fin 4 → ℕ) (inb) (k o : ℕ) (e : off = ![0, k, o, 0]) (d : Fin 64) (r : Fin 256) (hk : k < 8) (ho : o + d < 384) :
    (View.ld (Val := Elt Ideal) (e' := .bf16) Y (Rect.unit (s := S1x8x384x256) off S1x1x64x256.size inb) : FVec Ideal S1x1x64x256 .bf16) (ix4 0 0 d r) = Y (ix4 0 ⟨k, hk⟩ ⟨o + d, ho⟩ r) := by
  subst e
  refine View.ld_unit_apply_of (Val := Elt Ideal) (e := .bf16) (S := S1x8x384x256) Y _ _ _ _ _ ?_
  intro a; fin_cases a <;> simp [ix4]

/-- What a load of the keys' gates at row `256·k + 128·b` and head `o` reads. -/
theorem ldC_read (Y : FVec Ideal S1x2048x128 .f32) (off : Fin 3 → ℕ) (inb) (k : ℕ) (b : Fin 2) (o : ℕ) (e : off = ![0, 256 * k + 128 * b, o]) (r : Fin 128) (hk : 256 * k + 256 ≤ 2048) (ho : o < 128) :
    (View.ld (Val := Elt Ideal) (e' := .f32) Y (Rect.unit (s := S1x2048x128) off S1x128x1.size inb) : FVec Ideal S1x128x1 .f32) (ix3 0 r 0) = Y (ix3 0 (jx k (row b r)) ⟨o, ho⟩) := by
  subst e
  refine View.ld_unit_apply_of (Val := Elt Ideal) (e := .f32) (S := S1x2048x128) Y _ _ _ _ _ ?_
  intro a; fin_cases a <;> simp [ix3, jx, row]; omega

/-- A trip's keys. -/
theorem ldK_apply (Y : FVec Ideal S1x2048x384 .bf16) (i : grid0.Coords) (k : Fin (k0_t1_loop i).trips) (h : Fin 6) (r : Fin 256) (x : Fin 128) :
    ldK Y i k h (ix3 0 r x) = Y (ix3 0 (jx k.val r) (hp h x)) := by
  have hk := k_lt i k
  fin_cases h
  · exact ldK_read Y _ _ _ _ (k0_off10_eq i k) r x (by omega) (by omega)
  · exact ldK_read Y _ _ _ _ (k0_off10_eq i k) r x (by omega) (by omega)
  · exact ldK_read Y _ _ _ _ (k0_off11_eq i k) r x (by omega) (by omega)
  · exact ldK_read Y _ _ _ _ (k0_off11_eq i k) r x (by omega) (by omega)
  · exact ldK_read Y _ _ _ _ (k0_off12_eq i k) r x (by omega) (by omega)
  · exact ldK_read Y _ _ _ _ (k0_off12_eq i k) r x (by omega) (by omega)

theorem ch_lt (i : grid0.Coords) (k : ℕ) (hk : k ≤ (i 1).val) : ch (i 1).val k < 8 := by
  have : (i 1).val < 8 := (i 1).isLt
  unfold ch; split <;> omega

/-- A trip's values. -/
theorem ldV_apply (Y : FVec Ideal S1x8x384x256 .bf16) (i : grid0.Coords) (k : Fin (k0_t1_loop i).trips) (h : Fin 6) (d : Fin 64) (r : Fin 256) :
    ldV Y i k h (ix4 0 0 d r) = Y (ix4 0 ⟨ch (i 1).val k.val % 8, Nat.mod_lt _ (by decide)⟩ (hd h d) r) := by
  have hk : k.val ≤ (i 1).val := le_of_lt (k.isLt.trans_eq (k0_t1_trips i))
  have hc := ch_lt i k.val hk
  have e : (⟨ch (i 1).val k.val % 8, Nat.mod_lt _ (by decide)⟩ : Fin 8) = ⟨ch (i 1).val k.val, hc⟩ := Fin.ext (Nat.mod_eq_of_lt hc)
  rw [e]
  fin_cases h
  · exact ldV_read Y _ _ _ _ (off13_eq i k) d r hc (by omega)
  · exact ldV_read Y _ _ _ _ (off14_eq i k) d r hc (by omega)
  · exact ldV_read Y _ _ _ _ (off15_eq i k) d r hc (by omega)
  · exact ldV_read Y _ _ _ _ (off16_eq i k) d r hc (by omega)
  · exact ldV_read Y _ _ _ _ (off17_eq i k) d r hc (by omega)
  · exact ldV_read Y _ _ _ _ (off18_eq i k) d r hc (by omega)

/-- A trip's gates of the keys. -/
theorem ldC_apply (Y : FVec Ideal S1x2048x128 .f32) (i : grid0.Coords) (k : Fin (k0_t1_loop i).trips) (b : Fin 2) (h : Fin 6) (r : Fin 128) :
    ldC Y i k b h (ix3 0 r 0) = Y (ix3 0 (jx k.val (row b r)) ⟨h.val, by omega⟩) := by
  have hk := k_lt i k
  fin_cases h
  · exact ldC_read Y _ _ _ _ _ (k0_off19_eq i k b) r (by omega) (by omega)
  · exact ldC_read Y _ _ _ _ _ (k0_off20_eq i k b) r (by omega) (by omega)
  · exact ldC_read Y _ _ _ _ _ (k0_off21_eq i k b) r (by omega) (by omega)
  · exact ldC_read Y _ _ _ _ _ (k0_off22_eq i k b) r (by omega) (by omega)
  · exact ldC_read Y _ _ _ _ _ (k0_off23_eq i k b) r (by omega) (by omega)
  · exact ldC_read Y _ _ _ _ _ (k0_off24_eq i k b) r (by omega) (by omega)

/-- A head's gates of the queries. -/
theorem ldR_apply (Y : FVec Ideal S1x1x8x256 .f32) (h : Fin 6) (c : Fin 256) :
    (View.ld (Val := Elt Ideal) (e' := .f32) Y (rR h) : FVec Ideal S1x1x1x256 .f32) (ix4 0 0 0 c) = Y (ix4 0 0 ⟨h.val, by omega⟩ c) := by
  refine View.ld_unit_apply_of (Val := Elt Ideal) (e := .f32) (S := S1x1x8x256) Y _ _ _ _ _ ?_
  intro a; fin_cases a <;> simp [ix4]

/-- A strip of the scores' buffer. -/
theorem ldS_apply (Y : FVec Ideal S1x6x256x256 .f32) (h : Fin 6) (b : Fin 2) (r : Fin 128) (c : Fin 256) :
    (View.ld (Val := Elt Ideal) (e' := .f32) Y (rS h b) : FVec Ideal S1x1x128x256 .f32) (ix4 0 0 r c) = Y (ix4 0 h (row b r) c) := by
  refine View.ld_unit_apply_of (Val := Elt Ideal) (e := .f32) (S := S1x6x256x256) Y _ _ _ _ _ ?_
  intro a; fin_cases a <;> simp [ix4, row]

end Cert.KernelIdeal.Fox

end
-- ==== Proof.Fox.Model.lean ====
/- The forgetting attention's running softmax over the extended reals, and that the loop's trips follow it. -/
module

public import proofs.«01_k».proof.Proof.Fox.Buffers

@[expose] public section

set_option maxRecDepth 16384

noncomputable section

namespace Cert.KernelIdeal.Fox

open Cert.KernelIdeal Cert.KernelIdeal.Gen
open Idealize.ShloMosaic
open Idealize.ShloMosaic.TcCoe

/-- A column's running maximum, sum of weights and weighted sums. -/
structure St where
  m : EReal
  l : EReal
  A : Fin 64 → EReal

/-- The start. -/
def St.init : St := ⟨⊥, 0, fun _ => 0⟩

/-- One chunk of scores `t` and values `v` taken in. -/
def St.step (s : St) (t : Fin 256 → EReal) (v : Fin 64 → Fin 256 → EReal) : St :=
  let m' := max s.m (Finset.univ.sup t)
  ⟨m', Ideal.exp2 (s.m - m') * s.l + ∑ r, Ideal.exp2 (t r - m'), fun d => Ideal.exp2 (s.m - m') * s.A d + ∑ r, v d r * Ideal.exp2 (t r - m')⟩

/-- The state after `k` chunks. -/
def St.run (t : ℕ → Fin 256 → EReal) (v : ℕ → Fin 64 → Fin 256 → EReal) : ℕ → St
  | 0 => St.init
  | k + 1 => (St.run t v k).step (t k) (v k)

/-- The carried values and the scores' buffer hold scores `T` and states `R`, by head and column. -/
structure Inv (T : Fin 6 → Fin 256 → Fin 256 → EReal) (R : Fin 6 → Fin 256 → St) (a : Acc) (Y8 : FVec Ideal S1x6x256x256 .f32) : Prop where
  cm : ∀ h c, aCm a h (ix2 0 c) = Finset.univ.sup (T h c)
  m : ∀ h c, aM a h (ix2 0 c) = (R h c).m
  l : ∀ h c, aL a h (ix2 0 c) = (R h c).l
  A : ∀ h d c, aA a h (ix2 d c) = (R h c).A d
  y : ∀ h r c, Y8 (ix4 0 h r c) = T h c r

theorem ofBits_negInf : Ideal.ofBits FTy.f32 4286578688#32 = ⊥ := by
  simp only [Ideal.ofBits]; rfl

/-- A sum over a block's rows by its two strips. -/
theorem sum_row (f : Fin 256 → EReal) : ∑ r, f r = ∑ r : Fin 128, f (row 0 r) + ∑ r : Fin 128, f (row 1 r) :=
  Fin.sum_univ_add (M := EReal) (a := 128) (b := 128) f

/-- Every row of a block is one of a strip's. -/
theorem exists_row (r : Fin 256) : ∃ b r', r = row b r' := by
  by_cases h : r.val < 128
  · exact ⟨0, ⟨r.val, h⟩, Fin.ext (by simp [row])⟩
  · exact ⟨1, ⟨r.val - 128, by omega⟩, Fin.ext (by simp [row]; omega)⟩

/-- The greatest over a block's rows by its two strips. -/
theorem sup_row (f : Fin 256 → EReal) : Finset.univ.sup f = max (Finset.univ.sup fun r : Fin 128 => f (row 0 r)) (Finset.univ.sup fun r : Fin 128 => f (row 1 r)) := by
  apply le_antisymm
  · refine Finset.sup_le fun r _ => ?_
    obtain ⟨b, r', rfl⟩ := exists_row r
    fin_cases b
    · exact le_max_of_le_left (Finset.le_sup (f := fun r : Fin 128 => f (row 0 r)) (Finset.mem_univ r'))
    · exact le_max_of_le_right (Finset.le_sup (f := fun r : Fin 128 => f (row 1 r)) (Finset.mem_univ r'))
  · exact max_le (Finset.sup_le fun r _ => Finset.le_sup (f := f) (Finset.mem_univ _)) (Finset.sup_le fun r _ => Finset.le_sup (f := f) (Finset.mem_univ _))

theorem fold_max_eq_sup {n : ℕ} (f : Fin n → EReal) : Finset.univ.fold max (Ideal.ofBits FTy.f32 4286578688#32) f = Finset.univ.sup f := by
  rw [ofBits_negInf]; rfl

/-- A chunk's maxima from its two strips. -/
theorem opMx_sup (s : Fin 2 → FVec Ideal S128x256 .f32) (t : Fin 256 → EReal) (c : Fin 256) (hs : ∀ b r, s b (ix2 r c) = t (row b r)) :
    opMx (s 0) (s 1) (ix2 0 c) = Finset.univ.sup t := by
  rw [opMx_apply, fold_max_eq_sup, fold_max_eq_sup, sup_row]
  simp only [hs]

section
variable {T : Fin 6 → Fin 256 → Fin 256 → EReal} {R : Fin 6 → Fin 256 → St} {a : Acc} {Y8 : FVec Ideal S1x6x256x256 .f32} (I : Inv T R a Y8)
include I

theorem tM_apply (h : Fin 6) (c : Fin 256) : tM a h (ix2 0 c) = max (R h c).m (Finset.univ.sup (T h c)) := by
  have : tM a h (ix2 0 c) = max (aM a h (ix2 0 c)) (aCm a h (ix2 0 c)) := rfl
  rw [this, I.m, I.cm]

theorem tP_apply (h : Fin 6) (b : Fin 2) (r : Fin 128) (c : Fin 256) : tP Y8 a h b (ix3 0 r c) = Ideal.exp2 (T h c (row b r) - max (R h c).m (Finset.univ.sup (T h c))) := by
  rw [tP, opPr_apply, tM_apply I, ldS_apply, I.y]
  rfl

/-- The block of weights read back. -/
theorem readP_apply {sig : RefSig} {κ : Kind} {sp : Space} (v : View sig κ sp S6x256x256 .bf16) (tl : List (View.Piece (Elt Ideal) S6x256x256 .bf16)) (h : Fin 6) (r c : Fin 256) :
    (v.readCov (pcs9 (tP Y8 a) ++ tl) (rP2 h).toLoadRect : FVec Ideal S1x256x256 .bf16) (ix3 0 r c) = Ideal.exp2 (T h c r - max (R h c).m (Finset.univ.sup (T h c))) := by
  obtain ⟨b, r', rfl⟩ := exists_row r
  rw [readCov_pcs9, tP_apply I]

/-- A step's sum and weighted sums are the running softmax's. -/
theorem step_apply {sig : RefSig} {κ : Kind} {sp : Space} (v : View sig κ sp S6x256x256 .bf16) (tl : List (View.Piece (Elt Ideal) S6x256x256 .bf16))
    (V : Fin 6 → FVec Ideal S1x1x64x256 .bf16) (h : Fin 6) (c : Fin 256) :
    tL V (fun h => v.readCov (pcs9 (tP Y8 a) ++ tl) (rP2 h).toLoadRect) a h (ix2 0 c) = ((R h c).step (T h c) fun d r => V h (ix4 0 0 d r)).l
    ∧ ∀ d, tA V (fun h => v.readCov (pcs9 (tP Y8 a) ++ tl) (rP2 h).toLoadRect) a h (ix2 d c) = ((R h c).step (T h c) fun d r => V h (ix4 0 0 d r)).A d := by
  have hal : opAl (aM a h) (tM a h) (ix2 0 c) = Ideal.exp2 ((R h c).m - max (R h c).m (Finset.univ.sup (T h c))) := by
    have : opAl (aM a h) (tM a h) (ix2 0 c) = Ideal.exp2 (aM a h (ix2 0 c) - tM a h (ix2 0 c)) := rfl
    rw [this, tM_apply I, I.m]
  constructor
  · rw [tL, opL_apply, hal, I.l]
    simp only [readP_apply I]
    rfl
  · intro d
    rw [tA, opAcc_apply, hal, I.A]
    simp only [readP_apply I]
    rfl

end

/-- A score of the kernel, of a head, a key and a query. -/
def sc (Y3 : FVec Ideal S1x2048x384 .bf16) (Y5 : FVec Ideal S1x2048x128 .f32) (Y6 : FVec Ideal S1x1x8x256 .f32) (q : Fin 6 → FVec Ideal S128x256 .bf16) (h : Fin 6) (c : Fin 256) (j : Fin 2048) : EReal :=
  ∑ x, Y3 (ix3 0 j (hp h x)) * q h (ix2 x c) + (Y6 (ix4 0 0 ⟨h.val, by omega⟩ c) * c2 - Y5 (ix3 0 j ⟨h.val, by omega⟩) * c2)

theorem tS_apply (Y3 : FVec Ideal S1x2048x384 .bf16) (Y5 : FVec Ideal S1x2048x128 .f32) (Y6 : FVec Ideal S1x1x8x256 .f32) (q : Fin 6 → FVec Ideal S128x256 .bf16)
    (i : grid0.Coords) (k : Fin (k0_t1_loop i).trips) (h : Fin 6) (b : Fin 2) (r : Fin 128) (c : Fin 256) :
    tS Y3 Y5 Y6 q i k h b (ix2 r c) = sc Y3 Y5 Y6 q h c (jx k.val (row b r)) := by
  fin_cases b
  · show opS0 _ _ _ _ = _
    rw [opS0_apply, ldR_apply, ldC_apply]
    simp only [ldK_apply]
    rw [sc, show (⟨r, by omega⟩ : Fin 256) = row 0 r from Fin.ext (by simp [row])]
    rfl
  · show opS1 _ _ _ _ = _
    rw [opS1_apply, ldR_apply, ldC_apply]
    simp only [ldK_apply]
    rw [sc, show (⟨128 + r, by omega⟩ : Fin 256) = row 1 r from Fin.ext (by simp [row])]
    rfl

/-- The scores a trip of query tile `t` takes in: the first chunk the diagonal one, masked, the others those before it. -/
def tsc (s : Fin 2048 → EReal) (t : ℕ) (c : Fin 256) (k : ℕ) (r : Fin 256) : EReal :=
  match k with
  | 0 => if r.val ≤ c.val then s (jx t r) else ⊥
  | k + 1 => s (jx k r)

/-- The values a trip of query tile `t` weighs. -/
def tv (Y4 : FVec Ideal S1x8x384x256 .bf16) (h : Fin 6) (t : ℕ) (k : ℕ) (d : Fin 64) (r : Fin 256) : EReal :=
  Y4 (ix4 0 ⟨ch t k % 8, Nat.mod_lt _ (by decide)⟩ (hd h d) r)

/-- The scores of the trip's chunk. -/
abbrev mT (Y3 : FVec Ideal S1x2048x384 .bf16) (Y5 : FVec Ideal S1x2048x128 .f32) (Y6 : FVec Ideal S1x1x8x256 .f32) (q : Fin 6 → FVec Ideal S128x256 .bf16) (t k : ℕ) (h : Fin 6) (c : Fin 256) : Fin 256 → EReal :=
  tsc (sc Y3 Y5 Y6 q h c) t c k

/-- The states before the trip. -/
abbrev mR (Y3 : FVec Ideal S1x2048x384 .bf16) (Y4 : FVec Ideal S1x8x384x256 .bf16) (Y5 : FVec Ideal S1x2048x128 .f32) (Y6 : FVec Ideal S1x1x8x256 .f32) (q : Fin 6 → FVec Ideal S128x256 .bf16) (t k : ℕ) (h : Fin 6) (c : Fin 256) : St :=
  St.run (tsc (sc Y3 Y5 Y6 q h c) t c) (tv Y4 h t) k

section
variable (𝒱 : Variants) (c : Dev nD) (bd : Option 𝒱.V) (i : grid0.Coords) (arg2 : Memref sig .tc .vmem S1x1x384x256 .f32) (harg2 : arg2.IsWhole) (arg3 : Memref sig .tc .vmem S1x2048x384 .bf16) (harg3 : arg3.IsWhole) (arg4 : Memref sig .tc .vmem S1x8x384x256 .bf16) (harg4 : arg4.IsWhole) (arg5 : Memref sig .tc .vmem S1x2048x128 .f32) (harg5 : arg5.IsWhole) (arg6 : Memref sig .tc .vmem S1x1x8x256 .f32) (harg6 : arg6.IsWhole) (arg7 : Memref sig .tc .vmem S1x256x384 .bf16) (harg7 : arg7.IsWhole) (arg8 : Memref sig .tc .vmem S1x6x256x256 .f32) (harg8 : arg8.IsWhole) (arg9 : Memref sig .tc .vmem S6x256x256 .bf16) (harg9 : arg9.IsWhole) (arg1 : BitVec 32) (q : Fin 6 → FVec Ideal S128x256 .bf16) (v136 : FVec Ideal S1x256 .f32) (v187 : FVec Ideal S1x256 .f32) (v238 : FVec Ideal S1x256 .f32) (v289 : FVec Ideal S1x256 .f32) (v340 : FVec Ideal S1x256 .f32) (v391 : FVec Ideal S1x256 .f32) (v392 : FVec Ideal S1x256 .f32) (v393 : FVec Ideal S1x256 .f32) (v394 : FVec Ideal S64x256 .f32) (v395 : FVec Ideal S1x256 .f32) (v396 : FVec Ideal S1x256 .f32)
  (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (G8 : BufTy.Contents (Elt Ideal) arg8.view.ty) (G9 : BufTy.Contents (Elt Ideal) arg9.view.ty) (init : Acc)

/-- The loop's state after `k` trips. -/
abbrev stt (k : ℕ) : Acc × List (View.Piece (Elt Ideal) S1x6x256x256 .f32) × List (View.Piece (Elt Ideal) S6x256x256 .bf16) :=
  st_k0_t1 (F := Ideal) 𝒱 c bd i arg2 harg2 arg3 harg3 arg4 harg4 arg5 harg5 arg6 harg6 arg7 harg7 arg8 harg8 arg9 harg9 arg1 (q 0) (q 1) (q 2) (q 3) (q 4) (q 5) v136 v187 v238 v289 v340 v391 v392 v393 v394 v395 v396 X3 X4 X5 X6 G8 G9 init k

/-- The loop follows the running softmax of every head and column. -/
theorem inv_st (h0 : Inv (mT (arg3.view.read (Elt Ideal) X3) (arg5.view.read (Elt Ideal) X5) (arg6.view.read (Elt Ideal) X6) q (i 1).val 0) (mR (arg3.view.read (Elt Ideal) X3) (arg4.view.read (Elt Ideal) X4) (arg5.view.read (Elt Ideal) X5) (arg6.view.read (Elt Ideal) X6) q (i 1).val 0) init (arg8.view.read (Elt Ideal) G8)) (k : ℕ) (hk : k ≤ (k0_t1_loop i).trips) :
    Inv (mT (arg3.view.read (Elt Ideal) X3) (arg5.view.read (Elt Ideal) X5) (arg6.view.read (Elt Ideal) X6) q (i 1).val k) (mR (arg3.view.read (Elt Ideal) X3) (arg4.view.read (Elt Ideal) X4) (arg5.view.read (Elt Ideal) X5) (arg6.view.read (Elt Ideal) X6) q (i 1).val k)
      (stt 𝒱 c bd i arg2 harg2 arg3 harg3 arg4 harg4 arg5 harg5 arg6 harg6 arg7 harg7 arg8 harg8 arg9 harg9 arg1 q v136 v187 v238 v289 v340 v391 v392 v393 v394 v395 v396 X3 X4 X5 X6 G8 G9 init k).1
      (arg8.view.read (Elt Ideal) (arg8.view.writes (Elt Ideal) G8 (stt 𝒱 c bd i arg2 harg2 arg3 harg3 arg4 harg4 arg5 harg5 arg6 harg6 arg7 harg7 arg8 harg8 arg9 harg9 arg1 q v136 v187 v238 v289 v340 v391 v392 v393 v394 v395 v396 X3 X4 X5 X6 G8 G9 init k).2.1)) := by
  induction k with
  | zero => exact h0
  | succ k ih =>
    have I := ih (Nat.le_of_succ_le hk)
    have e := st_k0_t1_succ (F := Ideal) 𝒱 c bd i arg2 harg2 arg3 harg3 arg4 harg4 arg5 harg5 arg6 harg6 arg7 harg7 arg8 harg8 arg9 harg9 arg1 (q 0) (q 1) (q 2) (q 3) (q 4) (q 5) v136 v187 v238 v289 v340 v391 v392 v393 v394 v395 v396 X3 X4 X5 X6 G8 G9 init ⟨k, hk⟩
    unfold tripR_k0_t1 tripL_k0_t1 at e
    dsimp only at e
    rw [trip_R, trip_L8] at e
    rw [show stt 𝒱 c bd i arg2 harg2 arg3 harg3 arg4 harg4 arg5 harg5 arg6 harg6 arg7 harg7 arg8 harg8 arg9 harg9 arg1 q v136 v187 v238 v289 v340 v391 v392 v393 v394 v395 v396 X3 X4 X5 X6 G8 G9 init (k + 1) = _ from e]
    have hs := fun h c => step_apply I arg9.view [] (ldV (arg4.view.read (Elt Ideal) X4) i ⟨k, hk⟩) h c
    simp only [List.append_nil] at hs
    have hv : ∀ h, (fun (d : Fin 64) (r : Fin 256) => ldV (arg4.view.read (Elt Ideal) X4) i ⟨k, hk⟩ h (ix4 0 0 d r)) = tv (arg4.view.read (Elt Ideal) X4) h (i 1).val k := fun h => by
      funext d r; exact ldV_apply _ i ⟨k, hk⟩ h d r
    simp only [hv] at hs
    refine ⟨fun h c => ?_, fun h c => ?_, fun h c => ?_, fun h d c => ?_, fun h r c => ?_⟩
    · have := opMx_sup (tS (arg3.view.read (Elt Ideal) X3) (arg5.view.read (Elt Ideal) X5) (arg6.view.read (Elt Ideal) X6) q i ⟨k, hk⟩ h) (mT (arg3.view.read (Elt Ideal) X3) (arg5.view.read (Elt Ideal) X5) (arg6.view.read (Elt Ideal) X6) q (i 1).val (k + 1) h c) c
        (fun b r => tS_apply _ _ _ q i ⟨k, hk⟩ h b r c)
      rw [← this]
      fin_cases h <;> rfl
    · have := tM_apply I h c
      refine Eq.trans ?_ this
      fin_cases h <;> rfl
    · refine Eq.trans ?_ (hs h c).1
      fin_cases h <;> rfl
    · refine Eq.trans ?_ ((hs h c).2 d)
      fin_cases h <;> rfl
    · obtain ⟨b, r', rfl⟩ := exists_row r
      refine (read_pcs8 arg8.view G8 _ _ h b r' c).trans ?_
      refine Eq.trans ?_ (tS_apply (arg3.view.read (Elt Ideal) X3) (arg5.view.read (Elt Ideal) X5) (arg6.view.read (Elt Ideal) X6) q i ⟨k, hk⟩ h b r' c)
      pointwise []

end

end Cert.KernelIdeal.Fox

end
-- ==== Proof.Fox.Softmax.lean ====
/- The running softmax over the extended reals: after any number of chunks its weighted sum over its denominator is the
   weights' average of the values, whatever the running maximum; and the same of a softmax at once. -/
module

public import proofs.«01_k».proof.Proof.Fox.Model

@[expose] public section

noncomputable section

namespace Cert.KernelIdeal.Fox

open Idealize.ShloMosaic

/-- The score `x` is real of base-two weight `w`, or minus infinity of weight zero. -/
def Wt (x : EReal) (w : ℝ) : Prop := (x = ⊥ ∧ w = 0) ∨ ∃ a : ℝ, x = a ∧ w = (2 : ℝ) ^ a

theorem Wt.nonneg {x : EReal} {w : ℝ} (h : Wt x w) : 0 ≤ w := by
  rcases h with ⟨_, rfl⟩ | ⟨a, _, rfl⟩
  · exact le_rfl
  · positivity

theorem Wt.ne_top {x : EReal} {w : ℝ} (h : Wt x w) : x ≠ ⊤ := by
  rcases h with ⟨rfl, _⟩ | ⟨a, rfl, _⟩
  · exact bot_ne_top
  · exact EReal.coe_ne_top a

theorem Wt.ne_bot {x : EReal} {w : ℝ} (h : Wt x w) (hw : 0 < w) : x ≠ ⊥ := by
  rcases h with ⟨_, rfl⟩ | ⟨a, rfl, _⟩
  · exact absurd hw (lt_irrefl 0)
  · exact EReal.coe_ne_bot a

/-- A shifted score's exponential is its weight over the shift's. -/
theorem Wt.exp2_sub {x : EReal} {w : ℝ} (h : Wt x w) (M : ℝ) : Ideal.exp2 (x - (M : EReal)) = ((w * (2 : ℝ) ^ (-M) : ℝ) : EReal) := by
  rcases h with ⟨rfl, rfl⟩ | ⟨a, rfl, rfl⟩
  · rw [EReal.bot_sub, Ideal.exp2_bot, zero_mul, EReal.coe_zero]
  · rw [← EReal.coe_sub, Ideal.exp2_coe, ← Real.rpow_add (by norm_num : (0 : ℝ) < 2)]
    rfl

theorem exp2_coe_sub (a M : ℝ) : Ideal.exp2 ((a : EReal) - (M : EReal)) = (((2 : ℝ) ^ a * (2 : ℝ) ^ (-M) : ℝ) : EReal) :=
  Wt.exp2_sub (Or.inr ⟨a, rfl, rfl⟩) M

theorem coe_sum {n : ℕ} (f : Fin n → ℝ) : ((∑ r, f r : ℝ) : EReal) = ∑ r, ((f r : ℝ) : EReal) := by
  classical
  induction (Finset.univ : Finset (Fin n)) using Finset.induction_on with
  | empty => simp
  | insert a s ha ih => rw [Finset.sum_insert ha, Finset.sum_insert ha, EReal.coe_add, ih]

/-- A nonnegative real distributes over a sum of extended reals. -/
theorem coe_mul_sum {ι : Type} (s : Finset ι) {a : ℝ} (ha : 0 ≤ a) (f : ι → EReal) : (a : EReal) * ∑ r ∈ s, f r = ∑ r ∈ s, (a : EReal) * f r := by
  classical
  induction s using Finset.induction_on with
  | empty => simp
  | insert b s hb ih =>
    rw [Finset.sum_insert hb, Finset.sum_insert hb, EReal.left_distrib_of_nonneg_of_ne_top (EReal.coe_nonneg.mpr ha) (EReal.coe_ne_top a), ih]

/-- The maximum of scores none plus infinity, one real, is real. -/
theorem exists_sup {n : ℕ} (m : EReal) (t : Fin n → EReal) (hm : m ≠ ⊤) (ht : ∀ r, t r ≠ ⊤) (h : m ≠ ⊥ ∨ ∃ r, t r ≠ ⊥) :
    ∃ M : ℝ, max m (Finset.univ.sup t) = M := by
  have htop : max m (Finset.univ.sup t) ≠ ⊤ := by
    refine (max_lt hm.lt_top ?_).ne
    exact (Finset.sup_lt_iff bot_lt_top).mpr fun r _ => (ht r).lt_top
  have hbot : max m (Finset.univ.sup t) ≠ ⊥ := by
    rcases h with h | ⟨r, h⟩
    · exact (lt_of_lt_of_le h.bot_lt (le_max_left _ _)).ne'
    · exact (lt_of_lt_of_le h.bot_lt ((Finset.le_sup (f := t) (Finset.mem_univ r)).trans (le_max_right _ _))).ne'
  exact ⟨_, (EReal.coe_toReal htop hbot).symm⟩

/-- One step from real accumulations: the maximum shifts, the sums gain the chunk's. -/
theorem step_eq (s : St) (t : Fin 256 → EReal) (v : Fin 64 → Fin 256 → EReal) (w : Fin 256 → ℝ) (hw : ∀ r, Wt (t r) (w r))
    (S : ℝ) (SV : Fin 64 → EReal)
    (h : (s.m = ⊥ ∧ s.l = 0 ∧ S = 0 ∧ (∀ d, s.A d = 0 ∧ SV d = 0) ∧ ∃ r, 0 < w r)
      ∨ ∃ M : ℝ, s.m = M ∧ s.l = (((2 : ℝ) ^ (-M) * S : ℝ) : EReal) ∧ ∀ d, s.A d = (((2 : ℝ) ^ (-M) : ℝ) : EReal) * SV d) :
    ∃ M : ℝ, (s.step t v).m = M ∧ (s.step t v).l = (((2 : ℝ) ^ (-M) * (S + ∑ r, w r) : ℝ) : EReal)
      ∧ ∀ d, (s.step t v).A d = (((2 : ℝ) ^ (-M) : ℝ) : EReal) * (SV d + ∑ r, v d r * ((w r : ℝ) : EReal)) := by
  have hsup : ∃ M : ℝ, max s.m (Finset.univ.sup t) = M := by
    rcases h with ⟨hm, -, -, -, r, hr⟩ | ⟨M, hm, -, -⟩
    · exact exists_sup _ _ (hm ▸ bot_ne_top) (fun r => (hw r).ne_top) (Or.inr ⟨r, (hw r).ne_bot hr⟩)
    · exact exists_sup _ _ (hm ▸ EReal.coe_ne_top M) (fun r => (hw r).ne_top) (Or.inl (hm ▸ EReal.coe_ne_bot M))
  obtain ⟨M', hM⟩ := hsup
  have hp : (0 : ℝ) ≤ (2 : ℝ) ^ (-M') := by positivity
  have hsum : ∑ r, Ideal.exp2 (t r - (M' : EReal)) = (((2 : ℝ) ^ (-M') * ∑ r, w r : ℝ) : EReal) := by
    rw [Finset.mul_sum, coe_sum]
    exact Finset.sum_congr rfl fun r _ => by rw [(hw r).exp2_sub, mul_comm]
  have hsumv (d : Fin 64) : ∑ r, v d r * Ideal.exp2 (t r - (M' : EReal)) = (((2 : ℝ) ^ (-M') : ℝ) : EReal) * ∑ r, v d r * ((w r : ℝ) : EReal) := by
    rw [coe_mul_sum _ hp]
    exact Finset.sum_congr rfl fun r _ => by
      rw [(hw r).exp2_sub, EReal.coe_mul, ← mul_assoc, mul_comm]
  refine ⟨M', hM, ?_, fun d => ?_⟩
  · show Ideal.exp2 (s.m - max s.m (Finset.univ.sup t)) * s.l + ∑ r, Ideal.exp2 (t r - max s.m (Finset.univ.sup t)) = _
    rw [hM, hsum, mul_add, EReal.coe_add]
    congr 1
    rcases h with ⟨hm, hl, rfl, -⟩ | ⟨M, hm, hl, -⟩
    · rw [hl, mul_zero, mul_zero, EReal.coe_zero]
    · rw [hm, hl, exp2_coe_sub, ← EReal.coe_mul]
      congr 1
      have : (2 : ℝ) ^ M * (2 : ℝ) ^ (-M) = 1 := by rw [← Real.rpow_add (by norm_num)]; simp
      linear_combination ((2 : ℝ) ^ (-M') * S) * this
  · show Ideal.exp2 (s.m - max s.m (Finset.univ.sup t)) * s.A d + ∑ r, v d r * Ideal.exp2 (t r - max s.m (Finset.univ.sup t)) = _
    rw [hM, hsumv, EReal.left_distrib_of_nonneg_of_ne_top (EReal.coe_nonneg.mpr hp) (EReal.coe_ne_top _)]
    congr 1
    rcases h with ⟨hm, hl, -, hA, -⟩ | ⟨M, hm, -, hA⟩
    · rw [(hA d).1, (hA d).2, mul_zero, mul_zero]
    · rw [hm, hA, exp2_coe_sub, ← mul_assoc, ← EReal.coe_mul]
      congr 2
      have : (2 : ℝ) ^ M * (2 : ℝ) ^ (-M) = 1 := by rw [← Real.rpow_add (by norm_num)]; simp
      linear_combination ((2 : ℝ) ^ (-M')) * this

/-- The running softmax after `k + 1` chunks. -/
theorem run_weights (t : ℕ → Fin 256 → EReal) (v : ℕ → Fin 64 → Fin 256 → EReal) (w : ℕ → Fin 256 → ℝ) (k : ℕ)
    (hw : ∀ i ≤ k, ∀ r, Wt (t i r) (w i r)) (h0 : ∃ r, 0 < w 0 r) :
    ∃ M : ℝ, (St.run t v (k + 1)).m = M ∧ (St.run t v (k + 1)).l = (((2 : ℝ) ^ (-M) * ∑ i ∈ Finset.range (k + 1), ∑ r, w i r : ℝ) : EReal)
      ∧ ∀ d, (St.run t v (k + 1)).A d = (((2 : ℝ) ^ (-M) : ℝ) : EReal) * ∑ i ∈ Finset.range (k + 1), ∑ r, v i d r * ((w i r : ℝ) : EReal) := by
  induction k with
  | zero =>
    have := step_eq St.init (t 0) (v 0) (w 0) (hw 0 le_rfl) 0 (fun _ => 0) (Or.inl ⟨rfl, rfl, rfl, fun _ => ⟨rfl, rfl⟩, h0⟩)
    simpa [St.run] using this
  | succ k ih =>
    have := step_eq (St.run t v (k + 1)) (t (k + 1)) (v (k + 1)) (w (k + 1)) (hw (k + 1) le_rfl) _ _ (Or.inr (ih fun i hi => hw i (by omega)))
    simp only [Finset.sum_range_succ _ (k + 1)]
    exact this

/-- The running softmax's quotient is the weighted average. -/
theorem run_div (t : ℕ → Fin 256 → EReal) (v : ℕ → Fin 64 → Fin 256 → EReal) (w : ℕ → Fin 256 → ℝ) (k : ℕ)
    (hw : ∀ i ≤ k, ∀ r, Wt (t i r) (w i r)) (h0 : ∃ r, 0 < w 0 r) (d : Fin 64) :
    Ideal.div ((St.run t v (k + 1)).A d) (St.run t v (k + 1)).l
      = (((1 / ∑ i ∈ Finset.range (k + 1), ∑ r, w i r : ℝ) : ℝ) : EReal) * ∑ i ∈ Finset.range (k + 1), ∑ r, v i d r * ((w i r : ℝ) : EReal) := by
  obtain ⟨M, -, hl, hA⟩ := run_weights t v w k hw h0
  have hS : 0 < ∑ i ∈ Finset.range (k + 1), ∑ r, w i r := by
    obtain ⟨r, hr⟩ := h0
    refine Finset.sum_pos' (fun i hi => Finset.sum_nonneg fun r _ => (hw i (by have := Finset.mem_range.mp hi; omega) r).nonneg) ⟨0, by simp, ?_⟩
    exact Finset.sum_pos' (fun r _ => (hw 0 (by omega) r).nonneg) ⟨r, Finset.mem_univ r, hr⟩
  have hp : (0 : ℝ) < (2 : ℝ) ^ (-M) := by positivity
  rw [hl, hA, Ideal.div_coe (mul_pos hp hS).ne', mul_right_comm, ← EReal.coe_mul]
  congr 2
  field_simp

/-- A natural score: real of weight `w`, or minus infinity of weight zero. -/
def Wn (x : EReal) (w : ℝ) : Prop := (x = ⊥ ∧ w = 0) ∨ ∃ a : ℝ, x = a ∧ w = Real.exp a

theorem Wn.nonneg {x : EReal} {w : ℝ} (h : Wn x w) : 0 ≤ w := by
  rcases h with ⟨_, rfl⟩ | ⟨a, _, rfl⟩
  · exact le_rfl
  · positivity

theorem Wn.exp_sub {x : EReal} {w : ℝ} (h : Wn x w) (M : ℝ) : Ideal.exp (x - (M : EReal)) = ((w * Real.exp (-M) : ℝ) : EReal) := by
  rcases h with ⟨rfl, rfl⟩ | ⟨a, rfl, rfl⟩
  · rw [EReal.bot_sub, Ideal.exp_bot, zero_mul, EReal.coe_zero]
  · rw [← EReal.coe_sub, Ideal.exp_coe, ← Real.exp_add]
    rfl

/-- A softmax at once, shifted by its maximum: the weighted average. -/
theorem softmax_eq {n : ℕ} (s : Fin n → EReal) (v : Fin n → EReal) (w : Fin n → ℝ) (hw : ∀ j, Wn (s j) (w j)) (h0 : ∃ j, 0 < w j) :
    ∑ j, v j * Ideal.div (Ideal.exp (s j - Finset.univ.sup fun j => s j)) (∑ j, Ideal.exp (s j - Finset.univ.sup fun j => s j))
      = ((1 / ∑ j, w j : ℝ) : EReal) * ∑ j, v j * ((w j : ℝ) : EReal) := by
  obtain ⟨M, hM⟩ : ∃ M : ℝ, max ⊥ (Finset.univ.sup s) = M := by
    obtain ⟨j, hj⟩ := h0
    refine exists_sup _ _ bot_ne_top (fun r => ?_) (Or.inr ⟨j, ?_⟩)
    · rcases hw r with ⟨h, _⟩ | ⟨a, h, _⟩ <;> rw [h]
      · exact bot_ne_top
      · exact EReal.coe_ne_top a
    · rcases hw j with ⟨_, h⟩ | ⟨a, h, _⟩
      · exact absurd (h ▸ hj) (lt_irrefl 0)
      · rw [h]; exact EReal.coe_ne_bot a
  rw [max_eq_right bot_le] at hM
  have hS : 0 < ∑ j, w j := by
    obtain ⟨r, hr⟩ := h0
    exact Finset.sum_pos' (fun r _ => (hw r).nonneg) ⟨r, Finset.mem_univ r, hr⟩
  have hp : (0 : ℝ) < Real.exp (-M) := Real.exp_pos _
  have e (j : Fin n) : Ideal.exp (s j - Finset.univ.sup fun j => s j) = ((w j * Real.exp (-M) : ℝ) : EReal) := by
    rw [show (Finset.univ.sup fun j => s j) = (M : EReal) from hM, (hw j).exp_sub]
  simp only [e]
  rw [← coe_sum, ← Finset.sum_mul, coe_mul_sum _ (by positivity)]
  refine Finset.sum_congr rfl fun j _ => ?_
  rw [Ideal.div_coe (mul_pos hS hp).ne', ← EReal.coe_mul, mul_comm, mul_left_comm, ← EReal.coe_mul, mul_comm (v j)]
  congr 2
  field_simp

end Cert.KernelIdeal.Fox

end
-- ==== Proof.Fox.Final.lean ====
/- What the forgetting attention's body stores into its output block, over the carried values at the loops' end. -/
module

public import proofs.«01_k».proof.Proof.Fox.Model
public import proofs.«01_k».proof.Proof.Fox.IdealRun

@[expose] public section

set_option maxRecDepth 16384

noncomputable section

namespace Cert.KernelIdeal.Fox

open Cert.KernelIdeal Cert.KernelIdeal.Gen
open Idealize.ShloMosaic
open Idealize.ShloMosaic.TcCoe

/-- The last chunk of the values, for each head. -/
def fV (Y4 : FVec Ideal S1x8x384x256 .bf16) (i : grid0.Coords) : Fin 6 → FVec Ideal S1x1x64x256 .bf16 :=
  ![View.ld (Val := Elt Ideal) (e' := .bf16) Y4 (Rect.unit (s := S1x8x384x256) (k0_off40 i) S1x1x64x256.size (k0_off40_inb i)),
    View.ld (Val := Elt Ideal) (e' := .bf16) Y4 (Rect.unit (s := S1x8x384x256) (k0_off41 i) S1x1x64x256.size (k0_off41_inb i)),
    View.ld (Val := Elt Ideal) (e' := .bf16) Y4 (Rect.unit (s := S1x8x384x256) (k0_off42 i) S1x1x64x256.size (k0_off42_inb i)),
    View.ld (Val := Elt Ideal) (e' := .bf16) Y4 (Rect.unit (s := S1x8x384x256) (k0_off43 i) S1x1x64x256.size (k0_off43_inb i)),
    View.ld (Val := Elt Ideal) (e' := .bf16) Y4 (Rect.unit (s := S1x8x384x256) (k0_off44 i) S1x1x64x256.size (k0_off44_inb i)),
    View.ld (Val := Elt Ideal) (e' := .bf16) Y4 (Rect.unit (s := S1x8x384x256) (k0_off45 i) S1x1x64x256.size (k0_off45_inb i))]

/-- The output's pieces, from the carried values `a` and the scores' buffer `Y8` at the loops' end. -/
def outPcs {sig : RefSig} {κ : Kind} {sp : Space} (v : View sig κ sp S6x256x256 .bf16) (L9 : List (View.Piece (Elt Ideal) S6x256x256 .bf16)) (V : Fin 6 → FVec Ideal S1x1x64x256 .bf16) (Y8 : FVec Ideal S1x6x256x256 .f32) (a : Acc) :
    List (View.Piece (Elt Ideal) S1x256x384 .bf16) :=
  [⟨Rect.unit (s := S1x256x384) ![0, 0, 256] S1x256x128.size (by decide), opOut (tA V (fun h => v.readCov (pcs9 (tP Y8 a) ++ L9) (rP2 h).toLoadRect) a 4) (tL V (fun h => v.readCov (pcs9 (tP Y8 a) ++ L9) (rP2 h).toLoadRect) a 4) (tA V (fun h => v.readCov (pcs9 (tP Y8 a) ++ L9) (rP2 h).toLoadRect) a 5) (tL V (fun h => v.readCov (pcs9 (tP Y8 a) ++ L9) (rP2 h).toLoadRect) a 5)⟩,
   ⟨Rect.unit (s := S1x256x384) ![0, 0, 128] S1x256x128.size (by decide), opOut (tA V (fun h => v.readCov (pcs9 (tP Y8 a) ++ L9) (rP2 h).toLoadRect) a 2) (tL V (fun h => v.readCov (pcs9 (tP Y8 a) ++ L9) (rP2 h).toLoadRect) a 2) (tA V (fun h => v.readCov (pcs9 (tP Y8 a) ++ L9) (rP2 h).toLoadRect) a 3) (tL V (fun h => v.readCov (pcs9 (tP Y8 a) ++ L9) (rP2 h).toLoadRect) a 3)⟩,
   ⟨Rect.unit (s := S1x256x384) ![0, 0, 0] S1x256x128.size (by decide), opOut (tA V (fun h => v.readCov (pcs9 (tP Y8 a) ++ L9) (rP2 h).toLoadRect) a 0) (tL V (fun h => v.readCov (pcs9 (tP Y8 a) ++ L9) (rP2 h).toLoadRect) a 0) (tA V (fun h => v.readCov (pcs9 (tP Y8 a) ++ L9) (rP2 h).toLoadRect) a 1) (tL V (fun h => v.readCov (pcs9 (tP Y8 a) ++ L9) (rP2 h).toLoadRect) a 1)⟩]

section
open run
variable (c : Dev nD) (i : grid0.Coords) (arg2 : Memref sig .tc .vmem S1x1x384x256 .f32) (harg2 : arg2.IsWhole) (arg3 : Memref sig .tc .vmem S1x2048x384 .bf16) (harg3 : arg3.IsWhole) (arg4 : Memref sig .tc .vmem S1x8x384x256 .bf16) (harg4 : arg4.IsWhole) (arg5 : Memref sig .tc .vmem S1x2048x128 .f32) (harg5 : arg5.IsWhole) (arg6 : Memref sig .tc .vmem S1x1x8x256 .f32) (harg6 : arg6.IsWhole) (arg7 : Memref sig .tc .vmem S1x256x384 .bf16) (harg7 : arg7.IsWhole) (arg8 : Memref sig .tc .vmem S1x6x256x256 .f32) (harg8 : arg8.IsWhole) (arg9 : Memref sig .tc .vmem S6x256x256 .bf16) (harg9 : arg9.IsWhole)
  (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty)
  (f9 : BufTy.Contents (Elt Ideal) arg9.view.ty)

/-- The first loop's state at its end. -/
def s1 : Acc × List (View.Piece (Elt Ideal) S1x6x256x256 .f32) × List (View.Piece (Elt Ideal) S6x256x256 .bf16) :=
  st_k0_t1 (F := Ideal) Variants.none c none i arg2 harg2 arg3 harg3 arg4 harg4 arg5 harg5 arg6 harg6 arg7 harg7 arg8 harg8 arg9 harg9 (BitVec.ofNat 32 (i 1).val) (sl.r arg2 X2) (sl.r_1 arg2 X2) (sl.r_3 arg2 X2) (sl.r_4 arg2 X2) (sl.r_5 arg2 X2) (sl.r_6 arg2 X2) (sl.r_18 i arg2 arg3 arg5 arg6 X2 X3 X5 X6) (sl.r_23 i arg2 arg3 arg5 arg6 X2 X3 X5 X6) (sl.r_27 i arg2 arg3 arg5 arg6 X2 X3 X5 X6) (sl.r_29 i arg2 arg3 arg5 arg6 X2 X3 X5 X6) (sl.r_34 i arg2 arg3 arg5 arg6 X2 X3 X5 X6) (sl.r_36 i arg2 arg3 arg5 arg6 X2 X3 X5 X6) k0_pay278 k0_pay279 k0_pay280 k0_pay281 k0_pay282 X3 X4 X5 X6 (arg8.view.writes (Elt Ideal) arg8.view.junk (sl.H8_12 i arg2 arg3 arg5 arg6 X2 X3 X5 X6)) f9
    (sl.r_18 i arg2 arg3 arg5 arg6 X2 X3 X5 X6, sl.r_23 i arg2 arg3 arg5 arg6 X2 X3 X5 X6, sl.r_27 i arg2 arg3 arg5 arg6 X2 X3 X5 X6, sl.r_29 i arg2 arg3 arg5 arg6 X2 X3 X5 X6, sl.r_34 i arg2 arg3 arg5 arg6 X2 X3 X5 X6, sl.r_36 i arg2 arg3 arg5 arg6 X2 X3 X5 X6, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295) (Scf.trips (k0_t1_loop i).lb (k0_t1_loop i).ub (k0_t1_loop i).st)

/-- The second loop's state at its end. -/
def s2 : Acc × List (View.Piece (Elt Ideal) S1x6x256x256 .f32) × List (View.Piece (Elt Ideal) S6x256x256 .bf16) :=
  let s := s1 c i arg2 harg2 arg3 harg3 arg4 harg4 arg5 harg5 arg6 harg6 arg7 harg7 arg8 harg8 arg9 harg9 X2 X3 X4 X5 X6 f9
  st_k0_t2 (F := Ideal) Variants.none c none i arg2 harg2 arg3 harg3 arg4 harg4 arg5 harg5 arg6 harg6 arg7 harg7 arg8 harg8 arg9 harg9 (BitVec.ofNat 32 (i 1).val) (sl.r arg2 X2) (sl.r_1 arg2 X2) (sl.r_3 arg2 X2) (sl.r_4 arg2 X2) (sl.r_5 arg2 X2) (sl.r_6 arg2 X2) (sl.r_18 i arg2 arg3 arg5 arg6 X2 X3 X5 X6) (sl.r_23 i arg2 arg3 arg5 arg6 X2 X3 X5 X6) (sl.r_27 i arg2 arg3 arg5 arg6 X2 X3 X5 X6) (sl.r_29 i arg2 arg3 arg5 arg6 X2 X3 X5 X6) (sl.r_34 i arg2 arg3 arg5 arg6 X2 X3 X5 X6) (sl.r_36 i arg2 arg3 arg5 arg6 X2 X3 X5 X6) k0_pay278 k0_pay279 k0_pay280 k0_pay281 k0_pay282 (sl.v414 i) X3 X4 X5 X6 (arg8.view.writes (Elt Ideal) arg8.view.junk (s.2.1 ++ sl.H8_12 i arg2 arg3 arg5 arg6 X2 X3 X5 X6)) (arg9.view.writes (Elt Ideal) f9 s.2.2)
    (s.1.1, s.1.2.1, s.1.2.2.1, s.1.2.2.2.1, s.1.2.2.2.2.1, s.1.2.2.2.2.2.1, s.1.2.2.2.2.2.2.1, s.1.2.2.2.2.2.2.2.1, s.1.2.2.2.2.2.2.2.2.1, s.1.2.2.2.2.2.2.2.2.2.1, s.1.2.2.2.2.2.2.2.2.2.2.1, s.1.2.2.2.2.2.2.2.2.2.2.2.1, s.1.2.2.2.2.2.2.2.2.2.2.2.2.1, s.1.2.2.2.2.2.2.2.2.2.2.2.2.2.1, s.1.2.2.2.2.2.2.2.2.2.2.2.2.2.2.1, s.1.2.2.2.2.2.2.2.2.2.2.2.2.2.2.2.1, s.1.2.2.2.2.2.2.2.2.2.2.2.2.2.2.2.2.1, s.1.2.2.2.2.2.2.2.2.2.2.2.2.2.2.2.2.2.1, s.1.2.2.2.2.2.2.2.2.2.2.2.2.2.2.2.2.2.2.1, s.1.2.2.2.2.2.2.2.2.2.2.2.2.2.2.2.2.2.2.2.1, s.1.2.2.2.2.2.2.2.2.2.2.2.2.2.2.2.2.2.2.2.2.1, s.1.2.2.2.2.2.2.2.2.2.2.2.2.2.2.2.2.2.2.2.2.2.1, s.1.2.2.2.2.2.2.2.2.2.2.2.2.2.2.2.2.2.2.2.2.2.2.1, s.1.2.2.2.2.2.2.2.2.2.2.2.2.2.2.2.2.2.2.2.2.2.2.2) (Scf.trips (k0_t2_loop i).lb (k0_t2_loop i).ub (k0_t2_loop i).st)

attribute [local irreducible] st_k0_t1 st_k0_t2

/-- The body's output pieces are the carried values' after one more step. -/
theorem run_eq (f8 : BufTy.Contents (Elt Ideal) arg8.view.ty) :
    (run (F := Ideal) c i arg2 harg2 arg3 harg3 arg4 harg4 arg5 harg5 arg6 harg6 arg7 harg7 arg8 harg8 arg9 harg9 X2 X3 X4 X5 X6).1 f8 f9
      = outPcs arg9.view ((s2 c i arg2 harg2 arg3 harg3 arg4 harg4 arg5 harg5 arg6 harg6 arg7 harg7 arg8 harg8 arg9 harg9 X2 X3 X4 X5 X6 f9).2.2 ++ (s1 c i arg2 harg2 arg3 harg3 arg4 harg4 arg5 harg5 arg6 harg6 arg7 harg7 arg8 harg8 arg9 harg9 X2 X3 X4 X5 X6 f9).2.2) (fV (arg4.view.read (Elt Ideal) X4) i)
          (arg8.view.read (Elt Ideal) (arg8.view.writes (Elt Ideal) arg8.view.junk ((s2 c i arg2 harg2 arg3 harg3 arg4 harg4 arg5 harg5 arg6 harg6 arg7 harg7 arg8 harg8 arg9 harg9 X2 X3 X4 X5 X6 f9).2.1 ++ ((s1 c i arg2 harg2 arg3 harg3 arg4 harg4 arg5 harg5 arg6 harg6 arg7 harg7 arg8 harg8 arg9 harg9 X2 X3 X4 X5 X6 f9).2.1 ++ sl.H8_12 i arg2 arg3 arg5 arg6 X2 X3 X5 X6)))) (s2 c i arg2 harg2 arg3 harg3 arg4 harg4 arg5 harg5 arg6 harg6 arg7 harg7 arg8 harg8 arg9 harg9 X2 X3 X4 X5 X6 f9).1 := by
  rfl

end

end Cert.KernelIdeal.Fox

end
-- ==== Proof.Fox.Out.lean ====
/- What the forgetting attention's body leaves in its output block, element by element: the running softmax over the
   chunks up to the query's. -/
module

public import proofs.«01_k».proof.Proof.Fox.Final

@[expose] public section

set_option maxRecDepth 16384

noncomputable section

namespace Cert.KernelIdeal.Fox

open Cert.KernelIdeal Cert.KernelIdeal.Gen
open Idealize.ShloMosaic
open Idealize.ShloMosaic.TcCoe

/-- Two heads' rows of the queries' block. -/
abbrev rQ (p : Fin 3) : Rect S1x1x384x256 := Rect.unit (s := S1x1x384x256) ![0, 0, 128 * p.val, 0] S1x1x128x256.size (by revert p; decide)

/-- The queries of each head, scaled, in its half of two heads' rows. -/
def pQ (Y2 : FVec Ideal S1x1x384x256 .f32) : Fin 6 → FVec Ideal S128x256 .bf16 :=
  ![opQ (View.ld (Val := Elt Ideal) (e' := .f32) Y2 (rQ 0)) 0#32 64#32,
    opQ (View.ld (Val := Elt Ideal) (e' := .f32) Y2 (rQ 0)) 64#32 128#32,
    opQ (View.ld (Val := Elt Ideal) (e' := .f32) Y2 (rQ 1)) 0#32 64#32,
    opQ (View.ld (Val := Elt Ideal) (e' := .f32) Y2 (rQ 1)) 64#32 128#32,
    opQ (View.ld (Val := Elt Ideal) (e' := .f32) Y2 (rQ 2)) 0#32 64#32,
    opQ (View.ld (Val := Elt Ideal) (e' := .f32) Y2 (rQ 2)) 64#32 128#32]

/-- The diagonal chunk of the keys, for each head. -/
def pK (Y3 : FVec Ideal S1x2048x384 .bf16) (i : grid0.Coords) : Fin 6 → FVec Ideal S1x256x128 .bf16 :=
  ![View.ld (Val := Elt Ideal) (e' := .bf16) Y3 (Rect.unit (s := S1x2048x384) (k0_off1 i) S1x256x128.size (k0_off1_inb i)),
    View.ld (Val := Elt Ideal) (e' := .bf16) Y3 (Rect.unit (s := S1x2048x384) (k0_off1 i) S1x256x128.size (k0_off1_inb i)),
    View.ld (Val := Elt Ideal) (e' := .bf16) Y3 (Rect.unit (s := S1x2048x384) (k0_off2 i) S1x256x128.size (k0_off2_inb i)),
    View.ld (Val := Elt Ideal) (e' := .bf16) Y3 (Rect.unit (s := S1x2048x384) (k0_off2 i) S1x256x128.size (k0_off2_inb i)),
    View.ld (Val := Elt Ideal) (e' := .bf16) Y3 (Rect.unit (s := S1x2048x384) (k0_off3 i) S1x256x128.size (k0_off3_inb i)),
    View.ld (Val := Elt Ideal) (e' := .bf16) Y3 (Rect.unit (s := S1x2048x384) (k0_off3 i) S1x256x128.size (k0_off3_inb i))]

/-- The diagonal chunk's strip of the keys' gates, for each head. -/
def pC (Y5 : FVec Ideal S1x2048x128 .f32) (i : grid0.Coords) (b : Fin 2) : Fin 6 → FVec Ideal S1x128x1 .f32 :=
  ![View.ld (Val := Elt Ideal) (e' := .f32) Y5 (Rect.unit (s := S1x2048x128) (k0_off4 i (BitVec.ofNat 32 (128 * b.val))) S1x128x1.size (k0_off4_inb i b)),
    View.ld (Val := Elt Ideal) (e' := .f32) Y5 (Rect.unit (s := S1x2048x128) (k0_off5 i (BitVec.ofNat 32 (128 * b.val))) S1x128x1.size (k0_off5_inb i b)),
    View.ld (Val := Elt Ideal) (e' := .f32) Y5 (Rect.unit (s := S1x2048x128) (k0_off6 i (BitVec.ofNat 32 (128 * b.val))) S1x128x1.size (k0_off6_inb i b)),
    View.ld (Val := Elt Ideal) (e' := .f32) Y5 (Rect.unit (s := S1x2048x128) (k0_off7 i (BitVec.ofNat 32 (128 * b.val))) S1x128x1.size (k0_off7_inb i b)),
    View.ld (Val := Elt Ideal) (e' := .f32) Y5 (Rect.unit (s := S1x2048x128) (k0_off8 i (BitVec.ofNat 32 (128 * b.val))) S1x128x1.size (k0_off8_inb i b)),
    View.ld (Val := Elt Ideal) (e' := .f32) Y5 (Rect.unit (s := S1x2048x128) (k0_off9 i (BitVec.ofNat 32 (128 * b.val))) S1x128x1.size (k0_off9_inb i b))]

/-- The diagonal chunk's scores, masked. -/
def pS (Y3 : FVec Ideal S1x2048x384 .bf16) (Y5 : FVec Ideal S1x2048x128 .f32) (Y6 : FVec Ideal S1x1x8x256 .f32) (q : Fin 6 → FVec Ideal S128x256 .bf16)
    (i : grid0.Coords) (h : Fin 6) (b : Fin 2) : FVec Ideal S128x256 .f32 :=
  match b with
  | 0 => opMask 0#32 (opS0 (opMM (pK Y3 i h) (q h)) (View.ld (Val := Elt Ideal) (e' := .f32) Y6 (rR h)) (pC Y5 i 0 h))
  | 1 => opMask 128#32 (opS1 (opMM (pK Y3 i h) (q h)) (View.ld (Val := Elt Ideal) (e' := .f32) Y6 (rR h)) (pC Y5 i 1 h))

theorem pS_apply (Y3 : FVec Ideal S1x2048x384 .bf16) (Y5 : FVec Ideal S1x2048x128 .f32) (Y6 : FVec Ideal S1x1x8x256 .f32) (q : Fin 6 → FVec Ideal S128x256 .bf16)
    (i : grid0.Coords) (h : Fin 6) (b : Fin 2) (r : Fin 128) (c : Fin 256) :
    pS Y3 Y5 Y6 q i h b (ix2 r c) = if (row b r).val ≤ c.val then sc Y3 Y5 Y6 q h c (jx (i 1).val (row b r)) else ⊥ := by
  have hi : (i 1).val < 8 := (i 1).isLt
  have hK : ∀ (r : Fin 256) (x : Fin 128), pK Y3 i h (ix3 0 r x) = Y3 (ix3 0 (jx (i 1).val r) (hp h x)) := fun r x => by
    fin_cases h
    · exact ldK_read Y3 _ _ _ _ (k0_off1_eq i) r x (by omega) (by omega)
    · exact ldK_read Y3 _ _ _ _ (k0_off1_eq i) r x (by omega) (by omega)
    · exact ldK_read Y3 _ _ _ _ (k0_off2_eq i) r x (by omega) (by omega)
    · exact ldK_read Y3 _ _ _ _ (k0_off2_eq i) r x (by omega) (by omega)
    · exact ldK_read Y3 _ _ _ _ (k0_off3_eq i) r x (by omega) (by omega)
    · exact ldK_read Y3 _ _ _ _ (k0_off3_eq i) r x (by omega) (by omega)
  have hC : ∀ (b : Fin 2) (r : Fin 128), pC Y5 i b h (ix3 0 r 0) = Y5 (ix3 0 (jx (i 1).val (row b r)) ⟨h.val, by omega⟩) := fun b r => by
    fin_cases h
    · exact ldC_read Y5 _ _ _ _ _ (k0_off4_eq i b) r (by omega) (by omega)
    · exact ldC_read Y5 _ _ _ _ _ (k0_off5_eq i b) r (by omega) (by omega)
    · exact ldC_read Y5 _ _ _ _ _ (k0_off6_eq i b) r (by omega) (by omega)
    · exact ldC_read Y5 _ _ _ _ _ (k0_off7_eq i b) r (by omega) (by omega)
    · exact ldC_read Y5 _ _ _ _ _ (k0_off8_eq i b) r (by omega) (by omega)
    · exact ldC_read Y5 _ _ _ _ _ (k0_off9_eq i b) r (by omega) (by omega)
  fin_cases b
  · show opMask (BitVec.ofNat 32 0) (opS0 _ _ _) _ = _
    rw [opMask_apply 0 (by decide), opS0_apply, ldR_apply, hC]
    simp only [hK]
    rw [sc, show (⟨r, by omega⟩ : Fin 256) = row 0 r from Fin.ext (by simp [row])]
    simp [row]
  · show opMask (BitVec.ofNat 32 128) (opS1 _ _ _) _ = _
    rw [opMask_apply 128 (by decide), opS1_apply, ldR_apply, hC]
    simp only [hK]
    rw [sc, show (⟨128 + r, by omega⟩ : Fin 256) = row 1 r from Fin.ext (by simp [row])]
    exact if_congr (by simp [row]; omega) rfl rfl

/-- The last chunk of the values. -/
theorem fV_apply (Y4 : FVec Ideal S1x8x384x256 .bf16) (i : grid0.Coords) (h : Fin 6) (d : Fin 64) (r : Fin 256) :
    fV Y4 i h (ix4 0 0 d r) = tv Y4 h (i 1).val (i 1).val d r := by
  have hc := ch_lt i (i 1).val le_rfl
  have e : (⟨ch (i 1).val (i 1).val % 8, Nat.mod_lt _ (by decide)⟩ : Fin 8) = ⟨ch (i 1).val (i 1).val, hc⟩ := Fin.ext (Nat.mod_eq_of_lt hc)
  rw [tv, e]
  fin_cases h
  · exact ldV_read Y4 _ _ _ _ (show k0_off40 i = ![0, ch (i 1).val (i 1).val, 64 * 0, 0] from by revert i; decide +kernel) d r hc (by omega)
  · exact ldV_read Y4 _ _ _ _ (show k0_off41 i = ![0, ch (i 1).val (i 1).val, 64 * 1, 0] from by revert i; decide +kernel) d r hc (by omega)
  · exact ldV_read Y4 _ _ _ _ (show k0_off42 i = ![0, ch (i 1).val (i 1).val, 64 * 2, 0] from by revert i; decide +kernel) d r hc (by omega)
  · exact ldV_read Y4 _ _ _ _ (show k0_off43 i = ![0, ch (i 1).val (i 1).val, 64 * 3, 0] from by revert i; decide +kernel) d r hc (by omega)
  · exact ldV_read Y4 _ _ _ _ (show k0_off44 i = ![0, ch (i 1).val (i 1).val, 64 * 4, 0] from by revert i; decide +kernel) d r hc (by omega)
  · exact ldV_read Y4 _ _ _ _ (show k0_off45 i = ![0, ch (i 1).val (i 1).val, 64 * 5, 0] from by revert i; decide +kernel) d r hc (by omega)

/-- The queries, scaled, each in its head's half. -/
theorem pQ_apply (Y2 : FVec Ideal S1x1x384x256 .f32) (h : Fin 6) (x : Fin 128) (c : Fin 256) :
    pQ Y2 h (ix2 x c) = if x.val / 64 = h.val % 2 then Y2 (ix4 0 0 (hp h x) c) * cq else 0 := by
  have hr : ∀ (p : Fin 3) (hx : 128 * p.val + x.val < 384), (View.ld (Val := Elt Ideal) (e' := .f32) Y2 (rQ p) : FVec Ideal S1x1x128x256 .f32) (ix4 0 0 x c) = Y2 (ix4 0 0 ⟨128 * p.val + x.val, hx⟩ c) := fun p hx =>
    View.ld_unit_apply_of (Val := Elt Ideal) (e := .f32) (S := S1x1x384x256) Y2 _ _ _ _ _ (by intro a; fin_cases a <;> simp [ix4])
  fin_cases h
  · refine (opQ_lo_apply _ x c).trans ?_
    rw [hr 0 (by have := x.isLt; simp; omega)]
    exact if_congr (by simp <;> omega) rfl rfl
  · refine (opQ_hi_apply _ x c).trans ?_
    rw [hr 0 (by have := x.isLt; simp; omega)]
    exact if_congr (by simp <;> omega) rfl rfl
  · refine (opQ_lo_apply _ x c).trans ?_
    rw [hr 1 (by have := x.isLt; simp; omega)]
    exact if_congr (by simp <;> omega) rfl rfl
  · refine (opQ_hi_apply _ x c).trans ?_
    rw [hr 1 (by have := x.isLt; simp; omega)]
    exact if_congr (by simp <;> omega) rfl rfl
  · refine (opQ_lo_apply _ x c).trans ?_
    rw [hr 2 (by have := x.isLt; simp; omega)]
    exact if_congr (by simp <;> omega) rfl rfl
  · refine (opQ_hi_apply _ x c).trans ?_
    rw [hr 2 (by have := x.isLt; simp; omega)]
    exact if_congr (by simp <;> omega) rfl rfl

section
open run
variable (c : Dev nD) (i : grid0.Coords) (arg2 : Memref sig .tc .vmem S1x1x384x256 .f32) (harg2 : arg2.IsWhole) (arg3 : Memref sig .tc .vmem S1x2048x384 .bf16) (harg3 : arg3.IsWhole) (arg4 : Memref sig .tc .vmem S1x8x384x256 .bf16) (harg4 : arg4.IsWhole) (arg5 : Memref sig .tc .vmem S1x2048x128 .f32) (harg5 : arg5.IsWhole) (arg6 : Memref sig .tc .vmem S1x1x8x256 .f32) (harg6 : arg6.IsWhole) (arg7 : Memref sig .tc .vmem S1x256x384 .bf16) (harg7 : arg7.IsWhole) (arg8 : Memref sig .tc .vmem S1x6x256x256 .f32) (harg8 : arg8.IsWhole) (arg9 : Memref sig .tc .vmem S6x256x256 .bf16) (harg9 : arg9.IsWhole)
  (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty)
  (f9 : BufTy.Contents (Elt Ideal) arg9.view.ty)

/-- The scores' buffer before the loops. -/
theorem H8_eq : sl.H8_12 i arg2 arg3 arg5 arg6 X2 X3 X5 X6 = pcs8 fun h b => shapeCast S1x1x128x256 (pS (arg3.view.read (Elt Ideal) X3) (arg5.view.read (Elt Ideal) X5) (arg6.view.read (Elt Ideal) X6) (pQ (arg2.view.read (Elt Ideal) X2)) i h b) shapeCasts_S128x256_S1x1x128x256 := rfl

/-- The carried values before the loops. -/
theorem init_eq : ((sl.r_18 i arg2 arg3 arg5 arg6 X2 X3 X5 X6, sl.r_23 i arg2 arg3 arg5 arg6 X2 X3 X5 X6, sl.r_27 i arg2 arg3 arg5 arg6 X2 X3 X5 X6, sl.r_29 i arg2 arg3 arg5 arg6 X2 X3 X5 X6, sl.r_34 i arg2 arg3 arg5 arg6 X2 X3 X5 X6, sl.r_36 i arg2 arg3 arg5 arg6 X2 X3 X5 X6, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295) : Acc) = mkAcc (fun h => opMx (pS (arg3.view.read (Elt Ideal) X3) (arg5.view.read (Elt Ideal) X5) (arg6.view.read (Elt Ideal) X6) (pQ (arg2.view.read (Elt Ideal) X2)) i h 0) (pS (arg3.view.read (Elt Ideal) X3) (arg5.view.read (Elt Ideal) X5) (arg6.view.read (Elt Ideal) X6) (pQ (arg2.view.read (Elt Ideal) X2)) i h 1)) (fun _ => k0_pay278) (fun _ => k0_pay279) (fun _ => k0_pay280) := rfl

/-- The second loop makes no trip. -/
theorem s2_eq : s2 c i arg2 harg2 arg3 harg3 arg4 harg4 arg5 harg5 arg6 harg6 arg7 harg7 arg8 harg8 arg9 harg9 X2 X3 X4 X5 X6 f9 = ((s1 c i arg2 harg2 arg3 harg3 arg4 harg4 arg5 harg5 arg6 harg6 arg7 harg7 arg8 harg8 arg9 harg9 X2 X3 X4 X5 X6 f9).1, [], []) := by
  have h : Scf.trips (k0_t2_loop i).lb (k0_t2_loop i).ub (k0_t2_loop i).st = 0 := Nat.le_zero.mp (k0_t2_abs i).2.1
  unfold s2
  rw [h, st_k0_t2.eq_1]

/-- The carried values at the loops' end follow the running softmax. -/
theorem inv_s1 : Inv (mT (arg3.view.read (Elt Ideal) X3) (arg5.view.read (Elt Ideal) X5) (arg6.view.read (Elt Ideal) X6) (pQ (arg2.view.read (Elt Ideal) X2)) (i 1).val (i 1).val) (mR (arg3.view.read (Elt Ideal) X3) (arg4.view.read (Elt Ideal) X4) (arg5.view.read (Elt Ideal) X5) (arg6.view.read (Elt Ideal) X6) (pQ (arg2.view.read (Elt Ideal) X2)) (i 1).val (i 1).val) (s1 c i arg2 harg2 arg3 harg3 arg4 harg4 arg5 harg5 arg6 harg6 arg7 harg7 arg8 harg8 arg9 harg9 X2 X3 X4 X5 X6 f9).1
    (arg8.view.read (Elt Ideal) (arg8.view.writes (Elt Ideal) (arg8.view.writes (Elt Ideal) arg8.view.junk (sl.H8_12 i arg2 arg3 arg5 arg6 X2 X3 X5 X6)) (s1 c i arg2 harg2 arg3 harg3 arg4 harg4 arg5 harg5 arg6 harg6 arg7 harg7 arg8 harg8 arg9 harg9 X2 X3 X4 X5 X6 f9).2.1)) := by
  have ht : Scf.trips (k0_t1_loop i).lb (k0_t1_loop i).ub (k0_t1_loop i).st = (i 1).val := k0_t1_trips i
  have := inv_st Variants.none c none i arg2 harg2 arg3 harg3 arg4 harg4 arg5 harg5 arg6 harg6 arg7 harg7 arg8 harg8 arg9 harg9 (BitVec.ofNat 32 (i 1).val) (pQ (arg2.view.read (Elt Ideal) X2)) (sl.r_18 i arg2 arg3 arg5 arg6 X2 X3 X5 X6) (sl.r_23 i arg2 arg3 arg5 arg6 X2 X3 X5 X6) (sl.r_27 i arg2 arg3 arg5 arg6 X2 X3 X5 X6) (sl.r_29 i arg2 arg3 arg5 arg6 X2 X3 X5 X6) (sl.r_34 i arg2 arg3 arg5 arg6 X2 X3 X5 X6) (sl.r_36 i arg2 arg3 arg5 arg6 X2 X3 X5 X6) k0_pay278 k0_pay279 k0_pay280 k0_pay281 k0_pay282 X3 X4 X5 X6 (arg8.view.writes (Elt Ideal) arg8.view.junk (sl.H8_12 i arg2 arg3 arg5 arg6 X2 X3 X5 X6)) f9
    (sl.r_18 i arg2 arg3 arg5 arg6 X2 X3 X5 X6, sl.r_23 i arg2 arg3 arg5 arg6 X2 X3 X5 X6, sl.r_27 i arg2 arg3 arg5 arg6 X2 X3 X5 X6, sl.r_29 i arg2 arg3 arg5 arg6 X2 X3 X5 X6, sl.r_34 i arg2 arg3 arg5 arg6 X2 X3 X5 X6, sl.r_36 i arg2 arg3 arg5 arg6 X2 X3 X5 X6, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295) ?_ (i 1).val (k0_t1_trips i).ge
  · unfold s1
    rw [ht]
    exact this
  · rw [init_eq, H8_eq]
    refine ⟨fun h c => ?_, fun h c => ?_, fun h c => ?_, fun h d c => ?_, fun h r c => ?_⟩
    · refine Eq.trans ?_ (opMx_sup (pS (arg3.view.read (Elt Ideal) X3) (arg5.view.read (Elt Ideal) X5) (arg6.view.read (Elt Ideal) X6) (pQ (arg2.view.read (Elt Ideal) X2)) i h) _ c (fun b r => pS_apply _ _ _ _ i h b r c))
      fin_cases h <;> rfl
    · have : (k0_pay278 : FVec Ideal S1x256 .f32) (ix2 0 c) = ⊥ := by
        pointwise [k0_pay278]
        exact named_mask
      refine Eq.trans ?_ this
      fin_cases h <;> rfl
    · have : (k0_pay279 : FVec Ideal S1x256 .f32) (ix2 0 c) = 0 := by
        pointwise [k0_pay279]
      refine Eq.trans ?_ this
      fin_cases h <;> rfl
    · have : (k0_pay280 : FVec Ideal S64x256 .f32) (ix2 d c) = 0 := by
        pointwise [k0_pay280]
      refine Eq.trans ?_ this
      fin_cases h <;> rfl
    · obtain ⟨b, r', rfl⟩ := exists_row r
      have := read_pcs8 arg8.view arg8.view.junk (fun h b => shapeCast S1x1x128x256 (pS (arg3.view.read (Elt Ideal) X3) (arg5.view.read (Elt Ideal) X5) (arg6.view.read (Elt Ideal) X6) (pQ (arg2.view.read (Elt Ideal) X2)) i h b) shapeCasts_S128x256_S1x1x128x256) [] h b r' c
      rw [List.append_nil] at this
      refine this.trans ?_
      refine Eq.trans ?_ (pS_apply (arg3.view.read (Elt Ideal) X3) (arg5.view.read (Elt Ideal) X5) (arg6.view.read (Elt Ideal) X6) (pQ (arg2.view.read (Elt Ideal) X2)) i h b r' c)
      pointwise []

/-- What the body leaves in its output block. -/
theorem out_apply (f7 : BufTy.Contents (Elt Ideal) arg7.view.ty) (f8 : BufTy.Contents (Elt Ideal) arg8.view.ty) (h : Fin 6) (d : Fin 64) (p : Fin 256) :
    arg7.view.read (Elt Ideal) (arg7.view.writes (Elt Ideal) f7 ((run (F := Ideal) c i arg2 harg2 arg3 harg3 arg4 harg4 arg5 harg5 arg6 harg6 arg7 harg7 arg8 harg8 arg9 harg9 X2 X3 X4 X5 X6).1 f8 f9)) (ix3 0 p (hd h d))
      = Ideal.div ((mR (arg3.view.read (Elt Ideal) X3) (arg4.view.read (Elt Ideal) X4) (arg5.view.read (Elt Ideal) X5) (arg6.view.read (Elt Ideal) X6) (pQ (arg2.view.read (Elt Ideal) X2)) (i 1).val ((i 1).val + 1) h p).A d) (mR (arg3.view.read (Elt Ideal) X3) (arg4.view.read (Elt Ideal) X4) (arg5.view.read (Elt Ideal) X5) (arg6.view.read (Elt Ideal) X6) (pQ (arg2.view.read (Elt Ideal) X2)) (i 1).val ((i 1).val + 1) h p).l := by
  rw [run_eq, s2_eq]
  simp only [List.nil_append]
  rw [View.writes_append]
  have hs := fun h => step_apply (inv_s1 c i arg2 harg2 arg3 harg3 arg4 harg4 arg5 harg5 arg6 harg6 arg7 harg7 arg8 harg8 arg9 harg9 X2 X3 X4 X5 X6 f9) arg9.view (s1 c i arg2 harg2 arg3 harg3 arg4 harg4 arg5 harg5 arg6 harg6 arg7 harg7 arg8 harg8 arg9 harg9 X2 X3 X4 X5 X6 f9).2.2 (fV (arg4.view.read (Elt Ideal) X4) i) h p
  have hv : ∀ h, (fun (d : Fin 64) (r : Fin 256) => fV (arg4.view.read (Elt Ideal) X4) i h (ix4 0 0 d r)) = tv (arg4.view.read (Elt Ideal) X4) h (i 1).val (i 1).val := fun h => by
    funext d r; exact fV_apply _ i h d r
  simp only [hv] at hs
  have hdd := d.isLt
  rw [show (mR (arg3.view.read (Elt Ideal) X3) (arg4.view.read (Elt Ideal) X4) (arg5.view.read (Elt Ideal) X5) (arg6.view.read (Elt Ideal) X6) (pQ (arg2.view.read (Elt Ideal) X2)) (i 1).val ((i 1).val + 1) h p) = (mR (arg3.view.read (Elt Ideal) X3) (arg4.view.read (Elt Ideal) X4) (arg5.view.read (Elt Ideal) X5) (arg6.view.read (Elt Ideal) X6) (pQ (arg2.view.read (Elt Ideal) X2)) (i 1).val (i 1).val h p).step (mT (arg3.view.read (Elt Ideal) X3) (arg5.view.read (Elt Ideal) X5) (arg6.view.read (Elt Ideal) X6) (pQ (arg2.view.read (Elt Ideal) X2)) (i 1).val (i 1).val h p) (tv (arg4.view.read (Elt Ideal) X4) h (i 1).val (i 1).val) from rfl]
  rw [← (hs h).1, ← (hs h).2 d]
  fin_cases h
  · refine (View.read_writes_cons_unit_of_not_mem (s := S1x256x384) _ _ _ _ _ _ rfl (2 : Fin 3) (by simp [ix3, hd] <;> omega)).trans ?_
    refine (View.read_writes_cons_unit_of_not_mem (s := S1x256x384) _ _ _ _ _ _ rfl (2 : Fin 3) (by simp [ix3, hd] <;> omega)).trans ?_
    refine (View.read_writes_cons_unit_of_mem (s := S1x256x384) _ _ _ _ _ _ (ix3 0 p (⟨0 + d.val, by omega⟩ : Fin 128)) rfl (by intro a; fin_cases a <;> simp [ix3, hd] <;> omega)).trans ?_
    refine (opOut_apply _ _ _ _ _ _).trans ?_
    rw [dif_pos (by simp)]
    congr 3
    exact Fin.ext (by simp)
  · refine (View.read_writes_cons_unit_of_not_mem (s := S1x256x384) _ _ _ _ _ _ rfl (2 : Fin 3) (by simp [ix3, hd] <;> omega)).trans ?_
    refine (View.read_writes_cons_unit_of_not_mem (s := S1x256x384) _ _ _ _ _ _ rfl (2 : Fin 3) (by simp [ix3, hd] <;> omega)).trans ?_
    refine (View.read_writes_cons_unit_of_mem (s := S1x256x384) _ _ _ _ _ _ (ix3 0 p (⟨64 + d.val, by omega⟩ : Fin 128)) rfl (by intro a; fin_cases a <;> simp [ix3, hd] <;> omega)).trans ?_
    refine (opOut_apply _ _ _ _ _ _).trans ?_
    rw [dif_neg (by simp)]
    congr 3
    exact Fin.ext (by simp)
  · refine (View.read_writes_cons_unit_of_not_mem (s := S1x256x384) _ _ _ _ _ _ rfl (2 : Fin 3) (by simp [ix3, hd] <;> omega)).trans ?_
    refine (View.read_writes_cons_unit_of_mem (s := S1x256x384) _ _ _ _ _ _ (ix3 0 p (⟨0 + d.val, by omega⟩ : Fin 128)) rfl (by intro a; fin_cases a <;> simp [ix3, hd] <;> omega)).trans ?_
    refine (opOut_apply _ _ _ _ _ _).trans ?_
    rw [dif_pos (by simp)]
    congr 3
    exact Fin.ext (by simp)
  · refine (View.read_writes_cons_unit_of_not_mem (s := S1x256x384) _ _ _ _ _ _ rfl (2 : Fin 3) (by simp [ix3, hd] <;> omega)).trans ?_
    refine (View.read_writes_cons_unit_of_mem (s := S1x256x384) _ _ _ _ _ _ (ix3 0 p (⟨64 + d.val, by omega⟩ : Fin 128)) rfl (by intro a; fin_cases a <;> simp [ix3, hd] <;> omega)).trans ?_
    refine (opOut_apply _ _ _ _ _ _).trans ?_
    rw [dif_neg (by simp)]
    congr 3
    exact Fin.ext (by simp)
  · refine (View.read_writes_cons_unit_of_mem (s := S1x256x384) _ _ _ _ _ _ (ix3 0 p (⟨0 + d.val, by omega⟩ : Fin 128)) rfl (by intro a; fin_cases a <;> simp [ix3, hd] <;> omega)).trans ?_
    refine (opOut_apply _ _ _ _ _ _).trans ?_
    rw [dif_pos (by simp)]
    congr 3
    exact Fin.ext (by simp)
  · refine (View.read_writes_cons_unit_of_mem (s := S1x256x384) _ _ _ _ _ _ (ix3 0 p (⟨64 + d.val, by omega⟩ : Fin 128)) rfl (by intro a; fin_cases a <;> simp [ix3, hd] <;> omega)).trans ?_
    refine (opOut_apply _ _ _ _ _ _).trans ?_
    rw [dif_neg (by simp)]
    congr 3
    exact Fin.ext (by simp)

end

end Cert.KernelIdeal.Fox

end
-- ==== Proof.Fox.IdealValue.lean ====
/- The launch of the program `KernelIdeal` over the extended reals: its body at every grid point by the one run of
   `Fox/IdealRun.lean`, the output's block the running softmax of `Fox/Out.lean`. -/
module

public import proofs.«01_k».proof.Proof.Fox.Out

@[expose] public section

set_option maxRecDepth 16384

noncomputable section

namespace Cert.KernelIdeal.Fox.Exact

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationLoose cellOf)
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

/-- The output's block at tile `t`, from the input blocks: element `(p, 64 * h + d)` is the running softmax's weighted sum
    over its denominator. -/
def oblk (t : ℕ) (Y2 : FVec Ideal S1x1x384x256 .f32) (Y3 : FVec Ideal S1x2048x384 .bf16) (Y4 : FVec Ideal S1x8x384x256 .bf16)
    (Y5 : FVec Ideal S1x2048x128 .f32) (Y6 : FVec Ideal S1x1x8x256 .f32) : FVec Ideal S1x256x384 .bf16 := fun y =>
  Ideal.div
    ((mR Y3 Y4 Y5 Y6 (pQ Y2) t (t + 1) ⟨(y 2).val / 64 % 6, Nat.mod_lt _ (by decide)⟩ (y 1)).A ⟨(y 2).val % 64, Nat.mod_lt _ (by decide)⟩)
    (mR Y3 Y4 Y5 Y6 (pQ Y2) t (t + 1) ⟨(y 2).val / 64 % 6, Nat.mod_lt _ (by decide)⟩ (y 1)).l

/-- Every index of the output's block is `(0, p, 64 * h + d)`. -/
theorem exists_hd (y : S1x256x384.Idx) : ∃ (p : Fin 256) (h : Fin 6) (d : Fin 64), y = ix3 0 p (hd h d) := by
  have h0 := (y 0).isLt; have h2 := (y 2).isLt
  refine ⟨y 1, ⟨(y 2).val / 64, ?_⟩, ⟨(y 2).val % 64, Nat.mod_lt _ (by decide)⟩, ?_⟩
  · exact Nat.div_lt_of_lt_mul h2
  · funext a
    match a with
    | ⟨0, _⟩ => exact Fin.ext (Nat.lt_one_iff.mp h0)
    | ⟨1, _⟩ => rfl
    | ⟨2, _⟩ => exact Fin.ext (Nat.div_add_mod (y 2).val 64).symm

/-- The block at `(0, p, 64 * h + d)`. -/
theorem oblk_apply (t : ℕ) (Y2 Y3 Y4 Y5 Y6) (p : Fin 256) (h : Fin 6) (d : Fin 64) :
    oblk t Y2 Y3 Y4 Y5 Y6 (ix3 0 p (hd h d)) = Ideal.div ((mR Y3 Y4 Y5 Y6 (pQ Y2) t (t + 1) h p).A d) (mR Y3 Y4 Y5 Y6 (pQ Y2) t (t + 1) h p).l := by
  have e1 : (⟨(64 * h.val + d.val) / 64 % 6, Nat.mod_lt _ (by decide)⟩ : Fin 6) = h := Fin.ext (by
    show (64 * h.val + d.val) / 64 % 6 = h.val
    omega)
  have e2 : (⟨(64 * h.val + d.val) % 64, Nat.mod_lt _ (by decide)⟩ : Fin 64) = d := Fin.ext (by
    show (64 * h.val + d.val) % 64 = d.val
    omega)
  show Ideal.div ((mR Y3 Y4 Y5 Y6 (pQ Y2) t (t + 1) ⟨(64 * h.val + d.val) / 64 % 6, _⟩ p).A ⟨(64 * h.val + d.val) % 64, _⟩)
    (mR Y3 Y4 Y5 Y6 (pQ Y2) t (t + 1) ⟨(64 * h.val + d.val) / 64 % 6, _⟩ p).l = _
  rw [e1, e2]

/-- The tile of grid point `t`. -/
abbrev tile (t : Fin cfg0.N) : ℕ := ((grid0.coords t) 1).val

/-- The proof data: each input's buffer at its block after the body, the output's at `oblk` of the blocks. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => oblk (tile t) (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = oblk (tile t) (iblk m c 0 t) (iblk m c 1 t) (iblk m c 2 t) (iblk m c 3 t) (iblk m c 4 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, the scratch buffers spelt out. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5]
  unfold Pipeline.ΦA
  rw [scopedRest0_eq]
  simp only [← owns_whole]
  unfold owns
  iintro ⟨⟨⟨⟨%s8, %f8, -, H8⟩, ⟨%s9, %f9, -, H9⟩⟩, Hr⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, -, H5⟩⟩
  iapply (wp_wand_r Idealize.ShloMosaic.frame (wpE (defs₀ (F := Ideal)) Variants.none (c : Thread nD τ) none) Set.univ)
  isplitl [H0 H1 H2 H3 H4 H5 H8 H9]
  · iapply ((run c (grid0.coords t) _ _ _ _ _ _ _ _ _ _ _ _ _ _ _ _ f0 f1 f2 f3 f4).2 Set.univ f5 f8 f9)
    isplitl [H0]; · iexact H0
    isplitl [H1]; · iexact H1
    isplitl [H2]; · iexact H2
    isplitl [H3]; · iexact H3
    isplitl [H4]; · iexact H4
    isplitl [H5]; · iexact H5
    isplitl [H8]; · iexact H8
    iexact H9
  iintro %_ ⟨H0, H1, H2, H3, H4, H5, ⟨%g8, H8⟩, ⟨%g9, H9⟩⟩
  isplitl [H8 H9 Hr]
  · isplitl [H8 H9]
    · isplitl [H8]
      · iexists _; iexists g8; isplitr
        · ipureintro; rfl
        · iexact H8
      · iexists _; iexists g9; isplitr
        · ipureintro; rfl
        · iexact H9
    · iexact Hr
  isplitl [Ho]; · iexact Ho
  isplitl [H0]
  · iexists f0; isplitr
    · ipureintro; exact h0
    · iexact H0
  isplitl [H1]
  · iexists f1; isplitr
    · ipureintro; exact h1
    · iexact H1
  isplitl [H2]
  · iexists f2; isplitr
    · ipureintro; exact h2
    · iexact H2
  isplitl [H3]
  · iexists f3; isplitr
    · ipureintro; exact h3
    · iexact H3
  isplitl [H4]
  · iexists f4; isplitr
    · ipureintro; exact h4
    · iexact H4
  iexists _; isplitr
  swap; · iexact H5
  ipureintro
  funext y
  obtain ⟨p, h, d, rfl⟩ := exists_hd y
  rw [oblk_apply, ← h0, ← h1, ← h2, ← h3, ← h4]
  exact out_apply c (grid0.coords t) _ _ _ _ _ _ _ _ _ _ _ _ _ _ _ _ f0 f1 f2 f3 f4 f9 f5 f8 h d p

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The launch: every run of @main ends with the output's array assembled from `oblk`'s blocks, the inputs' arrays and the
    buffers no window stages as the region found them, every semaphore counter at zero. -/
theorem run_main : θ_run defs (onTc (τ := τ) (main (F := Ideal))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.KernelIdeal.Fox.Exact

end
-- ==== Proof.Fox.Blocks.lean ====
/- The input blocks of the program `KernelIdeal` at a grid point, element by element in the arguments. -/
module

public import proofs.«01_k».proof.Proof.Fox.IdealValue
public import Idealize.ShloMosaic.Lib.StableHlo.ReadAt
public import Idealize.ShloMosaic.Lib.Pipeline.ValueKit.Geometry

@[expose] public section

set_option maxRecDepth 16384

noncomputable section

namespace Cert.KernelIdeal.Fox.Exact

open Cert.KernelIdeal Cert.KernelIdeal.Gen
open Idealize.ShloMosaic
open Idealize.ShloMosaic.TcCoe

variable (m : (ℓ : Loc nD τ sig) → Buf (Elt Ideal) ℓ)

/-- Position `p` of tile `t`. -/
def pos (t : Fin 8) (p : Fin 256) : Fin 2048 := ⟨256 * t.val + p.val, by omega⟩

/-- The queries' tiles when the launch begins. -/
theorem V_q (c : Dev nD) (b : Fin 16) (t : Fin 8) (x : Fin 384) (p : Fin 256) :
    V m c main_v2 (ix4 b t x p) = m ((c : Thread nD τ).loc main_arg0) (ix3 b (pos t p) x) := by
  unfold V
  after_reads_at
  exact congrArg (fun j => m ((c : Thread nD τ).loc main_arg0) (ix3 b j x)) (Fin.ext (by show t.val * 256 + p.val = 256 * t.val + p.val; omega))

/-- The keys. -/
theorem V_k (c : Dev nD) (b : Fin 16) (j : Fin 2048) (x : Fin 384) :
    V m c main_v3 (ix3 b j x) = m ((c : Thread nD τ).loc main_arg1) (ix3 b j x) := by
  unfold V
  after_reads_at

/-- The values' tiles. -/
theorem V_v (c : Dev nD) (b : Fin 16) (t : Fin 8) (x : Fin 384) (p : Fin 256) :
    V m c main_v6 (ix4 b t x p) = m ((c : Thread nD τ).loc main_arg2) (ix3 b (pos t p) x) := by
  unfold V
  after_reads_at
  exact congrArg (fun j => m ((c : Thread nD τ).loc main_arg2) (ix3 b j x)) (Fin.ext (by show t.val * 256 + p.val = 256 * t.val + p.val; omega))

/-- The keys' gates, padded to the lanes. -/
theorem V_c (c : Dev nD) (b : Fin 16) (j : Fin 2048) (h : Fin 6) :
    V m c main_v0 (ix3 b j (h.castLE (by decide))) = m ((c : Thread nD τ).loc main_arg3) (ix3 b j h) := by
  unfold V
  after_reads_at
  rw [dif_pos (show (h.castLE (by decide : 6 ≤ 128)).val < 6 from h.isLt)]
  rfl

/-- The queries' gates' tiles. -/
theorem V_g (c : Dev nD) (b : Fin 16) (t : Fin 8) (h : Fin 6) (p : Fin 256) :
    V m c main_v9 (ix4 b t (h.castLE (by decide)) p) = m ((c : Thread nD τ).loc main_arg3) (ix3 b (pos t p) h) := by
  unfold V
  after_reads_at
  rw [dif_pos ⟨by omega, show (h.castLE (by decide : 6 ≤ 8)).val < 6 from h.isLt⟩]
  exact congrArg (fun j => m ((c : Thread nD τ).loc main_arg3) (ix3 b j h)) (Fin.ext (by show t.val * 256 + p.val = 256 * t.val + p.val; omega))

/-- The sequence and the tile of grid point `t`. -/
abbrev gb (t : Fin cfg0.N) : Fin 16 := (grid0.coords t) 0
abbrev gt (t : Fin cfg0.N) : Fin 8 := (grid0.coords t) 1

theorem index0 : ∀ t : Fin cfg0.N, win0_0.index t = ![(grid0.coords t 0).val, (grid0.coords t 1).val, 0, 0] :=
  (by decide +kernel : ∀ t : Fin grid0.N, _)
theorem index1 : ∀ t : Fin cfg0.N, win0_1.index t = ![(grid0.coords t 0).val, 0, 0] :=
  (by decide +kernel : ∀ t : Fin grid0.N, _)
theorem index2 : ∀ t : Fin cfg0.N, win0_2.index t = ![(grid0.coords t 0).val, 0, 0, 0] :=
  (by decide +kernel : ∀ t : Fin grid0.N, _)
theorem index3 : ∀ t : Fin cfg0.N, win0_3.index t = ![(grid0.coords t 0).val, 0, 0] :=
  (by decide +kernel : ∀ t : Fin grid0.N, _)
theorem index4 : ∀ t : Fin cfg0.N, win0_4.index t = ![(grid0.coords t 0).val, (grid0.coords t 1).val, 0, 0] :=
  (by decide +kernel : ∀ t : Fin grid0.N, _)
theorem index5 : ∀ t : Fin cfg0.N, win0_5.index t = ![(grid0.coords t 0).val, (grid0.coords t 1).val, 0] :=
  (by decide +kernel : ∀ t : Fin grid0.N, _)

/-- The queries' block. -/
theorem blk_q (c : Dev nD) (t : Fin cfg0.N) (x : Fin 384) (p : Fin 256) :
    iblk m c 0 t (ix4 0 0 x p) = m ((c : Thread nD τ).loc main_arg0) (ix3 (gb t) (pos (gt t) p) x) := by
  blk_simp [iblk]
  refine (congrArg (V m c main_v2) ?_).trans (V_q m c (gb t) (gt t) x p)
  blk_ext [index0]
  all_goals rfl

/-- The keys' block. -/
theorem blk_k (c : Dev nD) (t : Fin cfg0.N) (j : Fin 2048) (x : Fin 384) :
    iblk m c 1 t (ix3 0 j x) = m ((c : Thread nD τ).loc main_arg1) (ix3 (gb t) j x) := by
  blk_simp [iblk]
  refine (congrArg (V m c main_v3) ?_).trans (V_k m c (gb t) j x)
  blk_ext [index1]
  all_goals rfl

/-- The values' block. -/
theorem blk_v (c : Dev nD) (t : Fin cfg0.N) (k : Fin 8) (x : Fin 384) (r : Fin 256) :
    iblk m c 2 t (ix4 0 k x r) = m ((c : Thread nD τ).loc main_arg2) (ix3 (gb t) (pos k r) x) := by
  blk_simp [iblk]
  refine (congrArg (V m c main_v6) ?_).trans (V_v m c (gb t) k x r)
  blk_ext [index2]
  all_goals rfl

/-- The keys' gates' block. -/
theorem blk_c (c : Dev nD) (t : Fin cfg0.N) (j : Fin 2048) (h : Fin 6) :
    iblk m c 3 t (ix3 0 j (h.castLE (by decide))) = m ((c : Thread nD τ).loc main_arg3) (ix3 (gb t) j h) := by
  blk_simp [iblk]
  refine (congrArg (V m c main_v0) ?_).trans (V_c m c (gb t) j h)
  blk_ext [index3]
  all_goals rfl

/-- The queries' gates' block. -/
theorem blk_g (c : Dev nD) (t : Fin cfg0.N) (h : Fin 6) (p : Fin 256) :
    iblk m c 4 t (ix4 0 0 (h.castLE (by decide)) p) = m ((c : Thread nD τ).loc main_arg3) (ix3 (gb t) (pos (gt t) p) h) := by
  blk_simp [iblk]
  refine (congrArg (V m c main_v9) ?_).trans (V_g m c (gb t) (gt t) h p)
  blk_ext [index4]
  all_goals rfl

end Cert.KernelIdeal.Fox.Exact

end
-- ==== Proof.Fox.Reference.lean ====
/- The reference's result, element by element: each head's softmax attention over its masked scores. -/
module

public import proofs.«01_k».proof.Proof.Gen.ReferenceIdeal.Read
public import Idealize.ShloMosaic.Lib.Pointwise
public import Idealize.ShloMosaic.Lib.Tactic.CleanTypes
public import Idealize.ShloMosaic.Lib.WordCmp

@[expose] public section

set_option maxRecDepth 16384

noncomputable section

namespace Cert.ReferenceIdeal.Fox

open Cert.ReferenceIdeal Cert.ReferenceIdeal.Read
open Idealize.ShloMosaic

/-- A maximum over the last axis at an index. -/
theorem reduce_max {n0 n1 n2 n3 : ℕ} (y : FVec Ideal ⟨4, ![n0, n1, n2, n3]⟩ .f32) (c : FVec Ideal ⟨0, ![]⟩ .f32)
    (h : (⟨4, ![n0, n1, n2, n3]⟩ : Shape).ReducesTo [3] ⟨3, ![n0, n1, n2]⟩) (hu : 0 < (⟨0, ![]⟩ : Shape).numel) (a : Fin n0) (b : Fin n1) (p : Fin n2) :
    Host.reduce FloatOps.maximumf y c h hu (ix3 a b p) = Finset.univ.fold max (c (Shape.Idx.first hu)) fun k => y (ix4 a b p k) := by
  simp only [pointwise]

theorem fold_max_eq_sup {n : ℕ} (f : Fin n → EReal) : Finset.univ.fold max ⊥ f = Finset.univ.sup f := rfl

theorem ofBits_negInf : Ideal.ofBits FTy.f32 0xFF800000#32 = ⊥ := by
  simp only [Ideal.ofBits]; rfl

theorem ofBits_eighth : Ideal.ofBits FTy.f32 0x3E000000#32 = ((1 / 8 : ℝ) : EReal) := by
  rw [show (0x3E000000#32 : BitVec 32) = 0x3E000000#32 from rfl]; simp [Ideal.ofBits, Ideal.ieee]; rw [← EReal.coe_mul]; norm_num

variable (x0 x1 x2 : FVec Ideal S16x2048x384 .f32) (x3 : FVec Ideal S16x2048x6 .f32)

/-- A head's channel, of its 64. -/
def hd (h : Fin 6) (d : Fin 64) : Fin 384 := ⟨64 * h.val + d.val, by omega⟩

/-- The masked score of query `p` and key `j` of head `h`. -/
def rs (b : Fin 16) (h : Fin 6) (p j : Fin 2048) : EReal :=
  if j.val ≤ p.val then (∑ d, x0 (ix3 b p (hd h d)) * x1 (ix3 b j (hd h d))) * ((1 / 8 : ℝ) : EReal) + (x3 (ix3 b p h) - x3 (ix3 b j h)) else ⊥

/-- The masked scores. -/
theorem v20_apply (b : Fin 16) (h : Fin 6) (p j : Fin 2048) :
    val_main_v20 (F := Ideal) x0 x1 x3 (ix4 b h p j) = rs x0 x1 x3 b h p j := by
  unfold val_main_v20
  pointwise [val_main_v13, val_main_v7, val_main_v5,val_main_v0, val_main_v1, val_main_v6, val_main_v12, val_main_call0_v2, val_main_call0_v1, val_main_v10, val_main_v11, val_main_v9, val_main_v8, val_main_v4, val_main_v19, val_main_v18, val_main_v16, val_main_v17, val_main_v14, val_main_v15, val_main_v3, val_main_cst, val_main_call0_v0, val_main_cst_0]
  rw [rs, ofBits_eighth]
  have hc : id (constant (F := Ideal) S_ FTy.f32 4286578688#32) ix0 = ⊥ := ofBits_negInf
  rw [hc]
  have e (x : Fin 64) : (⟨h.val * 64 + x.val, by omega⟩ : Fin 384) = hd h x := Fin.ext (by show h.val * 64 + x.val = 64 * h.val + x.val; omega)
  simp only [e]
  split
  · next hj => rw [(WordCmp.cmpi_sge_ofNat_eq_one_iff (by have := p.isLt; norm_num; omega) (by have := j.isLt; norm_num; omega)).mpr hj]; rfl
  · next hj => rw [(WordCmp.cmpi_sge_ofNat_eq_zero_iff (by have := p.isLt; norm_num; omega) (by have := j.isLt; norm_num; omega)).mpr (by omega)]; rfl

/-- The scores' maximum, of each row. -/
theorem v21_apply (b : Fin 16) (h : Fin 6) (p : Fin 2048) :
    val_main_v21 (F := Ideal) x0 x1 x3 (ix3 b h p) = Finset.univ.sup fun j => val_main_v20 (F := Ideal) x0 x1 x3 (ix4 b h p j) := by
  unfold val_main_v21
  generalize val_main_v20 (F := Ideal) x0 x1 x3 = y
  rw [reduce_max y _ _ _ b h p, show val_main_cst_1 (F := Ideal) (Shape.Idx.first (by decide)) = ⊥ from ofBits_negInf]
  exact fold_max_eq_sup _

theorem v22_apply (b : Fin 16) (h : Fin 6) (p : Fin 2048) : val_main_v22 (F := Ideal) (ix3 b h p) = ⊥ := by
  rw [val_main_v22_apply]
  exact ofBits_negInf

theorem maximumf_apply {s : Shape} (y z : FVec Ideal s .f32) (i : s.Idx) : maximumf y z i = max (y i) (z i) := rfl

/-- The scores' maximum. -/
theorem v23_apply (b : Fin 16) (h : Fin 6) (p : Fin 2048) :
    val_main_v23 (F := Ideal) x0 x1 x3 (ix3 b h p) = Finset.univ.sup fun j => rs x0 x1 x3 b h p j := by
  simp only [← v20_apply]
  unfold val_main_v23
  rw [maximumf_apply, v22_apply, v21_apply]
  exact max_eq_right bot_le

/-- The unnormalized weights. -/
theorem v27_apply (b : Fin 16) (h : Fin 6) (p j : Fin 2048) :
    val_main_v27 (F := Ideal) x0 x1 x3 (ix4 b h p j) = Ideal.exp (rs x0 x1 x3 b h p j - Finset.univ.sup fun j => rs x0 x1 x3 b h p j) := by
  rw [← v20_apply, ← v23_apply]
  unfold val_main_v27 val_main_v26 val_main_v25 val_main_v24
  generalize val_main_v20 (F := Ideal) x0 x1 x3 = y
  generalize val_main_v23 (F := Ideal) x0 x1 x3 = z
  pointwise

/-- The result. -/
theorem v35_apply (b : Fin 16) (p : Fin 2048) (h : Fin 6) (d : Fin 64) :
    val_main_v35 (F := Ideal) x0 x1 x2 x3 (ix3 b p (hd h d)) =
      ∑ j, x2 (ix3 b j (hd h d)) * Ideal.div (Ideal.exp (rs x0 x1 x3 b h p j - Finset.univ.sup fun j => rs x0 x1 x3 b h p j))
        (∑ j, Ideal.exp (rs x0 x1 x3 b h p j - Finset.univ.sup fun j => rs x0 x1 x3 b h p j)) := by
  simp only [← v27_apply]
  unfold val_main_v35 val_main_v34 val_main_v33 val_main_v32 val_main_v2 val_main_v31 val_main_v30 val_main_v29 val_main_v28
  generalize val_main_v27 (F := Ideal) x0 x1 x3 = y
  pointwise [val_main_cst_3]
  have e : (⟨(hd h d).val / 64, by have := (hd h d).isLt; omega⟩ : Fin 6) = h := Fin.ext (by show (64 * h.val + d.val) / 64 = h.val; omega)
  simp only [e]

end Cert.ReferenceIdeal.Fox

end
-- ==== Proof.Fox.Equal.lean ====
/- The two programs' results agree, element by element, where queries, keys and gates are real: both are the values'
   average under the weights `exp` of the causal scores. -/
module

public import proofs.«01_k».proof.Proof.Fox.Softmax
public import proofs.«01_k».proof.Proof.Fox.Blocks
public import proofs.«01_k».proof.Proof.Fox.Reference

@[expose] public section

set_option maxRecDepth 16384

noncomputable section

namespace Cert.KernelIdeal.Fox.Exact

open Cert.KernelIdeal Cert.KernelIdeal.Gen
open Idealize.ShloMosaic
open Idealize.ShloMosaic.TcCoe

/-! ## Sums in the kernel's order -/

theorem jx_eq (k : Fin 8) (r : Fin 256) : jx k.val r = pos k r := Fin.ext (by
  show (256 * k.val + r.val) % 2048 = 256 * k.val + r.val
  have := k.isLt; have := r.isLt; omega)

/-- A sum over the positions by tiles. -/
theorem sum_tiles {M : Type} [AddCommMonoid M] (f : Fin 2048 → M) : ∑ j, f j = ∑ k ∈ Finset.range 8, ∑ r, f (jx k r) := by
  rw [Finset.sum_range, ← Fintype.sum_equiv (finProdFinEquiv (m := 8) (n := 256)) (fun x => f (pos x.1 x.2)) f
    (fun x => congrArg f (Fin.ext (by show 256 * x.1.val + x.2.val = x.2.val + 256 * x.1.val; omega))), Fintype.sum_prod_type]
  exact Finset.sum_congr rfl fun k _ => Finset.sum_congr rfl fun r _ => congrArg f (jx_eq k r).symm

/-- The kernel's order, the diagonal tile first and masked, against the causal sum. -/
theorem sum_order {M : Type} [AddCommMonoid M] (F : Fin 2048 → M) (t : Fin 8) (c : Fin 256) (G : ℕ → Fin 256 → M)
    (h0 : ∀ r, G 0 r = if r.val ≤ c.val then F (jx t.val r) else 0) (h1 : ∀ k < t.val, ∀ r, G (k + 1) r = F (jx k r)) :
    ∑ i ∈ Finset.range (t.val + 1), ∑ r, G i r = ∑ j, if j.val ≤ (pos t c).val then F j else 0 := by
  have ht := t.isLt; have hc := c.isLt
  have hp : (pos t c).val = 256 * t.val + c.val := rfl
  have hj (k : ℕ) (hk : k < 8) (r : Fin 256) : (jx k r).val = 256 * k + r.val := by
    show (256 * k + r.val) % 2048 = _
    have := r.isLt; omega
  rw [sum_tiles, Finset.sum_range_succ', ← Finset.sum_subset (Finset.range_mono (show t.val + 1 ≤ 8 by omega)), Finset.sum_range_succ]
  · refine congrArg₂ (· + ·) (Finset.sum_congr rfl fun k hk => Finset.sum_congr rfl fun r _ => ?_) (Finset.sum_congr rfl fun r _ => ?_)
    · have hk := Finset.mem_range.mp hk
      have := r.isLt
      rw [h1 k hk, if_pos (by rw [hj k (by omega), hp]; omega)]
    · rw [h0]
      exact if_congr (by rw [hj _ ht, hp]; omega) rfl rfl
  · intro k hk hk'
    have hk := Finset.mem_range.mp hk
    have hk' : ¬ k < t.val + 1 := fun h => hk' (Finset.mem_range.mpr h)
    exact Finset.sum_eq_zero fun r _ => if_neg (by rw [hj k hk, hp]; omega)

/-- A head's 64 lanes of its pair's 128. -/
theorem sum_lanes (h : Fin 6) (f : Fin 384 → EReal) : (∑ x : Fin 128, if x.val / 64 = h.val % 2 then f (hp h x) else 0) = ∑ d, f (hd h d) := by
  have e : (∑ x : Fin 128, if x.val / 64 = h.val % 2 then f (hp h x) else 0)
      = (∑ d : Fin 64, if 0 = h.val % 2 then f (hp h ⟨d.val, by omega⟩) else 0) + ∑ d : Fin 64, if 1 = h.val % 2 then f (hp h ⟨64 + d.val, by omega⟩) else 0 := by
    refine (Fin.sum_univ_add (M := EReal) (a := 64) (b := 64) _).trans ?_
    refine congrArg₂ (· + ·) (Finset.sum_congr rfl fun d _ => ?_) (Finset.sum_congr rfl fun d _ => ?_)
    · refine if_congr ?_ rfl rfl
      show d.val / 64 = _ ↔ _
      rw [show d.val / 64 = 0 by omega]
    · refine if_congr ?_ rfl rfl
      show (64 + d.val) / 64 = _ ↔ _
      rw [show (64 + d.val) / 64 = 1 by omega]
  rw [e]
  rcases Nat.mod_two_eq_zero_or_one h.val with hh | hh
  · rw [hh]
    simp only [if_true, if_neg (show ¬ (1 = 0) by decide), Finset.sum_const_zero, add_zero]
    exact Finset.sum_congr rfl fun d _ => congrArg f (Fin.ext (by show 128 * (h.val / 2) + d.val = 64 * h.val + d.val; omega))
  · rw [hh]
    simp only [if_true, if_neg (show ¬ (0 = 1) by decide), Finset.sum_const_zero, zero_add]
    exact Finset.sum_congr rfl fun d _ => congrArg f (Fin.ext (by show 128 * (h.val / 2) + (64 + d.val) = 64 * h.val + d.val; omega))

/-! ## The scores -/

section

variable (q k : S16x2048x384.Idx → ℝ) (g : S16x2048x6.Idx → ℝ)

/-- The score of query `p` and key `j` of head `h`. -/
def score (b : Fin 16) (h : Fin 6) (p j : Fin 2048) : ℝ :=
  (∑ d, q (ix3 b p (hd h d)) * k (ix3 b j (hd h d))) * (1 / 8) + (g (ix3 b p h) - g (ix3 b j h))

/-- Its weight, zero past the query. -/
def weight (b : Fin 16) (h : Fin 6) (p j : Fin 2048) : ℝ := if j.val ≤ p.val then Real.exp (score q k g b h p j) else 0

theorem two_rpow (a : ℝ) : (2 : ℝ) ^ (a * (Real.log 2)⁻¹) = Real.exp a := by
  have : Real.log 2 ≠ 0 := (Real.log_pos (by norm_num)).ne'
  rw [Real.rpow_def_of_pos (by norm_num)]
  congr 1
  field_simp

/-- The reference's scores. -/
theorem rs_weight (x0 x1 : FVec Ideal S16x2048x384 .f32) (x3 : FVec Ideal S16x2048x6 .f32) (hq : ∀ i, x0 i = q i) (hk : ∀ i, x1 i = k i) (hg : ∀ i, x3 i = g i)
    (b : Fin 16) (h : Fin 6) (p j : Fin 2048) : Wn (Cert.ReferenceIdeal.Fox.rs x0 x1 x3 b h p j) (weight q k g b h p j) := by
  unfold Cert.ReferenceIdeal.Fox.rs weight
  by_cases hj : j.val ≤ p.val
  · rw [if_pos hj, if_pos hj]
    refine Or.inr ⟨score q k g b h p j, ?_, rfl⟩
    simp only [hq, hk, hg, ← EReal.coe_mul, ← EReal.coe_sub, ← coe_sum, ← EReal.coe_add]
    rfl
  · rw [if_neg hj, if_neg hj]
    exact Or.inl ⟨rfl, rfl⟩

variable (b : Fin 16) (t : Fin 8) (Y0 : FVec Ideal S1x1x384x256 .f32) (Y1 : FVec Ideal S1x2048x384 .bf16) (Y2 : FVec Ideal S1x8x384x256 .bf16)
  (Y3 : FVec Ideal S1x2048x128 .f32) (Y4 : FVec Ideal S1x1x8x256 .f32) (A2 : FVec Ideal S16x2048x384 .f32)
  (h0 : ∀ x p, Y0 (ix4 0 0 x p) = ((q (ix3 b (pos t p) x) : ℝ) : EReal)) (h1 : ∀ j x, Y1 (ix3 0 j x) = ((k (ix3 b j x) : ℝ) : EReal))
  (h2 : ∀ i x r, Y2 (ix4 0 i x r) = A2 (ix3 b (pos i r) x)) (h3 : ∀ j (h : Fin 6), Y3 (ix3 0 j ⟨h.val, by omega⟩) = ((g (ix3 b j h) : ℝ) : EReal))
  (h4 : ∀ (h : Fin 6) p, Y4 (ix4 0 0 ⟨h.val, by omega⟩ p) = ((g (ix3 b (pos t p) h) : ℝ) : EReal))

include h0 h1 h3 h4 in
/-- The kernel's scores, over log 2. -/
theorem sc_eq (h : Fin 6) (p : Fin 256) (j : Fin 2048) :
    sc Y1 Y3 Y4 (pQ Y0) h p j = ((score q k g b h (pos t p) j * (Real.log 2)⁻¹ : ℝ) : EReal) := by
  have eq (x : Fin 128) : Y1 (ix3 0 j (hp h x)) * pQ Y0 h (ix2 x p)
      = if x.val / 64 = h.val % 2 then (((k (ix3 b j (hp h x)) * (q (ix3 b (pos t p) (hp h x)) * (1 / 8 * (Real.log 2)⁻¹)) : ℝ)) : EReal) else 0 := by
    rw [pQ_apply, h0, h1, cq]
    split
    · rw [← EReal.coe_mul, ← EReal.coe_mul]
    · rw [mul_zero]
  unfold sc
  rw [Finset.sum_congr rfl fun x _ => eq x,
    sum_lanes h fun z => (((k (ix3 b j z) * (q (ix3 b (pos t p) z) * (1 / 8 * (Real.log 2)⁻¹)) : ℝ)) : EReal), ← coe_sum, h3, h4, c2,
    ← EReal.coe_mul, ← EReal.coe_mul, ← EReal.coe_sub, ← EReal.coe_add]
  congr 1
  unfold score
  rw [add_mul, Finset.sum_mul, Finset.sum_mul, sub_mul]
  congr 1
  exact Finset.sum_congr rfl fun d _ => by ring

include h0 h1 h2 h3 h4 in
/-- The kernel's element is the weighted average. -/
theorem oblk_eq (h : Fin 6) (d : Fin 64) (p : Fin 256) :
    oblk t.val Y0 Y1 Y2 Y3 Y4 (ix3 0 p (hd h d))
      = ((1 / ∑ j, weight q k g b h (pos t p) j : ℝ) : EReal)
        * ∑ j, A2 (ix3 b j (hd h d)) * ((weight q k g b h (pos t p) j : ℝ) : EReal) := by
  have ht8 := t.isLt
  let W : ℕ → Fin 256 → ℝ := fun i r => match i with
    | 0 => if r.val ≤ p.val then Real.exp (score q k g b h (pos t p) (jx t.val r)) else 0
    | i + 1 => Real.exp (score q k g b h (pos t p) (jx i r))
  rw [oblk_apply]
  have hw : ∀ i ≤ t.val, ∀ r, Wt (tsc (sc Y1 Y3 Y4 (pQ Y0) h p) t.val p i r) (W i r) := by
    intro i _ r
    have key (j : Fin 2048) : Wt (sc Y1 Y3 Y4 (pQ Y0) h p j) (Real.exp (score q k g b h (pos t p) j)) :=
      Or.inr ⟨_, sc_eq q k g b t Y0 Y1 Y3 Y4 h0 h1 h3 h4 h p j, (two_rpow _).symm⟩
    match i with
    | 0 =>
      by_cases hr : r.val ≤ p.val
      · simp only [W, tsc, if_pos hr]; exact key _
      · simp only [W, tsc, if_neg hr]; exact Or.inl ⟨rfl, rfl⟩
    | i + 1 => exact key _
  refine (run_div _ _ W t.val hw ⟨p, ?_⟩ d).trans ?_
  · simp only [W, le_refl, if_true]; exact Real.exp_pos _
  rw [sum_order (fun j => Real.exp (score q k g b h (pos t p) j)) t p W (fun r => rfl) (fun k _ r => rfl),
    sum_order (fun j => A2 (ix3 b j (hd h d)) * ((Real.exp (score q k g b h (pos t p) j) : ℝ) : EReal))
      t p (fun i r => tv Y2 h t.val i d r * ((W i r : ℝ) : EReal)) (fun r => ?_) (fun i hi r => ?_)]
  · refine congrArg₂ (· * ·) rfl (Finset.sum_congr rfl fun j _ => ?_)
    unfold weight
    split
    · rfl
    · rw [EReal.coe_zero, mul_zero]
  · have e : tv Y2 h t.val 0 d r = A2 (ix3 b (jx t.val r) (hd h d)) := by
      rw [jx_eq, ← h2]
      unfold tv
      refine congrArg (fun z => Y2 (ix4 0 z (hd h d) r)) (Fin.ext ?_)
      show ch t.val 0 % 8 = t.val
      rw [ch, if_pos rfl]; omega
    rw [e]
    by_cases hr : r.val ≤ p.val
    · simp only [W, if_pos hr]
    · simp only [W, if_neg hr, EReal.coe_zero, mul_zero]
  · have e : tv Y2 h t.val (i + 1) d r = A2 (ix3 b (jx i r) (hd h d)) := by
      have hi8 : i < 8 := by omega
      rw [jx_eq ⟨i, hi8⟩, ← h2]
      unfold tv
      refine congrArg (fun z => Y2 (ix4 0 z (hd h d) r)) (Fin.ext ?_)
      show ch t.val (i + 1) % 8 = i
      rw [ch, if_neg (by omega)]; simp; omega
    rw [e]

end

/-- The reference's element is the weighted average. -/
theorem ref_eq (q k : S16x2048x384.Idx → ℝ) (g : S16x2048x6.Idx → ℝ) (x0 x1 x2 : FVec Ideal S16x2048x384 .f32) (x3 : FVec Ideal S16x2048x6 .f32)
    (hq : ∀ i, x0 i = q i) (hk : ∀ i, x1 i = k i) (hg : ∀ i, x3 i = g i) (b : Fin 16) (p : Fin 2048) (h : Fin 6) (d : Fin 64) :
    Cert.ReferenceIdeal.Read.val_main_v35 (F := Ideal) x0 x1 x2 x3 (ix3 b p (hd h d))
      = ((1 / ∑ j, weight q k g b h p j : ℝ) : EReal) * ∑ j, x2 (ix3 b j (hd h d)) * ((weight q k g b h p j : ℝ) : EReal) :=
  (Cert.ReferenceIdeal.Fox.v35_apply x0 x1 x2 x3 b p h d).trans
    (softmax_eq _ _ _ (fun j => rs_weight q k g x0 x1 x3 hq hk hg b h p j) ⟨p, by unfold weight; rw [if_pos le_rfl]; exact Real.exp_pos _⟩)

/-- The kernel's result array is the reference's, where queries, keys and gates are real. -/
theorem result_eq (m : (ℓ : Loc nD τ sig) → Buf (Elt Ideal) ℓ) (c : Dev nD) (x0 x1 x2 : FVec Ideal S16x2048x384 .f32) (x3 : FVec Ideal S16x2048x6 .f32)
    (e0 : m ((c : Thread nD τ).loc main_arg0) = x0) (e1 : m ((c : Thread nD τ).loc main_arg1) = x1)
    (e2 : m ((c : Thread nD τ).loc main_arg2) = x2) (e3 : m ((c : Thread nD τ).loc main_arg3) = x3)
    (q k : S16x2048x384.Idx → ℝ) (g : S16x2048x6.Idx → ℝ) (hq : ∀ i, x0 i = q i) (hk : ∀ i, x1 i = k i) (hg : ∀ i, x3 i = g i) :
    (dats m 0 c).arrAt 5 cfg0.N = Cert.ReferenceIdeal.Read.val_main_v35 (F := Ideal) x0 x1 x2 x3 := by
  refine (dats m 0 c).arrAt_eq_of_covers 5 _ (by decide +kernel) fun t hf y => ?_
  blk_simp
  rw [after0_5]
  have hy := exists_hd y
  obtain ⟨p, h, d, rfl⟩ := hy
  refine (oblk_eq q k g (gb t) (gt t) _ _ _ _ _ x2 (fun x p => ?_) (fun j x => ?_) (fun i x r => ?_) (fun j h => ?_) (fun h p => ?_) h d p).trans ?_
  · exact (blk_q m c t x p).trans ((congrFun e0 _).trans (hq _))
  · exact (blk_k m c t j x).trans ((congrFun e1 _).trans (hk _))
  · exact (blk_v m c t i x r).trans (congrFun e2 _)
  · exact (blk_c m c t j h).trans ((congrFun e3 _).trans (hg _))
  · exact (blk_g m c t h p).trans ((congrFun e3 _).trans (hg _))
  refine (ref_eq q k g x0 x1 x2 x3 hq hk hg (gb t) (pos (gt t) p) h d).symm.trans ?_
  refine congrArg (Cert.ReferenceIdeal.Read.val_main_v35 (F := Ideal) x0 x1 x2 x3) ?_
  blk_ext [index5]
  all_goals first | rfl | (show 256 * (grid0.coords t 1).val + p.val = _; omega)

end Cert.KernelIdeal.Fox.Exact

end
-- ==== Proof.Fox.Finite.lean ====
/- What the precondition says over the extended reals: every query, key and gate is real. -/
module

public import proofs.«01_k».proof.Pre_finite_scores
public import Idealize.ShloMosaic.Lib.ReduceAll
public import Idealize.ShloMosaic.Lib.Affine
public import Idealize.ShloMosaic.Lib.ValueIdx
public import Idealize.ShloMosaic.PureOps.Ideal.Laws

@[expose] public section

noncomputable section

namespace Cert.Pre_finite_scores.Fox

open Cert.Pre_finite_scores
open Idealize.ShloMosaic

/-- The predicate's side conditions on shapes. -/
theorem facts : Cert.Pre_finite_scores.Facts := by
  constructor <;> decide

theorem ofBits_inf : Ideal.ofBits FTy.f32 0x7F800000#32 = ⊤ := by
  simp only [Ideal.ofBits]; rfl

/-- An element whose absolute value is below infinity is real. -/
theorem real_of_lt {x : EReal} (h : max x (-x) < ⊤) : x = ((x.toReal : ℝ) : EReal) := by
  have h1 : x ≠ ⊤ := fun e => absurd (lt_of_le_of_lt (le_max_left _ _) h) (by rw [e]; exact lt_irrefl _)
  have h2 : x ≠ ⊥ := fun e => absurd (lt_of_le_of_lt (le_max_right _ _) h) (by rw [e, EReal.neg_bot]; exact lt_irrefl _)
  exact (EReal.coe_toReal h1 h2).symm

instance : Subsingleton S_.Idx := ⟨fun a b => funext fun k => Fin.elim0 k⟩

/-- One conjunct: if every comparison of the absolute values with infinity holds, every element is real. -/
theorem real_of_all {s : Shape} {axes : List (Fin s.rank)} (x : FVec Ideal s .f32) (hb : S_.BroadcastsInDim s (![] : Fin 0 → Fin s.rank))
    (h : s.ReducesTo axes S_) (hu : 0 < S_.numel) (i0 : S_.Idx)
    (e : Host.reduce IntOp.andi (cmpf .olt (Host.absf x) (broadcastInDim s ![] hb (constant (F := Ideal) S_ .f32 0x7F800000#32))) (constantI S_ 1 1#1) h hu i0 = 1#1)
    (i : s.Idx) : x i = ((EReal.toReal (x i) : ℝ) : EReal) := by
  have e1 : Ideal.cmp .olt (max (x i) (-(x i))) (Ideal.ofBits FTy.f32 0x7F800000#32) = 1#1 := Host.reduce_andi_all _ _ h hu i0 e i
  rw [ofBits_inf] at e1
  refine real_of_lt ?_
  by_contra hn
  simp only [Ideal.cmp, hn, decide_false] at e1
  exact absurd e1 (by decide)

/-- The precondition's meaning. -/
theorem real (hP : Cert.Pre_finite_scores.Facts) (x0 x1 x2 : FVec Ideal S16x2048x384 .f32) (x3 : FVec Ideal S16x2048x6 .f32)
    (h : Cert.Pre_finite_scores.fn (F := Ideal) x0 x1 x2 x3 = fun _ => 1#1) :
    (∀ i, x0 i = ((EReal.toReal (x0 i) : ℝ) : EReal)) ∧ (∀ i, x1 i = ((EReal.toReal (x1 i) : ℝ) : EReal)) ∧ ∀ i, x3 i = ((EReal.toReal (x3 i) : ℝ) : EReal) := by
  have h0 := congrFun h (fun k => Fin.elim0 k)
  dsimp only [fn] at h0
  obtain ⟨h01, h3⟩ := IntOp.andi_eq_one.mp h0
  obtain ⟨h0, h1⟩ := IntOp.andi_eq_one.mp h01
  exact ⟨real_of_all x0 _ _ _ _ h0, real_of_all x1 _ _ _ _ h1, real_of_all x3 _ _ _ _ h3⟩

end Cert.Pre_finite_scores.Fox

end
-- ==== Proof.Ffn.Model.lean ====
/- The feed-forward of one row: the norm, the two products with the gate between, the half step and the final norm. -/
module

public import Idealize.ShloMosaic.PureOps.Ideal.Laws

@[expose] public section

noncomputable section

namespace Cert.Ffn

open Idealize.ShloMosaic

/-- One over the root of a row's mean square, the mean shifted by the norm's epsilon. -/
def scale (f : Fin 1024 → EReal) : EReal :=
  Ideal.rsqrt (Ideal.div (∑ k, f k * f k) (Ideal.ofBits .f32 0x44800000#32) + Ideal.ofBits .f32 0x358637BD#32)

/-- A row's norm with gains `g`. -/
def nrm (f g : Fin 1024 → EReal) (k : Fin 1024) : EReal := f k * scale f * g k

/-- The hidden layer at `f`: the gate times its logistic, times the other product. -/
def act (h : Fin 1024 → EReal) (W : Fin 1024 → Fin 5632 → EReal) (f : Fin 2816) : EReal :=
  (∑ k, h k * W k ⟨f.val, by omega⟩) * Ideal.logistic (∑ k, h k * W k ⟨f.val, by omega⟩) * ∑ k, h k * W k ⟨2816 + f.val, by omega⟩

/-- The row after the half step. -/
def step (x g : Fin 1024 → EReal) (W : Fin 1024 → Fin 5632 → EReal) (V : Fin 2816 → Fin 1024 → EReal) (d : Fin 1024) : EReal :=
  x d + Ideal.ofBits .f32 0x3F000000#32 * ∑ f, act (nrm x g) W f * V f d

/-- The row after the half step and the final norm. -/
def row (x g : Fin 1024 → EReal) (W : Fin 1024 → Fin 5632 → EReal) (V : Fin 2816 → Fin 1024 → EReal) (fg : Fin 1024 → EReal) (d : Fin 1024) : EReal :=
  nrm (step x g W V) fg d

end Cert.Ffn

end
-- ==== Proof.Ffn.Block.lean ====
/- What the feed-forward's body leaves in the output's block, read at an index over the extended reals. -/
module

public import proofs.«01_k».proof.Proof.Gen.Kernel2Ideal.Value
public import proofs.«01_k».proof.Proof.Ffn.Model
public import Idealize.ShloMosaic.Lib.Pointwise
public import Idealize.ShloMosaic.Lib.ValueIdx
public import Idealize.ShloMosaic.Lib.VecWindow
public import Idealize.ShloMosaic.Lib.Pipeline.ValueKit.Acc

@[expose] public section

set_option maxRecDepth 16384

noncomputable section

namespace Cert.Kernel2Ideal.Ffn

open Cert.Kernel2Ideal Cert.Kernel2Ideal.Gen Cert.Ffn
open Idealize.ShloMosaic Idealize.ShloMosaic.Tactic

/-- The normed rows. -/
theorem norm_apply (x : FVec Ideal S1024x1024 .f32) (g : FVec Ideal S1x1x1024 .f32) (p k : Fin 1024) :
    k0_pay3 (F := Ideal) x g (ix2 p k) = nrm (fun k => x (ix2 p k)) (fun k => g (ix3 0 0 k)) k := by
  pointwise [k0_pay3, nrm, scale]

/-- A tile of the hidden layer. -/
theorem tile_apply (h : FVec Ideal S1024x1024 .bf16) (wg wu : FVec Ideal S1x1024x256 .bf16) (p : Fin 1024) (e : Fin 256) :
    k0_pay6 (F := Ideal) h wg h wu (ix2 p e) =
      (∑ k, h (ix2 p k) * wg (ix3 0 k e)) * Ideal.logistic (∑ k, h (ix2 p k) * wg (ix3 0 k e)) * ∑ k, h (ix2 p k) * wu (ix3 0 k e) := by
  pointwise [k0_pay6]

/-- The half step and the final norm. -/
theorem final_apply (x : FVec Ideal S1024x1024 .f32) (a : FVec Ideal S1024x2816 .bf16) (V : FVec Ideal S1x2816x1024 .bf16) (fg : FVec Ideal S1x1x1024 .f32) (p d : Fin 1024) :
    k0_pay2 (F := Ideal) x a V fg (ix2 p d) =
      nrm (fun d => x (ix2 p d) + Ideal.ofBits .f32 0x3F000000#32 * ∑ f, a (ix2 p f) * V (ix3 0 f d)) (fun k => fg (ix3 0 0 k)) d := by
  pointwise [k0_pay2, nrm, scale]

/-- A tile of the hidden layer's columns, written at column `o`: the hidden layer there. -/
theorem tile_eq (h : FVec Ideal S1024x1024 .bf16) (w : FVec Ideal S1x1024x5632 .bf16) (o o' : ℕ) (ho : o + 256 ≤ 2816) (ho' : o' = 2816 + o)
    (inb : ∀ a, (![0, 0, o] : Fin 3 → ℕ) a + S1x1024x256.size a ≤ S1x1024x5632.size a) (inb' : ∀ a, (![0, 0, o'] : Fin 3 → ℕ) a + S1x1024x256.size a ≤ S1x1024x5632.size a)
    (inb2 : ∀ a, (![0, o] : Fin 2 → ℕ) a + S1024x256.size a ≤ S1024x2816.size a) (x : S1024x256.Idx) :
    k0_pay6 (F := Ideal) h (View.ld w (Rect.unit (s := S1x1024x5632) ![0, 0, o] S1x1024x256.size inb)) h (View.ld w (Rect.unit (s := S1x1024x5632) ![0, 0, o'] S1x1024x256.size inb')) x =
      (fun y : S1024x2816.Idx => act (fun k => h (ix2 (y 0) k)) (fun k f => w (ix3 0 k f)) (y 1)) ((Rect.unit (s := S1024x2816) ![0, o] S1024x256.size inb2).emb x) := by
  subst ho'
  obtain ⟨p, e, rfl⟩ : ∃ (p : Fin 1024) (e : Fin 256), x = ix2 p e := ⟨x 0, x 1, funext fun a => by match a with | ⟨0, _⟩ => rfl | ⟨1, _⟩ => rfl⟩
  rw [tile_apply]
  have e0 : ((Rect.unit (s := S1024x2816) ![0, o] S1024x256.size inb2).emb (ix2 p e)) 0 = p := Fin.ext (show 0 + 1 * p.val = p.val by omega)
  have e1 : (((Rect.unit (s := S1024x2816) ![0, o] S1024x256.size inb2).emb (ix2 p e)) 1).val = o + e.val := show o + 1 * e.val = _ by omega
  have g1 : ∀ k, View.ld (Val := Elt Ideal) (e' := .bf16) w (Rect.unit (s := S1x1024x5632) ![0, 0, o] S1x1024x256.size inb) (ix3 0 k e) = w (ix3 0 k ⟨o + e.val, by omega⟩) := fun k => by
    refine congrArg w (funext fun a => Fin.ext ?_)
    match a with
    | ⟨0, _⟩ => rfl
    | ⟨1, _⟩ => show 0 + 1 * k.val = k.val; omega
    | ⟨2, _⟩ => show o + 1 * e.val = o + e.val; omega
  have g2 : ∀ k, View.ld (Val := Elt Ideal) (e' := .bf16) w (Rect.unit (s := S1x1024x5632) ![0, 0, 2816 + o] S1x1024x256.size inb') (ix3 0 k e) = w (ix3 0 k ⟨2816 + (o + e.val), by omega⟩) := fun k => by
    refine congrArg w (funext fun a => Fin.ext ?_)
    match a with
    | ⟨0, _⟩ => rfl
    | ⟨1, _⟩ => show 0 + 1 * k.val = k.val; omega
    | ⟨2, _⟩ => show (2816 + o) + 1 * e.val = 2816 + (o + e.val); omega
  simp only [g1, g2, e0, act, e1]

variable (m : (ℓ : Loc nD τ sig) → Buf (Elt Ideal) ℓ)

/-- What the body leaves in the output's block: each row's feed-forward. -/
theorem body_apply (c : Dev nD) (t : Fin cfg0.N) (x0 : FVec Ideal S1024x1024 .f32) (x1 : FVec Ideal S1x1x1024 .f32) (x2 : FVec Ideal S1x1024x5632 .bf16) (x3 : FVec Ideal S1x2816x1024 .bf16) (x4 : FVec Ideal S1x1x1024 .f32) (p d : Fin 1024) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) x0 x1 x2 x3 x4 (ix2 p d)
      = row (fun k => x0 (ix2 p k)) (fun k => x1 (ix3 0 0 k)) (fun k f => x2 (ix3 0 k f)) (fun f d => x3 (ix3 0 f d)) (fun k => x4 (ix3 0 0 k)) d := by
  frame_out
  rw [final_apply]
  refine congrArg (fun f => nrm f (fun k => x4 (ix3 0 0 k)) d) (funext fun d => congrArg (fun s => x0 (ix2 p d) + Ideal.ofBits .f32 0x3F000000#32 * s) (Finset.sum_congr rfl fun f _ => congrArg (fun a => a * x3 (ix3 0 f d)) ?_))
  unfold View.readCov
  rw [View.readAt_full]
  refine (View.read_writes_apply_of_pieces _ _ (fun y : S1024x2816.Idx => act (fun k => k0_pay3 (F := Ideal) (x0) (x1) (ix2 (y 0) k)) (fun k f => x2 (ix3 0 k f)) (y 1)) _ ?_ (ix2 p f) ?_).trans ?_
  · simp only [List.forall_mem_cons]
    refine ⟨?_, ?_, ?_, ?_, ?_, ?_, ?_, ?_, ?_, ?_, ?_, fun _ h => absurd h List.not_mem_nil⟩
    · exact tile_eq _ _ 2560 _ (by norm_num) rfl _ _ _
    · exact tile_eq _ _ 2304 _ (by norm_num) rfl _ _ _
    · exact tile_eq _ _ 2048 _ (by norm_num) rfl _ _ _
    · exact tile_eq _ _ 1792 _ (by norm_num) rfl _ _ _
    · exact tile_eq _ _ 1536 _ (by norm_num) rfl _ _ _
    · exact tile_eq _ _ 1280 _ (by norm_num) rfl _ _ _
    · exact tile_eq _ _ 1024 _ (by norm_num) rfl _ _ _
    · exact tile_eq _ _ 768 _ (by norm_num) rfl _ _ _
    · exact tile_eq _ _ 512 _ (by norm_num) rfl _ _ _
    · exact tile_eq _ _ 256 _ (by norm_num) rfl _ _ _
    · exact tile_eq _ _ 0 _ (by norm_num) rfl _ _ _
  · exact View.cover_of_tiledL _ ![1024, 256] (by rfl) _
  · exact congrArg (fun h => act h _ _) (funext fun k => norm_apply _ _ p k)

/-- What point `t` leaves in the output's block, from the blocks it reads. -/
theorem out_apply (c : Dev nD) (t : Fin cfg0.N) (x0 : FVec Ideal S1024x1024 .f32) (x1 : FVec Ideal S1x1x1024 .f32) (x2 : FVec Ideal S1x1024x5632 .bf16) (x3 : FVec Ideal S1x2816x1024 .bf16) (x4 : FVec Ideal S1x1x1024 .f32)
    (h0 : iblk m c 0 t = x0) (h1 : iblk m c 1 t = x1) (h2 : iblk m c 2 t = x2) (h3 : iblk m c 3 t = x3) (h4 : iblk m c 4 t = x4) (p d : Fin 1024) :
    outsAt0 m c t (ix2 p d) = row (fun k => x0 (ix2 p k)) (fun k => x1 (ix3 0 0 k)) (fun k f => x2 (ix3 0 k f)) (fun f d => x3 (ix3 0 f d)) (fun k => x4 (ix3 0 0 k)) d := by
  subst h0 h1 h2 h3 h4
  exact body_apply c t _ _ _ _ _ p d

end Cert.Kernel2Ideal.Ffn

end
-- ==== Proof.Ffn.Reference.lean ====
/- The feed-forward's reference, read at an index over the extended reals. -/
module

public import proofs.«01_k».proof.Proof.Gen.Reference2Ideal.Read
public import proofs.«01_k».proof.Proof.Ffn.Model
public import Idealize.ShloMosaic.Lib.Pointwise
public import Idealize.ShloMosaic.Lib.Tactic.CleanTypes

@[expose] public section

set_option maxRecDepth 16384

noncomputable section

namespace Cert.Reference2Ideal.Ffn

open Cert.Reference2Ideal Cert.Reference2Ideal.Read Cert.Ffn
open Idealize.ShloMosaic

theorem ofBits_zero : Ideal.ofBits FTy.f32 0x00000000#32 = 0 := by
  simp [Ideal.ofBits, Ideal.ieee]

theorem ofBits_one : Ideal.ofBits FTy.f32 0x3F800000#32 = 1 := by
  simp [Ideal.ofBits, Ideal.ieee]; rw [← EReal.coe_mul]; norm_num

variable (x0 : FVec Ideal S16x2048x1024 .f32) (x1 : FVec Ideal S2x1024 .f32) (x2 : FVec Ideal S2x1024x5632 .f32) (x3 : FVec Ideal S2x2816x1024 .f32) (x4 : FVec Ideal S1024 .f32)

/-- The normed input. -/
theorem v14_apply (b : Fin 16) (s : Fin 2048) (k : Fin 1024) :
    val_main_v14 (F := Ideal) x0 x1 (ix3 b s k) = nrm (fun k => x0 (ix3 b s k)) (fun k => x1 (ix2 1 k)) k := by
  unfold val_main_v14
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1, nrm, scale]

/-- The first weights. -/
theorem v16_apply (k : Fin 1024) (f : Fin 5632) : val_main_v16 (F := Ideal) x2 (ix2 k f) = x2 (ix3 1 k f) := by
  unfold val_main_v16
  pointwise [val_main_v15]

/-- The hidden layer. -/
theorem v23_apply (b : Fin 16) (s : Fin 2048) (f : Fin 2816) :
    val_main_v23 (F := Ideal) x0 x1 x2 (ix3 b s f) = act (nrm (fun k => x0 (ix3 b s k)) (fun k => x1 (ix2 1 k))) (fun k f => x2 (ix3 1 k f)) f := by
  unfold val_main_v23
  pointwise [val_main_v22, val_main_v21, val_main_v20, val_main_call0_v5, val_main_call0_v4, val_main_call0_v3, val_main_call0_v2, val_main_call0_v1, val_main_call0_v0, val_main_call0_cst, val_main_call0_cst_0, val_main_v19]
  simp only [v16_apply, v14_apply, act]
  rfl

/-- The input after the half step. -/
theorem v27_apply (b : Fin 16) (s : Fin 2048) (d : Fin 1024) :
    val_main_v27 (F := Ideal) x0 x1 x2 x3 (ix3 b s d) =
      step (fun k => x0 (ix3 b s k)) (fun k => x1 (ix2 1 k)) (fun k f => x2 (ix3 1 k f)) (fun f d => x3 (ix3 1 f d)) d := by
  unfold val_main_v27
  pointwise [val_main_v26, val_main_v25, val_main_v24, val_main_v18, val_main_v17, val_main_cst_2]
  simp only [v23_apply, step]

/-- The reference before its rows are laid out. -/
theorem v40_apply (b : Fin 16) (s : Fin 2048) (d : Fin 1024) :
    val_main_v40 (F := Ideal) x0 x1 x2 x3 x4 (ix3 b s d) =
      row (fun k => x0 (ix3 b s k)) (fun k => x1 (ix2 1 k)) (fun k f => x2 (ix3 1 k f)) (fun f d => x3 (ix3 1 f d)) (fun k => x4 (ix1 k)) d := by
  unfold val_main_v40
  pointwise [val_main_v39, val_main_v38, val_main_v37, val_main_v36, val_main_v35, val_main_v34, val_main_v33, val_main_v32, val_main_v31, val_main_v30, val_main_v29, val_main_v28, val_main_cst_3, val_main_cst_4, val_main_cst_5]
  simp only [v27_apply, row, nrm, scale]

/-- The reference's result at a row. -/
theorem v41_apply (b : Fin 16) (s : Fin 2048) (r : Fin 32768) (d : Fin 1024) (hr : r.val = 2048 * b.val + s.val) :
    val_main_v41 (F := Ideal) x0 x1 x2 x3 x4 (ix2 r d) =
      row (fun k => x0 (ix3 b s k)) (fun k => x1 (ix2 1 k)) (fun k f => x2 (ix3 1 k f)) (fun f d => x3 (ix3 1 f d)) (fun k => x4 (ix1 k)) d := by
  rw [val_main_v41_apply, ← v40_apply]
  refine congrArg (val_main_v40 (F := Ideal) x0 x1 x2 x3 x4) (funext fun a => Fin.ext ?_)
  match a with
  | ⟨0, _⟩ => show (r.val * 1024 + d.val) / 2097152 = b.val; omega
  | ⟨1, _⟩ => show (r.val * 1024 + d.val) / 1024 % 2048 = s.val; omega
  | ⟨2, _⟩ => show (r.val * 1024 + d.val) % 1024 = d.val; omega

end Cert.Reference2Ideal.Ffn

end
-- ==== Proof.Ffn.Equal.lean ====
/- The feed-forward's result array is its reference's. -/
module

public import proofs.«01_k».proof.Proof.Ffn.Block
public import proofs.«01_k».proof.Proof.Ffn.Reference
public import Idealize.ShloMosaic.Lib.StableHlo.ReadAt
public import Idealize.ShloMosaic.Lib.Pipeline.ValueKit.Geometry

@[expose] public section

set_option maxRecDepth 16384

noncomputable section

namespace Cert.Kernel2Ideal.Ffn

open Cert.Kernel2Ideal Cert.Kernel2Ideal.Gen Cert.Ffn
open Idealize.ShloMosaic
open Idealize.ShloMosaic.TcCoe

variable (m : (ℓ : Loc nD τ sig) → Buf (Elt Ideal) ℓ)

/-- The sequence of row `p` of block `t`. -/
def sq (t : Fin 32) : Fin 16 := ⟨t.val / 2, by omega⟩

/-- The position of row `p` of block `t` in its sequence. -/
def posOf (t : Fin 32) (p : Fin 1024) : Fin 2048 := ⟨1024 * (t.val % 2) + p.val, by omega⟩

/-- The row's number among all. -/
def rowOf (t : Fin 32) (p : Fin 1024) : Fin 32768 := ⟨1024 * t.val + p.val, by omega⟩

/-- The rows. -/
theorem V_x (c : Dev nD) (t : Fin 32) (p k : Fin 1024) :
    V m c main_v0 (ix2 (rowOf t p) k) = m ((c : Thread nD τ).loc main_arg0) (ix3 (sq t) (posOf t p) k) := by
  unfold V
  after_reads_at
  refine congrArg (m ((c : Thread nD τ).loc main_arg0)) (funext fun a => Fin.ext ?_)
  match a with
  | ⟨0, _⟩ => show (1024 * t.val + p.val) / 2048 = t.val / 2; omega
  | ⟨1, _⟩ => show (1024 * t.val + p.val) % 2048 = 1024 * (t.val % 2) + p.val; omega
  | ⟨2, _⟩ => rfl

/-- The gains. -/
theorem V_g (c : Dev nD) (k : Fin 1024) :
    V m c main_v1 (ix3 1 0 k) = m ((c : Thread nD τ).loc main_arg1) (ix2 1 k) := by
  unfold V
  after_reads_at
  all_goals rfl

/-- The first weights. -/
theorem V_wi (c : Dev nD) (k : Fin 1024) (f : Fin 5632) :
    V m c main_v2 (ix3 1 k f) = m ((c : Thread nD τ).loc main_arg2) (ix3 1 k f) := by
  unfold V
  after_reads_at
  all_goals rfl

/-- The second weights. -/
theorem V_wo (c : Dev nD) (f : Fin 2816) (d : Fin 1024) :
    V m c main_v3 (ix3 1 f d) = m ((c : Thread nD τ).loc main_arg3) (ix3 1 f d) := by
  unfold V
  after_reads_at
  all_goals rfl

/-- The final gains. -/
theorem V_fg (c : Dev nD) (k : Fin 1024) :
    V m c main_v4 (ix3 0 0 k) = m ((c : Thread nD τ).loc main_arg4) (ix1 k) := by
  unfold V
  after_reads_at
  all_goals rfl

theorem index0 : ∀ t : Fin cfg0.N, win0_0.index t = ![t.val, 0] := (by decide +kernel : ∀ t : Fin grid0.N, _)
theorem index1 : ∀ t : Fin cfg0.N, win0_1.index t = ![1, 0, 0] := (by decide +kernel : ∀ t : Fin grid0.N, _)
theorem index2 : ∀ t : Fin cfg0.N, win0_2.index t = ![1, 0, 0] := (by decide +kernel : ∀ t : Fin grid0.N, _)
theorem index3 : ∀ t : Fin cfg0.N, win0_3.index t = ![1, 0, 0] := (by decide +kernel : ∀ t : Fin grid0.N, _)
theorem index4 : ∀ t : Fin cfg0.N, win0_4.index t = ![0, 0, 0] := (by decide +kernel : ∀ t : Fin grid0.N, _)
theorem index5 : ∀ t : Fin cfg0.N, win0_5.index t = ![t.val, 0] := (by decide +kernel : ∀ t : Fin grid0.N, _)

/-- The rows' block. -/
theorem blk_x (c : Dev nD) (t : Fin cfg0.N) (p k : Fin 1024) :
    iblk m c 0 t (ix2 p k) = m ((c : Thread nD τ).loc main_arg0) (ix3 (sq t) (posOf t p) k) := by
  blk_simp [iblk]
  refine (congrArg (V m c main_v0) ?_).trans (V_x m c t p k)
  blk_ext [index0]
  all_goals first | rfl | (show _ = 1024 * t.val + p.val; omega)

/-- The gains' block. -/
theorem blk_g (c : Dev nD) (t : Fin cfg0.N) (k : Fin 1024) :
    iblk m c 1 t (ix3 0 0 k) = m ((c : Thread nD τ).loc main_arg1) (ix2 1 k) := by
  blk_simp [iblk]
  refine (congrArg (V m c main_v1) ?_).trans (V_g m c k)
  blk_ext [index1]
  all_goals rfl

/-- The first weights' block. -/
theorem blk_wi (c : Dev nD) (t : Fin cfg0.N) (k : Fin 1024) (f : Fin 5632) :
    iblk m c 2 t (ix3 0 k f) = m ((c : Thread nD τ).loc main_arg2) (ix3 1 k f) := by
  blk_simp [iblk]
  refine (congrArg (V m c main_v2) ?_).trans (V_wi m c k f)
  blk_ext [index2]
  all_goals rfl

/-- The second weights' block. -/
theorem blk_wo (c : Dev nD) (t : Fin cfg0.N) (f : Fin 2816) (d : Fin 1024) :
    iblk m c 3 t (ix3 0 f d) = m ((c : Thread nD τ).loc main_arg3) (ix3 1 f d) := by
  blk_simp [iblk]
  refine (congrArg (V m c main_v3) ?_).trans (V_wo m c f d)
  blk_ext [index3]
  all_goals rfl

/-- The final gains' block. -/
theorem blk_fg (c : Dev nD) (t : Fin cfg0.N) (k : Fin 1024) :
    iblk m c 4 t (ix3 0 0 k) = m ((c : Thread nD τ).loc main_arg4) (ix1 k) := by
  blk_simp [iblk]
  refine (congrArg (V m c main_v4) ?_).trans (V_fg m c k)
  blk_ext [index4]
  all_goals rfl

/-- A row's feed-forward, of functions that agree. -/
theorem row_congr {x x' g g' : Fin 1024 → EReal} {W W' : Fin 1024 → Fin 5632 → EReal} {V V' : Fin 2816 → Fin 1024 → EReal} {f f' : Fin 1024 → EReal}
    (hx : ∀ k, x k = x' k) (hg : ∀ k, g k = g' k) (hW : ∀ k f, W k f = W' k f) (hV : ∀ f d, V f d = V' f d) (hf : ∀ k, f k = f' k) (d : Fin 1024) :
    row x g W V f d = row x' g' W' V' f' d := by
  obtain rfl : x = x' := funext hx
  obtain rfl : g = g' := funext hg
  obtain rfl : W = W' := funext fun k => funext (hW k)
  obtain rfl : V = V' := funext fun k => funext (hV k)
  obtain rfl : f = f' := funext hf
  rfl

/-- The kernel's result array is the reference's. -/
theorem result_eq (c : Dev nD) (x0 : FVec Ideal S16x2048x1024 .f32) (x1 : FVec Ideal S2x1024 .f32) (x2 : FVec Ideal S2x1024x5632 .f32)
    (x3 : FVec Ideal S2x2816x1024 .f32) (x4 : FVec Ideal S1024 .f32)
    (e0 : m ((c : Thread nD τ).loc main_arg0) = x0) (e1 : m ((c : Thread nD τ).loc main_arg1) = x1)
    (e2 : m ((c : Thread nD τ).loc main_arg2) = x2) (e3 : m ((c : Thread nD τ).loc main_arg3) = x3) (e4 : m ((c : Thread nD τ).loc main_arg4) = x4) :
    (dats m 0 c).arrAt 5 cfg0.N = Cert.Reference2Ideal.Read.val_main_v41 (F := Ideal) x0 x1 x2 x3 x4 := by
  refine (dats m 0 c).arrAt_eq_of_covers 5 _ (by decide +kernel) fun t hf y => ?_
  blk_simp
  rw [after0_5]
  obtain ⟨p, d, rfl⟩ : ∃ (p d : Fin 1024), y = ix2 p d := ⟨y 0, y 1, funext fun a => by match a with | ⟨0, _⟩ => rfl | ⟨1, _⟩ => rfl⟩
  refine (out_apply m c t _ _ _ _ _ rfl rfl rfl rfl rfl p d).trans ?_
  refine (row_congr (fun k => (blk_x m c t p k).trans (congrFun e0 _)) (fun k => (blk_g m c t k).trans (congrFun e1 _)) (fun k f => (blk_wi m c t k f).trans (congrFun e2 _))
    (fun f d => (blk_wo m c t f d).trans (congrFun e3 _)) (fun k => (blk_fg m c t k).trans (congrFun e4 _)) d).trans ?_
  refine (Cert.Reference2Ideal.Ffn.v41_apply x0 x1 x2 x3 x4 (sq t) (posOf t p) (rowOf t p) d (by simp only [rowOf, sq, posOf]; omega)).symm.trans ?_
  refine congrArg (Cert.Reference2Ideal.Read.val_main_v41 (F := Ideal) x0 x1 x2 x3 x4) ?_
  blk_ext [index5]
  all_goals first | rfl | (show 1024 * t.val + p.val = _; omega)

end Cert.Kernel2Ideal.Ffn

end
-- ==== Proof.Ffn.Plain.Block.lean ====
/- What the body of the feed-forward without the final norm leaves in the output's block, read at an index over the extended reals. -/
module

public import proofs.«01_k».proof.Proof.Gen.Kernel5Ideal.Value
public import proofs.«01_k».proof.Proof.Ffn.Model
public import Idealize.ShloMosaic.Lib.Pointwise
public import Idealize.ShloMosaic.Lib.ValueIdx
public import Idealize.ShloMosaic.Lib.VecWindow
public import Idealize.ShloMosaic.Lib.Pipeline.ValueKit.Acc

@[expose] public section

set_option maxRecDepth 16384

noncomputable section

namespace Cert.Kernel5Ideal.Ffn

open Cert.Kernel5Ideal Cert.Kernel5Ideal.Gen Cert.Ffn
open Idealize.ShloMosaic Idealize.ShloMosaic.Tactic

/-- The normed rows. -/
theorem norm_apply (x : FVec Ideal S1024x1024 .f32) (g : FVec Ideal S1x1x1024 .f32) (p k : Fin 1024) :
    k0_pay3 (F := Ideal) x g (ix2 p k) = nrm (fun k => x (ix2 p k)) (fun k => g (ix3 0 0 k)) k := by
  pointwise [k0_pay3, nrm, scale]

/-- A tile of the hidden layer. -/
theorem tile_apply (h : FVec Ideal S1024x1024 .bf16) (wg wu : FVec Ideal S1x1024x256 .bf16) (p : Fin 1024) (e : Fin 256) :
    k0_pay6 (F := Ideal) h wg h wu (ix2 p e) =
      (∑ k, h (ix2 p k) * wg (ix3 0 k e)) * Ideal.logistic (∑ k, h (ix2 p k) * wg (ix3 0 k e)) * ∑ k, h (ix2 p k) * wu (ix3 0 k e) := by
  pointwise [k0_pay6]

/-- The half step. -/
theorem final_apply (x : FVec Ideal S1024x1024 .f32) (a : FVec Ideal S1024x2816 .bf16) (V : FVec Ideal S1x2816x1024 .bf16) (p d : Fin 1024) :
    k0_pay2 (F := Ideal) x a V (ix2 p d) = x (ix2 p d) + Ideal.ofBits .f32 0x3F000000#32 * ∑ f, a (ix2 p f) * V (ix3 0 f d) := by
  pointwise [k0_pay2]

/-- A tile of the hidden layer's columns, written at column `o`: the hidden layer there. -/
theorem tile_eq (h : FVec Ideal S1024x1024 .bf16) (w : FVec Ideal S1x1024x5632 .bf16) (o o' : ℕ) (ho : o + 256 ≤ 2816) (ho' : o' = 2816 + o)
    (inb : ∀ a, (![0, 0, o] : Fin 3 → ℕ) a + S1x1024x256.size a ≤ S1x1024x5632.size a) (inb' : ∀ a, (![0, 0, o'] : Fin 3 → ℕ) a + S1x1024x256.size a ≤ S1x1024x5632.size a)
    (inb2 : ∀ a, (![0, o] : Fin 2 → ℕ) a + S1024x256.size a ≤ S1024x2816.size a) (x : S1024x256.Idx) :
    k0_pay6 (F := Ideal) h (View.ld w (Rect.unit (s := S1x1024x5632) ![0, 0, o] S1x1024x256.size inb)) h (View.ld w (Rect.unit (s := S1x1024x5632) ![0, 0, o'] S1x1024x256.size inb')) x =
      (fun y : S1024x2816.Idx => act (fun k => h (ix2 (y 0) k)) (fun k f => w (ix3 0 k f)) (y 1)) ((Rect.unit (s := S1024x2816) ![0, o] S1024x256.size inb2).emb x) := by
  subst ho'
  obtain ⟨p, e, rfl⟩ : ∃ (p : Fin 1024) (e : Fin 256), x = ix2 p e := ⟨x 0, x 1, funext fun a => by match a with | ⟨0, _⟩ => rfl | ⟨1, _⟩ => rfl⟩
  rw [tile_apply]
  have e0 : ((Rect.unit (s := S1024x2816) ![0, o] S1024x256.size inb2).emb (ix2 p e)) 0 = p := Fin.ext (show 0 + 1 * p.val = p.val by omega)
  have e1 : (((Rect.unit (s := S1024x2816) ![0, o] S1024x256.size inb2).emb (ix2 p e)) 1).val = o + e.val := show o + 1 * e.val = _ by omega
  have g1 : ∀ k, View.ld (Val := Elt Ideal) (e' := .bf16) w (Rect.unit (s := S1x1024x5632) ![0, 0, o] S1x1024x256.size inb) (ix3 0 k e) = w (ix3 0 k ⟨o + e.val, by omega⟩) := fun k => by
    refine congrArg w (funext fun a => Fin.ext ?_)
    match a with
    | ⟨0, _⟩ => rfl
    | ⟨1, _⟩ => show 0 + 1 * k.val = k.val; omega
    | ⟨2, _⟩ => show o + 1 * e.val = o + e.val; omega
  have g2 : ∀ k, View.ld (Val := Elt Ideal) (e' := .bf16) w (Rect.unit (s := S1x1024x5632) ![0, 0, 2816 + o] S1x1024x256.size inb') (ix3 0 k e) = w (ix3 0 k ⟨2816 + (o + e.val), by omega⟩) := fun k => by
    refine congrArg w (funext fun a => Fin.ext ?_)
    match a with
    | ⟨0, _⟩ => rfl
    | ⟨1, _⟩ => show 0 + 1 * k.val = k.val; omega
    | ⟨2, _⟩ => show (2816 + o) + 1 * e.val = 2816 + (o + e.val); omega
  simp only [g1, g2, e0, act, e1]

variable (m : (ℓ : Loc nD τ sig) → Buf (Elt Ideal) ℓ)

/-- What the body leaves in the output's block: each row after the half step. -/
theorem body_apply (c : Dev nD) (t : Fin cfg0.N) (x0 : FVec Ideal S1024x1024 .f32) (x1 : FVec Ideal S1x1x1024 .f32) (x2 : FVec Ideal S1x1024x5632 .bf16) (x3 : FVec Ideal S1x2816x1024 .bf16) (x4 : FVec Ideal S1x1x1024 .f32) (p d : Fin 1024) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) x0 x1 x2 x3 x4 (ix2 p d)
      = step (fun k => x0 (ix2 p k)) (fun k => x1 (ix3 0 0 k)) (fun k f => x2 (ix3 0 k f)) (fun f d => x3 (ix3 0 f d)) d := by
  frame_out
  rw [final_apply]
  refine congrArg (fun s => x0 (ix2 p d) + Ideal.ofBits .f32 0x3F000000#32 * s) (Finset.sum_congr rfl fun f _ => congrArg (fun a => a * x3 (ix3 0 f d)) ?_)
  unfold View.readCov
  rw [View.readAt_full]
  refine (View.read_writes_apply_of_pieces _ _ (fun y : S1024x2816.Idx => act (fun k => k0_pay3 (F := Ideal) (x0) (x1) (ix2 (y 0) k)) (fun k f => x2 (ix3 0 k f)) (y 1)) _ ?_ (ix2 p f) ?_).trans ?_
  · simp only [List.forall_mem_cons]
    refine ⟨?_, ?_, ?_, ?_, ?_, ?_, ?_, ?_, ?_, ?_, ?_, fun _ h => absurd h List.not_mem_nil⟩
    · exact tile_eq _ _ 2560 _ (by norm_num) rfl _ _ _
    · exact tile_eq _ _ 2304 _ (by norm_num) rfl _ _ _
    · exact tile_eq _ _ 2048 _ (by norm_num) rfl _ _ _
    · exact tile_eq _ _ 1792 _ (by norm_num) rfl _ _ _
    · exact tile_eq _ _ 1536 _ (by norm_num) rfl _ _ _
    · exact tile_eq _ _ 1280 _ (by norm_num) rfl _ _ _
    · exact tile_eq _ _ 1024 _ (by norm_num) rfl _ _ _
    · exact tile_eq _ _ 768 _ (by norm_num) rfl _ _ _
    · exact tile_eq _ _ 512 _ (by norm_num) rfl _ _ _
    · exact tile_eq _ _ 256 _ (by norm_num) rfl _ _ _
    · exact tile_eq _ _ 0 _ (by norm_num) rfl _ _ _
  · exact View.cover_of_tiledL _ ![1024, 256] (by rfl) _
  · exact congrArg (fun h => act h _ _) (funext fun k => norm_apply _ _ p k)

/-- What point `t` leaves in the output's block, from the blocks it reads. -/
theorem out_apply (c : Dev nD) (t : Fin cfg0.N) (x0 : FVec Ideal S1024x1024 .f32) (x1 : FVec Ideal S1x1x1024 .f32) (x2 : FVec Ideal S1x1024x5632 .bf16) (x3 : FVec Ideal S1x2816x1024 .bf16) (x4 : FVec Ideal S1x1x1024 .f32)
    (h0 : iblk m c 0 t = x0) (h1 : iblk m c 1 t = x1) (h2 : iblk m c 2 t = x2) (h3 : iblk m c 3 t = x3) (h4 : iblk m c 4 t = x4) (p d : Fin 1024) :
    outsAt0 m c t (ix2 p d) = step (fun k => x0 (ix2 p k)) (fun k => x1 (ix3 0 0 k)) (fun k f => x2 (ix3 0 k f)) (fun f d => x3 (ix3 0 f d)) d := by
  subst h0 h1 h2 h3 h4
  exact body_apply c t _ _ _ _ _ p d

end Cert.Kernel5Ideal.Ffn

end
-- ==== Proof.Ffn.Plain.Reference.lean ====
/- The reference of the feed-forward without the final norm, read at an index over the extended reals. -/
module

public import proofs.«01_k».proof.Proof.Gen.Reference5Ideal.Read
public import proofs.«01_k».proof.Proof.Ffn.Model
public import Idealize.ShloMosaic.Lib.Pointwise
public import Idealize.ShloMosaic.Lib.Tactic.CleanTypes

@[expose] public section

set_option maxRecDepth 16384

noncomputable section

namespace Cert.Reference5Ideal.Ffn

open Cert.Reference5Ideal Cert.Reference5Ideal.Read Cert.Ffn
open Idealize.ShloMosaic

theorem ofBits_zero : Ideal.ofBits FTy.f32 0x00000000#32 = 0 := by
  simp [Ideal.ofBits, Ideal.ieee]

theorem ofBits_one : Ideal.ofBits FTy.f32 0x3F800000#32 = 1 := by
  simp [Ideal.ofBits, Ideal.ieee]; rw [← EReal.coe_mul]; norm_num

variable (x0 : FVec Ideal S16x2048x1024 .f32) (x1 : FVec Ideal S2x1024 .f32) (x2 : FVec Ideal S2x1024x5632 .f32) (x3 : FVec Ideal S2x2816x1024 .f32)

/-- The normed input. -/
theorem v14_apply (b : Fin 16) (s : Fin 2048) (k : Fin 1024) :
    val_main_v14 (F := Ideal) x0 x1 (ix3 b s k) = nrm (fun k => x0 (ix3 b s k)) (fun k => x1 (ix2 1 k)) k := by
  unfold val_main_v14
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1, nrm, scale]

/-- The first weights. -/
theorem v16_apply (k : Fin 1024) (f : Fin 5632) : val_main_v16 (F := Ideal) x2 (ix2 k f) = x2 (ix3 1 k f) := by
  unfold val_main_v16
  pointwise [val_main_v15]

/-- The hidden layer. -/
theorem v21_apply (b : Fin 16) (s : Fin 2048) (f : Fin 2816) :
    val_main_v21 (F := Ideal) x0 x1 x2 (ix3 b s f) = act (nrm (fun k => x0 (ix3 b s k)) (fun k => x1 (ix2 1 k))) (fun k f => x2 (ix3 1 k f)) f := by
  unfold val_main_v21
  pointwise [val_main_v20, val_main_v19, val_main_v18, val_main_v17, val_main_call0_v5, val_main_call0_v4, val_main_call0_v3, val_main_call0_v2, val_main_call0_v1, val_main_call0_v0, val_main_call0_cst, val_main_call0_cst_0]
  simp only [v16_apply, v14_apply, act]
  rfl

/-- The second weights. -/
theorem v23_apply (f : Fin 2816) (d : Fin 1024) : val_main_v23 (F := Ideal) x3 (ix2 f d) = x3 (ix3 1 f d) := by
  unfold val_main_v23
  pointwise [val_main_v22]

/-- The input after the half step. -/
theorem v27_apply (b : Fin 16) (s : Fin 2048) (d : Fin 1024) :
    val_main_v27 (F := Ideal) x0 x1 x2 x3 (ix3 b s d) =
      step (fun k => x0 (ix3 b s k)) (fun k => x1 (ix2 1 k)) (fun k f => x2 (ix3 1 k f)) (fun f d => x3 (ix3 1 f d)) d := by
  unfold val_main_v27
  pointwise [val_main_v26, val_main_v25, val_main_v24, val_main_cst_2]
  simp only [v21_apply, v23_apply, step]

/-- The reference's result at a row. -/
theorem v28_apply (b : Fin 16) (s : Fin 2048) (r : Fin 32768) (d : Fin 1024) (hr : r.val = 2048 * b.val + s.val) :
    val_main_v28 (F := Ideal) x0 x1 x2 x3 (ix2 r d) =
      step (fun k => x0 (ix3 b s k)) (fun k => x1 (ix2 1 k)) (fun k f => x2 (ix3 1 k f)) (fun f d => x3 (ix3 1 f d)) d := by
  rw [val_main_v28_apply, ← v27_apply]
  refine congrArg (val_main_v27 (F := Ideal) x0 x1 x2 x3) (funext fun a => Fin.ext ?_)
  match a with
  | ⟨0, _⟩ => show (r.val * 1024 + d.val) / 2097152 = b.val; omega
  | ⟨1, _⟩ => show (r.val * 1024 + d.val) / 1024 % 2048 = s.val; omega
  | ⟨2, _⟩ => show (r.val * 1024 + d.val) % 1024 = d.val; omega

end Cert.Reference5Ideal.Ffn

end
-- ==== Proof.Ffn.Plain.Equal.lean ====
/- The result array of the feed-forward without the final norm is its reference's. -/
module

public import proofs.«01_k».proof.Proof.Ffn.Plain.Block
public import proofs.«01_k».proof.Proof.Ffn.Plain.Reference
public import Idealize.ShloMosaic.Lib.StableHlo.ReadAt
public import Idealize.ShloMosaic.Lib.Pipeline.ValueKit.Geometry

@[expose] public section

set_option maxRecDepth 16384

noncomputable section

namespace Cert.Kernel5Ideal.Ffn

open Cert.Kernel5Ideal Cert.Kernel5Ideal.Gen Cert.Ffn
open Idealize.ShloMosaic
open Idealize.ShloMosaic.TcCoe

variable (m : (ℓ : Loc nD τ sig) → Buf (Elt Ideal) ℓ)

/-- The sequence of row `p` of block `t`. -/
def sq (t : Fin 32) : Fin 16 := ⟨t.val / 2, by omega⟩

/-- The position of row `p` of block `t` in its sequence. -/
def posOf (t : Fin 32) (p : Fin 1024) : Fin 2048 := ⟨1024 * (t.val % 2) + p.val, by omega⟩

/-- The row's number among all. -/
def rowOf (t : Fin 32) (p : Fin 1024) : Fin 32768 := ⟨1024 * t.val + p.val, by omega⟩

/-- The rows. -/
theorem V_x (c : Dev nD) (t : Fin 32) (p k : Fin 1024) :
    V m c main_v0 (ix2 (rowOf t p) k) = m ((c : Thread nD τ).loc main_arg0) (ix3 (sq t) (posOf t p) k) := by
  unfold V
  after_reads_at
  refine congrArg (m ((c : Thread nD τ).loc main_arg0)) (funext fun a => Fin.ext ?_)
  match a with
  | ⟨0, _⟩ => show (1024 * t.val + p.val) / 2048 = t.val / 2; omega
  | ⟨1, _⟩ => show (1024 * t.val + p.val) % 2048 = 1024 * (t.val % 2) + p.val; omega
  | ⟨2, _⟩ => rfl

/-- The gains. -/
theorem V_g (c : Dev nD) (k : Fin 1024) :
    V m c main_v1 (ix3 1 0 k) = m ((c : Thread nD τ).loc main_arg1) (ix2 1 k) := by
  unfold V
  after_reads_at
  all_goals rfl

/-- The first weights. -/
theorem V_wi (c : Dev nD) (k : Fin 1024) (f : Fin 5632) :
    V m c main_v2 (ix3 1 k f) = m ((c : Thread nD τ).loc main_arg2) (ix3 1 k f) := by
  unfold V
  after_reads_at
  all_goals rfl

/-- The second weights. -/
theorem V_wo (c : Dev nD) (f : Fin 2816) (d : Fin 1024) :
    V m c main_v3 (ix3 1 f d) = m ((c : Thread nD τ).loc main_arg3) (ix3 1 f d) := by
  unfold V
  after_reads_at
  all_goals rfl

theorem index0 : ∀ t : Fin cfg0.N, win0_0.index t = ![t.val, 0] := (by decide +kernel : ∀ t : Fin grid0.N, _)
theorem index1 : ∀ t : Fin cfg0.N, win0_1.index t = ![1, 0, 0] := (by decide +kernel : ∀ t : Fin grid0.N, _)
theorem index2 : ∀ t : Fin cfg0.N, win0_2.index t = ![1, 0, 0] := (by decide +kernel : ∀ t : Fin grid0.N, _)
theorem index3 : ∀ t : Fin cfg0.N, win0_3.index t = ![1, 0, 0] := (by decide +kernel : ∀ t : Fin grid0.N, _)
theorem index5 : ∀ t : Fin cfg0.N, win0_5.index t = ![t.val, 0] := (by decide +kernel : ∀ t : Fin grid0.N, _)

/-- The rows' block. -/
theorem blk_x (c : Dev nD) (t : Fin cfg0.N) (p k : Fin 1024) :
    iblk m c 0 t (ix2 p k) = m ((c : Thread nD τ).loc main_arg0) (ix3 (sq t) (posOf t p) k) := by
  blk_simp [iblk]
  refine (congrArg (V m c main_v0) ?_).trans (V_x m c t p k)
  blk_ext [index0]
  all_goals first | rfl | (show _ = 1024 * t.val + p.val; omega)

/-- The gains' block. -/
theorem blk_g (c : Dev nD) (t : Fin cfg0.N) (k : Fin 1024) :
    iblk m c 1 t (ix3 0 0 k) = m ((c : Thread nD τ).loc main_arg1) (ix2 1 k) := by
  blk_simp [iblk]
  refine (congrArg (V m c main_v1) ?_).trans (V_g m c k)
  blk_ext [index1]
  all_goals rfl

/-- The first weights' block. -/
theorem blk_wi (c : Dev nD) (t : Fin cfg0.N) (k : Fin 1024) (f : Fin 5632) :
    iblk m c 2 t (ix3 0 k f) = m ((c : Thread nD τ).loc main_arg2) (ix3 1 k f) := by
  blk_simp [iblk]
  refine (congrArg (V m c main_v2) ?_).trans (V_wi m c k f)
  blk_ext [index2]
  all_goals rfl

/-- The second weights' block. -/
theorem blk_wo (c : Dev nD) (t : Fin cfg0.N) (f : Fin 2816) (d : Fin 1024) :
    iblk m c 3 t (ix3 0 f d) = m ((c : Thread nD τ).loc main_arg3) (ix3 1 f d) := by
  blk_simp [iblk]
  refine (congrArg (V m c main_v3) ?_).trans (V_wo m c f d)
  blk_ext [index3]
  all_goals rfl

/-- A row's feed-forward, of functions that agree. -/
theorem step_congr {x x' g g' : Fin 1024 → EReal} {W W' : Fin 1024 → Fin 5632 → EReal} {V V' : Fin 2816 → Fin 1024 → EReal}
    (hx : ∀ k, x k = x' k) (hg : ∀ k, g k = g' k) (hW : ∀ k f, W k f = W' k f) (hV : ∀ f d, V f d = V' f d) (d : Fin 1024) :
    step x g W V d = step x' g' W' V' d := by
  obtain rfl : x = x' := funext hx
  obtain rfl : g = g' := funext hg
  obtain rfl : W = W' := funext fun k => funext (hW k)
  obtain rfl : V = V' := funext fun k => funext (hV k)
  rfl

/-- The kernel's result array is the reference's. -/
theorem result_eq (c : Dev nD) (x0 : FVec Ideal S16x2048x1024 .f32) (x1 : FVec Ideal S2x1024 .f32) (x2 : FVec Ideal S2x1024x5632 .f32)
    (x3 : FVec Ideal S2x2816x1024 .f32)
    (e0 : m ((c : Thread nD τ).loc main_arg0) = x0) (e1 : m ((c : Thread nD τ).loc main_arg1) = x1)
    (e2 : m ((c : Thread nD τ).loc main_arg2) = x2) (e3 : m ((c : Thread nD τ).loc main_arg3) = x3) :
    (dats m 0 c).arrAt 5 cfg0.N = Cert.Reference5Ideal.Read.val_main_v28 (F := Ideal) x0 x1 x2 x3 := by
  refine (dats m 0 c).arrAt_eq_of_covers 5 _ (by decide +kernel) fun t hf y => ?_
  blk_simp
  rw [after0_5]
  obtain ⟨p, d, rfl⟩ : ∃ (p d : Fin 1024), y = ix2 p d := ⟨y 0, y 1, funext fun a => by match a with | ⟨0, _⟩ => rfl | ⟨1, _⟩ => rfl⟩
  refine (out_apply m c t _ _ _ _ _ rfl rfl rfl rfl rfl p d).trans ?_
  refine (step_congr (fun k => (blk_x m c t p k).trans (congrFun e0 _)) (fun k => (blk_g m c t k).trans (congrFun e1 _)) (fun k f => (blk_wi m c t k f).trans (congrFun e2 _))
    (fun f d => (blk_wo m c t f d).trans (congrFun e3 _)) d).trans ?_
  refine (Cert.Reference5Ideal.Ffn.v28_apply x0 x1 x2 x3 (sq t) (posOf t p) (rowOf t p) d (by simp only [rowOf, sq, posOf]; omega)).symm.trans ?_
  refine congrArg (Cert.Reference5Ideal.Read.val_main_v28 (F := Ideal) x0 x1 x2 x3) ?_
  blk_ext [index5]
  all_goals first | rfl | (show 1024 * t.val + p.val = _; omega)

end Cert.Kernel5Ideal.Ffn

end
-- ==== Proof.Mix.Model.lean ====
/- The output mix with the cross-attention, of one row: the mixers' outputs side by side, their product added, the norm, the
   queries, four softmaxes over the memory, and the last product added. -/
module

public import proofs.«01_k».proof.Proof.Ffn.Model

@[expose] public section

noncomputable section

namespace Cert.Mix

open Idealize.ShloMosaic Cert.Ffn

/-- Three mixers' outputs side by side. -/
def cat (a b : Fin 384 → EReal) (c : Fin 256 → EReal) (k : Fin 1024) : EReal :=
  if h : k.val < 384 then a ⟨k.val, h⟩ else if h' : k.val - 384 < 384 then b ⟨k.val - 384, h'⟩ else c ⟨k.val - 384 - 384, by omega⟩

/-- A row `x` with the product of `y` and `W` added. -/
def plus {n : ℕ} (x : Fin 1024 → EReal) (y : Fin n → EReal) (W : Fin n → Fin 1024 → EReal) (d : Fin 1024) : EReal := x d + ∑ k, y k * W k d

/-- The queries of a normed row. -/
def query (h : Fin 1024 → EReal) (W : Fin 1024 → Fin 512 → EReal) (e : Fin 512) : EReal := ∑ k, h k * W k e

/-- Channel `e` of the head that channel `f` is of. -/
def col (f : Fin 512) (e : Fin 128) : Fin 512 := ⟨128 * (f.val / 128) + e.val, by omega⟩

/-- The maximum of the scores. -/
def top (s : Fin 256 → EReal) : EReal := Finset.univ.fold max (Ideal.ofBits FTy.f32 0xFF800000#32) s

/-- The kernel's softmax: base two, the quotient after the sum. -/
def headK (s v : Fin 256 → EReal) : EReal :=
  Ideal.div (∑ j, Ideal.exp2 (s j - top s) * v j) (∑ j, Ideal.exp2 (s j - top s))

/-- The reference's softmax: base e, the quotients before the sum. -/
def headR (s v : Fin 256 → EReal) : EReal :=
  ∑ j, v j * Ideal.div (Ideal.exp (s j - Finset.univ.sup s)) (∑ j, Ideal.exp (s j - Finset.univ.sup s))

/-- The kernel's attention of channel `f`: the queries are scaled by `ξ` before their product with the keys. -/
def attK (ξ : EReal) (q : Fin 512 → EReal) (K V : Fin 256 → Fin 512 → EReal) (f : Fin 512) : EReal :=
  headK (fun j => ∑ e, q (col f e) * ξ * K j (col f e)) fun j => V j f

/-- The reference's attention of channel `f`: the product is scaled by `c`. -/
def attR (c : EReal) (q : Fin 512 → EReal) (K V : Fin 256 → Fin 512 → EReal) (f : Fin 512) : EReal :=
  headR (fun j => (∑ e, q (col f e) * K j (col f e)) * c) fun j => V j f

/-- The whole row, of an attention `att`. -/
def row (att : (Fin 512 → EReal) → (Fin 256 → Fin 512 → EReal) → (Fin 256 → Fin 512 → EReal) → Fin 512 → EReal)
    (x y : Fin 1024 → EReal) (W : Fin 1024 → Fin 1024 → EReal) (g : Fin 1024 → EReal) (Wq : Fin 1024 → Fin 512 → EReal)
    (K V : Fin 256 → Fin 512 → EReal) (Wo : Fin 512 → Fin 1024 → EReal) (d : Fin 1024) : EReal :=
  plus (plus x y W) (att (query (nrm (plus x y W) g) Wq) K V) Wo d

end Cert.Mix

end
-- ==== Proof.Mix.Block.lean ====
/- What the body of the output mix with the cross-attention leaves in its output's block, read at an index over the extended reals. -/
module

public import proofs.«01_k».proof.Proof.Gen.Kernel3Ideal.Value
public import proofs.«01_k».proof.Proof.Mix.Model
public import Idealize.ShloMosaic.Lib.Pointwise
public import Idealize.ShloMosaic.Lib.ValueIdx
public import Idealize.ShloMosaic.Lib.VecWindow
public import Idealize.ShloMosaic.Lib.Pipeline.ValueKit.Acc

@[expose] public section

set_option maxRecDepth 16384

noncomputable section

namespace Cert.Kernel3Ideal.Mix

open Cert.Kernel3Ideal Cert.Kernel3Ideal.Gen Cert.Ffn Cert.Mix
open Idealize.ShloMosaic Idealize.ShloMosaic.Tactic

/-- The row after the mixers' product. -/
theorem mixed_apply (a b : FVec Ideal S1x512x384 .bf16) (c : FVec Ideal S1x512x256 .bf16) (x : FVec Ideal S1x512x1024 .f32) (w : FVec Ideal S1x1024x1024 .bf16) (p : Fin 512) (d : Fin 1024) :
    k0_pay2 (F := Ideal) a b c x w (ix2 p d) =
      plus (fun d => x (ix3 0 p d)) (cat (fun k => a (ix3 0 p k)) (fun k => b (ix3 0 p k)) fun k => c (ix3 0 p k)) (fun k d => w (ix3 0 k d)) d := by
  pointwise [k0_pay2, plus, cat]

/-- The queries. -/
theorem query_apply (a b : FVec Ideal S1x512x384 .bf16) (c : FVec Ideal S1x512x256 .bf16) (x : FVec Ideal S1x512x1024 .f32) (w : FVec Ideal S1x1024x1024 .bf16)
    (g : FVec Ideal S1x1x1024 .f32) (wq : FVec Ideal S1x1024x512 .bf16) (p : Fin 512) (e : Fin 512) :
    k0_pay3 (F := Ideal) a b c x w g wq (ix2 p e) =
      query (nrm (fun d => k0_pay2 (F := Ideal) a b c x w (ix2 p d)) (fun k => g (ix3 0 0 k))) (fun k e => wq (ix3 0 k e)) e := by
  unfold k0_pay3
  generalize k0_pay2 (F := Ideal) a b c x w = y
  pointwise [query, nrm, scale]

/-- The last product. -/
theorem final_apply (x : FVec Ideal S512x1024 .f32) (o : FVec Ideal S512x512 .bf16) (w : FVec Ideal S1x512x1024 .bf16) (p : Fin 512) (d : Fin 1024) :
    k0_pay1 (F := Ideal) x o w (ix3 0 p d) = plus (fun d => x (ix2 p d)) (fun f => o (ix2 p f)) (fun f d => w (ix3 0 f d)) d := by
  pointwise [k0_pay1, plus]

/-- The first head. -/
theorem head0_apply (q : FVec Ideal S512x512 .f32) (ξ : EReal) (k v : FVec Ideal S1x256x128 .bf16) (p : Fin 512) (e : Fin 128) :
    k0_pay5 (F := Ideal) q ξ k v (ix2 p e) = headK (fun j => ∑ i : Fin 128, q (ix2 p ⟨i.val, by omega⟩) * ξ * k (ix3 0 j i)) fun j => v (ix3 0 j e) := by
  pointwise [k0_pay5, k0_pay4, headK, top]
  rfl

/-- The second head. -/
theorem head1_apply (q : FVec Ideal S512x512 .f32) (ξ : EReal) (k v : FVec Ideal S1x256x128 .bf16) (p : Fin 512) (e : Fin 128) :
    k0_pay6 (F := Ideal) q ξ k v (ix2 p e) = headK (fun j => ∑ i : Fin 128, q (ix2 p ⟨128 + i.val, by omega⟩) * ξ * k (ix3 0 j i)) fun j => v (ix3 0 j e) := by
  pointwise [k0_pay6, k0_pay4, headK, top]
  rfl

/-- The third head's scaled queries. -/
theorem slice2_apply (q : FVec Ideal S512x512 .f32) (ξ : EReal) (p : Fin 512) (i : Fin 128) :
    k0_pay7 (F := Ideal) q ξ (ix2 p i) = q (ix2 p ⟨256 + i.val, by omega⟩) * ξ := by
  pointwise [k0_pay7, k0_pay4]

/-- The scaled queries. -/
theorem scaled_apply (q : FVec Ideal S512x512 .f32) (ξ : EReal) (p : Fin 512) (i : Fin 512) :
    k0_pay4 (F := Ideal) q ξ (ix2 p i) = q (ix2 p i) * ξ := by
  pointwise [k0_pay4]

/-- The four heads side by side. -/
theorem heads_apply (q : FVec Ideal S512x512 .bf16) (v51 v69 v70 : FVec Ideal S512x128 .bf16) (k3 w3 k4 w4 : FVec Ideal S1x256x128 .bf16) (p f : Fin 512) :
    k0_pay8 (F := Ideal) q v51 v69 v70 k3 w3 k4 w4 (ix2 p f) =
      if h : f.val < 128 then v51 (ix2 p ⟨f.val, h⟩) else if h : f.val - 128 < 128 then v69 (ix2 p ⟨f.val - 128, h⟩)
      else if h : f.val - 128 - 128 < 128 then headK (fun j => ∑ i : Fin 128, v70 (ix2 p i) * k3 (ix3 0 j i)) fun j => w3 (ix3 0 j ⟨f.val - 128 - 128, h⟩)
      else headK (fun j => ∑ i : Fin 128, q (ix2 p ⟨384 + i.val, by omega⟩) * k4 (ix3 0 j i)) fun j => w4 (ix3 0 j ⟨f.val - 128 - 128 - 128, by omega⟩) := by
  pointwise [k0_pay8, headK, top]
  rfl

/-- A head's columns of the memory's block. -/
theorem ld_apply (w : FVec Ideal S1x256x512 .bf16) (o : ℕ) (ho : o + 128 ≤ 512) (inb : ∀ a, (![0, 0, o] : Fin 3 → ℕ) a + S1x256x128.size a ≤ S1x256x512.size a) (j : Fin 256) (i : Fin 128) :
    View.ld (Val := Elt Ideal) (e' := .bf16) w (Rect.unit (s := S1x256x512) ![0, 0, o] S1x256x128.size inb) (ix3 0 j i) = w (ix3 0 j ⟨o + i.val, by omega⟩) := by
  refine congrArg w (funext fun a => Fin.ext ?_)
  match a with
  | ⟨0, _⟩ => rfl
  | ⟨1, _⟩ => show 0 + 1 * j.val = j.val; omega
  | ⟨2, _⟩ => show o + 1 * i.val = o + i.val; omega

theorem ld6_apply (w : FVec Ideal S1x256x512 .bf16) (j : Fin 256) (i : Fin 128) :
    View.ld (Val := Elt Ideal) (e' := .bf16) w r0_6 (ix3 0 j i) = w (ix3 0 j ⟨0 + i.val, by omega⟩) := ld_apply w 0 (by omega) _ j i

theorem ld7_apply (w : FVec Ideal S1x256x512 .bf16) (j : Fin 256) (i : Fin 128) :
    View.ld (Val := Elt Ideal) (e' := .bf16) w r0_7 (ix3 0 j i) = w (ix3 0 j ⟨128 + i.val, by omega⟩) := ld_apply w 128 (by omega) _ j i

theorem ld8_apply (w : FVec Ideal S1x256x512 .bf16) (j : Fin 256) (i : Fin 128) :
    View.ld (Val := Elt Ideal) (e' := .bf16) w r0_8 (ix3 0 j i) = w (ix3 0 j ⟨256 + i.val, by omega⟩) := ld_apply w 256 (by omega) _ j i

theorem ld9_apply (w : FVec Ideal S1x256x512 .bf16) (j : Fin 256) (i : Fin 128) :
    View.ld (Val := Elt Ideal) (e' := .bf16) w r0_9 (ix3 0 j i) = w (ix3 0 j ⟨384 + i.val, by omega⟩) := ld_apply w 384 (by omega) _ j i

/-- The attention's output of all heads, of blocks `k` and `w` that are the memory's columns head by head. -/
theorem att_of (q : FVec Ideal S512x512 .f32) (ξ : EReal) (K V : FVec Ideal S1x256x512 .bf16) (k1 w1 k2 w2 k3 w3 k4 w4 : FVec Ideal S1x256x128 .bf16)
    (hk1 : ∀ j i, k1 (ix3 0 j i) = K (ix3 0 j ⟨0 + i.val, by omega⟩)) (hw1 : ∀ j i, w1 (ix3 0 j i) = V (ix3 0 j ⟨0 + i.val, by omega⟩))
    (hk2 : ∀ j i, k2 (ix3 0 j i) = K (ix3 0 j ⟨128 + i.val, by omega⟩)) (hw2 : ∀ j i, w2 (ix3 0 j i) = V (ix3 0 j ⟨128 + i.val, by omega⟩))
    (hk3 : ∀ j i, k3 (ix3 0 j i) = K (ix3 0 j ⟨256 + i.val, by omega⟩)) (hw3 : ∀ j i, w3 (ix3 0 j i) = V (ix3 0 j ⟨256 + i.val, by omega⟩))
    (hk4 : ∀ j i, k4 (ix3 0 j i) = K (ix3 0 j ⟨384 + i.val, by omega⟩)) (hw4 : ∀ j i, w4 (ix3 0 j i) = V (ix3 0 j ⟨384 + i.val, by omega⟩)) (p f : Fin 512) :
    k0_pay8 (F := Ideal) (k0_pay4 q ξ) (k0_pay5 q ξ k1 w1) (k0_pay6 q ξ k2 w2) (k0_pay7 q ξ) k3 w3 k4 w4 (ix2 p f)
      = attK ξ (fun e => q (ix2 p e)) (fun j e => K (ix3 0 j e)) (fun j e => V (ix3 0 j e)) f := by
  rw [heads_apply]
  simp only [head0_apply, head1_apply, slice2_apply, scaled_apply, hk1, hk2, hk3, hk4, hw1, hw2, hw3, hw4, attK]
  split
  · next h =>
    have hc (i : Fin 128) : col f i = ⟨i.val, by omega⟩ := Fin.ext (by show 128 * (f.val / 128) + i.val = i.val; omega)
    simp only [hc, Nat.zero_add]
  · split
    · next h h' =>
      have hc (i : Fin 128) : col f i = ⟨128 + i.val, by omega⟩ := Fin.ext (by show 128 * (f.val / 128) + i.val = 128 + i.val; omega)
      simp only [hc, show (⟨128 + (f.val - 128), by omega⟩ : Fin 512) = f from Fin.ext (by show 128 + (f.val - 128) = f.val; omega)]
    · split
      · next h h' h'' =>
        have hc (i : Fin 128) : col f i = ⟨256 + i.val, by omega⟩ := Fin.ext (by show 128 * (f.val / 128) + i.val = 256 + i.val; omega)
        simp only [hc, show (⟨256 + (f.val - 128 - 128), by omega⟩ : Fin 512) = f from Fin.ext (by show 256 + (f.val - 128 - 128) = f.val; omega)]
      · next h h' h'' =>
        have hc (i : Fin 128) : col f i = ⟨384 + i.val, by omega⟩ := Fin.ext (by show 128 * (f.val / 128) + i.val = 384 + i.val; omega)
        simp only [hc, show (⟨384 + (f.val - 128 - 128 - 128), by omega⟩ : Fin 512) = f from Fin.ext (by show 384 + (f.val - 128 - 128 - 128) = f.val; omega)]

/-- The attention's output of all heads. -/
theorem att_apply (q : FVec Ideal S512x512 .f32) (ξ : EReal) (K V : FVec Ideal S1x256x512 .bf16) (p f : Fin 512) :
    k0_pay8 (F := Ideal) (k0_pay4 q ξ) (k0_pay5 q ξ (View.ld K r0_6) (View.ld V r0_6)) (k0_pay6 q ξ (View.ld K r0_7) (View.ld V r0_7)) (k0_pay7 q ξ)
        (View.ld K r0_8) (View.ld V r0_8) (View.ld K r0_9) (View.ld V r0_9) (ix2 p f)
      = attK ξ (fun e => q (ix2 p e)) (fun j e => K (ix3 0 j e)) (fun j e => V (ix3 0 j e)) f :=
  att_of q ξ K V _ _ _ _ _ _ _ _ (ld6_apply K) (ld6_apply V) (ld7_apply K) (ld7_apply V) (ld8_apply K) (ld8_apply V) (ld9_apply K) (ld9_apply V) p f

/-- The scale's value: reference.py's scale over the logarithm of two. -/
def ξ : EReal := Named.named (F := Ideal) κ "xscale" (φ := .f32) 0x3E0293EE#32

theorem ξ_eq : ξ = (((11863283 / 134217728) * (Real.log 2)⁻¹ : ℝ) : EReal) := rfl

/-- The queries of the blocks. -/
theorem pay9_eq (x0 : FVec Ideal S1x512x1024 .f32) (x1 x2 : FVec Ideal S1x512x384 .bf16) (x3 : FVec Ideal S1x512x256 .bf16) (x4 : FVec Ideal S1x1024x1024 .bf16)
    (x5 : FVec Ideal S1x1x1024 .f32) (x6 : FVec Ideal S1x1024x512 .bf16) (x7 x8 : FVec Ideal S1x256x512 .bf16) (x9 : FVec Ideal S1x512x1024 .bf16) :
    k0_pay9 (F := Ideal) x0 x1 x2 x3 x4 x5 x6 x7 x8 x9 = k0_pay3 (F := Ideal) x1 x2 x3 x0 x4 x5 x6 := by
  have h0 (y : FVec Ideal S1x512x384 .bf16) : View.ld (Val := Elt Ideal) (e' := .bf16) y r0_0 = y := by apply View.ld_unit_lit; decide
  have h1 : View.ld (Val := Elt Ideal) (e' := .bf16) x3 r0_1 = x3 := by apply View.ld_unit_lit; decide
  have h2 : View.ld (Val := Elt Ideal) (e' := .f32) x0 r0_2 = x0 := by apply View.ld_unit_lit; decide
  have h3 : View.ld (Val := Elt Ideal) (e' := .bf16) x4 r0_3 = x4 := by apply View.ld_unit_lit; decide
  have h4 : View.ld (Val := Elt Ideal) (e' := .f32) x5 r0_4 = x5 := by apply View.ld_unit_lit; decide
  have h5 : View.ld (Val := Elt Ideal) (e' := .bf16) x6 r0_5 = x6 := by apply View.ld_unit_lit; decide
  unfold k0_pay9
  rw [h0 x1, h0 x2, h1, h2, h3, h4, h5]

/-- What the body leaves in the output's block. -/
theorem out_apply (x0 : FVec Ideal S1x512x1024 .f32) (x1 x2 : FVec Ideal S1x512x384 .bf16) (x3 : FVec Ideal S1x512x256 .bf16) (x4 : FVec Ideal S1x1024x1024 .bf16)
    (x5 : FVec Ideal S1x1x1024 .f32) (x6 : FVec Ideal S1x1024x512 .bf16) (x7 x8 : FVec Ideal S1x256x512 .bf16) (x9 : FVec Ideal S1x512x1024 .bf16) (p : Fin 512) (d : Fin 1024) :
    out0_10 (F := Ideal) x0 x1 x2 x3 x4 x5 x6 x7 x8 x9 (ix3 0 p d) =
      row (attK ξ) (fun d => x0 (ix3 0 p d)) (cat (fun k => x1 (ix3 0 p k)) (fun k => x2 (ix3 0 p k)) fun k => x3 (ix3 0 p k)) (fun k d => x4 (ix3 0 k d))
        (fun k => x5 (ix3 0 0 k)) (fun k e => x6 (ix3 0 k e)) (fun j e => x7 (ix3 0 j e)) (fun j e => x8 (ix3 0 j e)) (fun f d => x9 (ix3 0 f d)) d := by
  frame_out
  rw [final_apply]
  simp only [att_apply]
  simp only [pay9_eq, query_apply, mixed_apply]
  unfold Cert.Mix.row ξ
  rfl

end Cert.Kernel3Ideal.Mix

end
-- ==== Proof.Mix.Reference.lean ====
/- The reference of the output mix with the cross-attention, read at an index over the extended reals. -/
module

public import proofs.«01_k».proof.Proof.Gen.Reference3Ideal.Read
public import proofs.«01_k».proof.Proof.Mix.Model
public import Idealize.ShloMosaic.Lib.Pointwise
public import Idealize.ShloMosaic.Lib.Tactic.CleanTypes

@[expose] public section

set_option maxRecDepth 16384

noncomputable section

namespace Cert.Reference3Ideal.Mix

open Cert.Reference3Ideal Cert.Reference3Ideal.Read Cert.Ffn Cert.Mix
open Idealize.ShloMosaic

variable (x0 : FVec Ideal S16x2048x1024 .f32) (x1 x2 : FVec Ideal S16x2048x384 .bf16) (x3 : FVec Ideal S16x2048x256 .bf16) (x4 x5 : FVec Ideal S16x256x512 .bf16)
  (x6 : FVec Ideal S2x1024x1024 .f32) (x7 : FVec Ideal S2x1024 .f32) (x8 : FVec Ideal S2x1024x512 .f32) (x9 : FVec Ideal S2x512x1024 .f32)

/-- A maximum over the last axis at an index. -/
theorem reduce_max {n0 n1 n2 n3 : ℕ} (y : FVec Ideal ⟨4, ![n0, n1, n2, n3]⟩ .f32) (c : FVec Ideal ⟨0, ![]⟩ .f32)
    (h : (⟨4, ![n0, n1, n2, n3]⟩ : Shape).ReducesTo [3] ⟨3, ![n0, n1, n2]⟩) (hu : 0 < (⟨0, ![]⟩ : Shape).numel) (a : Fin n0) (b : Fin n1) (p : Fin n2) :
    Host.reduce FloatOps.maximumf y c h hu (ix3 a b p) = Finset.univ.fold max (c (Shape.Idx.first hu)) fun k => y (ix4 a b p k) := by
  simp only [pointwise]

theorem fold_max_eq_sup {n : ℕ} (f : Fin n → EReal) : Finset.univ.fold max ⊥ f = Finset.univ.sup f := rfl

theorem ofBits_negInf : Ideal.ofBits FTy.f32 0xFF800000#32 = ⊥ := by
  simp only [Ideal.ofBits]; rfl

theorem maximumf_apply {s : Shape} (y z : FVec Ideal s .f32) (i : s.Idx) : maximumf y z i = max (y i) (z i) := rfl

/-- The mixed row. -/
def mixed (b : Fin 16) (s : Fin 2048) : Fin 1024 → EReal :=
  plus (fun k => x0 (ix3 b s k)) (cat (fun k => x1 (ix3 b s k)) (fun k => x2 (ix3 b s k)) fun k => x3 (ix3 b s k)) fun k d => x6 (ix3 1 k d)

/-- The mixed row's queries. -/
def qs (b : Fin 16) (s : Fin 2048) : Fin 512 → EReal :=
  query (nrm (mixed x0 x1 x2 x3 x6 b s) fun k => x7 (ix2 1 k)) fun k e => x8 (ix3 1 k e)

/-- The mixed input. -/
theorem v5_apply (b : Fin 16) (s : Fin 2048) (d : Fin 1024) :
    val_main_v5 (F := Ideal) x0 x1 x2 x3 x6 (ix3 b s d) = mixed x0 x1 x2 x3 x6 b s d := by
  unfold val_main_v5
  pointwise [val_main_v4, val_main_v3, val_main_v2, val_main_v1, val_main_v0, mixed, plus, cat]

/-- The norm. -/
theorem v20_apply (b : Fin 16) (s : Fin 2048) (k : Fin 1024) :
    val_main_v20 (F := Ideal) x0 x1 x2 x3 x6 x7 (ix3 b s k) = nrm (mixed x0 x1 x2 x3 x6 b s) (fun k => x7 (ix2 1 k)) k := by
  rw [show mixed x0 x1 x2 x3 x6 b s = fun d => val_main_v5 (F := Ideal) x0 x1 x2 x3 x6 (ix3 b s d) from funext fun d => (v5_apply x0 x1 x2 x3 x6 b s d).symm]
  unfold val_main_v20 val_main_v15 val_main_v14 val_main_v13 val_main_v12 val_main_v10 val_main_v8 val_main_v7 val_main_v6
  generalize val_main_v5 (F := Ideal) x0 x1 x2 x3 x6 = y
  pointwise [val_main_v19, val_main_v18, val_main_v17, val_main_v16, val_main_v11, val_main_v9, val_main_cst, val_main_cst_0, val_main_cst_1, nrm, scale]

/-- The queries. -/
theorem v23_apply (b : Fin 16) (s : Fin 2048) (e : Fin 512) :
    val_main_v23 (F := Ideal) x0 x1 x2 x3 x6 x7 x8 (ix3 b s e) = qs x0 x1 x2 x3 x6 x7 x8 b s e := by
  unfold val_main_v23 qs query
  simp only [← v20_apply]
  generalize val_main_v20 (F := Ideal) x0 x1 x2 x3 x6 x7 = y
  pointwise [val_main_v22, val_main_v21]

/-- A head's channel, of its 128. -/
def hd (h : Fin 4) (e : Fin 128) : Fin 512 := ⟨128 * h.val + e.val, by omega⟩

/-- The reference's scale. -/
def c : EReal := Ideal.ofBits FTy.f32 0x3DB504F3#32

/-- The score of position `s` and the memory's row `j` in head `h`. -/
def rs (b : Fin 16) (h : Fin 4) (s : Fin 2048) (j : Fin 256) : EReal :=
  (∑ e, qs x0 x1 x2 x3 x6 x7 x8 b s (hd h e) * x4 (ix3 b j (hd h e))) * c

/-- The scores. -/
theorem v31_apply (b : Fin 16) (h : Fin 4) (s : Fin 2048) (j : Fin 256) :
    val_main_v31 (F := Ideal) x0 x1 x2 x3 x4 x6 x7 x8 (ix4 b h s j) = rs x0 x1 x2 x3 x4 x6 x7 x8 b h s j := by
  unfold rs
  simp only [← v23_apply]
  unfold val_main_v31 val_main_v29 val_main_v24
  generalize val_main_v23 (F := Ideal) x0 x1 x2 x3 x6 x7 x8 = y
  pointwise [val_main_v26, val_main_v25, val_main_v30, val_main_cst_2]
  have e (x : Fin 128) : (⟨h.val * 128 + x.val, by omega⟩ : Fin 512) = hd h x := Fin.ext (by show h.val * 128 + x.val = 128 * h.val + x.val; omega)
  simp only [e, c]

/-- The scores' maximum, of each row. -/
theorem v32_apply (b : Fin 16) (h : Fin 4) (s : Fin 2048) :
    val_main_v32 (F := Ideal) x0 x1 x2 x3 x4 x6 x7 x8 (ix3 b h s) = Finset.univ.sup fun j => val_main_v31 (F := Ideal) x0 x1 x2 x3 x4 x6 x7 x8 (ix4 b h s j) := by
  unfold val_main_v32
  generalize val_main_v31 (F := Ideal) x0 x1 x2 x3 x4 x6 x7 x8 = y
  rw [reduce_max y _ _ _ b h s, show val_main_cst_3 (F := Ideal) (Shape.Idx.first (by decide)) = ⊥ from ofBits_negInf]
  exact fold_max_eq_sup _

theorem v33_apply (b : Fin 16) (h : Fin 4) (s : Fin 2048) : val_main_v33 (F := Ideal) (ix3 b h s) = ⊥ := by
  rw [val_main_v33_apply]
  exact ofBits_negInf

/-- The scores' maximum. -/
theorem v34_apply (b : Fin 16) (h : Fin 4) (s : Fin 2048) :
    val_main_v34 (F := Ideal) x0 x1 x2 x3 x4 x6 x7 x8 (ix3 b h s) = Finset.univ.sup fun j => rs x0 x1 x2 x3 x4 x6 x7 x8 b h s j := by
  simp only [← v31_apply]
  unfold val_main_v34
  rw [maximumf_apply, v33_apply, v32_apply]
  exact max_eq_right bot_le

/-- The unnormalized weights. -/
theorem v38_apply (b : Fin 16) (h : Fin 4) (s : Fin 2048) (j : Fin 256) :
    val_main_v38 (F := Ideal) x0 x1 x2 x3 x4 x6 x7 x8 (ix4 b h s j) =
      Ideal.exp (rs x0 x1 x2 x3 x4 x6 x7 x8 b h s j - Finset.univ.sup fun j => rs x0 x1 x2 x3 x4 x6 x7 x8 b h s j) := by
  rw [← v31_apply, ← v34_apply]
  unfold val_main_v38 val_main_v37 val_main_v36 val_main_v35
  generalize val_main_v31 (F := Ideal) x0 x1 x2 x3 x4 x6 x7 x8 = y
  generalize val_main_v34 (F := Ideal) x0 x1 x2 x3 x4 x6 x7 x8 = z
  pointwise

/-- The attention's output. -/
theorem v45_apply (b : Fin 16) (s : Fin 2048) (f : Fin 512) :
    val_main_v45 (F := Ideal) x0 x1 x2 x3 x4 x5 x6 x7 x8 (ix3 b s f) =
      attR c (qs x0 x1 x2 x3 x6 x7 x8 b s) (fun j e => x4 (ix3 b j e)) (fun j e => x5 (ix3 b j e)) f := by
  have e0 : attR c (qs x0 x1 x2 x3 x6 x7 x8 b s) (fun j e => x4 (ix3 b j e)) (fun j e => x5 (ix3 b j e)) f =
      headR (fun j => rs x0 x1 x2 x3 x4 x6 x7 x8 b ⟨f.val / 128, by omega⟩ s j) fun j => x5 (ix3 b j f) := rfl
  rw [e0]
  unfold headR
  simp only [← v38_apply]
  unfold val_main_v45 val_main_v44 val_main_v43 val_main_v42 val_main_v41 val_main_v40 val_main_v39
  generalize val_main_v38 (F := Ideal) x0 x1 x2 x3 x4 x6 x7 x8 = y
  pointwise [val_main_v28, val_main_v27, val_main_cst_5]
  all_goals skip

/-- The reference's result. -/
theorem v49_apply (b : Fin 16) (s : Fin 2048) (d : Fin 1024) :
    val_main_v49 (F := Ideal) x0 x1 x2 x3 x4 x5 x6 x7 x8 x9 (ix3 b s d) =
      row (attR c) (fun k => x0 (ix3 b s k)) (cat (fun k => x1 (ix3 b s k)) (fun k => x2 (ix3 b s k)) fun k => x3 (ix3 b s k)) (fun k d => x6 (ix3 1 k d))
        (fun k => x7 (ix2 1 k)) (fun k e => x8 (ix3 1 k e)) (fun j e => x4 (ix3 b j e)) (fun j e => x5 (ix3 b j e)) (fun f d => x9 (ix3 1 f d)) d := by
  have e0 : row (attR c) (fun k => x0 (ix3 b s k)) (cat (fun k => x1 (ix3 b s k)) (fun k => x2 (ix3 b s k)) fun k => x3 (ix3 b s k)) (fun k d => x6 (ix3 1 k d))
        (fun k => x7 (ix2 1 k)) (fun k e => x8 (ix3 1 k e)) (fun j e => x4 (ix3 b j e)) (fun j e => x5 (ix3 b j e)) (fun f d => x9 (ix3 1 f d)) d =
      plus (mixed x0 x1 x2 x3 x6 b s) (attR c (qs x0 x1 x2 x3 x6 x7 x8 b s) (fun j e => x4 (ix3 b j e)) (fun j e => x5 (ix3 b j e))) (fun f d => x9 (ix3 1 f d)) d := rfl
  rw [e0]
  unfold plus
  simp only [← v45_apply, ← v5_apply]
  unfold val_main_v49 val_main_v48
  generalize val_main_v45 (F := Ideal) x0 x1 x2 x3 x4 x5 x6 x7 x8 = y
  generalize val_main_v5 (F := Ideal) x0 x1 x2 x3 x6 = z
  pointwise [val_main_v47, val_main_v46]

end Cert.Reference3Ideal.Mix

end
-- ==== Proof.Mix.Softmax.lean ====
/- The two softmaxes of the cross-attention agree where queries and keys are real; a normed row with real gains is real
   whatever the row. -/
module

public import proofs.«01_k».proof.Proof.Fox.Softmax
public import proofs.«01_k».proof.Proof.Mix.Model

@[expose] public section

noncomputable section

namespace Cert.Mix

open Idealize.ShloMosaic Cert.Ffn Cert.KernelIdeal.Fox

theorem two_rpow (a : ℝ) : (2 : ℝ) ^ (a * (Real.log 2)⁻¹) = Real.exp a := by
  have : Real.log 2 ≠ 0 := (Real.log_pos (by norm_num)).ne'
  rw [Real.rpow_def_of_pos (by norm_num)]
  congr 1
  field_simp

theorem top_eq (s : Fin 256 → EReal) : top s = Finset.univ.sup s := by
  unfold top
  rw [show Ideal.ofBits FTy.f32 0xFF800000#32 = ⊥ by simp only [Ideal.ofBits]; rfl]
  rfl

/-- The kernel's softmax of real base-two scores: the weighted average. -/
theorem headK_eq (s v : Fin 256 → EReal) (a : Fin 256 → ℝ) (hs : ∀ j, s j = (a j : EReal)) :
    headK s v = ((1 / ∑ j, (2 : ℝ) ^ a j : ℝ) : EReal) * ∑ j, v j * (((2 : ℝ) ^ a j : ℝ) : EReal) := by
  obtain ⟨M, hM⟩ : ∃ M : ℝ, max ⊥ (Finset.univ.sup s) = M :=
    exists_sup _ _ bot_ne_top (fun r => by rw [hs]; exact EReal.coe_ne_top _) (Or.inr ⟨0, by rw [hs]; exact EReal.coe_ne_bot _⟩)
  rw [max_eq_right bot_le] at hM
  have hS : 0 < ∑ j, (2 : ℝ) ^ a j := Finset.sum_pos' (fun r _ => by positivity) ⟨0, Finset.mem_univ _, by positivity⟩
  have hp : (0 : ℝ) < (2 : ℝ) ^ (-M) := by positivity
  have e (j : Fin 256) : Ideal.exp2 (s j - top s) = (((2 : ℝ) ^ a j * (2 : ℝ) ^ (-M) : ℝ) : EReal) := by
    rw [top_eq, hM, hs, exp2_coe_sub]
  unfold headK
  simp only [e]
  rw [← coe_sum, ← Finset.sum_mul]
  have en : ∑ j, (((2 : ℝ) ^ a j * (2 : ℝ) ^ (-M) : ℝ) : EReal) * v j = (((2 : ℝ) ^ (-M) : ℝ) : EReal) * ∑ j, v j * (((2 : ℝ) ^ a j : ℝ) : EReal) := by
    rw [coe_mul_sum _ hp.le]
    exact Finset.sum_congr rfl fun j _ => by rw [mul_comm ((2 : ℝ) ^ a j), EReal.coe_mul, mul_assoc, mul_comm (v j)]
  rw [en, Ideal.div_coe (mul_pos hS hp).ne', mul_right_comm, ← EReal.coe_mul]
  congr 2
  field_simp

/-- The reference's softmax of real scores: the same average. -/
theorem headR_eq (s v : Fin 256 → EReal) (a : Fin 256 → ℝ) (hs : ∀ j, s j = (a j : EReal)) :
    headR s v = ((1 / ∑ j, Real.exp (a j) : ℝ) : EReal) * ∑ j, v j * ((Real.exp (a j) : ℝ) : EReal) :=
  softmax_eq s v (fun j => Real.exp (a j)) (fun j => Or.inr ⟨a j, hs j, rfl⟩) ⟨0, Real.exp_pos _⟩

/-- The reference's scale. -/
theorem c_eq : Ideal.ofBits FTy.f32 0x3DB504F3#32 = ((11863283 / 134217728 : ℝ) : EReal) := by
  simp [Ideal.ofBits, Ideal.ieee]; rw [← EReal.coe_mul]; norm_num

/-- The two attentions agree where queries and keys are real. -/
theorem att_eq (q : Fin 512 → EReal) (K V : Fin 256 → Fin 512 → EReal) (qr : Fin 512 → ℝ) (Kr : Fin 256 → Fin 512 → ℝ)
    (hq : ∀ e, q e = (qr e : EReal)) (hK : ∀ j e, K j e = (Kr j e : EReal)) (f : Fin 512) :
    attK (((11863283 / 134217728) * (Real.log 2)⁻¹ : ℝ) : EReal) q K V f = attR (Ideal.ofBits FTy.f32 0x3DB504F3#32) q K V f := by
  unfold attK attR
  rw [c_eq, headK_eq _ _ (fun j => ((∑ e, qr (col f e) * Kr j (col f e)) * (11863283 / 134217728)) * (Real.log 2)⁻¹), headR_eq _ _ (fun j => (∑ e, qr (col f e) * Kr j (col f e)) * (11863283 / 134217728))]
  · simp only [two_rpow]
  · intro j
    simp only [hq, hK, ← EReal.coe_mul, ← coe_sum]
  · intro j
    simp only [hq, hK, ← EReal.coe_mul, ← coe_sum]
    congr 1
    rw [mul_assoc, Finset.sum_mul]
    exact Finset.sum_congr rfl fun e _ => by ring

theorem ofBits_1024 : Ideal.ofBits FTy.f32 0x44800000#32 = ((1024 : ℝ) : EReal) := by
  simp [Ideal.ofBits, Ideal.ieee]; rw [← EReal.coe_mul]; norm_num

theorem ofBits_eps : Ideal.ofBits FTy.f32 0x358637BD#32 = ((8796093 / 8796093022208 : ℝ) : EReal) := by
  simp [Ideal.ofBits, Ideal.ieee]; rw [← EReal.coe_mul]; norm_num

theorem sq_nonneg (x : EReal) : 0 ≤ x * x := by
  induction x with
  | bot => simp
  | top => simp
  | coe r => rw [← EReal.coe_mul]; exact EReal.coe_nonneg.mpr (mul_self_nonneg r)

/-- A row times its scale is real: an infinite entry makes the scale zero. -/
theorem scaled_real (f : Fin 1024 → EReal) (k : Fin 1024) : ∃ r : ℝ, f k * scale f = (r : EReal) := by
  unfold scale
  rw [ofBits_1024, ofBits_eps]
  by_cases h : ∀ k, ∃ r : ℝ, f k = (r : EReal)
  · choose fr hf using h
    simp only [hf, ← EReal.coe_mul, ← coe_sum]
    rw [Ideal.div_coe (by norm_num), ← EReal.coe_mul, ← EReal.coe_add, Ideal.rsqrt_coe]
    have hp : 0 < (∑ k, fr k * fr k) * (1 / 1024 : ℝ) + 8796093 / 8796093022208 := by
      have : 0 ≤ ∑ k, fr k * fr k := Finset.sum_nonneg fun k _ => mul_self_nonneg _
      positivity
    rw [if_neg hp.not_gt, if_neg hp.ne', ← EReal.coe_mul]
    exact ⟨_, rfl⟩
  · obtain ⟨i, hi⟩ := not_forall.mp h
    have hi' : f i * f i = ⊤ := by
      revert hi
      generalize f i = z
      intro hi
      induction z with
      | bot => simp
      | top => simp
      | coe r => exact absurd ⟨r, rfl⟩ hi
    have hs : ∑ k, f k * f k = ⊤ :=
      top_le_iff.mp (hi' ▸ Finset.single_le_sum (f := fun k => f k * f k) (fun k _ => sq_nonneg (f k)) (Finset.mem_univ i))
    rw [hs, Ideal.div_coe (by norm_num), EReal.top_mul_coe_of_pos (by norm_num), EReal.top_add_coe, Ideal.rsqrt_top, mul_zero]
    exact ⟨0, rfl⟩

/-- The queries are real where gains and weights are. -/
theorem query_real (x g : Fin 1024 → EReal) (W : Fin 1024 → Fin 512 → EReal) (hg : ∀ k, ∃ r : ℝ, g k = (r : EReal)) (hW : ∀ k e, ∃ r : ℝ, W k e = (r : EReal)) (e : Fin 512) :
    ∃ r : ℝ, query (nrm x g) W e = (r : EReal) := by
  choose gr hg using hg
  choose Wr hW using hW
  choose xr hx using scaled_real x
  refine ⟨∑ k, xr k * gr k * Wr k e, ?_⟩
  unfold query nrm
  simp only [hx, hg, hW, ← EReal.coe_mul, ← coe_sum]

/-- The two rows agree where gains, query weights and keys are real. -/
theorem row_eq (x y : Fin 1024 → EReal) (W : Fin 1024 → Fin 1024 → EReal) (g : Fin 1024 → EReal) (Wq : Fin 1024 → Fin 512 → EReal)
    (K V : Fin 256 → Fin 512 → EReal) (Wo : Fin 512 → Fin 1024 → EReal)
    (hg : ∀ k, ∃ r : ℝ, g k = (r : EReal)) (hW : ∀ k e, ∃ r : ℝ, Wq k e = (r : EReal)) (hK : ∀ j e, ∃ r : ℝ, K j e = (r : EReal)) (d : Fin 1024) :
    row (attK (((11863283 / 134217728) * (Real.log 2)⁻¹ : ℝ) : EReal)) x y W g Wq K V Wo d = row (attR (Ideal.ofBits FTy.f32 0x3DB504F3#32)) x y W g Wq K V Wo d := by
  choose qr hq using query_real (plus x y W) g Wq hg hW
  choose Kr hK using hK
  unfold row
  rw [show attK (((11863283 / 134217728) * (Real.log 2)⁻¹ : ℝ) : EReal) (query (nrm (plus x y W) g) Wq) K V = attR (Ideal.ofBits FTy.f32 0x3DB504F3#32) (query (nrm (plus x y W) g) Wq) K V from
    funext fun f => att_eq _ K V qr Kr hq hK f]

end Cert.Mix

end
-- ==== Proof.Mix.Equal.lean ====
/- The result array of the output mix with the cross-attention is its reference's, where keys, gains and query weights are real. -/
module

public import proofs.«01_k».proof.Proof.Mix.Block
public import proofs.«01_k».proof.Proof.Mix.Reference
public import proofs.«01_k».proof.Proof.Mix.Softmax
public import Idealize.ShloMosaic.Lib.StableHlo.ReadAt
public import Idealize.ShloMosaic.Lib.Pipeline.ValueKit.Geometry

@[expose] public section

set_option maxRecDepth 16384

noncomputable section

namespace Cert.Kernel3Ideal.Mix

open Cert.Kernel3Ideal Cert.Kernel3Ideal.Gen Cert.Mix
open Idealize.ShloMosaic
open Idealize.ShloMosaic.TcCoe

variable (m : (ℓ : Loc nD τ sig) → Buf (Elt Ideal) ℓ)

/-- The sequence of grid point `t`. -/
def sq (t : Fin cfg0.N) : Fin 16 := ⟨t.val / 4, by have := t.isLt; simp only [show cfg0.N = 64 from rfl] at this; omega⟩

/-- The position of row `p` of grid point `t` in its sequence. -/
def posOf (t : Fin cfg0.N) (p : Fin 512) : Fin 2048 := ⟨512 * (t.val % 4) + p.val, by omega⟩

/-! The arrays that come as they are. -/

theorem V_x (c : Dev nD) (i : S16x2048x1024.Idx) : V m c main_arg0 i = m ((c : Thread nD τ).loc main_arg0) i := by
  unfold V
  after_reads_at
  all_goals rfl

theorem V_a (c : Dev nD) (i : S16x2048x384.Idx) : V m c main_arg1 i = m ((c : Thread nD τ).loc main_arg1) i := by
  unfold V
  after_reads_at
  all_goals rfl

theorem V_b (c : Dev nD) (i : S16x2048x384.Idx) : V m c main_arg2 i = m ((c : Thread nD τ).loc main_arg2) i := by
  unfold V
  after_reads_at
  all_goals rfl

theorem V_c (c : Dev nD) (i : S16x2048x256.Idx) : V m c main_arg3 i = m ((c : Thread nD τ).loc main_arg3) i := by
  unfold V
  after_reads_at
  all_goals rfl

theorem V_k (c : Dev nD) (i : S16x256x512.Idx) : V m c main_arg4 i = m ((c : Thread nD τ).loc main_arg4) i := by
  unfold V
  after_reads_at
  all_goals rfl

theorem V_v (c : Dev nD) (i : S16x256x512.Idx) : V m c main_arg5 i = m ((c : Thread nD τ).loc main_arg5) i := by
  unfold V
  after_reads_at
  all_goals rfl

/-- The first weights. -/
theorem V_w (c : Dev nD) (k d : Fin 1024) :
    V m c main_v0 (ix3 1 k d) = m ((c : Thread nD τ).loc main_arg6) (ix3 1 k d) := by
  unfold V
  after_reads_at
  all_goals rfl

/-- The gains. -/
theorem V_g (c : Dev nD) (k : Fin 1024) :
    V m c main_v3 (ix3 1 0 k) = m ((c : Thread nD τ).loc main_arg7) (ix2 1 k) := by
  unfold V
  after_reads_at
  all_goals rfl

/-- The query weights. -/
theorem V_q (c : Dev nD) (k : Fin 1024) (e : Fin 512) :
    V m c main_v1 (ix3 1 k e) = m ((c : Thread nD τ).loc main_arg8) (ix3 1 k e) := by
  unfold V
  after_reads_at
  all_goals rfl

/-- The last weights. -/
theorem V_o (c : Dev nD) (f : Fin 512) (d : Fin 1024) :
    V m c main_v2 (ix3 1 f d) = m ((c : Thread nD τ).loc main_arg9) (ix3 1 f d) := by
  unfold V
  after_reads_at
  all_goals rfl

theorem index0 : ∀ t : Fin cfg0.N, win0_0.index t = ![t.val / 4, t.val % 4, 0] := (by decide +kernel : ∀ t : Fin grid0.N, _)
theorem index1 : ∀ t : Fin cfg0.N, win0_1.index t = ![t.val / 4, t.val % 4, 0] := (by decide +kernel : ∀ t : Fin grid0.N, _)
theorem index2 : ∀ t : Fin cfg0.N, win0_2.index t = ![t.val / 4, t.val % 4, 0] := (by decide +kernel : ∀ t : Fin grid0.N, _)
theorem index3 : ∀ t : Fin cfg0.N, win0_3.index t = ![t.val / 4, t.val % 4, 0] := (by decide +kernel : ∀ t : Fin grid0.N, _)
theorem index4 : ∀ t : Fin cfg0.N, win0_4.index t = ![1, 0, 0] := (by decide +kernel : ∀ t : Fin grid0.N, _)
theorem index5 : ∀ t : Fin cfg0.N, win0_5.index t = ![1, 0, 0] := (by decide +kernel : ∀ t : Fin grid0.N, _)
theorem index6 : ∀ t : Fin cfg0.N, win0_6.index t = ![1, 0, 0] := (by decide +kernel : ∀ t : Fin grid0.N, _)
theorem index7 : ∀ t : Fin cfg0.N, win0_7.index t = ![t.val / 4, 0, 0] := (by decide +kernel : ∀ t : Fin grid0.N, _)
theorem index8 : ∀ t : Fin cfg0.N, win0_8.index t = ![t.val / 4, 0, 0] := (by decide +kernel : ∀ t : Fin grid0.N, _)
theorem index9 : ∀ t : Fin cfg0.N, win0_9.index t = ![1, 0, 0] := (by decide +kernel : ∀ t : Fin grid0.N, _)
theorem index10 : ∀ t : Fin cfg0.N, win0_10.index t = ![t.val / 4, t.val % 4, 0] := (by decide +kernel : ∀ t : Fin grid0.N, _)

/-- The input's block. -/
theorem blk_x (c : Dev nD) (t : Fin cfg0.N) (p : Fin 512) (k : Fin 1024) :
    iblk m c 0 t (ix3 0 p k) = m ((c : Thread nD τ).loc main_arg0) (ix3 (sq t) (posOf t p) k) := by
  blk_simp [iblk]
  refine (congrArg (V m c main_arg0) ?_).trans (V_x m c _)
  blk_ext [index0]
  all_goals first | rfl | (show _ = t.val / 4; omega) | (show _ = 512 * (t.val % 4) + p.val; omega)

/-- The first mixer's block. -/
theorem blk_a (c : Dev nD) (t : Fin cfg0.N) (p : Fin 512) (k : Fin 384) :
    iblk m c 1 t (ix3 0 p k) = m ((c : Thread nD τ).loc main_arg1) (ix3 (sq t) (posOf t p) k) := by
  blk_simp [iblk]
  refine (congrArg (V m c main_arg1) ?_).trans (V_a m c _)
  blk_ext [index1]
  all_goals first | rfl | (show _ = t.val / 4; omega) | (show _ = 512 * (t.val % 4) + p.val; omega)

/-- The second mixer's block. -/
theorem blk_b (c : Dev nD) (t : Fin cfg0.N) (p : Fin 512) (k : Fin 384) :
    iblk m c 2 t (ix3 0 p k) = m ((c : Thread nD τ).loc main_arg2) (ix3 (sq t) (posOf t p) k) := by
  blk_simp [iblk]
  refine (congrArg (V m c main_arg2) ?_).trans (V_b m c _)
  blk_ext [index2]
  all_goals first | rfl | (show _ = t.val / 4; omega) | (show _ = 512 * (t.val % 4) + p.val; omega)

/-- The third mixer's block. -/
theorem blk_c (c : Dev nD) (t : Fin cfg0.N) (p : Fin 512) (k : Fin 256) :
    iblk m c 3 t (ix3 0 p k) = m ((c : Thread nD τ).loc main_arg3) (ix3 (sq t) (posOf t p) k) := by
  blk_simp [iblk]
  refine (congrArg (V m c main_arg3) ?_).trans (V_c m c _)
  blk_ext [index3]
  all_goals first | rfl | (show _ = t.val / 4; omega) | (show _ = 512 * (t.val % 4) + p.val; omega)

/-- The first weights' block. -/
theorem blk_w (c : Dev nD) (t : Fin cfg0.N) (k d : Fin 1024) :
    iblk m c 4 t (ix3 0 k d) = m ((c : Thread nD τ).loc main_arg6) (ix3 1 k d) := by
  blk_simp [iblk]
  refine (congrArg (V m c main_v0) ?_).trans (V_w m c k d)
  blk_ext [index4]
  all_goals first | rfl | (show _ = t.val / 4; omega)

/-- The gains' block. -/
theorem blk_g (c : Dev nD) (t : Fin cfg0.N) (k : Fin 1024) :
    iblk m c 5 t (ix3 0 0 k) = m ((c : Thread nD τ).loc main_arg7) (ix2 1 k) := by
  blk_simp [iblk]
  refine (congrArg (V m c main_v3) ?_).trans (V_g m c k)
  blk_ext [index5]
  all_goals first | rfl | (show _ = t.val / 4; omega)

/-- The query weights' block. -/
theorem blk_q (c : Dev nD) (t : Fin cfg0.N) (k : Fin 1024) (e : Fin 512) :
    iblk m c 6 t (ix3 0 k e) = m ((c : Thread nD τ).loc main_arg8) (ix3 1 k e) := by
  blk_simp [iblk]
  refine (congrArg (V m c main_v1) ?_).trans (V_q m c k e)
  blk_ext [index6]
  all_goals first | rfl | (show _ = t.val / 4; omega)

/-- The keys' block. -/
theorem blk_k (c : Dev nD) (t : Fin cfg0.N) (j : Fin 256) (e : Fin 512) :
    iblk m c 7 t (ix3 0 j e) = m ((c : Thread nD τ).loc main_arg4) (ix3 (sq t) j e) := by
  blk_simp [iblk]
  refine (congrArg (V m c main_arg4) ?_).trans (V_k m c _)
  blk_ext [index7]
  all_goals first | rfl | (show _ = t.val / 4; omega)

/-- The values' block. -/
theorem blk_v (c : Dev nD) (t : Fin cfg0.N) (j : Fin 256) (e : Fin 512) :
    iblk m c 8 t (ix3 0 j e) = m ((c : Thread nD τ).loc main_arg5) (ix3 (sq t) j e) := by
  blk_simp [iblk]
  refine (congrArg (V m c main_arg5) ?_).trans (V_v m c _)
  blk_ext [index8]
  all_goals first | rfl | (show _ = t.val / 4; omega)

/-- The last weights' block. -/
theorem blk_o (c : Dev nD) (t : Fin cfg0.N) (f : Fin 512) (d : Fin 1024) :
    iblk m c 9 t (ix3 0 f d) = m ((c : Thread nD τ).loc main_arg9) (ix3 1 f d) := by
  blk_simp [iblk]
  refine (congrArg (V m c main_v2) ?_).trans (V_o m c f d)
  blk_ext [index9]
  all_goals first | rfl | (show _ = t.val / 4; omega)

/-- A row, of functions that agree. -/
theorem row_congr {att : (Fin 512 → EReal) → (Fin 256 → Fin 512 → EReal) → (Fin 256 → Fin 512 → EReal) → Fin 512 → EReal}
    {x x' : Fin 1024 → EReal} {a a' b b' : Fin 384 → EReal} {c c' : Fin 256 → EReal} {W W' : Fin 1024 → Fin 1024 → EReal} {g g' : Fin 1024 → EReal} {Q Q' : Fin 1024 → Fin 512 → EReal}
    {K K' V V' : Fin 256 → Fin 512 → EReal} {O O' : Fin 512 → Fin 1024 → EReal}
    (hx : ∀ k, x k = x' k) (ha : ∀ k, a k = a' k) (hb : ∀ k, b k = b' k) (hc : ∀ k, c k = c' k) (hW : ∀ k d, W k d = W' k d) (hg : ∀ k, g k = g' k) (hQ : ∀ k e, Q k e = Q' k e)
    (hK : ∀ j e, K j e = K' j e) (hV : ∀ j e, V j e = V' j e) (hO : ∀ f d, O f d = O' f d) (d : Fin 1024) :
    row att x (cat a b c) W g Q K V O d = row att x' (cat a' b' c') W' g' Q' K' V' O' d := by
  obtain rfl : x = x' := funext hx
  obtain rfl : a = a' := funext ha
  obtain rfl : b = b' := funext hb
  obtain rfl : c = c' := funext hc
  obtain rfl : W = W' := funext fun k => funext (hW k)
  obtain rfl : g = g' := funext hg
  obtain rfl : Q = Q' := funext fun k => funext (hQ k)
  obtain rfl : K = K' := funext fun k => funext (hK k)
  obtain rfl : V = V' := funext fun k => funext (hV k)
  obtain rfl : O = O' := funext fun k => funext (hO k)
  rfl

/-- The kernel's result array is the reference's. -/
theorem result_eq (c : Dev nD) (x0 : FVec Ideal S16x2048x1024 .f32) (x1 x2 : FVec Ideal S16x2048x384 .bf16) (x3 : FVec Ideal S16x2048x256 .bf16) (x4 x5 : FVec Ideal S16x256x512 .bf16)
    (x6 : FVec Ideal S2x1024x1024 .f32) (x7 : FVec Ideal S2x1024 .f32) (x8 : FVec Ideal S2x1024x512 .f32) (x9 : FVec Ideal S2x512x1024 .f32)
    (e0 : m ((c : Thread nD τ).loc main_arg0) = x0) (e1 : m ((c : Thread nD τ).loc main_arg1) = x1) (e2 : m ((c : Thread nD τ).loc main_arg2) = x2)
    (e3 : m ((c : Thread nD τ).loc main_arg3) = x3) (e4 : m ((c : Thread nD τ).loc main_arg4) = x4) (e5 : m ((c : Thread nD τ).loc main_arg5) = x5)
    (e6 : m ((c : Thread nD τ).loc main_arg6) = x6) (e7 : m ((c : Thread nD τ).loc main_arg7) = x7) (e8 : m ((c : Thread nD τ).loc main_arg8) = x8)
    (e9 : m ((c : Thread nD τ).loc main_arg9) = x9)
    (h4 : ∀ i, x4 i = ((EReal.toReal (x4 i) : ℝ) : EReal)) (h7 : ∀ i, x7 i = ((EReal.toReal (x7 i) : ℝ) : EReal)) (h8 : ∀ i, x8 i = ((EReal.toReal (x8 i) : ℝ) : EReal)) :
    (dats m 0 c).arrAt 10 cfg0.N = Cert.Reference3Ideal.Read.val_main_v49 (F := Ideal) x0 x1 x2 x3 x4 x5 x6 x7 x8 x9 := by
  refine (dats m 0 c).arrAt_eq_of_covers 10 _ (by decide +kernel) fun t hf y => ?_
  blk_simp
  rw [after0_10]
  obtain ⟨p, d, rfl⟩ : ∃ (p : Fin 512) (d : Fin 1024), y = ix3 0 p d := ⟨y 1, y 2, funext fun a => by
    match a with
    | ⟨0, _⟩ => exact Fin.ext (Nat.lt_one_iff.mp (y 0).isLt)
    | ⟨1, _⟩ => rfl
    | ⟨2, _⟩ => rfl⟩
  refine (out_apply _ _ _ _ _ _ _ _ _ _ p d).trans ?_
  refine (row_congr (fun k => (blk_x m c t p k).trans (congrFun e0 _)) (fun k => (blk_a m c t p k).trans (congrFun e1 _)) (fun k => (blk_b m c t p k).trans (congrFun e2 _))
    (fun k => (blk_c m c t p k).trans (congrFun e3 _)) (fun k d => (blk_w m c t k d).trans (congrFun e6 _)) (fun k => (blk_g m c t k).trans (congrFun e7 _))
    (fun k e => (blk_q m c t k e).trans (congrFun e8 _)) (fun j e => (blk_k m c t j e).trans (congrFun e4 _)) (fun j e => (blk_v m c t j e).trans (congrFun e5 _))
    (fun f d => (blk_o m c t f d).trans (congrFun e9 _)) d).trans ?_
  rw [ξ_eq]
  refine (row_eq _ _ _ _ _ _ _ _ (fun k => ⟨_, h7 _⟩) (fun k e => ⟨_, h8 _⟩) (fun j e => ⟨_, h4 _⟩) d).trans ?_
  refine (Cert.Reference3Ideal.Mix.v49_apply x0 x1 x2 x3 x4 x5 x6 x7 x8 x9 (sq t) (posOf t p) d).symm.trans ?_
  refine congrArg (Cert.Reference3Ideal.Read.val_main_v49 (F := Ideal) x0 x1 x2 x3 x4 x5 x6 x7 x8 x9) ?_
  blk_ext [index10]
  all_goals first | rfl | (show t.val / 4 = _; omega) | (show 512 * (t.val % 4) + p.val = _; omega)

end Cert.Kernel3Ideal.Mix

end
-- ==== Proof.Mix.Finite.lean ====
/- What the precondition of the cross-attention says over the extended reals: every key, gain and query weight is real. -/
module

public import proofs.«01_k».proof.Pre_finite_keys
public import proofs.«01_k».proof.Proof.Fox.Finite

@[expose] public section

noncomputable section

namespace Cert.Pre_finite_keys.Mix

open Cert.Pre_finite_keys
open Idealize.ShloMosaic

/-- The predicate's side conditions on shapes. -/
theorem facts : Cert.Pre_finite_keys.Facts := by
  constructor <;> decide

instance : Subsingleton S_.Idx := ⟨fun a b => funext fun k => Fin.elim0 k⟩

/-- One conjunct of narrow elements: if every comparison of the absolute values with infinity holds, every element is real. -/
theorem real_of_all {s : Shape} {axes : List (Fin s.rank)} (x : FVec Ideal s .bf16) (hl : FTy.bits .bf16 < FTy.bits .f32) (hb : S_.BroadcastsInDim s (![] : Fin 0 → Fin s.rank))
    (h : s.ReducesTo axes S_) (hu : 0 < S_.numel) (i0 : S_.Idx)
    (e : Host.reduce IntOp.andi (cmpf .olt (Host.absf (extf .f32 x hl)) (broadcastInDim s ![] hb (constant (F := Ideal) S_ .f32 0x7F800000#32))) (constantI S_ 1 1#1) h hu i0 = 1#1)
    (i : s.Idx) : x i = ((EReal.toReal (x i) : ℝ) : EReal) :=
  Cert.Pre_finite_scores.Fox.real_of_all (extf .f32 x hl) hb h hu i0 e i

/-- The precondition's meaning. -/
theorem real (hP : Cert.Pre_finite_keys.Facts) (x0 : FVec Ideal S16x2048x1024 .f32) (x1 x2 : FVec Ideal S16x2048x384 .bf16) (x3 : FVec Ideal S16x2048x256 .bf16)
    (x4 x5 : FVec Ideal S16x256x512 .bf16) (x6 : FVec Ideal S2x1024x1024 .f32) (x7 : FVec Ideal S2x1024 .f32) (x8 : FVec Ideal S2x1024x512 .f32) (x9 : FVec Ideal S2x512x1024 .f32)
    (h : Cert.Pre_finite_keys.fn (F := Ideal) x0 x1 x2 x3 x4 x5 x6 x7 x8 x9 = fun _ => 1#1) :
    (∀ i, x4 i = ((EReal.toReal (x4 i) : ℝ) : EReal)) ∧ (∀ i, x7 i = ((EReal.toReal (x7 i) : ℝ) : EReal)) ∧ ∀ i, x8 i = ((EReal.toReal (x8 i) : ℝ) : EReal) := by
  have h0 := congrFun h (fun k => Fin.elim0 k)
  dsimp only [fn] at h0
  obtain ⟨h01, h3⟩ := IntOp.andi_eq_one.mp h0
  obtain ⟨h0, h1⟩ := IntOp.andi_eq_one.mp h01
  exact ⟨real_of_all x4 _ _ _ _ _ h0, Cert.Pre_finite_scores.Fox.real_of_all x7 _ _ _ _ h1, Cert.Pre_finite_scores.Fox.real_of_all x8 _ _ _ _ h3⟩

end Cert.Pre_finite_keys.Mix

end
-- ==== Proof.Mem.Block.lean ====
/- What the body of the memory's projection leaves in its outputs' blocks, read at an index over the extended reals. -/
module

public import proofs.«01_k».proof.Proof.Gen.Kernel4Ideal.Value
public import proofs.«01_k».proof.Proof.Ffn.Model
public import Idealize.ShloMosaic.Lib.Pointwise
public import Idealize.ShloMosaic.Lib.ValueIdx
public import Idealize.ShloMosaic.Lib.Pipeline.ValueKit.Acc

@[expose] public section

set_option maxRecDepth 16384

noncomputable section

namespace Cert.Mem

open Idealize.ShloMosaic Cert.Ffn

/-- A row of the memory, normed and multiplied by the weights. -/
def projRow (x g : Fin 1024 → EReal) (W : Fin 1024 → Fin 1024 → EReal) (e : Fin 1024) : EReal := ∑ k, nrm x g k * W k e

end Cert.Mem

namespace Cert.Kernel4Ideal.Mem

open Cert.Kernel4Ideal Cert.Kernel4Ideal.Gen Cert.Ffn Cert.Mem
open Idealize.ShloMosaic Idealize.ShloMosaic.Tactic

variable (x : FVec Ideal S1x256x1024 .f32) (g : FVec Ideal S1x1x1024 .f32) (w : FVec Ideal S1x1024x1024 .bf16) (p : Fin 256)

/-- The product. -/
theorem pay1_apply (e : Fin 1024) :
    k0_pay1 (F := Ideal) x g w (ix2 p e) = projRow (fun k => x (ix3 0 p k)) (fun k => g (ix3 0 0 k)) (fun k e => w (ix3 0 k e)) e := by
  pointwise [k0_pay1, projRow, nrm, scale]

/-- The keys' block. -/
theorem keys_apply (e : Fin 512) :
    out0_3 (F := Ideal) x g w (ix3 0 p e) = projRow (fun k => x (ix3 0 p k)) (fun k => g (ix3 0 0 k)) (fun k e => w (ix3 0 k e)) ⟨e.val, by omega⟩ := by
  frame_out
  rw [← pay1_apply]
  unfold k0_pay2
  generalize k0_pay1 (F := Ideal) x g w = y
  pointwise

/-- The values' block. -/
theorem values_apply (e : Fin 512) :
    out0_4 (F := Ideal) x g w (ix3 0 p e) = projRow (fun k => x (ix3 0 p k)) (fun k => g (ix3 0 0 k)) (fun k e => w (ix3 0 k e)) ⟨512 + e.val, by omega⟩ := by
  frame_out
  rw [← pay1_apply]
  unfold k0_pay3
  generalize k0_pay1 (F := Ideal) x g w = y
  pointwise

end Cert.Kernel4Ideal.Mem

end
-- ==== Proof.Mem.Reference.lean ====
/- The reference of the memory's projection, read at an index over the extended reals. -/
module

public import proofs.«01_k».proof.Proof.Gen.Reference4Ideal.Read
public import proofs.«01_k».proof.Proof.Mem.Block

@[expose] public section

set_option maxRecDepth 16384

noncomputable section

namespace Cert.Reference4Ideal.Mem

open Cert.Reference4Ideal Cert.Reference4Ideal.Read Cert.Ffn Cert.Mem
open Idealize.ShloMosaic

variable (x0 : FVec Ideal S16x256x1024 .f32) (x1 : FVec Ideal S2x1024 .f32) (x2 : FVec Ideal S2x1024x1024 .f32)

/-- The norm. -/
theorem v14_apply (b : Fin 16) (s : Fin 256) (k : Fin 1024) :
    val_main_v14 (F := Ideal) x0 x1 (ix3 b s k) = nrm (fun k => x0 (ix3 b s k)) (fun k => x1 (ix2 1 k)) k := by
  unfold val_main_v14
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1, nrm, scale]

/-- The product. -/
theorem v17_apply (b : Fin 16) (s : Fin 256) (e : Fin 1024) :
    val_main_v17 (F := Ideal) x0 x1 x2 (ix3 b s e) = projRow (fun k => x0 (ix3 b s k)) (fun k => x1 (ix2 1 k)) (fun k e => x2 (ix3 1 k e)) e := by
  unfold val_main_v17 projRow
  simp only [← v14_apply]
  generalize val_main_v14 (F := Ideal) x0 x1 = y
  pointwise [val_main_v16, val_main_v15]

/-- The keys. -/
theorem v20_apply (b : Fin 16) (s : Fin 256) (e : Fin 512) :
    val_main_v20 (F := Ideal) x0 x1 x2 (ix3 b s e) = projRow (fun k => x0 (ix3 b s k)) (fun k => x1 (ix2 1 k)) (fun k e => x2 (ix3 1 k e)) ⟨e.val, by omega⟩ := by
  rw [← v17_apply]
  unfold val_main_v20 val_main_v18
  generalize val_main_v17 (F := Ideal) x0 x1 x2 = y
  pointwise

/-- The values. -/
theorem v21_apply (b : Fin 16) (s : Fin 256) (e : Fin 512) :
    val_main_v21 (F := Ideal) x0 x1 x2 (ix3 b s e) = projRow (fun k => x0 (ix3 b s k)) (fun k => x1 (ix2 1 k)) (fun k e => x2 (ix3 1 k e)) ⟨512 + e.val, by omega⟩ := by
  rw [← v17_apply]
  unfold val_main_v21 val_main_v19
  generalize val_main_v17 (F := Ideal) x0 x1 x2 = y
  pointwise

end Cert.Reference4Ideal.Mem

end
-- ==== Proof.Mem.Equal.lean ====
/- The memory's keys and values are the reference's. -/
module

public import proofs.«01_k».proof.Proof.Mem.Block
public import proofs.«01_k».proof.Proof.Mem.Reference
public import Idealize.ShloMosaic.Lib.StableHlo.ReadAt
public import Idealize.ShloMosaic.Lib.Pipeline.ValueKit.Geometry

@[expose] public section

set_option maxRecDepth 16384

noncomputable section

namespace Cert.Kernel4Ideal.Mem

open Cert.Kernel4Ideal Cert.Kernel4Ideal.Gen Cert.Mem
open Idealize.ShloMosaic
open Idealize.ShloMosaic.TcCoe

variable (m : (ℓ : Loc nD τ sig) → Buf (Elt Ideal) ℓ)

theorem V_x (c : Dev nD) (i : S16x256x1024.Idx) : V m c main_arg0 i = m ((c : Thread nD τ).loc main_arg0) i := by
  unfold V
  after_reads_at
  all_goals rfl

/-- The gains. -/
theorem V_g (c : Dev nD) (k : Fin 1024) : V m c main_v0 (ix3 1 0 k) = m ((c : Thread nD τ).loc main_arg1) (ix2 1 k) := by
  unfold V
  after_reads_at
  all_goals rfl

/-- The weights. -/
theorem V_w (c : Dev nD) (k e : Fin 1024) : V m c main_v1 (ix3 1 k e) = m ((c : Thread nD τ).loc main_arg2) (ix3 1 k e) := by
  unfold V
  after_reads_at
  all_goals rfl

theorem index0 : ∀ t : Fin cfg0.N, win0_0.index t = ![t.val, 0, 0] := (by decide +kernel : ∀ t : Fin grid0.N, _)
theorem index1 : ∀ t : Fin cfg0.N, win0_1.index t = ![1, 0, 0] := (by decide +kernel : ∀ t : Fin grid0.N, _)
theorem index2 : ∀ t : Fin cfg0.N, win0_2.index t = ![1, 0, 0] := (by decide +kernel : ∀ t : Fin grid0.N, _)
theorem index3 : ∀ t : Fin cfg0.N, win0_3.index t = ![t.val, 0, 0] := (by decide +kernel : ∀ t : Fin grid0.N, _)
theorem index4 : ∀ t : Fin cfg0.N, win0_4.index t = ![t.val, 0, 0] := (by decide +kernel : ∀ t : Fin grid0.N, _)

/-- The memory's block. -/
theorem blk_x (c : Dev nD) (t : Fin cfg0.N) (p : Fin 256) (k : Fin 1024) :
    iblk m c 0 t (ix3 0 p k) = m ((c : Thread nD τ).loc main_arg0) (ix3 (t : Fin 16) p k) := by
  blk_simp [iblk]
  refine (congrArg (V m c main_arg0) ?_).trans (V_x m c _)
  blk_ext [index0]
  all_goals rfl

/-- The gains' block. -/
theorem blk_g (c : Dev nD) (t : Fin cfg0.N) (k : Fin 1024) :
    iblk m c 1 t (ix3 0 0 k) = m ((c : Thread nD τ).loc main_arg1) (ix2 1 k) := by
  blk_simp [iblk]
  refine (congrArg (V m c main_v0) ?_).trans (V_g m c k)
  blk_ext [index1]
  all_goals rfl

/-- The weights' block. -/
theorem blk_w (c : Dev nD) (t : Fin cfg0.N) (k e : Fin 1024) :
    iblk m c 2 t (ix3 0 k e) = m ((c : Thread nD τ).loc main_arg2) (ix3 1 k e) := by
  blk_simp [iblk]
  refine (congrArg (V m c main_v1) ?_).trans (V_w m c k e)
  blk_ext [index2]
  all_goals rfl

/-- A row, of functions that agree. -/
theorem row_congr {x x' g g' : Fin 1024 → EReal} {W W' : Fin 1024 → Fin 1024 → EReal} (hx : ∀ k, x k = x' k) (hg : ∀ k, g k = g' k) (hW : ∀ k e, W k e = W' k e) (e : Fin 1024) :
    projRow x g W e = projRow x' g' W' e := by
  obtain rfl : x = x' := funext hx
  obtain rfl : g = g' := funext hg
  obtain rfl : W = W' := funext fun k => funext (hW k)
  rfl

/-- The keys are the reference's. -/
theorem keys_eq (c : Dev nD) (x0 : FVec Ideal S16x256x1024 .f32) (x1 : FVec Ideal S2x1024 .f32) (x2 : FVec Ideal S2x1024x1024 .f32)
    (e0 : m ((c : Thread nD τ).loc main_arg0) = x0) (e1 : m ((c : Thread nD τ).loc main_arg1) = x1) (e2 : m ((c : Thread nD τ).loc main_arg2) = x2) :
    (dats m 0 c).arrAt 3 cfg0.N = Cert.Reference4Ideal.Read.val_main_v20 (F := Ideal) x0 x1 x2 := by
  refine (dats m 0 c).arrAt_eq_of_covers 3 _ (by decide +kernel) fun t hf y => ?_
  blk_simp
  rw [after0_3]
  obtain ⟨p, d, rfl⟩ : ∃ (p : Fin 256) (d : Fin 512), y = ix3 0 p d := ⟨y 1, y 2, funext fun a => by
    match a with
    | ⟨0, _⟩ => exact Fin.ext (Nat.lt_one_iff.mp (y 0).isLt)
    | ⟨1, _⟩ => rfl
    | ⟨2, _⟩ => rfl⟩
  refine (keys_apply _ _ _ p d).trans ?_
  refine (row_congr (fun k => (blk_x m c t p k).trans (congrFun e0 _)) (fun k => (blk_g m c t k).trans (congrFun e1 _)) (fun k e => (blk_w m c t k e).trans (congrFun e2 _)) _).trans ?_
  refine (Cert.Reference4Ideal.Mem.v20_apply x0 x1 x2 t p d).symm.trans ?_
  refine congrArg (Cert.Reference4Ideal.Read.val_main_v20 (F := Ideal) x0 x1 x2) ?_
  blk_ext [index3]
  all_goals rfl

/-- The values are the reference's. -/
theorem values_eq (c : Dev nD) (x0 : FVec Ideal S16x256x1024 .f32) (x1 : FVec Ideal S2x1024 .f32) (x2 : FVec Ideal S2x1024x1024 .f32)
    (e0 : m ((c : Thread nD τ).loc main_arg0) = x0) (e1 : m ((c : Thread nD τ).loc main_arg1) = x1) (e2 : m ((c : Thread nD τ).loc main_arg2) = x2) :
    (dats m 0 c).arrAt 4 cfg0.N = Cert.Reference4Ideal.Read.val_main_v21 (F := Ideal) x0 x1 x2 := by
  refine (dats m 0 c).arrAt_eq_of_covers 4 _ (by decide +kernel) fun t hf y => ?_
  blk_simp
  rw [after0_4]
  obtain ⟨p, d, rfl⟩ : ∃ (p : Fin 256) (d : Fin 512), y = ix3 0 p d := ⟨y 1, y 2, funext fun a => by
    match a with
    | ⟨0, _⟩ => exact Fin.ext (Nat.lt_one_iff.mp (y 0).isLt)
    | ⟨1, _⟩ => rfl
    | ⟨2, _⟩ => rfl⟩
  refine (values_apply _ _ _ p d).trans ?_
  refine (row_congr (fun k => (blk_x m c t p k).trans (congrFun e0 _)) (fun k => (blk_g m c t k).trans (congrFun e1 _)) (fun k e => (blk_w m c t k e).trans (congrFun e2 _)) _).trans ?_
  refine (Cert.Reference4Ideal.Mem.v21_apply x0 x1 x2 t p d).symm.trans ?_
  refine congrArg (Cert.Reference4Ideal.Read.val_main_v21 (F := Ideal) x0 x1 x2) ?_
  blk_ext [index4]
  all_goals rfl

end Cert.Kernel4Ideal.Mem

end
-- ==== Proof.Mla.IdealRun.lean ====
/- The latent attention's kernel body, run once for the program `Kernel6Ideal` at symbolic operands: its loads, stores
   and its counted loop, from any contents of the staging buffers and of the two scratch buffers. -/
module

public import proofs.«01_k».proof.Proof.Gen.Kernel6Ideal.Frame
public import proofs.«01_k».proof.Proof.Gen.Kernel6Ideal.Loops
public import Idealize.ShloMosaic.Lib.Tactic
public import Idealize.ShloMosaic.Lib.Pipeline.Kit

@[expose] public section

set_option maxRecDepth 16384

noncomputable section

namespace Cert.Kernel6Ideal.Mla

open Cert.Kernel6Ideal Cert.Kernel6Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The body's triple: from the input blocks read at their contents, the output's buffer and the two scratch buffers
    at any, it returns with the inputs as they were, the pieces `L` it wrote over the output's buffer, and the scratch
    buffers at some contents. -/
def run (c : Dev nD) (i : grid0.Coords) (arg2 : Memref sig .tc .vmem S1x1x768x256 .f32) (harg2 : arg2.IsWhole) (arg3 : Memref sig .tc .vmem S1x2048x768 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S1x6x256x256 .f32) (harg6 : arg6.IsWhole) (arg7 : Memref sig .tc .vmem S6x256x256 .bf16) (harg7 : arg7.IsWhole)
    (X2 : BufTy.Contents (Elt F) arg2.view.ty) (X3 : BufTy.Contents (Elt F) arg3.view.ty) (X4 : BufTy.Contents (Elt F) arg4.view.ty) :
    { L : BufTy.Contents (Elt F) arg6.view.ty → BufTy.Contents (Elt F) arg7.view.ty → List (View.Piece (Elt F) S1x256x384 .bf16) // ∀ (E : Set ℕ) (f5 : BufTy.Contents (Elt F) arg5.view.ty) (f6 : BufTy.Contents (Elt F) arg6.view.ty) (f7 : BufTy.Contents (Elt F) arg7.view.ty),
      (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7)) : sProp 𝕄)
      ⊢ wp frame (wpE (defs₀ (F := F)) Variants.none (c : Thread nD τ) none) E (cc0_mla_attn i arg2 harg2 arg3 harg3 arg4 harg4 arg5 harg5 arg6 harg6 arg7 harg7)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} arg5.view.writes (Elt F) f5 (L f6 f7)) ∗ (∃ f, (arg6.view.loc (c : Thread nD τ) ↦[arg6.view.set]{fullShare} f)) ∗ (∃ f, (arg7.view.loc (c : Thread nD τ) ↦[arg7.view.set]{fullShare} f)))) } := by
  refine ⟨?_, fun E f5 f6 f7 => ?run⟩
  case run =>
    simp only [cc0_mla_attn_eq_skeleton]; unfold cc0_mla_attn_skel
    iintro ⟨H2, H3, H4, H5, H6, H7⟩
    sl_exec
    sl_step
    isplitl [H2]; · iexact H2
    isplitl [H3]; · iexact H3
    isplitl [H4]; · iexact H4
    isplitl [H5]; · iexact H5
    isplitl [H6]; · iexists _; iexact H6
    iexists _; iexact H7

end Cert.Kernel6Ideal.Mla

end
-- ==== Proof.Mla.IdealFrame.lean ====
/- The frame of the program `Kernel6Ideal`: the latent attention's launch, its body at every grid point by the one run of
   `Mla/IdealRun.lean`, the output's contents forgotten. -/
module

public import proofs.«01_k».proof.Proof.Mla.IdealRun

@[expose] public section

set_option maxRecDepth 16384

noncomputable section

namespace Cert.Kernel6Ideal.Mla

open Cert.Kernel6Ideal Cert.Kernel6Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationLoose cellOf)
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data: each input's buffer at its block after the body, the output's forgotten. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Pipeline.Dat.unnamed (cfg := cfg0) 3 t
  Φ _ := Pipeline.ΦA spec0 c
  q _ := fullShare
  owed _ := 0

/-- The windows whose contents are forgotten: the output's. -/
def forgets (w : Fin cfg0.W) : Bool := w.val == 3

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, the scratch buffers spelt out. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ X, owns (c : Thread nD τ) (st0_3 t) fullShare X))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2]
  unfold Pipeline.ΦA
  rw [scopedRest0_eq]
  simp only [← owns_whole]
  unfold owns
  iintro ⟨⟨⟨⟨%s6, %f6, -, H6⟩, ⟨%s7, %f7, -, H7⟩⟩, Hr⟩, Ho, ⟨%d0, %f0, %h0, H0⟩, ⟨%d1, %f1, %h1, H1⟩, ⟨%d2, %f2, %h2, H2⟩, ⟨%d3, %f3, -, H3⟩⟩
  iapply (wp_wand_r Idealize.ShloMosaic.frame (wpE (defs₀ (F := F)) Variants.none (c : Thread nD τ) none) Set.univ)
  isplitl [H0 H1 H2 H3 H6 H7]
  · iapply ((run c (grid0.coords t) _ _ _ _ _ _ _ _ _ _ _ _ f0 f1 f2).2 Set.univ f3 f6 f7)
    isplitl [H0]; · iexact H0
    isplitl [H1]; · iexact H1
    isplitl [H2]; · iexact H2
    isplitl [H3]; · iexact H3
    isplitl [H6]; · iexact H6
    iexact H7
  iintro %_ ⟨H0, H1, H2, H3, ⟨%g6, H6⟩, ⟨%g7, H7⟩⟩
  isplitl [H6 H7 Hr]
  · isplitl [H6 H7]
    · isplitl [H6]
      · iexists _; iexists g6; isplitr
        · ipureintro; rfl
        · iexact H6
      · iexists _; iexists g7; isplitr
        · ipureintro; rfl
        · iexact H7
    · iexact Hr
  isplitl [Ho]; · iexact Ho
  isplitl [H0]
  · iexists f0; isplitr
    · ipureintro; exact h0
    · iexact H0
  isplitl [H1]
  · iexists f1; isplitr
    · ipureintro; exact h1
    · iexact H1
  isplitl [H2]
  · iexists f2; isplitr
    · ipureintro; exact h2
    · iexact H2
  iexists _; iexists _; isplitr
  swap; · iexact H3
  ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation at every point, the output forgotten. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch: every run of @main ends with the inputs' arrays and the buffers no window stages as the region found
    them, every semaphore counter at zero. -/
theorem run_main : θ_run defs (onTc (τ := τ) (main (F := F))) (s₀ m ρ)
    (fun r => RDat.FramePost cfg0 (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the three arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.Kernel6Ideal.Mla

end
-- ==== Proof.Mla.Ops.lean ====
/- The vector operations of one head's step of the latent attention, as the kernel body applies them, and each read
   at an index over the extended reals. -/
module

public import proofs.«01_k».proof.Proof.Gen.Kernel6Ideal.Skeleton
public import Idealize.ShloMosaic.Lib.Pointwise
public import Idealize.ShloMosaic.Lib.WordCmp

@[expose] public section

set_option maxRecDepth 16384

noncomputable section

namespace Cert.Kernel6Ideal.Mla

open Cert.Kernel6Ideal Cert.Kernel6Ideal.Gen
open Idealize.ShloMosaic

/-- A chunk's scores: the keys' chunk against the head's queries. -/
def opMM (K : FVec Ideal S1x256x256 .bf16) (q : FVec Ideal S256x256 .bf16) : FVec Ideal S256x256 .f32 :=
  matmul dot_S256x256_S256x256_S256x256_1_0_0_1_n_n none (shapeCast S256x256 K shapeCasts_S1x256x256_S256x256) q (constant S256x256 .f32 0x00000000#32)

/-- The first strip of a chunk's scores. -/
def opS0 (mm : FVec Ideal S256x256 .f32) : FVec Ideal S128x256 .f32 :=
  extractStridedSlice S128x256 ![0, 0] mm slices_S256x256_o0_0_S128x256

/-- The second strip. -/
def opS1 (mm : FVec Ideal S256x256 .f32) : FVec Ideal S128x256 .f32 :=
  extractStridedSlice S128x256 ![128, 0] mm slices_S256x256_o128_0_S128x256

/-- The maximum of two strips over the keys. -/
def opMx (s0 s1 : FVec Ideal S128x256 .f32) : FVec Ideal S1x256 .f32 :=
  maximumf (shapeCast S1x256 (multiReduction .maximumf [0] S256 s0 0xFF800000#32 reduces_S128x256_S256 (.inl rfl) rfl) shapeCasts_S256_S1x256)
    (shapeCast S1x256 (multiReduction .maximumf [0] S256 s1 0xFF800000#32 reduces_S128x256_S256 (.inl rfl) rfl) shapeCasts_S256_S1x256)

/-- A strip's weights: two to the power of its scores less the running maximum. -/
def opPr (st : FVec Ideal S1x1x128x256 .f32) (mn : FVec Ideal S1x256 .f32) : FVec Ideal S1x128x256 .bf16 :=
  shapeCast S1x128x256 (truncf .bf16 (exp2 (subf (shapeCast S128x256 st shapeCasts_S1x1x128x256_S128x256) (broadcastTo S128x256 mn broadcasts_S1x256_S128x256))) bitsLt_bf16_f32) shapeCasts_S128x256_S1x128x256

/-- The values' chunk and a row of ones, against the weights. -/
def opPV (vt : FVec Ideal S1x1x64x256 .bf16) (P : FVec Ideal S1x256x256 .bf16) : FVec Ideal S80x256 .f32 :=
  matmul dot_S80x256_S256x256_S80x256_1_0_0_1_n_n none
    (concatenate S80x256 0 [⟨S64x256, shapeCast S64x256 vt shapeCasts_S1x1x64x256_S64x256⟩, ⟨S16x256, broadcast S16x256 (Scalar.ofBits .bf16 0x3F80#16)⟩] concatenates_S64x256_S16x256_S80x256_d0)
    (shapeCast S256x256 P shapeCasts_S1x256x256_S256x256) (constant S80x256 .f32 0x00000000#32)

/-- The factor that brings the sums of the earlier chunks to the new maximum. -/
def opAl (m mn : FVec Ideal S1x256 .f32) : FVec Ideal S1x256 .f32 := exp2 (subf m mn)

/-- The new sum of the weights. -/
def opL (l al : FVec Ideal S1x256 .f32) (pv : FVec Ideal S80x256 .f32) : FVec Ideal S1x256 .f32 :=
  addf (mulf al l) (extractStridedSlice S1x256 ![64, 0] pv slices_S80x256_o64_0_S1x256)

/-- The new weighted sum of the values. -/
def opAcc (a : FVec Ideal S64x256 .f32) (al : FVec Ideal S1x256 .f32) (pv : FVec Ideal S80x256 .f32) : FVec Ideal S64x256 .f32 :=
  addf (mulf (broadcastTo S64x256 al broadcasts_S1x256_S64x256) a) (extractStridedSlice S64x256 ![0, 0] pv slices_S80x256_o0_0_S64x256)

/-- One over the root of the head's width, as its float, times one over log 2: the queries' constant. -/
def cq : EReal := (((3424635 / 33554432) * (Real.log 2)⁻¹ : ℝ) : EReal)

theorem named_mscale : (Named.named (F := Ideal) (φ := .f32) κ "mscale" 0x3E16C740#32 : EReal) = cq :=
  IdealRules.named_const.ideal_named_scalar _ _ _ _ rfl

theorem named_mask : (Named.named (F := Ideal) (φ := .f32) κ "mask" 0xF149F2CA#32 : EReal) = ⊥ :=
  IdealRules.named_const.ideal_named_scalar _ _ _ _ rfl

theorem opS0_apply (K : FVec Ideal S1x256x256 .bf16) (q : FVec Ideal S256x256 .bf16) (r : Fin 128) (c : Fin 256) :
    opS0 (opMM K q) (ix2 r c) = ∑ x, K (ix3 0 ⟨r, by omega⟩ x) * q (ix2 x c) := by
  pointwise [opS0, opMM]

theorem opS1_apply (K : FVec Ideal S1x256x256 .bf16) (q : FVec Ideal S256x256 .bf16) (r : Fin 128) (c : Fin 256) :
    opS1 (opMM K q) (ix2 r c) = ∑ x, K (ix3 0 ⟨128 + r, by omega⟩ x) * q (ix2 x c) := by
  pointwise [opS1, opMM]

theorem opMx_apply (s0 s1 : FVec Ideal S128x256 .f32) (c : Fin 256) : opMx s0 s1 (ix2 0 c) =
    max (Finset.univ.fold max (Ideal.ofBits FTy.f32 4286578688#32) (fun x : Fin 128 => s0 (ix2 x c))) (Finset.univ.fold max (Ideal.ofBits FTy.f32 4286578688#32) (fun x : Fin 128 => s1 (ix2 x c))) := by
  pointwise [opMx]

theorem opPr_apply (st : FVec Ideal S1x1x128x256 .f32) (mn : FVec Ideal S1x256 .f32) (r : Fin 128) (c : Fin 256) :
    opPr st mn (ix3 0 r c) = (FloatOps.exp2 (F := Ideal) (φ := .f32) (st (ix4 0 0 r c) - mn (ix2 0 c)) : EReal) := by
  pointwise [opPr]

theorem opL_apply (l al : FVec Ideal S1x256 .f32) (vt : FVec Ideal S1x1x64x256 .bf16) (P : FVec Ideal S1x256x256 .bf16) (c : Fin 256) :
    opL l al (opPV vt P) (ix2 0 c) = al (ix2 0 c) * l (ix2 0 c) + ∑ x, P (ix3 0 x c) := by
  pointwise [opL, opPV]

theorem opAcc_apply (a : FVec Ideal S64x256 .f32) (al : FVec Ideal S1x256 .f32) (vt : FVec Ideal S1x1x64x256 .bf16) (P : FVec Ideal S1x256x256 .bf16) (d : Fin 64) (c : Fin 256) :
    opAcc a al (opPV vt P) (ix2 d c) = al (ix2 0 c) * a (ix2 d c) + ∑ x, vt (ix4 0 0 d x) * P (ix3 0 x c) := by
  pointwise [opAcc, opPV]

/-- A head's queries: the rows of its own channels scaled, the other rows zero. -/
def opQ (q : FVec Ideal S1x1x256x256 .f32) (lo hi lo' hi' : BitVec 32) : FVec Ideal S256x256 .bf16 :=
  select (ori (andi (cmpi .sge (iota .tc S256x256 32 [0] iota_S256x256_d0_w32) (broadcast S256x256 lo)) (cmpi .slt (iota .tc S256x256 32 [0] iota_S256x256_d0_w32) (broadcast S256x256 hi)))
      (andi (cmpi .sge (iota .tc S256x256 32 [0] iota_S256x256_d0_w32) (broadcast S256x256 lo')) (cmpi .slt (iota .tc S256x256 32 [0] iota_S256x256_d0_w32) (broadcast S256x256 hi'))))
    (truncf .bf16 (mulf (shapeCast S256x256 q shapeCasts_S1x1x256x256_S256x256) (broadcast S256x256 (Named.named κ "mscale" 0x3E16C740#32))) bitsLt_bf16_f32)
    (broadcast S256x256 (Scalar.ofBits .bf16 0x0000#16))

/-- A strip of the diagonal chunk's scores, masked above the diagonal. -/
def opMask (off : BitVec 32) (s : FVec Ideal S128x256 .f32) : FVec Ideal S128x256 .f32 :=
  select (cmpi .sle (addi (iota .tc S128x256 32 [0] iota_S128x256_d0_w32) (broadcast S128x256 off)) (iota .tc S128x256 32 [1] iota_S128x256_d1_w32)) s
    (broadcast S128x256 (Named.named κ "mask" 0xF149F2CA#32))

/-- Two heads' results, divided by their sums and laid side by side. -/
def opOut (a0 : FVec Ideal S64x256 .f32) (l0 : FVec Ideal S1x256 .f32) (a1 : FVec Ideal S64x256 .f32) (l1 : FVec Ideal S1x256 .f32) : FVec Ideal S1x256x128 .bf16 :=
  shapeCast S1x256x128 (truncf .bf16 (transpose S256x128 [1, 0] (concatenate S128x256 0 [⟨S64x256, divf a0 (broadcastTo S64x256 l0 broadcasts_S1x256_S64x256)⟩, ⟨S64x256, divf a1 (broadcastTo S64x256 l1 broadcasts_S1x256_S64x256)⟩] concatenates_S64x256_S64x256_S128x256_d0) transposes_S128x256_p1_0_S256x128) bitsLt_bf16_f32) shapeCasts_S256x128_S1x256x128

theorem opQ_lo_apply (q : FVec Ideal S1x1x256x256 .f32) (x : Fin 256) (c : Fin 256) :
    opQ q 0#32 64#32 128#32 160#32 (ix2 x c) = if ((x : ℕ) < 64) ∨ (128 ≤ (x : ℕ) ∧ (x : ℕ) < 160) then q (ix4 0 0 x c) * cq else 0 := by
  pointwise [opQ]
  rw [named_mscale, show IntOp.ori (IntOp.andi (IntOp.cmpi CmpIPredicate.sge (BitVec.ofNat 32 ↑x) 0#32) (IntOp.cmpi CmpIPredicate.slt (BitVec.ofNat 32 ↑x) 64#32)) (IntOp.andi (IntOp.cmpi CmpIPredicate.sge (BitVec.ofNat 32 ↑x) 128#32) (IntOp.cmpi CmpIPredicate.slt (BitVec.ofNat 32 ↑x) 160#32)) = if ((x : ℕ) < 64) ∨ (128 ≤ (x : ℕ) ∧ (x : ℕ) < 160) then 1#1 else 0#1 from by revert x; decide]
  split <;> rfl

theorem opQ_hi_apply (q : FVec Ideal S1x1x256x256 .f32) (x : Fin 256) (c : Fin 256) :
    opQ q 64#32 128#32 160#32 192#32 (ix2 x c) = if (64 ≤ (x : ℕ) ∧ (x : ℕ) < 128) ∨ (160 ≤ (x : ℕ) ∧ (x : ℕ) < 192) then q (ix4 0 0 x c) * cq else 0 := by
  pointwise [opQ]
  rw [named_mscale, show IntOp.ori (IntOp.andi (IntOp.cmpi CmpIPredicate.sge (BitVec.ofNat 32 ↑x) 64#32) (IntOp.cmpi CmpIPredicate.slt (BitVec.ofNat 32 ↑x) 128#32)) (IntOp.andi (IntOp.cmpi CmpIPredicate.sge (BitVec.ofNat 32 ↑x) 160#32) (IntOp.cmpi CmpIPredicate.slt (BitVec.ofNat 32 ↑x) 192#32)) = if (64 ≤ (x : ℕ) ∧ (x : ℕ) < 128) ∨ (160 ≤ (x : ℕ) ∧ (x : ℕ) < 192) then 1#1 else 0#1 from by revert x; decide]
  split <;> rfl

theorem opMask_apply (off : ℕ) (hoff : off ≤ 128) (s : FVec Ideal S128x256 .f32) (x : Fin 128) (c : Fin 256) :
    opMask (BitVec.ofNat 32 off) s (ix2 x c) = if (x : ℕ) + off ≤ c then s (ix2 x c) else ⊥ := by
  pointwise [opMask]
  have h : IntOp.cmpi CmpIPredicate.sle (IntOp.addi (BitVec.ofNat 32 ↑x) (BitVec.ofNat 32 off)) (BitVec.ofNat 32 ↑c) = if (x : ℕ) + off ≤ c then 1#1 else 0#1 := by
    rw [show IntOp.addi (BitVec.ofNat 32 ↑x) (BitVec.ofNat 32 off) = BitVec.ofNat 32 (x + off) from (BitVec.ofNat_add ..).symm]
    split
    · next h => exact (WordCmp.cmpi_sle_ofNat_eq_one_iff (by have := x.isLt; norm_num; omega) (by have := c.isLt; norm_num; omega)).mpr h
    · next h => exact (WordCmp.cmpi_sle_ofNat_eq_zero_iff (by have := x.isLt; norm_num; omega) (by have := c.isLt; norm_num; omega)).mpr (by omega)
  rw [named_mask, h]
  split <;> rfl

theorem opOut_apply (a0 : FVec Ideal S64x256 .f32) (l0 : FVec Ideal S1x256 .f32) (a1 : FVec Ideal S64x256 .f32) (l1 : FVec Ideal S1x256 .f32) (x : Fin 128) (c : Fin 256) :
    opOut a0 l0 a1 l1 (ix3 0 c x) = if h : (x : ℕ) < 64 then Ideal.div (a0 (ix2 ⟨x, h⟩ c)) (l0 (ix2 0 c))
      else Ideal.div (a1 (ix2 ⟨x - 64, by omega⟩ c)) (l1 (ix2 0 c)) := by
  pointwise [opOut]

end Cert.Kernel6Ideal.Mla

end
-- ==== Proof.Mla.Trip.lean ====
/- One trip of the latent attention's loop, each head's step in the vocabulary of `Ops`. -/
module

public import proofs.«01_k».proof.Proof.Gen.Kernel6Ideal.Loops
public import proofs.«01_k».proof.Proof.Mla.Ops

@[expose] public section

set_option maxRecDepth 16384

noncomputable section

namespace Cert.Kernel6Ideal.Mla

open Cert.Kernel6Ideal Cert.Kernel6Ideal.Gen
open Idealize.ShloMosaic
open Idealize.ShloMosaic.TcCoe

/-- The loop's carried values: six chunk maxima, then each head's running maximum, sum and weighted sum. -/
abbrev Acc : Type := FVec Ideal S1x256 .f32 × FVec Ideal S1x256 .f32 × FVec Ideal S1x256 .f32 × FVec Ideal S1x256 .f32 × FVec Ideal S1x256 .f32 × FVec Ideal S1x256 .f32
  × FVec Ideal S1x256 .f32 × FVec Ideal S1x256 .f32 × FVec Ideal S64x256 .f32 × FVec Ideal S1x256 .f32 × FVec Ideal S1x256 .f32 × FVec Ideal S64x256 .f32
  × FVec Ideal S1x256 .f32 × FVec Ideal S1x256 .f32 × FVec Ideal S64x256 .f32 × FVec Ideal S1x256 .f32 × FVec Ideal S1x256 .f32 × FVec Ideal S64x256 .f32
  × FVec Ideal S1x256 .f32 × FVec Ideal S1x256 .f32 × FVec Ideal S64x256 .f32 × FVec Ideal S1x256 .f32 × FVec Ideal S1x256 .f32 × FVec Ideal S64x256 .f32

/-- The chunk maxima, by head. -/
def aCm (a : Acc) : Fin 6 → FVec Ideal S1x256 .f32 := ![a.1, a.2.1, a.2.2.1, a.2.2.2.1, a.2.2.2.2.1, a.2.2.2.2.2.1]
/-- The running maxima, by head. -/
def aM (a : Acc) : Fin 6 → FVec Ideal S1x256 .f32 := ![a.2.2.2.2.2.2.1, a.2.2.2.2.2.2.2.2.2.1, a.2.2.2.2.2.2.2.2.2.2.2.2.1, a.2.2.2.2.2.2.2.2.2.2.2.2.2.2.2.1, a.2.2.2.2.2.2.2.2.2.2.2.2.2.2.2.2.2.2.1, a.2.2.2.2.2.2.2.2.2.2.2.2.2.2.2.2.2.2.2.2.2.1]
/-- The running sums, by head. -/
def aL (a : Acc) : Fin 6 → FVec Ideal S1x256 .f32 := ![a.2.2.2.2.2.2.2.1, a.2.2.2.2.2.2.2.2.2.2.1, a.2.2.2.2.2.2.2.2.2.2.2.2.2.1, a.2.2.2.2.2.2.2.2.2.2.2.2.2.2.2.2.1, a.2.2.2.2.2.2.2.2.2.2.2.2.2.2.2.2.2.2.2.1, a.2.2.2.2.2.2.2.2.2.2.2.2.2.2.2.2.2.2.2.2.2.2.1]
/-- The running weighted sums, by head. -/
def aA (a : Acc) : Fin 6 → FVec Ideal S64x256 .f32 := ![a.2.2.2.2.2.2.2.2.1, a.2.2.2.2.2.2.2.2.2.2.2.1, a.2.2.2.2.2.2.2.2.2.2.2.2.2.2.1, a.2.2.2.2.2.2.2.2.2.2.2.2.2.2.2.2.2.1, a.2.2.2.2.2.2.2.2.2.2.2.2.2.2.2.2.2.2.2.2.1, a.2.2.2.2.2.2.2.2.2.2.2.2.2.2.2.2.2.2.2.2.2.2.2]

/-- The carried values from their families. -/
def mkAcc (cm m l : Fin 6 → FVec Ideal S1x256 .f32) (A : Fin 6 → FVec Ideal S64x256 .f32) : Acc :=
  (cm 0, cm 1, cm 2, cm 3, cm 4, cm 5, m 0, l 0, A 0, m 1, l 1, A 1, m 2, l 2, A 2, m 3, l 3, A 3, m 4, l 4, A 4, m 5, l 5, A 5)

/-- A head's strip of the scores' scratch buffer. -/
abbrev rS (h : Fin 6) (b : Fin 2) : Rect S1x6x256x256 := Rect.unit (s := S1x6x256x256) ![0, h.val, 128 * b.val, 0] S1x1x128x256.size (by revert h b; decide)
/-- A head's strip of the weights' scratch buffer. -/
abbrev rP (h : Fin 6) (b : Fin 2) : Rect S6x256x256 := Rect.unit (s := S6x256x256) ![h.val, 128 * b.val, 0] S1x128x256.size (by revert h b; decide)
/-- A head's block of the weights' scratch buffer. -/
abbrev rP2 (h : Fin 6) : Rect S6x256x256 := Rect.unit (s := S6x256x256) ![h.val, 0, 0] S1x256x256.size (by revert h; decide)

/-- The twelve strips stored into the weights' buffer, the last first. -/
def pcs7 (P : Fin 6 → Fin 2 → FVec Ideal S1x128x256 .bf16) : List (View.Piece (Elt Ideal) S6x256x256 .bf16) :=
  [⟨rP 5 1, P 5 1⟩, ⟨rP 5 0, P 5 0⟩, ⟨rP 4 1, P 4 1⟩, ⟨rP 4 0, P 4 0⟩, ⟨rP 3 1, P 3 1⟩, ⟨rP 3 0, P 3 0⟩, ⟨rP 2 1, P 2 1⟩, ⟨rP 2 0, P 2 0⟩, ⟨rP 1 1, P 1 1⟩, ⟨rP 1 0, P 1 0⟩, ⟨rP 0 1, P 0 1⟩, ⟨rP 0 0, P 0 0⟩]
/-- The twelve strips stored into the scores' buffer, the last first. -/
def pcs6 (S : Fin 6 → Fin 2 → FVec Ideal S1x1x128x256 .f32) : List (View.Piece (Elt Ideal) S1x6x256x256 .f32) :=
  [⟨rS 5 1, S 5 1⟩, ⟨rS 5 0, S 5 0⟩, ⟨rS 4 1, S 4 1⟩, ⟨rS 4 0, S 4 0⟩, ⟨rS 3 1, S 3 1⟩, ⟨rS 3 0, S 3 0⟩, ⟨rS 2 1, S 2 1⟩, ⟨rS 2 0, S 2 0⟩, ⟨rS 1 1, S 1 1⟩, ⟨rS 1 0, S 1 0⟩, ⟨rS 0 1, S 0 1⟩, ⟨rS 0 0, S 0 0⟩]

/-- Trip `k`'s chunk of the keys, for each head (two heads share their lanes). -/
def ldK (Y3 : FVec Ideal S1x2048x768 .bf16) (i : grid0.Coords) (k : Fin (k0_t1_loop i).trips) : Fin 6 → FVec Ideal S1x256x256 .bf16 :=
  ![View.ld (Val := Elt Ideal) (e' := .bf16) Y3 (Rect.unit (s := S1x2048x768) (k0_off4 i k) S1x256x256.size (k0_off4_inb i k)), View.ld (Val := Elt Ideal) (e' := .bf16) Y3 (Rect.unit (s := S1x2048x768) (k0_off4 i k) S1x256x256.size (k0_off4_inb i k)),
    View.ld (Val := Elt Ideal) (e' := .bf16) Y3 (Rect.unit (s := S1x2048x768) (k0_off5 i k) S1x256x256.size (k0_off5_inb i k)), View.ld (Val := Elt Ideal) (e' := .bf16) Y3 (Rect.unit (s := S1x2048x768) (k0_off5 i k) S1x256x256.size (k0_off5_inb i k)),
    View.ld (Val := Elt Ideal) (e' := .bf16) Y3 (Rect.unit (s := S1x2048x768) (k0_off6 i k) S1x256x256.size (k0_off6_inb i k)), View.ld (Val := Elt Ideal) (e' := .bf16) Y3 (Rect.unit (s := S1x2048x768) (k0_off6 i k) S1x256x256.size (k0_off6_inb i k))]

/-- The chunk of the values trip `k` weighs, for each head. -/
def ldV (Y4 : FVec Ideal S1x8x384x256 .bf16) (i : grid0.Coords) (k : Fin (k0_t1_loop i).trips) : Fin 6 → FVec Ideal S1x1x64x256 .bf16 :=
  ![View.ld (Val := Elt Ideal) (e' := .bf16) Y4 (Rect.unit (s := S1x8x384x256) (k0_off7 i k) S1x1x64x256.size (k0_off7_inb i k)), View.ld (Val := Elt Ideal) (e' := .bf16) Y4 (Rect.unit (s := S1x8x384x256) (k0_off8 i k) S1x1x64x256.size (k0_off8_inb i k)),
    View.ld (Val := Elt Ideal) (e' := .bf16) Y4 (Rect.unit (s := S1x8x384x256) (k0_off9 i k) S1x1x64x256.size (k0_off9_inb i k)), View.ld (Val := Elt Ideal) (e' := .bf16) Y4 (Rect.unit (s := S1x8x384x256) (k0_off10 i k) S1x1x64x256.size (k0_off10_inb i k)),
    View.ld (Val := Elt Ideal) (e' := .bf16) Y4 (Rect.unit (s := S1x8x384x256) (k0_off11 i k) S1x1x64x256.size (k0_off11_inb i k)), View.ld (Val := Elt Ideal) (e' := .bf16) Y4 (Rect.unit (s := S1x8x384x256) (k0_off12 i k) S1x1x64x256.size (k0_off12_inb i k))]

/-- Trip `k`'s scores, by head and strip. -/
def tS (Y3 : FVec Ideal S1x2048x768 .bf16) (q : Fin 6 → FVec Ideal S256x256 .bf16)
    (i : grid0.Coords) (k : Fin (k0_t1_loop i).trips) (h : Fin 6) (b : Fin 2) : FVec Ideal S128x256 .f32 :=
  match b with
  | 0 => opS0 (opMM (ldK Y3 i k h) (q h))
  | 1 => opS1 (opMM (ldK Y3 i k h) (q h))

/-- A step's new running maximum. -/
def tM (a : Acc) (h : Fin 6) : FVec Ideal S1x256 .f32 := maximumf (aM a h) (aCm a h)

/-- The weights of the scores the buffer holds. -/
def tP (Y6 : FVec Ideal S1x6x256x256 .f32) (a : Acc) (h : Fin 6) (b : Fin 2) : FVec Ideal S1x128x256 .bf16 := opPr (View.ld (Val := Elt Ideal) (e' := .f32) Y6 (rS h b)) (tM a h)

/-- A step's new running sum. -/
def tL (V : Fin 6 → FVec Ideal S1x1x64x256 .bf16) (P : Fin 6 → FVec Ideal S1x256x256 .bf16) (a : Acc) (h : Fin 6) : FVec Ideal S1x256 .f32 :=
  opL (aL a h) (opAl (aM a h) (tM a h)) (opPV (V h) (P h))

/-- A step's new running weighted sum. -/
def tA (V : Fin 6 → FVec Ideal S1x1x64x256 .bf16) (P : Fin 6 → FVec Ideal S1x256x256 .bf16) (a : Acc) (h : Fin 6) : FVec Ideal S64x256 .f32 :=
  opAcc (aA a h) (opAl (aM a h) (tM a h)) (opPV (V h) (P h))

section
variable (𝒱 : Variants) (c : Dev nD) (bd : Option 𝒱.V) (i : grid0.Coords) (arg2 : Memref sig .tc .vmem S1x1x768x256 .f32) (harg2 : arg2.IsWhole) (arg3 : Memref sig .tc .vmem S1x2048x768 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S1x6x256x256 .f32) (harg6 : arg6.IsWhole) (arg7 : Memref sig .tc .vmem S6x256x256 .bf16) (harg7 : arg7.IsWhole) (arg1 : BitVec 32) (q : Fin 6 → FVec Ideal S256x256 .bf16) (v144 : FVec Ideal S1x256 .f32) (v167 : FVec Ideal S1x256 .f32) (v190 : FVec Ideal S1x256 .f32) (v213 : FVec Ideal S1x256 .f32) (v236 : FVec Ideal S1x256 .f32) (v247 : FVec Ideal S1x256 .f32) (v257 : FVec Ideal S256 .f32)
  (X3 : BufTy.Contents (Elt Ideal) arg3.view.ty) (X4 : BufTy.Contents (Elt Ideal) arg4.view.ty)

/-- Trip `k`'s stores into the scores' buffer. -/
theorem trip_L6 (k : Fin (k0_t1_loop i).trips) (a : Acc) (f6 : BufTy.Contents (Elt Ideal) arg6.view.ty) (f7 : BufTy.Contents (Elt Ideal) arg7.view.ty) :
    (trip_k0_t1 (F := Ideal) 𝒱 c bd i arg2 harg2 arg3 harg3 arg4 harg4 arg5 harg5 arg6 harg6 arg7 harg7 arg1 (q 0) (q 1) (q 2) (q 3) (q 4) (q 5) v144 v167 v190 v213 v236 v247 v257 X3 X4 k).2.1 a f6 f7
      = pcs6 fun h b => shapeCast S1x1x128x256 (tS (arg3.view.read (Elt Ideal) X3) q i k h b) shapeCasts_S128x256_S1x1x128x256 := by
  unfold trip_k0_t1
  dsimp only
  rfl

/-- Trip `k`'s stores into the weights' buffer. -/
theorem trip_L7 (k : Fin (k0_t1_loop i).trips) (a : Acc) (f6 : BufTy.Contents (Elt Ideal) arg6.view.ty) (f7 : BufTy.Contents (Elt Ideal) arg7.view.ty) :
    (trip_k0_t1 (F := Ideal) 𝒱 c bd i arg2 harg2 arg3 harg3 arg4 harg4 arg5 harg5 arg6 harg6 arg7 harg7 arg1 (q 0) (q 1) (q 2) (q 3) (q 4) (q 5) v144 v167 v190 v213 v236 v247 v257 X3 X4 k).2.2.1 a f6 f7
      = pcs7 (tP (arg6.view.read (Elt Ideal) f6) a) := by
  unfold trip_k0_t1
  dsimp only
  rfl

/-- What trip `k` carries on. -/
theorem trip_R (k : Fin (k0_t1_loop i).trips) (a : Acc) (f6 : BufTy.Contents (Elt Ideal) arg6.view.ty) (f7 : BufTy.Contents (Elt Ideal) arg7.view.ty) :
    (trip_k0_t1 (F := Ideal) 𝒱 c bd i arg2 harg2 arg3 harg3 arg4 harg4 arg5 harg5 arg6 harg6 arg7 harg7 arg1 (q 0) (q 1) (q 2) (q 3) (q 4) (q 5) v144 v167 v190 v213 v236 v247 v257 X3 X4 k).1 a f6 f7
      = mkAcc (fun h => opMx (tS (arg3.view.read (Elt Ideal) X3) q i k h 0) (tS (arg3.view.read (Elt Ideal) X3) q i k h 1))
          (tM a)
          (tL (ldV (arg4.view.read (Elt Ideal) X4) i k) (fun h => arg7.view.readCov (pcs7 (tP (arg6.view.read (Elt Ideal) f6) a)) (rP2 h).toLoadRect) a)
          (tA (ldV (arg4.view.read (Elt Ideal) X4) i k) (fun h => arg7.view.readCov (pcs7 (tP (arg6.view.read (Elt Ideal) f6) a)) (rP2 h).toLoadRect) a) := by
  unfold trip_k0_t1
  dsimp only
  rfl

end

end Cert.Kernel6Ideal.Mla

end
-- ==== Proof.Mla.Buffers.lean ====
/- What the two scratch buffers of the latent attention hold after a trip's strips are stored, and where a load at a
   computed offset reads. -/
module

public import proofs.«01_k».proof.Proof.Fox.Softmax
public import proofs.«01_k».proof.Proof.Mla.Trip
public import Idealize.ShloMosaic.Lib.WritesUnit
public import Idealize.ShloMosaic.Lib.Pipeline.ValueKit.Tiles

@[expose] public section

set_option maxRecDepth 16384

noncomputable section

namespace Cert.Kernel6Ideal.Mla

open Cert.Kernel6Ideal Cert.Kernel6Ideal.Gen
open Idealize.ShloMosaic
open Idealize.ShloMosaic.TcCoe
open Cert.KernelIdeal.Fox (row jx ch hd)

/-- After the twelve strips are stored, the scores' buffer holds strip `b` of head `h` at its rows. -/
theorem read_pcs6 {sig : RefSig} {κ : Kind} {sp : Space} (v : View sig κ sp S1x6x256x256 .f32) (f : v.ty.Contents (Elt Ideal)) (S : Fin 6 → Fin 2 → FVec Ideal S1x1x128x256 .f32)
    (tl : List (View.Piece (Elt Ideal) S1x6x256x256 .f32)) (h : Fin 6) (b : Fin 2) (r : Fin 128) (c : Fin 256) :
    v.read (Elt Ideal) (v.writes (Elt Ideal) f (pcs6 S ++ tl)) (ix4 0 h (row b r) c) = S h b (ix4 0 0 r c) := by
  have hr := r.isLt
  fin_cases h <;> fin_cases b <;>
  · simp only [pcs6, List.cons_append, List.nil_append]
    repeat first
      | (refine (View.read_writes_cons_unit_of_not_mem (s := S1x6x256x256) _ _ _ _ _ _ rfl (1 : Fin 4) ?_).trans ?_; (focus (simp [ix4]; done)))
      | (refine (View.read_writes_cons_unit_of_not_mem (s := S1x6x256x256) _ _ _ _ _ _ rfl (2 : Fin 4) ?_).trans ?_; (focus (simp [ix4, row]; done)))
      | (refine (View.read_writes_cons_unit_of_not_mem (s := S1x6x256x256) _ _ _ _ _ _ rfl (2 : Fin 4) ?_).trans ?_; (focus (simp [ix4, row]; omega)))
      | (refine View.read_writes_cons_unit_of_mem (s := S1x6x256x256) _ _ _ _ _ _ (ix4 0 0 r c) rfl ?_; (intro a; fin_cases a <;> simp [row, ix4]); done)

/-- After the twelve strips are stored, the weights' buffer holds strip `b` of head `h` at its rows. -/
theorem read_pcs7 {sig : RefSig} {κ : Kind} {sp : Space} (v : View sig κ sp S6x256x256 .bf16) (f : v.ty.Contents (Elt Ideal)) (S : Fin 6 → Fin 2 → FVec Ideal S1x128x256 .bf16)
    (tl : List (View.Piece (Elt Ideal) S6x256x256 .bf16)) (h : Fin 6) (b : Fin 2) (r : Fin 128) (c : Fin 256) :
    v.read (Elt Ideal) (v.writes (Elt Ideal) f (pcs7 S ++ tl)) (ix3 h (row b r) c) = S h b (ix3 0 r c) := by
  have hr := r.isLt
  fin_cases h <;> fin_cases b <;>
  · simp only [pcs7, List.cons_append, List.nil_append]
    repeat first
      | (refine (View.read_writes_cons_unit_of_not_mem (s := S6x256x256) _ _ _ _ _ _ rfl (0 : Fin 3) ?_).trans ?_; (focus (simp [ix3]; done)))
      | (refine (View.read_writes_cons_unit_of_not_mem (s := S6x256x256) _ _ _ _ _ _ rfl (1 : Fin 3) ?_).trans ?_; (focus (simp [ix3, row]; done)))
      | (refine (View.read_writes_cons_unit_of_not_mem (s := S6x256x256) _ _ _ _ _ _ rfl (1 : Fin 3) ?_).trans ?_; (focus (simp [ix3, row]; omega)))
      | (refine View.read_writes_cons_unit_of_mem (s := S6x256x256) _ _ _ _ _ _ (ix3 0 r c) rfl ?_; (intro a; fin_cases a <;> simp [row, ix3]); done)

/-- A head's block of the weights read back after the twelve strips are stored. -/
theorem readCov_pcs7 {sig : RefSig} {κ : Kind} {sp : Space} (v : View sig κ sp S6x256x256 .bf16) (S : Fin 6 → Fin 2 → FVec Ideal S1x128x256 .bf16)
    (tl : List (View.Piece (Elt Ideal) S6x256x256 .bf16)) (h : Fin 6) (b : Fin 2) (r : Fin 128) (c : Fin 256) :
    (v.readCov (pcs7 S ++ tl) (rP2 h).toLoadRect : FVec Ideal S1x256x256 .bf16) (ix3 0 (row b r) c) = S h b (ix3 0 r c) := by
  rw [← read_pcs7 v v.junk S tl h b r c]
  exact View.ld_unit_apply_of (v.read (Elt Ideal) (v.writes (Elt Ideal) v.junk (pcs7 S ++ tl))) _ _ _ _ _ (by intro a; fin_cases a <;> simp [ix3])

/-- A lane of a head's pair of heads. -/
def hp (h : Fin 6) (x : Fin 256) : Fin 768 := ⟨256 * (h.val / 2) + x.val, by omega⟩

theorem k0_t1_trips : ∀ i : grid0.Coords, (k0_t1_loop i).trips = (i 1).val := by decide +kernel

theorem k_lt (i : grid0.Coords) (k : Fin (k0_t1_loop i).trips) : k.val < 7 := lt_of_lt_of_le k.isLt (k0_t1_abs i).2.1

theorem off7_eq : ∀ (i : grid0.Coords) (k : Fin (k0_t1_loop i).trips), k0_off7 i k = ![0, ch (i 1).val k.val, 64 * 0, 0] := by decide +kernel
theorem off8_eq : ∀ (i : grid0.Coords) (k : Fin (k0_t1_loop i).trips), k0_off8 i k = ![0, ch (i 1).val k.val, 64 * 1, 0] := by decide +kernel
theorem off9_eq : ∀ (i : grid0.Coords) (k : Fin (k0_t1_loop i).trips), k0_off9 i k = ![0, ch (i 1).val k.val, 64 * 2, 0] := by decide +kernel
theorem off10_eq : ∀ (i : grid0.Coords) (k : Fin (k0_t1_loop i).trips), k0_off10 i k = ![0, ch (i 1).val k.val, 64 * 3, 0] := by decide +kernel
theorem off11_eq : ∀ (i : grid0.Coords) (k : Fin (k0_t1_loop i).trips), k0_off11 i k = ![0, ch (i 1).val k.val, 64 * 4, 0] := by decide +kernel
theorem off12_eq : ∀ (i : grid0.Coords) (k : Fin (k0_t1_loop i).trips), k0_off12 i k = ![0, ch (i 1).val k.val, 64 * 5, 0] := by decide +kernel

/-- What a load of the keys' chunk at `256·k` and lane `o` reads. -/
theorem ldK_read (Y : FVec Ideal S1x2048x768 .bf16) (off : Fin 3 → ℕ) (inb) (k o : ℕ) (e : off = ![0, 256 * k, o]) (r : Fin 256) (x : Fin 256) (hk : 256 * k + r < 2048) (ho : o + x < 768) :
    (View.ld (Val := Elt Ideal) (e' := .bf16) Y (Rect.unit (s := S1x2048x768) off S1x256x256.size inb) : FVec Ideal S1x256x256 .bf16) (ix3 0 r x) = Y (ix3 0 (jx k r) ⟨o + x, ho⟩) := by
  subst e
  refine View.ld_unit_apply_of (Val := Elt Ideal) (e := .bf16) (S := S1x2048x768) Y _ _ _ _ _ ?_
  intro a; fin_cases a <;> simp [ix3, jx]; omega

/-- What a load of the values' chunk `k` at channel `o` reads. -/
theorem ldV_read (Y : FVec Ideal S1x8x384x256 .bf16) (off : Fin 4 → ℕ) (inb) (k o : ℕ) (e : off = ![0, k, o, 0]) (d : Fin 64) (r : Fin 256) (hk : k < 8) (ho : o + d < 384) :
    (View.ld (Val := Elt Ideal) (e' := .bf16) Y (Rect.unit (s := S1x8x384x256) off S1x1x64x256.size inb) : FVec Ideal S1x1x64x256 .bf16) (ix4 0 0 d r) = Y (ix4 0 ⟨k, hk⟩ ⟨o + d, ho⟩ r) := by
  subst e
  refine View.ld_unit_apply_of (Val := Elt Ideal) (e := .bf16) (S := S1x8x384x256) Y _ _ _ _ _ ?_
  intro a; fin_cases a <;> simp [ix4]

/-- A trip's keys. -/
theorem ldK_apply (Y : FVec Ideal S1x2048x768 .bf16) (i : grid0.Coords) (k : Fin (k0_t1_loop i).trips) (h : Fin 6) (r : Fin 256) (x : Fin 256) :
    ldK Y i k h (ix3 0 r x) = Y (ix3 0 (jx k.val r) (hp h x)) := by
  have hk := k_lt i k
  fin_cases h
  · exact ldK_read Y _ _ _ _ (k0_off4_eq i k) r x (by omega) (by omega)
  · exact ldK_read Y _ _ _ _ (k0_off4_eq i k) r x (by omega) (by omega)
  · exact ldK_read Y _ _ _ _ (k0_off5_eq i k) r x (by omega) (by omega)
  · exact ldK_read Y _ _ _ _ (k0_off5_eq i k) r x (by omega) (by omega)
  · exact ldK_read Y _ _ _ _ (k0_off6_eq i k) r x (by omega) (by omega)
  · exact ldK_read Y _ _ _ _ (k0_off6_eq i k) r x (by omega) (by omega)

theorem ch_lt (i : grid0.Coords) (k : ℕ) (hk : k ≤ (i 1).val) : ch (i 1).val k < 8 := by
  have : (i 1).val < 8 := (i 1).isLt
  unfold ch; split <;> omega

/-- A trip's values. -/
theorem ldV_apply (Y : FVec Ideal S1x8x384x256 .bf16) (i : grid0.Coords) (k : Fin (k0_t1_loop i).trips) (h : Fin 6) (d : Fin 64) (r : Fin 256) :
    ldV Y i k h (ix4 0 0 d r) = Y (ix4 0 ⟨ch (i 1).val k.val % 8, Nat.mod_lt _ (by decide)⟩ (hd h d) r) := by
  have hk : k.val ≤ (i 1).val := le_of_lt (k.isLt.trans_eq (k0_t1_trips i))
  have hc := ch_lt i k.val hk
  have e : (⟨ch (i 1).val k.val % 8, Nat.mod_lt _ (by decide)⟩ : Fin 8) = ⟨ch (i 1).val k.val, hc⟩ := Fin.ext (Nat.mod_eq_of_lt hc)
  rw [e]
  fin_cases h
  · exact ldV_read Y _ _ _ _ (off7_eq i k) d r hc (by omega)
  · exact ldV_read Y _ _ _ _ (off8_eq i k) d r hc (by omega)
  · exact ldV_read Y _ _ _ _ (off9_eq i k) d r hc (by omega)
  · exact ldV_read Y _ _ _ _ (off10_eq i k) d r hc (by omega)
  · exact ldV_read Y _ _ _ _ (off11_eq i k) d r hc (by omega)
  · exact ldV_read Y _ _ _ _ (off12_eq i k) d r hc (by omega)

/-- A strip of the scores' buffer. -/
theorem ldS_apply (Y : FVec Ideal S1x6x256x256 .f32) (h : Fin 6) (b : Fin 2) (r : Fin 128) (c : Fin 256) :
    (View.ld (Val := Elt Ideal) (e' := .f32) Y (rS h b) : FVec Ideal S1x1x128x256 .f32) (ix4 0 0 r c) = Y (ix4 0 h (row b r) c) := by
  refine View.ld_unit_apply_of (Val := Elt Ideal) (e := .f32) (S := S1x6x256x256) Y _ _ _ _ _ ?_
  intro a; fin_cases a <;> simp [ix4, row]

end Cert.Kernel6Ideal.Mla

end
-- ==== Proof.Mla.Model.lean ====
/- The latent attention's running softmax over the extended reals, and that the loop's trips follow it. -/
module

public import proofs.«01_k».proof.Proof.Mla.Buffers

@[expose] public section

set_option maxRecDepth 16384

noncomputable section

namespace Cert.Kernel6Ideal.Mla

open Cert.Kernel6Ideal Cert.Kernel6Ideal.Gen
open Idealize.ShloMosaic
open Idealize.ShloMosaic.TcCoe
open Cert.KernelIdeal.Fox (row jx ch hd St ofBits_negInf sum_row exists_row sup_row fold_max_eq_sup tsc)

/-- The carried values and the scores' buffer hold scores `T` and states `R`, by head and column. -/
structure Inv (T : Fin 6 → Fin 256 → Fin 256 → EReal) (R : Fin 6 → Fin 256 → St) (a : Acc) (Y6 : FVec Ideal S1x6x256x256 .f32) : Prop where
  cm : ∀ h c, aCm a h (ix2 0 c) = Finset.univ.sup (T h c)
  m : ∀ h c, aM a h (ix2 0 c) = (R h c).m
  l : ∀ h c, aL a h (ix2 0 c) = (R h c).l
  A : ∀ h d c, aA a h (ix2 d c) = (R h c).A d
  y : ∀ h r c, Y6 (ix4 0 h r c) = T h c r

/-- A chunk's maxima from its two strips. -/
theorem opMx_sup (s : Fin 2 → FVec Ideal S128x256 .f32) (t : Fin 256 → EReal) (c : Fin 256) (hs : ∀ b r, s b (ix2 r c) = t (row b r)) :
    opMx (s 0) (s 1) (ix2 0 c) = Finset.univ.sup t := by
  rw [opMx_apply, fold_max_eq_sup, fold_max_eq_sup, sup_row]
  simp only [hs]

section
variable {T : Fin 6 → Fin 256 → Fin 256 → EReal} {R : Fin 6 → Fin 256 → St} {a : Acc} {Y6 : FVec Ideal S1x6x256x256 .f32} (I : Inv T R a Y6)
include I

theorem tM_apply (h : Fin 6) (c : Fin 256) : tM a h (ix2 0 c) = max (R h c).m (Finset.univ.sup (T h c)) := by
  have : tM a h (ix2 0 c) = max (aM a h (ix2 0 c)) (aCm a h (ix2 0 c)) := rfl
  rw [this, I.m, I.cm]

theorem tP_apply (h : Fin 6) (b : Fin 2) (r : Fin 128) (c : Fin 256) : tP Y6 a h b (ix3 0 r c) = Ideal.exp2 (T h c (row b r) - max (R h c).m (Finset.univ.sup (T h c))) := by
  rw [tP, opPr_apply, tM_apply I, ldS_apply, I.y]
  rfl

/-- The block of weights read back. -/
theorem readP_apply {sig : RefSig} {κ : Kind} {sp : Space} (v : View sig κ sp S6x256x256 .bf16) (tl : List (View.Piece (Elt Ideal) S6x256x256 .bf16)) (h : Fin 6) (r c : Fin 256) :
    (v.readCov (pcs7 (tP Y6 a) ++ tl) (rP2 h).toLoadRect : FVec Ideal S1x256x256 .bf16) (ix3 0 r c) = Ideal.exp2 (T h c r - max (R h c).m (Finset.univ.sup (T h c))) := by
  obtain ⟨b, r', rfl⟩ := exists_row r
  rw [readCov_pcs7, tP_apply I]

/-- A step's sum and weighted sums are the running softmax's. -/
theorem step_apply {sig : RefSig} {κ : Kind} {sp : Space} (v : View sig κ sp S6x256x256 .bf16) (tl : List (View.Piece (Elt Ideal) S6x256x256 .bf16))
    (V : Fin 6 → FVec Ideal S1x1x64x256 .bf16) (h : Fin 6) (c : Fin 256) :
    tL V (fun h => v.readCov (pcs7 (tP Y6 a) ++ tl) (rP2 h).toLoadRect) a h (ix2 0 c) = ((R h c).step (T h c) fun d r => V h (ix4 0 0 d r)).l
    ∧ ∀ d, tA V (fun h => v.readCov (pcs7 (tP Y6 a) ++ tl) (rP2 h).toLoadRect) a h (ix2 d c) = ((R h c).step (T h c) fun d r => V h (ix4 0 0 d r)).A d := by
  have hal : opAl (aM a h) (tM a h) (ix2 0 c) = Ideal.exp2 ((R h c).m - max (R h c).m (Finset.univ.sup (T h c))) := by
    have : opAl (aM a h) (tM a h) (ix2 0 c) = Ideal.exp2 (aM a h (ix2 0 c) - tM a h (ix2 0 c)) := rfl
    rw [this, tM_apply I, I.m]
  constructor
  · rw [tL, opL_apply, hal, I.l]
    simp only [readP_apply I]
    rfl
  · intro d
    rw [tA, opAcc_apply, hal, I.A]
    simp only [readP_apply I]
    rfl

end

/-- A score of the kernel, of a head, a key and a query. -/
def sc (Y3 : FVec Ideal S1x2048x768 .bf16) (q : Fin 6 → FVec Ideal S256x256 .bf16) (h : Fin 6) (c : Fin 256) (j : Fin 2048) : EReal :=
  ∑ x, Y3 (ix3 0 j (hp h x)) * q h (ix2 x c)

theorem tS_apply (Y3 : FVec Ideal S1x2048x768 .bf16) (q : Fin 6 → FVec Ideal S256x256 .bf16)
    (i : grid0.Coords) (k : Fin (k0_t1_loop i).trips) (h : Fin 6) (b : Fin 2) (r : Fin 128) (c : Fin 256) :
    tS Y3 q i k h b (ix2 r c) = sc Y3 q h c (jx k.val (row b r)) := by
  fin_cases b
  · show opS0 _ _ = _
    rw [opS0_apply]
    simp only [ldK_apply]
    rw [sc, show (⟨r, by omega⟩ : Fin 256) = row 0 r from Fin.ext (by simp [row])]
    rfl
  · show opS1 _ _ = _
    rw [opS1_apply]
    simp only [ldK_apply]
    rw [sc, show (⟨128 + r, by omega⟩ : Fin 256) = row 1 r from Fin.ext (by simp [row])]
    rfl

/-- The values a trip of query tile `t` weighs. -/
def tv (Y4 : FVec Ideal S1x8x384x256 .bf16) (h : Fin 6) (t : ℕ) (k : ℕ) (d : Fin 64) (r : Fin 256) : EReal :=
  Y4 (ix4 0 ⟨ch t k % 8, Nat.mod_lt _ (by decide)⟩ (hd h d) r)

/-- The scores of the trip's chunk. -/
abbrev mT (Y3 : FVec Ideal S1x2048x768 .bf16) (q : Fin 6 → FVec Ideal S256x256 .bf16) (t k : ℕ) (h : Fin 6) (c : Fin 256) : Fin 256 → EReal :=
  tsc (sc Y3 q h c) t c k

/-- The states before the trip. -/
abbrev mR (Y3 : FVec Ideal S1x2048x768 .bf16) (Y4 : FVec Ideal S1x8x384x256 .bf16) (q : Fin 6 → FVec Ideal S256x256 .bf16) (t k : ℕ) (h : Fin 6) (c : Fin 256) : St :=
  St.run (tsc (sc Y3 q h c) t c) (tv Y4 h t) k

section
variable (𝒱 : Variants) (c : Dev nD) (bd : Option 𝒱.V) (i : grid0.Coords) (arg2 : Memref sig .tc .vmem S1x1x768x256 .f32) (harg2 : arg2.IsWhole) (arg3 : Memref sig .tc .vmem S1x2048x768 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S1x6x256x256 .f32) (harg6 : arg6.IsWhole) (arg7 : Memref sig .tc .vmem S6x256x256 .bf16) (harg7 : arg7.IsWhole) (arg1 : BitVec 32) (q : Fin 6 → FVec Ideal S256x256 .bf16) (v144 : FVec Ideal S1x256 .f32) (v167 : FVec Ideal S1x256 .f32) (v190 : FVec Ideal S1x256 .f32) (v213 : FVec Ideal S1x256 .f32) (v236 : FVec Ideal S1x256 .f32) (v247 : FVec Ideal S1x256 .f32) (v257 : FVec Ideal S256 .f32)
  (X3 : BufTy.Contents (Elt Ideal) arg3.view.ty) (X4 : BufTy.Contents (Elt Ideal) arg4.view.ty) (G6 : BufTy.Contents (Elt Ideal) arg6.view.ty) (G7 : BufTy.Contents (Elt Ideal) arg7.view.ty) (init : Acc)

/-- The loop's state after `k` trips. -/
abbrev stt (k : ℕ) : Acc × List (View.Piece (Elt Ideal) S1x6x256x256 .f32) × List (View.Piece (Elt Ideal) S6x256x256 .bf16) :=
  st_k0_t1 (F := Ideal) 𝒱 c bd i arg2 harg2 arg3 harg3 arg4 harg4 arg5 harg5 arg6 harg6 arg7 harg7 arg1 (q 0) (q 1) (q 2) (q 3) (q 4) (q 5) v144 v167 v190 v213 v236 v247 v257 X3 X4 G6 G7 init k

/-- The loop follows the running softmax of every head and column. -/
theorem inv_st (h0 : Inv (mT (arg3.view.read (Elt Ideal) X3) q (i 1).val 0) (mR (arg3.view.read (Elt Ideal) X3) (arg4.view.read (Elt Ideal) X4) q (i 1).val 0) init (arg6.view.read (Elt Ideal) G6)) (k : ℕ) (hk : k ≤ (k0_t1_loop i).trips) :
    Inv (mT (arg3.view.read (Elt Ideal) X3) q (i 1).val k) (mR (arg3.view.read (Elt Ideal) X3) (arg4.view.read (Elt Ideal) X4) q (i 1).val k)
      (stt 𝒱 c bd i arg2 harg2 arg3 harg3 arg4 harg4 arg5 harg5 arg6 harg6 arg7 harg7 arg1 q v144 v167 v190 v213 v236 v247 v257 X3 X4 G6 G7 init k).1
      (arg6.view.read (Elt Ideal) (arg6.view.writes (Elt Ideal) G6 (stt 𝒱 c bd i arg2 harg2 arg3 harg3 arg4 harg4 arg5 harg5 arg6 harg6 arg7 harg7 arg1 q v144 v167 v190 v213 v236 v247 v257 X3 X4 G6 G7 init k).2.1)) := by
  induction k with
  | zero => exact h0
  | succ k ih =>
    have I := ih (Nat.le_of_succ_le hk)
    have e := st_k0_t1_succ (F := Ideal) 𝒱 c bd i arg2 harg2 arg3 harg3 arg4 harg4 arg5 harg5 arg6 harg6 arg7 harg7 arg1 (q 0) (q 1) (q 2) (q 3) (q 4) (q 5) v144 v167 v190 v213 v236 v247 v257 X3 X4 G6 G7 init ⟨k, hk⟩
    unfold tripR_k0_t1 tripL_k0_t1 at e
    dsimp only at e
    rw [trip_R, trip_L6] at e
    rw [show stt 𝒱 c bd i arg2 harg2 arg3 harg3 arg4 harg4 arg5 harg5 arg6 harg6 arg7 harg7 arg1 q v144 v167 v190 v213 v236 v247 v257 X3 X4 G6 G7 init (k + 1) = _ from e]
    have hs := fun h c => step_apply I arg7.view [] (ldV (arg4.view.read (Elt Ideal) X4) i ⟨k, hk⟩) h c
    simp only [List.append_nil] at hs
    have hv : ∀ h, (fun (d : Fin 64) (r : Fin 256) => ldV (arg4.view.read (Elt Ideal) X4) i ⟨k, hk⟩ h (ix4 0 0 d r)) = tv (arg4.view.read (Elt Ideal) X4) h (i 1).val k := fun h => by
      funext d r; exact ldV_apply _ i ⟨k, hk⟩ h d r
    simp only [hv] at hs
    refine ⟨fun h c => ?_, fun h c => ?_, fun h c => ?_, fun h d c => ?_, fun h r c => ?_⟩
    · have := opMx_sup (tS (arg3.view.read (Elt Ideal) X3) q i ⟨k, hk⟩ h) (mT (arg3.view.read (Elt Ideal) X3) q (i 1).val (k + 1) h c) c
        (fun b r => tS_apply _ q i ⟨k, hk⟩ h b r c)
      rw [← this]
      fin_cases h <;> rfl
    · have := tM_apply I h c
      refine Eq.trans ?_ this
      fin_cases h <;> rfl
    · refine Eq.trans ?_ (hs h c).1
      fin_cases h <;> rfl
    · refine Eq.trans ?_ ((hs h c).2 d)
      fin_cases h <;> rfl
    · obtain ⟨b, r', rfl⟩ := exists_row r
      refine (read_pcs6 arg6.view G6 _ _ h b r' c).trans ?_
      refine Eq.trans ?_ (tS_apply (arg3.view.read (Elt Ideal) X3) q i ⟨k, hk⟩ h b r' c)
      pointwise []

end

end Cert.Kernel6Ideal.Mla

end
-- ==== Proof.Mla.Final.lean ====
/- What the latent attention's body stores into its output block, over the carried values at the loops' end. -/
module

public import proofs.«01_k».proof.Proof.Mla.Model
public import proofs.«01_k».proof.Proof.Mla.IdealRun

@[expose] public section

set_option maxRecDepth 16384

noncomputable section

namespace Cert.Kernel6Ideal.Mla

open Cert.Kernel6Ideal Cert.Kernel6Ideal.Gen
open Idealize.ShloMosaic
open Idealize.ShloMosaic.TcCoe
open Cert.KernelIdeal.Fox (row jx ch hd St)

/-- The last chunk of the values, for each head. -/
def fV (Y4 : FVec Ideal S1x8x384x256 .bf16) (i : grid0.Coords) : Fin 6 → FVec Ideal S1x1x64x256 .bf16 :=
  ![View.ld (Val := Elt Ideal) (e' := .bf16) Y4 (Rect.unit (s := S1x8x384x256) (k0_off22 i) S1x1x64x256.size (k0_off22_inb i)),
    View.ld (Val := Elt Ideal) (e' := .bf16) Y4 (Rect.unit (s := S1x8x384x256) (k0_off23 i) S1x1x64x256.size (k0_off23_inb i)),
    View.ld (Val := Elt Ideal) (e' := .bf16) Y4 (Rect.unit (s := S1x8x384x256) (k0_off24 i) S1x1x64x256.size (k0_off24_inb i)),
    View.ld (Val := Elt Ideal) (e' := .bf16) Y4 (Rect.unit (s := S1x8x384x256) (k0_off25 i) S1x1x64x256.size (k0_off25_inb i)),
    View.ld (Val := Elt Ideal) (e' := .bf16) Y4 (Rect.unit (s := S1x8x384x256) (k0_off26 i) S1x1x64x256.size (k0_off26_inb i)),
    View.ld (Val := Elt Ideal) (e' := .bf16) Y4 (Rect.unit (s := S1x8x384x256) (k0_off27 i) S1x1x64x256.size (k0_off27_inb i))]

/-- The output's pieces, from the carried values `a` and the scores' buffer `Y6` at the loops' end. -/
def outPcs {sig : RefSig} {κ : Kind} {sp : Space} (v : View sig κ sp S6x256x256 .bf16) (L7 : List (View.Piece (Elt Ideal) S6x256x256 .bf16)) (V : Fin 6 → FVec Ideal S1x1x64x256 .bf16) (Y6 : FVec Ideal S1x6x256x256 .f32) (a : Acc) :
    List (View.Piece (Elt Ideal) S1x256x384 .bf16) :=
  [⟨Rect.unit (s := S1x256x384) ![0, 0, 256] S1x256x128.size (by decide), opOut (tA V (fun h => v.readCov (pcs7 (tP Y6 a) ++ L7) (rP2 h).toLoadRect) a 4) (tL V (fun h => v.readCov (pcs7 (tP Y6 a) ++ L7) (rP2 h).toLoadRect) a 4) (tA V (fun h => v.readCov (pcs7 (tP Y6 a) ++ L7) (rP2 h).toLoadRect) a 5) (tL V (fun h => v.readCov (pcs7 (tP Y6 a) ++ L7) (rP2 h).toLoadRect) a 5)⟩,
   ⟨Rect.unit (s := S1x256x384) ![0, 0, 128] S1x256x128.size (by decide), opOut (tA V (fun h => v.readCov (pcs7 (tP Y6 a) ++ L7) (rP2 h).toLoadRect) a 2) (tL V (fun h => v.readCov (pcs7 (tP Y6 a) ++ L7) (rP2 h).toLoadRect) a 2) (tA V (fun h => v.readCov (pcs7 (tP Y6 a) ++ L7) (rP2 h).toLoadRect) a 3) (tL V (fun h => v.readCov (pcs7 (tP Y6 a) ++ L7) (rP2 h).toLoadRect) a 3)⟩,
   ⟨Rect.unit (s := S1x256x384) ![0, 0, 0] S1x256x128.size (by decide), opOut (tA V (fun h => v.readCov (pcs7 (tP Y6 a) ++ L7) (rP2 h).toLoadRect) a 0) (tL V (fun h => v.readCov (pcs7 (tP Y6 a) ++ L7) (rP2 h).toLoadRect) a 0) (tA V (fun h => v.readCov (pcs7 (tP Y6 a) ++ L7) (rP2 h).toLoadRect) a 1) (tL V (fun h => v.readCov (pcs7 (tP Y6 a) ++ L7) (rP2 h).toLoadRect) a 1)⟩]

section
open run
variable (c : Dev nD) (i : grid0.Coords) (arg2 : Memref sig .tc .vmem S1x1x768x256 .f32) (harg2 : arg2.IsWhole) (arg3 : Memref sig .tc .vmem S1x2048x768 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S1x6x256x256 .f32) (harg6 : arg6.IsWhole) (arg7 : Memref sig .tc .vmem S6x256x256 .bf16) (harg7 : arg7.IsWhole)
  (X2 : BufTy.Contents (Elt Ideal) arg2.view.ty) (X3 : BufTy.Contents (Elt Ideal) arg3.view.ty) (X4 : BufTy.Contents (Elt Ideal) arg4.view.ty)
  (f7 : BufTy.Contents (Elt Ideal) arg7.view.ty)

/-- The first loop's state at its end. -/
def s1 : Acc × List (View.Piece (Elt Ideal) S1x6x256x256 .f32) × List (View.Piece (Elt Ideal) S6x256x256 .bf16) :=
  st_k0_t1 (F := Ideal) Variants.none c none i arg2 harg2 arg3 harg3 arg4 harg4 arg5 harg5 arg6 harg6 arg7 harg7 (BitVec.ofNat 32 (i 1).val) (sl.r arg2 X2) (sl.r_1 arg2 X2) (sl.r_3 arg2 X2) (sl.r_4 arg2 X2) (sl.v82 arg2 X2) (sl.v95 arg2 X2) (sl.r_10 i arg2 arg3 X2 X3) (sl.r_12 i arg2 arg3 X2 X3) (sl.r_16 i arg2 arg3 X2 X3) (sl.r_17 i arg2 arg3 X2 X3) (sl.r_19 i arg2 arg3 X2 X3) (sl.r_20 i arg2 arg3 X2 X3) (sl.r_21 i arg2 arg3 X2 X3) X3 X4 (arg6.view.writes (Elt Ideal) arg6.view.junk (sl.H6_12 i arg2 arg3 X2 X3)) f7
    (sl.r_10 i arg2 arg3 X2 X3, sl.r_12 i arg2 arg3 X2 X3, sl.r_16 i arg2 arg3 X2 X3, sl.r_17 i arg2 arg3 X2 X3, sl.r_19 i arg2 arg3 X2 X3, k0_pay240 (sl.r_20 i arg2 arg3 X2 X3) (sl.r_21 i arg2 arg3 X2 X3), k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258) (Scf.trips (k0_t1_loop i).lb (k0_t1_loop i).ub (k0_t1_loop i).st)

/-- The second loop's state at its end. -/
def s2 : Acc × List (View.Piece (Elt Ideal) S1x6x256x256 .f32) × List (View.Piece (Elt Ideal) S6x256x256 .bf16) :=
  let s := s1 c i arg2 harg2 arg3 harg3 arg4 harg4 arg5 harg5 arg6 harg6 arg7 harg7 X2 X3 X4 f7
  st_k0_t2 (F := Ideal) Variants.none c none i arg2 harg2 arg3 harg3 arg4 harg4 arg5 harg5 arg6 harg6 arg7 harg7 (BitVec.ofNat 32 (i 1).val) (sl.r arg2 X2) (sl.r_1 arg2 X2) (sl.r_3 arg2 X2) (sl.r_4 arg2 X2) (sl.v82 arg2 X2) (sl.v95 arg2 X2) (sl.r_10 i arg2 arg3 X2 X3) (sl.r_12 i arg2 arg3 X2 X3) (sl.r_16 i arg2 arg3 X2 X3) (sl.r_17 i arg2 arg3 X2 X3) (sl.r_19 i arg2 arg3 X2 X3) (sl.r_20 i arg2 arg3 X2 X3) (sl.r_21 i arg2 arg3 X2 X3) (sl.v282 i) X3 X4 (arg6.view.writes (Elt Ideal) arg6.view.junk (s.2.1 ++ sl.H6_12 i arg2 arg3 X2 X3)) (arg7.view.writes (Elt Ideal) f7 s.2.2)
    (s.1.1, s.1.2.1, s.1.2.2.1, s.1.2.2.2.1, s.1.2.2.2.2.1, s.1.2.2.2.2.2.1, s.1.2.2.2.2.2.2.1, s.1.2.2.2.2.2.2.2.1, s.1.2.2.2.2.2.2.2.2.1, s.1.2.2.2.2.2.2.2.2.2.1, s.1.2.2.2.2.2.2.2.2.2.2.1, s.1.2.2.2.2.2.2.2.2.2.2.2.1, s.1.2.2.2.2.2.2.2.2.2.2.2.2.1, s.1.2.2.2.2.2.2.2.2.2.2.2.2.2.1, s.1.2.2.2.2.2.2.2.2.2.2.2.2.2.2.1, s.1.2.2.2.2.2.2.2.2.2.2.2.2.2.2.2.1, s.1.2.2.2.2.2.2.2.2.2.2.2.2.2.2.2.2.1, s.1.2.2.2.2.2.2.2.2.2.2.2.2.2.2.2.2.2.1, s.1.2.2.2.2.2.2.2.2.2.2.2.2.2.2.2.2.2.2.1, s.1.2.2.2.2.2.2.2.2.2.2.2.2.2.2.2.2.2.2.2.1, s.1.2.2.2.2.2.2.2.2.2.2.2.2.2.2.2.2.2.2.2.2.1, s.1.2.2.2.2.2.2.2.2.2.2.2.2.2.2.2.2.2.2.2.2.2.1, s.1.2.2.2.2.2.2.2.2.2.2.2.2.2.2.2.2.2.2.2.2.2.2.1, s.1.2.2.2.2.2.2.2.2.2.2.2.2.2.2.2.2.2.2.2.2.2.2.2) (Scf.trips (k0_t2_loop i).lb (k0_t2_loop i).ub (k0_t2_loop i).st)

attribute [local irreducible] st_k0_t1 st_k0_t2

/-- The body's output pieces are the carried values' after one more step. -/
theorem run_eq (f6 : BufTy.Contents (Elt Ideal) arg6.view.ty) :
    (run (F := Ideal) c i arg2 harg2 arg3 harg3 arg4 harg4 arg5 harg5 arg6 harg6 arg7 harg7 X2 X3 X4).1 f6 f7
      = outPcs arg7.view ((s2 c i arg2 harg2 arg3 harg3 arg4 harg4 arg5 harg5 arg6 harg6 arg7 harg7 X2 X3 X4 f7).2.2 ++ (s1 c i arg2 harg2 arg3 harg3 arg4 harg4 arg5 harg5 arg6 harg6 arg7 harg7 X2 X3 X4 f7).2.2) (fV (arg4.view.read (Elt Ideal) X4) i)
          (arg6.view.read (Elt Ideal) (arg6.view.writes (Elt Ideal) arg6.view.junk ((s2 c i arg2 harg2 arg3 harg3 arg4 harg4 arg5 harg5 arg6 harg6 arg7 harg7 X2 X3 X4 f7).2.1 ++ ((s1 c i arg2 harg2 arg3 harg3 arg4 harg4 arg5 harg5 arg6 harg6 arg7 harg7 X2 X3 X4 f7).2.1 ++ sl.H6_12 i arg2 arg3 X2 X3)))) (s2 c i arg2 harg2 arg3 harg3 arg4 harg4 arg5 harg5 arg6 harg6 arg7 harg7 X2 X3 X4 f7).1 := by
  rfl

end

end Cert.Kernel6Ideal.Mla

end
-- ==== Proof.Mla.Out.lean ====
/- What the latent attention's body leaves in its output block, element by element: the running softmax over the
   chunks up to the query's. -/
module

public import proofs.«01_k».proof.Proof.Mla.Final

@[expose] public section

set_option maxRecDepth 16384

noncomputable section

namespace Cert.Kernel6Ideal.Mla

open Cert.Kernel6Ideal Cert.Kernel6Ideal.Gen
open Idealize.ShloMosaic
open Idealize.ShloMosaic.TcCoe
open Cert.KernelIdeal.Fox (row jx ch hd St exists_row tsc)

/-- Two heads' rows of the queries' block. -/
abbrev rQ (p : Fin 3) : Rect S1x1x768x256 := Rect.unit (s := S1x1x768x256) ![0, 0, 256 * p.val, 0] S1x1x256x256.size (by revert p; decide)

/-- The queries of each head, scaled, in its half of two heads' rows. -/
def pQ (Y2 : FVec Ideal S1x1x768x256 .f32) : Fin 6 → FVec Ideal S256x256 .bf16 :=
  ![opQ (View.ld (Val := Elt Ideal) (e' := .f32) Y2 (rQ 0)) 0#32 64#32 128#32 160#32,
    opQ (View.ld (Val := Elt Ideal) (e' := .f32) Y2 (rQ 0)) 64#32 128#32 160#32 192#32,
    opQ (View.ld (Val := Elt Ideal) (e' := .f32) Y2 (rQ 1)) 0#32 64#32 128#32 160#32,
    opQ (View.ld (Val := Elt Ideal) (e' := .f32) Y2 (rQ 1)) 64#32 128#32 160#32 192#32,
    opQ (View.ld (Val := Elt Ideal) (e' := .f32) Y2 (rQ 2)) 0#32 64#32 128#32 160#32,
    opQ (View.ld (Val := Elt Ideal) (e' := .f32) Y2 (rQ 2)) 64#32 128#32 160#32 192#32]

/-- The diagonal chunk of the keys, for each head. -/
def pK (Y3 : FVec Ideal S1x2048x768 .bf16) (i : grid0.Coords) : Fin 6 → FVec Ideal S1x256x256 .bf16 :=
  ![View.ld (Val := Elt Ideal) (e' := .bf16) Y3 (Rect.unit (s := S1x2048x768) (k0_off1 i) S1x256x256.size (k0_off1_inb i)),
    View.ld (Val := Elt Ideal) (e' := .bf16) Y3 (Rect.unit (s := S1x2048x768) (k0_off1 i) S1x256x256.size (k0_off1_inb i)),
    View.ld (Val := Elt Ideal) (e' := .bf16) Y3 (Rect.unit (s := S1x2048x768) (k0_off2 i) S1x256x256.size (k0_off2_inb i)),
    View.ld (Val := Elt Ideal) (e' := .bf16) Y3 (Rect.unit (s := S1x2048x768) (k0_off2 i) S1x256x256.size (k0_off2_inb i)),
    View.ld (Val := Elt Ideal) (e' := .bf16) Y3 (Rect.unit (s := S1x2048x768) (k0_off3 i) S1x256x256.size (k0_off3_inb i)),
    View.ld (Val := Elt Ideal) (e' := .bf16) Y3 (Rect.unit (s := S1x2048x768) (k0_off3 i) S1x256x256.size (k0_off3_inb i))]

/-- The diagonal chunk's scores, masked. -/
def pS (Y3 : FVec Ideal S1x2048x768 .bf16) (q : Fin 6 → FVec Ideal S256x256 .bf16)
    (i : grid0.Coords) (h : Fin 6) (b : Fin 2) : FVec Ideal S128x256 .f32 :=
  match b with
  | 0 => opMask 0#32 (opS0 (opMM (pK Y3 i h) (q h)))
  | 1 => opMask 128#32 (opS1 (opMM (pK Y3 i h) (q h)))

theorem pS_apply (Y3 : FVec Ideal S1x2048x768 .bf16) (q : Fin 6 → FVec Ideal S256x256 .bf16)
    (i : grid0.Coords) (h : Fin 6) (b : Fin 2) (r : Fin 128) (c : Fin 256) :
    pS Y3 q i h b (ix2 r c) = if (row b r).val ≤ c.val then sc Y3 q h c (jx (i 1).val (row b r)) else ⊥ := by
  have hi : (i 1).val < 8 := (i 1).isLt
  have hK : ∀ (r : Fin 256) (x : Fin 256), pK Y3 i h (ix3 0 r x) = Y3 (ix3 0 (jx (i 1).val r) (hp h x)) := fun r x => by
    fin_cases h
    · exact ldK_read Y3 _ _ _ _ (k0_off1_eq i) r x (by omega) (by omega)
    · exact ldK_read Y3 _ _ _ _ (k0_off1_eq i) r x (by omega) (by omega)
    · exact ldK_read Y3 _ _ _ _ (k0_off2_eq i) r x (by omega) (by omega)
    · exact ldK_read Y3 _ _ _ _ (k0_off2_eq i) r x (by omega) (by omega)
    · exact ldK_read Y3 _ _ _ _ (k0_off3_eq i) r x (by omega) (by omega)
    · exact ldK_read Y3 _ _ _ _ (k0_off3_eq i) r x (by omega) (by omega)
  fin_cases b
  · show opMask (BitVec.ofNat 32 0) (opS0 _) _ = _
    rw [opMask_apply 0 (by decide), opS0_apply]
    simp only [hK]
    rw [sc, show (⟨r, by omega⟩ : Fin 256) = row 0 r from Fin.ext (by simp [row])]
    simp [row]
  · show opMask (BitVec.ofNat 32 128) (opS1 _) _ = _
    rw [opMask_apply 128 (by decide), opS1_apply]
    simp only [hK]
    rw [sc, show (⟨128 + r, by omega⟩ : Fin 256) = row 1 r from Fin.ext (by simp [row])]
    exact if_congr (by simp [row]; omega) rfl rfl

/-- The last chunk of the values. -/
theorem fV_apply (Y4 : FVec Ideal S1x8x384x256 .bf16) (i : grid0.Coords) (h : Fin 6) (d : Fin 64) (r : Fin 256) :
    fV Y4 i h (ix4 0 0 d r) = tv Y4 h (i 1).val (i 1).val d r := by
  have hc := ch_lt i (i 1).val le_rfl
  have e : (⟨ch (i 1).val (i 1).val % 8, Nat.mod_lt _ (by decide)⟩ : Fin 8) = ⟨ch (i 1).val (i 1).val, hc⟩ := Fin.ext (Nat.mod_eq_of_lt hc)
  rw [tv, e]
  fin_cases h
  · exact ldV_read Y4 _ _ _ _ (show k0_off22 i = ![0, ch (i 1).val (i 1).val, 64 * 0, 0] from by revert i; decide +kernel) d r hc (by omega)
  · exact ldV_read Y4 _ _ _ _ (show k0_off23 i = ![0, ch (i 1).val (i 1).val, 64 * 1, 0] from by revert i; decide +kernel) d r hc (by omega)
  · exact ldV_read Y4 _ _ _ _ (show k0_off24 i = ![0, ch (i 1).val (i 1).val, 64 * 2, 0] from by revert i; decide +kernel) d r hc (by omega)
  · exact ldV_read Y4 _ _ _ _ (show k0_off25 i = ![0, ch (i 1).val (i 1).val, 64 * 3, 0] from by revert i; decide +kernel) d r hc (by omega)
  · exact ldV_read Y4 _ _ _ _ (show k0_off26 i = ![0, ch (i 1).val (i 1).val, 64 * 4, 0] from by revert i; decide +kernel) d r hc (by omega)
  · exact ldV_read Y4 _ _ _ _ (show k0_off27 i = ![0, ch (i 1).val (i 1).val, 64 * 5, 0] from by revert i; decide +kernel) d r hc (by omega)

/-- The queries, scaled, each in its head's rows. -/
theorem pQ_apply (Y2 : FVec Ideal S1x1x768x256 .f32) (h : Fin 6) (x : Fin 256) (c : Fin 256) :
    pQ Y2 h (ix2 x c) = if x.val / 64 = h.val % 2 ∨ x.val / 32 = 4 + h.val % 2 then Y2 (ix4 0 0 (hp h x) c) * cq else 0 := by
  have hr : ∀ (p : Fin 3) (hx : 256 * p.val + x.val < 768), (View.ld (Val := Elt Ideal) (e' := .f32) Y2 (rQ p) : FVec Ideal S1x1x256x256 .f32) (ix4 0 0 x c) = Y2 (ix4 0 0 ⟨256 * p.val + x.val, hx⟩ c) := fun p hx =>
    View.ld_unit_apply_of (Val := Elt Ideal) (e := .f32) (S := S1x1x768x256) Y2 _ _ _ _ _ (by intro a; fin_cases a <;> simp [ix4])
  fin_cases h
  · refine (opQ_lo_apply _ x c).trans ?_
    rw [hr 0 (by have := x.isLt; simp; omega)]
    exact if_congr (by simp <;> omega) rfl rfl
  · refine (opQ_hi_apply _ x c).trans ?_
    rw [hr 0 (by have := x.isLt; simp; omega)]
    exact if_congr (by simp <;> omega) rfl rfl
  · refine (opQ_lo_apply _ x c).trans ?_
    rw [hr 1 (by have := x.isLt; simp; omega)]
    exact if_congr (by simp <;> omega) rfl rfl
  · refine (opQ_hi_apply _ x c).trans ?_
    rw [hr 1 (by have := x.isLt; simp; omega)]
    exact if_congr (by simp <;> omega) rfl rfl
  · refine (opQ_lo_apply _ x c).trans ?_
    rw [hr 2 (by have := x.isLt; simp; omega)]
    exact if_congr (by simp <;> omega) rfl rfl
  · refine (opQ_hi_apply _ x c).trans ?_
    rw [hr 2 (by have := x.isLt; simp; omega)]
    exact if_congr (by simp <;> omega) rfl rfl

section
open run
variable (c : Dev nD) (i : grid0.Coords) (arg2 : Memref sig .tc .vmem S1x1x768x256 .f32) (harg2 : arg2.IsWhole) (arg3 : Memref sig .tc .vmem S1x2048x768 .bf16) (harg3 : arg3.IsWhole) (arg4 : Memref sig .tc .vmem S1x8x384x256 .bf16) (harg4 : arg4.IsWhole) (arg5 : Memref sig .tc .vmem S1x256x384 .bf16) (harg5 : arg5.IsWhole) (arg6 : Memref sig .tc .vmem S1x6x256x256 .f32) (harg6 : arg6.IsWhole) (arg7 : Memref sig .tc .vmem S6x256x256 .bf16) (harg7 : arg7.IsWhole)
  (X2 : BufTy.Contents (Elt Ideal) arg2.view.ty) (X3 : BufTy.Contents (Elt Ideal) arg3.view.ty) (X4 : BufTy.Contents (Elt Ideal) arg4.view.ty)
  (f7 : BufTy.Contents (Elt Ideal) arg7.view.ty)

/-- The scores' buffer before the loops. -/
theorem H6_eq : sl.H6_12 i arg2 arg3 X2 X3 = pcs6 fun h b => shapeCast S1x1x128x256 (pS (arg3.view.read (Elt Ideal) X3) (pQ (arg2.view.read (Elt Ideal) X2)) i h b) shapeCasts_S128x256_S1x1x128x256 := rfl

/-- The carried values before the loops. -/
theorem init_eq : ((sl.r_10 i arg2 arg3 X2 X3, sl.r_12 i arg2 arg3 X2 X3, sl.r_16 i arg2 arg3 X2 X3, sl.r_17 i arg2 arg3 X2 X3, sl.r_19 i arg2 arg3 X2 X3, k0_pay240 (sl.r_20 i arg2 arg3 X2 X3) (sl.r_21 i arg2 arg3 X2 X3), k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258) : Acc) = mkAcc (fun h => opMx (pS (arg3.view.read (Elt Ideal) X3) (pQ (arg2.view.read (Elt Ideal) X2)) i h 0) (pS (arg3.view.read (Elt Ideal) X3) (pQ (arg2.view.read (Elt Ideal) X2)) i h 1)) (fun _ => k0_pay241) (fun _ => k0_pay242) (fun _ => k0_pay243) := rfl

/-- The second loop makes no trip. -/
theorem s2_eq : s2 c i arg2 harg2 arg3 harg3 arg4 harg4 arg5 harg5 arg6 harg6 arg7 harg7 X2 X3 X4 f7 = ((s1 c i arg2 harg2 arg3 harg3 arg4 harg4 arg5 harg5 arg6 harg6 arg7 harg7 X2 X3 X4 f7).1, [], []) := by
  have h : Scf.trips (k0_t2_loop i).lb (k0_t2_loop i).ub (k0_t2_loop i).st = 0 := Nat.le_zero.mp (k0_t2_abs i).2.1
  unfold s2
  rw [h, st_k0_t2.eq_1]

/-- The carried values at the loops' end follow the running softmax. -/
theorem inv_s1 : Inv (mT (arg3.view.read (Elt Ideal) X3) (pQ (arg2.view.read (Elt Ideal) X2)) (i 1).val (i 1).val) (mR (arg3.view.read (Elt Ideal) X3) (arg4.view.read (Elt Ideal) X4) (pQ (arg2.view.read (Elt Ideal) X2)) (i 1).val (i 1).val) (s1 c i arg2 harg2 arg3 harg3 arg4 harg4 arg5 harg5 arg6 harg6 arg7 harg7 X2 X3 X4 f7).1
    (arg6.view.read (Elt Ideal) (arg6.view.writes (Elt Ideal) (arg6.view.writes (Elt Ideal) arg6.view.junk (sl.H6_12 i arg2 arg3 X2 X3)) (s1 c i arg2 harg2 arg3 harg3 arg4 harg4 arg5 harg5 arg6 harg6 arg7 harg7 X2 X3 X4 f7).2.1)) := by
  have ht : Scf.trips (k0_t1_loop i).lb (k0_t1_loop i).ub (k0_t1_loop i).st = (i 1).val := k0_t1_trips i
  have := inv_st Variants.none c none i arg2 harg2 arg3 harg3 arg4 harg4 arg5 harg5 arg6 harg6 arg7 harg7 (BitVec.ofNat 32 (i 1).val) (pQ (arg2.view.read (Elt Ideal) X2)) (sl.r_10 i arg2 arg3 X2 X3) (sl.r_12 i arg2 arg3 X2 X3) (sl.r_16 i arg2 arg3 X2 X3) (sl.r_17 i arg2 arg3 X2 X3) (sl.r_19 i arg2 arg3 X2 X3) (sl.r_20 i arg2 arg3 X2 X3) (sl.r_21 i arg2 arg3 X2 X3) X3 X4 (arg6.view.writes (Elt Ideal) arg6.view.junk (sl.H6_12 i arg2 arg3 X2 X3)) f7
    (sl.r_10 i arg2 arg3 X2 X3, sl.r_12 i arg2 arg3 X2 X3, sl.r_16 i arg2 arg3 X2 X3, sl.r_17 i arg2 arg3 X2 X3, sl.r_19 i arg2 arg3 X2 X3, k0_pay240 (sl.r_20 i arg2 arg3 X2 X3) (sl.r_21 i arg2 arg3 X2 X3), k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258) ?_ (i 1).val (k0_t1_trips i).ge
  · unfold s1
    rw [ht]
    exact this
  · rw [init_eq, H6_eq]
    refine ⟨fun h c => ?_, fun h c => ?_, fun h c => ?_, fun h d c => ?_, fun h r c => ?_⟩
    · refine Eq.trans ?_ (opMx_sup (pS (arg3.view.read (Elt Ideal) X3) (pQ (arg2.view.read (Elt Ideal) X2)) i h) _ c (fun b r => pS_apply _ _ i h b r c))
      fin_cases h <;> rfl
    · have : (k0_pay241 : FVec Ideal S1x256 .f32) (ix2 0 c) = ⊥ := by
        pointwise [k0_pay241]
        exact named_mask
      refine Eq.trans ?_ this
      fin_cases h <;> rfl
    · have : (k0_pay242 : FVec Ideal S1x256 .f32) (ix2 0 c) = 0 := by
        pointwise [k0_pay242]
      refine Eq.trans ?_ this
      fin_cases h <;> rfl
    · have : (k0_pay243 : FVec Ideal S64x256 .f32) (ix2 d c) = 0 := by
        pointwise [k0_pay243]
      refine Eq.trans ?_ this
      fin_cases h <;> rfl
    · obtain ⟨b, r', rfl⟩ := exists_row r
      have := read_pcs6 arg6.view arg6.view.junk (fun h b => shapeCast S1x1x128x256 (pS (arg3.view.read (Elt Ideal) X3) (pQ (arg2.view.read (Elt Ideal) X2)) i h b) shapeCasts_S128x256_S1x1x128x256) [] h b r' c
      rw [List.append_nil] at this
      refine this.trans ?_
      refine Eq.trans ?_ (pS_apply (arg3.view.read (Elt Ideal) X3) (pQ (arg2.view.read (Elt Ideal) X2)) i h b r' c)
      pointwise []

/-- What the body leaves in its output block. -/
theorem out_apply (f5 : BufTy.Contents (Elt Ideal) arg5.view.ty) (f6 : BufTy.Contents (Elt Ideal) arg6.view.ty) (h : Fin 6) (d : Fin 64) (p : Fin 256) :
    arg5.view.read (Elt Ideal) (arg5.view.writes (Elt Ideal) f5 ((run (F := Ideal) c i arg2 harg2 arg3 harg3 arg4 harg4 arg5 harg5 arg6 harg6 arg7 harg7 X2 X3 X4).1 f6 f7)) (ix3 0 p (hd h d))
      = Ideal.div ((mR (arg3.view.read (Elt Ideal) X3) (arg4.view.read (Elt Ideal) X4) (pQ (arg2.view.read (Elt Ideal) X2)) (i 1).val ((i 1).val + 1) h p).A d) (mR (arg3.view.read (Elt Ideal) X3) (arg4.view.read (Elt Ideal) X4) (pQ (arg2.view.read (Elt Ideal) X2)) (i 1).val ((i 1).val + 1) h p).l := by
  rw [run_eq, s2_eq]
  simp only [List.nil_append]
  rw [View.writes_append]
  have hs := fun h => step_apply (inv_s1 c i arg2 harg2 arg3 harg3 arg4 harg4 arg5 harg5 arg6 harg6 arg7 harg7 X2 X3 X4 f7) arg7.view (s1 c i arg2 harg2 arg3 harg3 arg4 harg4 arg5 harg5 arg6 harg6 arg7 harg7 X2 X3 X4 f7).2.2 (fV (arg4.view.read (Elt Ideal) X4) i) h p
  have hv : ∀ h, (fun (d : Fin 64) (r : Fin 256) => fV (arg4.view.read (Elt Ideal) X4) i h (ix4 0 0 d r)) = tv (arg4.view.read (Elt Ideal) X4) h (i 1).val (i 1).val := fun h => by
    funext d r; exact fV_apply _ i h d r
  simp only [hv] at hs
  have hdd := d.isLt
  rw [show (mR (arg3.view.read (Elt Ideal) X3) (arg4.view.read (Elt Ideal) X4) (pQ (arg2.view.read (Elt Ideal) X2)) (i 1).val ((i 1).val + 1) h p) = (mR (arg3.view.read (Elt Ideal) X3) (arg4.view.read (Elt Ideal) X4) (pQ (arg2.view.read (Elt Ideal) X2)) (i 1).val (i 1).val h p).step (mT (arg3.view.read (Elt Ideal) X3) (pQ (arg2.view.read (Elt Ideal) X2)) (i 1).val (i 1).val h p) (tv (arg4.view.read (Elt Ideal) X4) h (i 1).val (i 1).val) from rfl]
  rw [← (hs h).1, ← (hs h).2 d]
  fin_cases h
  · refine (View.read_writes_cons_unit_of_not_mem (s := S1x256x384) _ _ _ _ _ _ rfl (2 : Fin 3) (by simp [ix3, hd] <;> omega)).trans ?_
    refine (View.read_writes_cons_unit_of_not_mem (s := S1x256x384) _ _ _ _ _ _ rfl (2 : Fin 3) (by simp [ix3, hd] <;> omega)).trans ?_
    refine (View.read_writes_cons_unit_of_mem (s := S1x256x384) _ _ _ _ _ _ (ix3 0 p (⟨0 + d.val, by omega⟩ : Fin 128)) rfl (by intro a; fin_cases a <;> simp [ix3, hd] <;> omega)).trans ?_
    refine (opOut_apply _ _ _ _ _ _).trans ?_
    rw [dif_pos (by simp)]
    congr 3
    exact Fin.ext (by simp)
  · refine (View.read_writes_cons_unit_of_not_mem (s := S1x256x384) _ _ _ _ _ _ rfl (2 : Fin 3) (by simp [ix3, hd] <;> omega)).trans ?_
    refine (View.read_writes_cons_unit_of_not_mem (s := S1x256x384) _ _ _ _ _ _ rfl (2 : Fin 3) (by simp [ix3, hd] <;> omega)).trans ?_
    refine (View.read_writes_cons_unit_of_mem (s := S1x256x384) _ _ _ _ _ _ (ix3 0 p (⟨64 + d.val, by omega⟩ : Fin 128)) rfl (by intro a; fin_cases a <;> simp [ix3, hd] <;> omega)).trans ?_
    refine (opOut_apply _ _ _ _ _ _).trans ?_
    rw [dif_neg (by simp)]
    congr 3
    exact Fin.ext (by simp)
  · refine (View.read_writes_cons_unit_of_not_mem (s := S1x256x384) _ _ _ _ _ _ rfl (2 : Fin 3) (by simp [ix3, hd] <;> omega)).trans ?_
    refine (View.read_writes_cons_unit_of_mem (s := S1x256x384) _ _ _ _ _ _ (ix3 0 p (⟨0 + d.val, by omega⟩ : Fin 128)) rfl (by intro a; fin_cases a <;> simp [ix3, hd] <;> omega)).trans ?_
    refine (opOut_apply _ _ _ _ _ _).trans ?_
    rw [dif_pos (by simp)]
    congr 3
    exact Fin.ext (by simp)
  · refine (View.read_writes_cons_unit_of_not_mem (s := S1x256x384) _ _ _ _ _ _ rfl (2 : Fin 3) (by simp [ix3, hd] <;> omega)).trans ?_
    refine (View.read_writes_cons_unit_of_mem (s := S1x256x384) _ _ _ _ _ _ (ix3 0 p (⟨64 + d.val, by omega⟩ : Fin 128)) rfl (by intro a; fin_cases a <;> simp [ix3, hd] <;> omega)).trans ?_
    refine (opOut_apply _ _ _ _ _ _).trans ?_
    rw [dif_neg (by simp)]
    congr 3
    exact Fin.ext (by simp)
  · refine (View.read_writes_cons_unit_of_mem (s := S1x256x384) _ _ _ _ _ _ (ix3 0 p (⟨0 + d.val, by omega⟩ : Fin 128)) rfl (by intro a; fin_cases a <;> simp [ix3, hd] <;> omega)).trans ?_
    refine (opOut_apply _ _ _ _ _ _).trans ?_
    rw [dif_pos (by simp)]
    congr 3
    exact Fin.ext (by simp)
  · refine (View.read_writes_cons_unit_of_mem (s := S1x256x384) _ _ _ _ _ _ (ix3 0 p (⟨64 + d.val, by omega⟩ : Fin 128)) rfl (by intro a; fin_cases a <;> simp [ix3, hd] <;> omega)).trans ?_
    refine (opOut_apply _ _ _ _ _ _).trans ?_
    rw [dif_neg (by simp)]
    congr 3
    exact Fin.ext (by simp)

end

end Cert.Kernel6Ideal.Mla

end
-- ==== Proof.Mla.IdealValue.lean ====
/- The launch of the program `Kernel6Ideal` over the extended reals: its body at every grid point by the one run of
   `Mla/IdealRun.lean`, the output's block the running softmax of `Mla/Out.lean`. -/
module

public import proofs.«01_k».proof.Proof.Mla.Out

@[expose] public section

set_option maxRecDepth 16384

noncomputable section

namespace Cert.Kernel6Ideal.Mla.Exact

open Cert.Kernel6Ideal Cert.Kernel6Ideal.Gen

open Idealize.ShloMosaic
open Idealize.ShloMosaic.TcCoe Idealize.ShloMosaic.Tactic
open Cert.KernelIdeal.Fox (hd)
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationLoose cellOf)
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

/-- The output's block at tile `t`, from the input blocks: element `(p, 64 * h + d)` is the running softmax's weighted sum
    over its denominator. -/
def oblk (t : ℕ) (Y2 : FVec Ideal S1x1x768x256 .f32) (Y3 : FVec Ideal S1x2048x768 .bf16) (Y4 : FVec Ideal S1x8x384x256 .bf16) : FVec Ideal S1x256x384 .bf16 := fun y =>
  Ideal.div
    ((mR Y3 Y4 (pQ Y2) t (t + 1) ⟨(y 2).val / 64 % 6, Nat.mod_lt _ (by decide)⟩ (y 1)).A ⟨(y 2).val % 64, Nat.mod_lt _ (by decide)⟩)
    (mR Y3 Y4 (pQ Y2) t (t + 1) ⟨(y 2).val / 64 % 6, Nat.mod_lt _ (by decide)⟩ (y 1)).l

/-- Every index of the output's block is `(0, p, 64 * h + d)`. -/
theorem exists_hd (y : S1x256x384.Idx) : ∃ (p : Fin 256) (h : Fin 6) (d : Fin 64), y = ix3 0 p (hd h d) := by
  have h0 := (y 0).isLt; have h2 := (y 2).isLt
  refine ⟨y 1, ⟨(y 2).val / 64, ?_⟩, ⟨(y 2).val % 64, Nat.mod_lt _ (by decide)⟩, ?_⟩
  · exact Nat.div_lt_of_lt_mul h2
  · funext a
    match a with
    | ⟨0, _⟩ => exact Fin.ext (Nat.lt_one_iff.mp h0)
    | ⟨1, _⟩ => rfl
    | ⟨2, _⟩ => exact Fin.ext (Nat.div_add_mod (y 2).val 64).symm

/-- The block at `(0, p, 64 * h + d)`. -/
theorem oblk_apply (t : ℕ) (Y2 Y3 Y4) (p : Fin 256) (h : Fin 6) (d : Fin 64) :
    oblk t Y2 Y3 Y4 (ix3 0 p (hd h d)) = Ideal.div ((mR Y3 Y4 (pQ Y2) t (t + 1) h p).A d) (mR Y3 Y4 (pQ Y2) t (t + 1) h p).l := by
  have e1 : (⟨(64 * h.val + d.val) / 64 % 6, Nat.mod_lt _ (by decide)⟩ : Fin 6) = h := Fin.ext (by
    show (64 * h.val + d.val) / 64 % 6 = h.val
    omega)
  have e2 : (⟨(64 * h.val + d.val) % 64, Nat.mod_lt _ (by decide)⟩ : Fin 64) = d := Fin.ext (by
    show (64 * h.val + d.val) % 64 = d.val
    omega)
  show Ideal.div ((mR Y3 Y4 (pQ Y2) t (t + 1) ⟨(64 * h.val + d.val) / 64 % 6, _⟩ p).A ⟨(64 * h.val + d.val) % 64, _⟩)
    (mR Y3 Y4 (pQ Y2) t (t + 1) ⟨(64 * h.val + d.val) / 64 % 6, _⟩ p).l = _
  rw [e1, e2]

/-- The tile of grid point `t`. -/
abbrev tile (t : Fin cfg0.N) : ℕ := ((grid0.coords t) 1).val

/-- The proof data: each input's buffer at its block after the body, the output's at `oblk` of the blocks. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => oblk (tile t) (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t
    = oblk (tile t) (iblk m c 0 t) (iblk m c 1 t) (iblk m c 2 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, the scratch buffers spelt out. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3]
  unfold Pipeline.ΦA
  rw [scopedRest0_eq]
  simp only [← owns_whole]
  unfold owns
  iintro ⟨⟨⟨⟨%s6, %f6, -, H6⟩, ⟨%s7, %f7, -, H7⟩⟩, Hr⟩, Ho, ⟨%d0, %f0, %h0, H0⟩, ⟨%d1, %f1, %h1, H1⟩, ⟨%d2, %f2, %h2, H2⟩, ⟨%d3, %f3, -, H3⟩⟩
  iapply (wp_wand_r Idealize.ShloMosaic.frame (wpE (defs₀ (F := Ideal)) Variants.none (c : Thread nD τ) none) Set.univ)
  isplitl [H0 H1 H2 H3 H6 H7]
  · iapply ((run c (grid0.coords t) _ _ _ _ _ _ _ _ _ _ _ _ f0 f1 f2).2 Set.univ f3 f6 f7)
    isplitl [H0]; · iexact H0
    isplitl [H1]; · iexact H1
    isplitl [H2]; · iexact H2
    isplitl [H3]; · iexact H3
    isplitl [H6]; · iexact H6
    iexact H7
  iintro %_ ⟨H0, H1, H2, H3, ⟨%g6, H6⟩, ⟨%g7, H7⟩⟩
  isplitl [H6 H7 Hr]
  · isplitl [H6 H7]
    · isplitl [H6]
      · iexists _; iexists g6; isplitr
        · ipureintro; rfl
        · iexact H6
      · iexists _; iexists g7; isplitr
        · ipureintro; rfl
        · iexact H7
    · iexact Hr
  isplitl [Ho]; · iexact Ho
  isplitl [H0]
  · iexists f0; isplitr
    · ipureintro; exact h0
    · iexact H0
  isplitl [H1]
  · iexists f1; isplitr
    · ipureintro; exact h1
    · iexact H1
  isplitl [H2]
  · iexists f2; isplitr
    · ipureintro; exact h2
    · iexact H2
  iexists _; isplitr
  swap; · iexact H3
  ipureintro
  funext y
  obtain ⟨p, h, d, rfl⟩ := exists_hd y
  rw [oblk_apply, ← h0, ← h1, ← h2]
  exact out_apply c (grid0.coords t) _ _ _ _ _ _ _ _ _ _ _ _ f0 f1 f2 f7 f3 f6 h d p

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The launch: every run of @main ends with the output's array assembled from `oblk`'s blocks, the inputs' arrays and the
    buffers no window stages as the region found them, every semaphore counter at zero. -/
theorem run_main : θ_run defs (onTc (τ := τ) (main (F := Ideal))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.Kernel6Ideal.Mla.Exact

end
-- ==== Proof.Mla.Blocks.lean ====
/- The input blocks of the program `Kernel6Ideal` at a grid point, element by element in the arguments. -/
module

public import proofs.«01_k».proof.Proof.Mla.IdealValue
public import proofs.«01_k».proof.Proof.Fox.Blocks
public import Idealize.ShloMosaic.Lib.StableHlo.ReadAt
public import Idealize.ShloMosaic.Lib.Pipeline.ValueKit.Geometry

@[expose] public section

set_option maxRecDepth 16384

noncomputable section

namespace Cert.Kernel6Ideal.Mla.Exact

open Cert.Kernel6Ideal Cert.Kernel6Ideal.Gen
open Idealize.ShloMosaic
open Idealize.ShloMosaic.TcCoe
open Cert.KernelIdeal.Fox (row jx ch hd)
open Cert.KernelIdeal.Fox.Exact (pos)

variable (m : (ℓ : Loc nD τ sig) → Buf (Elt Ideal) ℓ)

/-- The lane of a head's feature among its pair's 256: the features without position first, then the rotated ones. -/
def lx (h : Fin 6) (d : Fin 96) : Fin 256 := ⟨if d.val < 64 then 64 * (h.val % 2) + d.val else 128 + 32 * (h.val % 2) + (d.val - 64), by split <;> omega⟩

/-- Indices of four axes agree where their coordinates' values do. -/
theorem ix4_ext {n0 n1 n2 n3 : ℕ} {a a' : Fin n0} {b b' : Fin n1} {c c' : Fin n2} {d d' : Fin n3} (ha : a.val = a'.val) (hb : b.val = b'.val) (hc : c.val = c'.val) (hd : d.val = d'.val) :
    ix4 a b c d = ix4 a' b' c' d' := by
  rw [Fin.ext ha, Fin.ext hb, Fin.ext hc, Fin.ext hd]

/-- The queries' tiles when the launch begins. -/
theorem V_q (c : Dev nD) (b : Fin 16) (t : Fin 8) (h : Fin 6) (d : Fin 96) (p : Fin 256) :
    V m c main_v8 (ix4 b t (hp h (lx h d)) p) = m ((c : Thread nD τ).loc main_arg0) (ix4 b (pos t p) h d) := by
  have hv : (hp h (lx h d)).val = 256 * (h.val / 2) + (lx h d).val := rfl
  have hl := (lx h d).isLt
  unfold V
  after_reads_at
  by_cases hd' : d.val < 64
  · have e : (lx h d).val = 64 * (h.val % 2) + d.val := if_pos hd'
    rw [dif_pos (by omega)]
    after_reads_at
    exact congrArg (m ((c : Thread nD τ).loc main_arg0)) (ix4_ext rfl (by show t.val * 256 + p.val = 256 * t.val + p.val; omega) (by dsimp only; omega) (by dsimp only; omega))
  · have e : (lx h d).val = 128 + 32 * (h.val % 2) + (d.val - 64) := if_neg hd'
    have := d.isLt
    rw [dif_neg (by omega), dif_pos (by omega)]
    after_reads_at
    exact congrArg (m ((c : Thread nD τ).loc main_arg0)) (ix4_ext rfl (by show t.val * 256 + p.val = 256 * t.val + p.val; omega) (by dsimp only; omega) (by dsimp only; omega))

/-- The keys. -/
theorem V_k (c : Dev nD) (b : Fin 16) (j : Fin 2048) (h : Fin 6) (d : Fin 96) :
    V m c main_v16 (ix3 b j (hp h (lx h d))) = m ((c : Thread nD τ).loc main_arg1) (ix4 b j h d) := by
  have hv : (hp h (lx h d)).val = 256 * (h.val / 2) + (lx h d).val := rfl
  have hl := (lx h d).isLt
  unfold V
  after_reads_at
  by_cases hd' : d.val < 64
  · have e : (lx h d).val = 64 * (h.val % 2) + d.val := if_pos hd'
    rw [dif_pos (by omega)]
    after_reads_at
    exact congrArg (m ((c : Thread nD τ).loc main_arg1)) (ix4_ext rfl rfl (by dsimp only; omega) (by dsimp only; omega))
  · have e : (lx h d).val = 128 + 32 * (h.val % 2) + (d.val - 64) := if_neg hd'
    have := d.isLt
    rw [dif_neg (by omega), dif_pos (by omega)]
    after_reads_at
    exact congrArg (m ((c : Thread nD τ).loc main_arg1)) (ix4_ext rfl rfl (by dsimp only; omega) (by dsimp only; omega))

/-- The values' tiles. -/
theorem V_v (c : Dev nD) (b : Fin 16) (t : Fin 8) (h : Fin 6) (d : Fin 64) (p : Fin 256) :
    V m c main_v20 (ix4 b t (hd h d) p) = m ((c : Thread nD τ).loc main_arg2) (ix4 b (pos t p) h d) := by
  have hv : (hd h d).val = 64 * h.val + d.val := rfl
  have := d.isLt
  unfold V
  after_reads_at
  exact congrArg (m ((c : Thread nD τ).loc main_arg2)) (ix4_ext rfl (by show t.val * 256 + p.val = 256 * t.val + p.val; omega) (by dsimp only; omega) (by dsimp only; omega))

/-- The sequence and the tile of grid point `t`. -/
abbrev gb (t : Fin cfg0.N) : Fin 16 := (grid0.coords t) 0
abbrev gt (t : Fin cfg0.N) : Fin 8 := (grid0.coords t) 1

theorem index0 : ∀ t : Fin cfg0.N, win0_0.index t = ![(grid0.coords t 0).val, (grid0.coords t 1).val, 0, 0] :=
  (by decide +kernel : ∀ t : Fin grid0.N, _)
theorem index1 : ∀ t : Fin cfg0.N, win0_1.index t = ![(grid0.coords t 0).val, 0, 0] :=
  (by decide +kernel : ∀ t : Fin grid0.N, _)
theorem index2 : ∀ t : Fin cfg0.N, win0_2.index t = ![(grid0.coords t 0).val, 0, 0, 0] :=
  (by decide +kernel : ∀ t : Fin grid0.N, _)
theorem index3 : ∀ t : Fin cfg0.N, win0_3.index t = ![(grid0.coords t 0).val, (grid0.coords t 1).val, 0] :=
  (by decide +kernel : ∀ t : Fin grid0.N, _)
/-- The queries' block. -/
theorem blk_q (c : Dev nD) (t : Fin cfg0.N) (z : Fin 768) (p : Fin 256) :
    iblk m c 0 t (ix4 0 0 z p) = V m c main_v8 (ix4 (gb t) (gt t) z p) := by
  unfold iblk
  generalize V m c = f
  rw [View.read_apply]
  refine eq_of_heq ((cast_heq _ _).trans (heq_of_eq ?_))
  refine congrArg (f main_v8) ?_
  blk_ext [index0]
  all_goals rfl

/-- The keys' block. -/
theorem blk_k (c : Dev nD) (t : Fin cfg0.N) (j : Fin 2048) (z : Fin 768) :
    iblk m c 1 t (ix3 0 j z) = V m c main_v16 (ix3 (gb t) j z) := by
  unfold iblk
  generalize V m c = f
  rw [View.read_apply]
  refine eq_of_heq ((cast_heq _ _).trans (heq_of_eq ?_))
  refine congrArg (f main_v16) ?_
  blk_ext [index1]
  all_goals rfl

/-- The values' block. -/
theorem blk_v (c : Dev nD) (t : Fin cfg0.N) (k : Fin 8) (z : Fin 384) (r : Fin 256) :
    iblk m c 2 t (ix4 0 k z r) = V m c main_v20 (ix4 (gb t) k z r) := by
  unfold iblk
  generalize V m c = f
  rw [View.read_apply]
  refine eq_of_heq ((cast_heq _ _).trans (heq_of_eq ?_))
  refine congrArg (f main_v20) ?_
  blk_ext [index2]
  all_goals rfl

end Cert.Kernel6Ideal.Mla.Exact

end
-- ==== Proof.Mla.Reference.lean ====
/- The reference's result, element by element: each head's softmax attention over its masked scores. -/
module

public import proofs.«01_k».proof.Proof.Gen.Reference6Ideal.Read
public import Idealize.ShloMosaic.Lib.Pointwise
public import Idealize.ShloMosaic.Lib.Tactic.CleanTypes
public import Idealize.ShloMosaic.Lib.WordCmp

@[expose] public section

set_option maxRecDepth 16384

noncomputable section

namespace Cert.Reference6Ideal.Mla

open Cert.Reference6Ideal Cert.Reference6Ideal.Read
open Idealize.ShloMosaic

/-- A maximum over the last axis at an index. -/
theorem reduce_max {n0 n1 n2 n3 : ℕ} (y : FVec Ideal ⟨4, ![n0, n1, n2, n3]⟩ .f32) (c : FVec Ideal ⟨0, ![]⟩ .f32)
    (h : (⟨4, ![n0, n1, n2, n3]⟩ : Shape).ReducesTo [3] ⟨3, ![n0, n1, n2]⟩) (hu : 0 < (⟨0, ![]⟩ : Shape).numel) (a : Fin n0) (b : Fin n1) (p : Fin n2) :
    Host.reduce FloatOps.maximumf y c h hu (ix3 a b p) = Finset.univ.fold max (c (Shape.Idx.first hu)) fun k => y (ix4 a b p k) := by
  simp only [pointwise]

theorem fold_max_eq_sup {n : ℕ} (f : Fin n → EReal) : Finset.univ.fold max ⊥ f = Finset.univ.sup f := rfl

theorem ofBits_negInf : Ideal.ofBits FTy.f32 0xFF800000#32 = ⊥ := by
  simp only [Ideal.ofBits]; rfl

theorem ofBits_scale : Ideal.ofBits FTy.f32 0x3DD105EC#32 = ((3424635 / 33554432 : ℝ) : EReal) := by
  rw [show (0x3DD105EC#32 : BitVec 32) = 0x3DD105EC#32 from rfl]; simp [Ideal.ofBits, Ideal.ieee]; rw [← EReal.coe_mul]; norm_num

variable (x0 x1 : FVec Ideal S16x2048x6x96 .f32) (x2 : FVec Ideal S16x2048x6x64 .f32)

/-- A head's channel, of its 64. -/
def hd (h : Fin 6) (d : Fin 64) : Fin 384 := ⟨64 * h.val + d.val, by omega⟩

/-- The masked score of query `p` and key `j` of head `h`. -/
def rs (b : Fin 16) (h : Fin 6) (p j : Fin 2048) : EReal :=
  if j.val ≤ p.val then (∑ d, x0 (ix4 b p h d) * x1 (ix4 b j h d)) * ((3424635 / 33554432 : ℝ) : EReal) else ⊥

/-- The masked scores. -/
theorem v10_apply (b : Fin 16) (h : Fin 6) (p j : Fin 2048) :
    val_main_v10 (F := Ideal) x0 x1 (ix4 b h p j) = rs x0 x1 b h p j := by
  unfold val_main_v10
  pointwise [val_main_v9, val_main_v8, val_main_v7, val_main_v6, val_main_v5, val_main_v4, val_main_v3, val_main_v2, val_main_v1, val_main_v0, val_main_call0_v2, val_main_call0_v1, val_main_call0_v0, val_main_cst, val_main_cst_0]
  rw [rs, ofBits_scale]
  have hc : id (constant (F := Ideal) S_ FTy.f32 4286578688#32) ix0 = ⊥ := ofBits_negInf
  rw [hc]
  split
  · next hj => rw [(WordCmp.cmpi_sge_ofNat_eq_one_iff (by have := p.isLt; norm_num; omega) (by have := j.isLt; norm_num; omega)).mpr hj]; rfl
  · next hj => rw [(WordCmp.cmpi_sge_ofNat_eq_zero_iff (by have := p.isLt; norm_num; omega) (by have := j.isLt; norm_num; omega)).mpr (by omega)]; rfl

/-- The scores' maximum, of each row. -/
theorem v11_apply (b : Fin 16) (h : Fin 6) (p : Fin 2048) :
    val_main_v11 (F := Ideal) x0 x1 (ix3 b h p) = Finset.univ.sup fun j => val_main_v10 (F := Ideal) x0 x1 (ix4 b h p j) := by
  unfold val_main_v11
  generalize val_main_v10 (F := Ideal) x0 x1 = y
  rw [reduce_max y _ _ _ b h p, show val_main_cst_1 (F := Ideal) (Shape.Idx.first (by decide)) = ⊥ from ofBits_negInf]
  exact fold_max_eq_sup _

theorem v12_apply (b : Fin 16) (h : Fin 6) (p : Fin 2048) : val_main_v12 (F := Ideal) (ix3 b h p) = ⊥ := by
  rw [val_main_v12_apply]
  exact ofBits_negInf

theorem maximumf_apply {s : Shape} (y z : FVec Ideal s .f32) (i : s.Idx) : maximumf y z i = max (y i) (z i) := rfl

/-- The scores' maximum. -/
theorem v13_apply (b : Fin 16) (h : Fin 6) (p : Fin 2048) :
    val_main_v13 (F := Ideal) x0 x1 (ix3 b h p) = Finset.univ.sup fun j => rs x0 x1 b h p j := by
  simp only [← v10_apply]
  unfold val_main_v13
  rw [maximumf_apply, v12_apply, v11_apply]
  exact max_eq_right bot_le

/-- The unnormalized weights. -/
theorem v17_apply (b : Fin 16) (h : Fin 6) (p j : Fin 2048) :
    val_main_v17 (F := Ideal) x0 x1 (ix4 b h p j) = Ideal.exp (rs x0 x1 b h p j - Finset.univ.sup fun j => rs x0 x1 b h p j) := by
  rw [← v10_apply, ← v13_apply]
  unfold val_main_v17 val_main_v16 val_main_v15 val_main_v14
  generalize val_main_v10 (F := Ideal) x0 x1 = y
  generalize val_main_v13 (F := Ideal) x0 x1 = z
  pointwise

/-- The result. -/
theorem v25_apply (b : Fin 16) (p : Fin 2048) (h : Fin 6) (d : Fin 64) :
    val_main_v25 (F := Ideal) x0 x1 x2 (ix3 b p (hd h d)) =
      ∑ j, x2 (ix4 b j h d) * Ideal.div (Ideal.exp (rs x0 x1 b h p j - Finset.univ.sup fun j => rs x0 x1 b h p j))
        (∑ j, Ideal.exp (rs x0 x1 b h p j - Finset.univ.sup fun j => rs x0 x1 b h p j)) := by
  simp only [← v17_apply]
  unfold val_main_v25 val_main_v24 val_main_v23 val_main_v22 val_main_v21 val_main_v20 val_main_v19 val_main_v18
  generalize val_main_v17 (F := Ideal) x0 x1 = y
  pointwise [val_main_cst_3]
  have e : (⟨(hd h d).val / 64, by have := (hd h d).isLt; omega⟩ : Fin 6) = h := Fin.ext (by show (64 * h.val + d.val) / 64 = h.val; omega)
  have e' : (⟨(hd h d).val % 64, Nat.mod_lt _ (by decide)⟩ : Fin 64) = d := Fin.ext (by show (64 * h.val + d.val) % 64 = d.val; omega)
  simp only [e, e']

end Cert.Reference6Ideal.Mla

end
-- ==== Proof.Mla.Equal.lean ====
/- The two programs' results agree, element by element, where queries and keys are real: both are the values'
   average under the weights `exp` of the causal scores. -/
module

public import proofs.«01_k».proof.Proof.Fox.Equal
public import proofs.«01_k».proof.Proof.Mla.Blocks
public import proofs.«01_k».proof.Proof.Mla.Reference

@[expose] public section

set_option maxRecDepth 16384

noncomputable section

namespace Cert.Kernel6Ideal.Mla.Exact

open Cert.Kernel6Ideal Cert.Kernel6Ideal.Gen
open Idealize.ShloMosaic
open Idealize.ShloMosaic.TcCoe

open Cert.KernelIdeal.Fox (Wt Wn coe_sum run_div softmax_eq hd jx ch tsc)
open Cert.KernelIdeal.Fox.Exact (pos jx_eq sum_tiles sum_order two_rpow)

/-! ## A head's lanes -/

/-- A head's 96 lanes of its pair's 256. -/
theorem sum_lanes (h : Fin 6) (f : Fin 256 → EReal) :
    (∑ x : Fin 256, if x.val / 64 = h.val % 2 ∨ x.val / 32 = 4 + h.val % 2 then f x else 0) = ∑ d, f (lx h d) := by
  rw [← Finset.sum_filter]
  have lo (d : Fin 96) (hd : d.val < 64) : (lx h d).val = 64 * (h.val % 2) + d.val := if_pos hd
  have hi (d : Fin 96) (hd : ¬ d.val < 64) : (lx h d).val = 128 + 32 * (h.val % 2) + (d.val - 64) := if_neg hd
  refine (Finset.sum_bij (fun d _ => lx h d) (fun d _ => ?_) (fun d _ e _ he => ?_) (fun x hx => ?_) fun _ _ => rfl).symm
  · have := d.isLt
    rw [Finset.mem_filter]
    refine ⟨Finset.mem_univ _, ?_⟩
    by_cases hd : d.val < 64
    · rw [lo d hd]; omega
    · rw [hi d hd]; omega
  · have := d.isLt; have := e.isLt
    have he : (lx h d).val = (lx h e).val := congrArg Fin.val he
    apply Fin.ext
    by_cases hd : d.val < 64 <;> by_cases hd' : e.val < 64
    · rw [lo d hd, lo e hd'] at he; omega
    · rw [lo d hd, hi e hd'] at he; omega
    · rw [hi d hd, lo e hd'] at he; omega
    · rw [hi d hd, hi e hd'] at he; omega
  · have := x.isLt
    have hx := (Finset.mem_filter.mp hx).2
    by_cases hl : x.val / 64 = h.val % 2
    · exact ⟨⟨x.val % 64, by omega⟩, Finset.mem_univ _, Fin.ext ((lo _ (by dsimp only; omega)).trans (by dsimp only; omega))⟩
    · exact ⟨⟨64 + x.val % 32, by omega⟩, Finset.mem_univ _, Fin.ext ((hi _ (by dsimp only; omega)).trans (by dsimp only; omega))⟩

/-! ## The scores -/

section

variable (q k : S16x2048x6x96.Idx → ℝ)

/-- The score of query `p` and key `j` of head `h`. -/
def score (b : Fin 16) (h : Fin 6) (p j : Fin 2048) : ℝ :=
  (∑ d, q (ix4 b p h d) * k (ix4 b j h d)) * (3424635 / 33554432)

/-- Its weight, zero past the query. -/
def weight (b : Fin 16) (h : Fin 6) (p j : Fin 2048) : ℝ := if j.val ≤ p.val then Real.exp (score q k b h p j) else 0

/-- The reference's scores. -/
theorem rs_weight (x0 x1 : FVec Ideal S16x2048x6x96 .f32) (hq : ∀ i, x0 i = q i) (hk : ∀ i, x1 i = k i)
    (b : Fin 16) (h : Fin 6) (p j : Fin 2048) : Wn (Cert.Reference6Ideal.Mla.rs x0 x1 b h p j) (weight q k b h p j) := by
  unfold Cert.Reference6Ideal.Mla.rs weight
  by_cases hj : j.val ≤ p.val
  · rw [if_pos hj, if_pos hj]
    refine Or.inr ⟨score q k b h p j, ?_, rfl⟩
    simp only [hq, hk, ← EReal.coe_mul, ← coe_sum]
    rfl
  · rw [if_neg hj, if_neg hj]
    exact Or.inl ⟨rfl, rfl⟩

variable (b : Fin 16) (t : Fin 8) (Y0 : FVec Ideal S1x1x768x256 .f32) (Y1 : FVec Ideal S1x2048x768 .bf16) (Y2 : FVec Ideal S1x8x384x256 .bf16)
  (A2 : FVec Ideal S16x2048x6x64 .f32)
  (h0 : ∀ h d p, Y0 (ix4 0 0 (hp h (lx h d)) p) = ((q (ix4 b (pos t p) h d) : ℝ) : EReal)) (h1 : ∀ j h d, Y1 (ix3 0 j (hp h (lx h d))) = ((k (ix4 b j h d) : ℝ) : EReal))
  (h2 : ∀ i h d r, Y2 (ix4 0 i (hd h d) r) = A2 (ix4 b (pos i r) h d))

include h0 h1 in
/-- The kernel's scores, over log 2. -/
theorem sc_eq (h : Fin 6) (p : Fin 256) (j : Fin 2048) :
    sc Y1 (pQ Y0) h p j = ((score q k b h (pos t p) j * (Real.log 2)⁻¹ : ℝ) : EReal) := by
  have eq (x : Fin 256) : Y1 (ix3 0 j (hp h x)) * pQ Y0 h (ix2 x p)
      = if x.val / 64 = h.val % 2 ∨ x.val / 32 = 4 + h.val % 2 then Y1 (ix3 0 j (hp h x)) * (Y0 (ix4 0 0 (hp h x) p) * cq) else 0 := by
    rw [pQ_apply]
    split
    · rfl
    · rw [mul_zero]
  unfold sc
  rw [Finset.sum_congr rfl fun x _ => eq x, sum_lanes h fun x => Y1 (ix3 0 j (hp h x)) * (Y0 (ix4 0 0 (hp h x) p) * cq)]
  simp only [h0, h1, cq, ← EReal.coe_mul, ← coe_sum]
  congr 1
  unfold score
  rw [Finset.sum_mul, Finset.sum_mul]
  exact Finset.sum_congr rfl fun d _ => by ring

include h0 h1 h2 in
/-- The kernel's element is the weighted average. -/
theorem oblk_eq (h : Fin 6) (d : Fin 64) (p : Fin 256) :
    oblk t.val Y0 Y1 Y2 (ix3 0 p (hd h d))
      = ((1 / ∑ j, weight q k b h (pos t p) j : ℝ) : EReal)
        * ∑ j, A2 (ix4 b j h d) * ((weight q k b h (pos t p) j : ℝ) : EReal) := by
  have ht8 := t.isLt
  let W : ℕ → Fin 256 → ℝ := fun i r => match i with
    | 0 => if r.val ≤ p.val then Real.exp (score q k b h (pos t p) (jx t.val r)) else 0
    | i + 1 => Real.exp (score q k b h (pos t p) (jx i r))
  rw [oblk_apply]
  have hw : ∀ i ≤ t.val, ∀ r, Wt (tsc (sc Y1 (pQ Y0) h p) t.val p i r) (W i r) := by
    intro i _ r
    have key (j : Fin 2048) : Wt (sc Y1 (pQ Y0) h p j) (Real.exp (score q k b h (pos t p) j)) :=
      Or.inr ⟨_, sc_eq q k b t Y0 Y1 h0 h1 h p j, (two_rpow _).symm⟩
    match i with
    | 0 =>
      by_cases hr : r.val ≤ p.val
      · simp only [W, tsc, if_pos hr]; exact key _
      · simp only [W, tsc, if_neg hr]; exact Or.inl ⟨rfl, rfl⟩
    | i + 1 => exact key _
  refine (run_div _ _ W t.val hw ⟨p, ?_⟩ d).trans ?_
  · simp only [W, le_refl, if_true]; exact Real.exp_pos _
  rw [sum_order (fun j => Real.exp (score q k b h (pos t p) j)) t p W (fun r => rfl) (fun k _ r => rfl),
    sum_order (fun j => A2 (ix4 b j h d) * ((Real.exp (score q k b h (pos t p) j) : ℝ) : EReal))
      t p (fun i r => tv Y2 h t.val i d r * ((W i r : ℝ) : EReal)) (fun r => ?_) (fun i hi r => ?_)]
  · refine congrArg₂ (· * ·) rfl (Finset.sum_congr rfl fun j _ => ?_)
    unfold weight
    split
    · rfl
    · rw [EReal.coe_zero, mul_zero]
  · have e : tv Y2 h t.val 0 d r = A2 (ix4 b (jx t.val r) h d) := by
      rw [jx_eq, ← h2]
      unfold tv
      refine congrArg (fun z => Y2 (ix4 0 z (hd h d) r)) (Fin.ext ?_)
      show ch t.val 0 % 8 = t.val
      rw [ch, if_pos rfl]; omega
    rw [e]
    by_cases hr : r.val ≤ p.val
    · simp only [W, if_pos hr]
    · simp only [W, if_neg hr, EReal.coe_zero, mul_zero]
  · have e : tv Y2 h t.val (i + 1) d r = A2 (ix4 b (jx i r) h d) := by
      have hi8 : i < 8 := by omega
      rw [jx_eq ⟨i, hi8⟩, ← h2]
      unfold tv
      refine congrArg (fun z => Y2 (ix4 0 z (hd h d) r)) (Fin.ext ?_)
      show ch t.val (i + 1) % 8 = i
      rw [ch, if_neg (by omega)]; simp; omega
    rw [e]

end

/-- The reference's element is the weighted average. -/
theorem ref_eq (q k : S16x2048x6x96.Idx → ℝ) (x0 x1 : FVec Ideal S16x2048x6x96 .f32) (x2 : FVec Ideal S16x2048x6x64 .f32)
    (hq : ∀ i, x0 i = q i) (hk : ∀ i, x1 i = k i) (b : Fin 16) (p : Fin 2048) (h : Fin 6) (d : Fin 64) :
    Cert.Reference6Ideal.Read.val_main_v25 (F := Ideal) x0 x1 x2 (ix3 b p (hd h d))
      = ((1 / ∑ j, weight q k b h p j : ℝ) : EReal) * ∑ j, x2 (ix4 b j h d) * ((weight q k b h p j : ℝ) : EReal) :=
  (Cert.Reference6Ideal.Mla.v25_apply x0 x1 x2 b p h d).trans
    (softmax_eq _ _ _ (fun j => rs_weight q k x0 x1 hq hk b h p j) ⟨p, by unfold weight; rw [if_pos le_rfl]; exact Real.exp_pos _⟩)

/-- The kernel's result array is the reference's, where queries and keys are real. -/
theorem result_eq (m : (ℓ : Loc nD τ sig) → Buf (Elt Ideal) ℓ) (c : Dev nD) (x0 x1 : FVec Ideal S16x2048x6x96 .f32) (x2 : FVec Ideal S16x2048x6x64 .f32)
    (e0 : m ((c : Thread nD τ).loc main_arg0) = x0) (e1 : m ((c : Thread nD τ).loc main_arg1) = x1)
    (e2 : m ((c : Thread nD τ).loc main_arg2) = x2)
    (q k : S16x2048x6x96.Idx → ℝ) (hq : ∀ i, x0 i = q i) (hk : ∀ i, x1 i = k i) :
    (dats m 0 c).arrAt 3 cfg0.N = Cert.Reference6Ideal.Read.val_main_v25 (F := Ideal) x0 x1 x2 := by
  refine (dats m 0 c).arrAt_eq_of_covers 3 _ (by decide +kernel) fun t hf y => ?_
  blk_simp
  rw [after0_3]
  have hy := exists_hd y
  obtain ⟨p, h, d, rfl⟩ := hy
  refine (oblk_eq q k (gb t) (gt t) _ _ _ x2 (fun h d p => ?_) (fun j h d => ?_) (fun i h d r => ?_) h d p).trans ?_
  · exact (blk_q m c t _ p).trans ((V_q m c (gb t) (gt t) h d p).trans ((congrFun e0 _).trans (hq _)))
  · exact (blk_k m c t j _).trans ((V_k m c (gb t) j h d).trans ((congrFun e1 _).trans (hk _)))
  · exact (blk_v m c t i _ r).trans ((V_v m c (gb t) i h d r).trans (congrFun e2 _))
  refine (ref_eq q k x0 x1 x2 hq hk (gb t) (pos (gt t) p) h d).symm.trans ?_
  refine congrArg (Cert.Reference6Ideal.Read.val_main_v25 (F := Ideal) x0 x1 x2) ?_
  blk_ext [index3]
  all_goals first | rfl | (show 256 * (grid0.coords t 1).val + p.val = _; omega)

end Cert.Kernel6Ideal.Mla.Exact

end
-- ==== Proof.Mla.Finite.lean ====
/- What the precondition says over the extended reals: every query and key is real. -/
module

public import proofs.«01_k».proof.Pre_finite_heads
public import Idealize.ShloMosaic.Lib.ReduceAll
public import Idealize.ShloMosaic.Lib.Affine
public import Idealize.ShloMosaic.Lib.ValueIdx
public import Idealize.ShloMosaic.PureOps.Ideal.Laws

@[expose] public section

noncomputable section

namespace Cert.Pre_finite_heads.Mla

open Cert.Pre_finite_heads
open Idealize.ShloMosaic

/-- The predicate's side conditions on shapes. -/
theorem facts : Cert.Pre_finite_heads.Facts := by
  constructor <;> decide

theorem ofBits_inf : Ideal.ofBits FTy.f32 0x7F800000#32 = ⊤ := by
  simp only [Ideal.ofBits]; rfl

/-- An element whose absolute value is below infinity is real. -/
theorem real_of_lt {x : EReal} (h : max x (-x) < ⊤) : x = ((x.toReal : ℝ) : EReal) := by
  have h1 : x ≠ ⊤ := fun e => absurd (lt_of_le_of_lt (le_max_left _ _) h) (by rw [e]; exact lt_irrefl _)
  have h2 : x ≠ ⊥ := fun e => absurd (lt_of_le_of_lt (le_max_right _ _) h) (by rw [e, EReal.neg_bot]; exact lt_irrefl _)
  exact (EReal.coe_toReal h1 h2).symm

instance : Subsingleton S_.Idx := ⟨fun a b => funext fun k => Fin.elim0 k⟩

/-- One conjunct: if every comparison of the absolute values with infinity holds, every element is real. -/
theorem real_of_all {s : Shape} {axes : List (Fin s.rank)} (x : FVec Ideal s .f32) (hb : S_.BroadcastsInDim s (![] : Fin 0 → Fin s.rank))
    (h : s.ReducesTo axes S_) (hu : 0 < S_.numel) (i0 : S_.Idx)
    (e : Host.reduce IntOp.andi (cmpf .olt (Host.absf x) (broadcastInDim s ![] hb (constant (F := Ideal) S_ .f32 0x7F800000#32))) (constantI S_ 1 1#1) h hu i0 = 1#1)
    (i : s.Idx) : x i = ((EReal.toReal (x i) : ℝ) : EReal) := by
  have e1 : Ideal.cmp .olt (max (x i) (-(x i))) (Ideal.ofBits FTy.f32 0x7F800000#32) = 1#1 := Host.reduce_andi_all _ _ h hu i0 e i
  rw [ofBits_inf] at e1
  refine real_of_lt ?_
  by_contra hn
  simp only [Ideal.cmp, hn, decide_false] at e1
  exact absurd e1 (by decide)

/-- The precondition's meaning. -/
theorem real (hP : Cert.Pre_finite_heads.Facts) (x0 x1 : FVec Ideal S16x2048x6x96 .f32) (x2 : FVec Ideal S16x2048x6x64 .f32)
    (h : Cert.Pre_finite_heads.fn (F := Ideal) x0 x1 x2 = fun _ => 1#1) :
    (∀ i, x0 i = ((EReal.toReal (x0 i) : ℝ) : EReal)) ∧ ∀ i, x1 i = ((EReal.toReal (x1 i) : ℝ) : EReal) := by
  have h0 := congrFun h (fun k => Fin.elim0 k)
  dsimp only [fn] at h0
  obtain ⟨h0, h1⟩ := IntOp.andi_eq_one.mp h0
  exact ⟨real_of_all x0 _ _ _ _ h0, real_of_all x1 _ _ _ _ h1⟩

end Cert.Pre_finite_heads.Mla

end
-- ==== Proof.lean ====
/- The certificate's claim: the programs' frames, the named constants and the kernels' values, assembled. -/
module

public import proofs.«01_k».proof.Defs
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Loops
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Loops
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Fox.KernelFrame
public import proofs.«01_k».proof.Proof.Fox.IdealFrame
public import proofs.«01_k».proof.Proof.Fox.Equal
public import proofs.«01_k».proof.Proof.Fox.Finite
public import proofs.«01_k».proof.Proof.Ffn.Equal
public import proofs.«01_k».proof.Proof.Ffn.Plain.Equal
public import proofs.«01_k».proof.Proof.Mix.Equal
public import proofs.«01_k».proof.Proof.Mix.Finite
public import proofs.«01_k».proof.Proof.Mem.Equal
public import proofs.«01_k».proof.Proof.Mla.KernelFrame
public import proofs.«01_k».proof.Proof.Mla.IdealFrame
public import proofs.«01_k».proof.Proof.Mla.Equal
public import proofs.«01_k».proof.Proof.Mla.Finite
public import Idealize.ShloMosaic.Adequacy
public import Idealize.ShloMosaic.Init

@[expose] public section

noncomputable section

namespace Cert.Proof

open Idealize.ShloMosaic Idealize.SL.Sem

/-- The reference's frame: it runs, leaves its arguments as they were and has no semaphore. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2, sem_eq_zero_of_no_sems (by decide) r.2⟩) (Cert.ReferenceIdeal.Value.run m g)

/-- The three constants the idealized kernel names denote what the table says. -/
theorem preserves : Cert.preserves_Kernel_KernelIdeal :=
  ⟨IdealRules.named_const.statement Cert.KernelIdeal.κ "qscale" .f32 0x3E38AA3B#32 (((1 / 8) * (Real.log 2)⁻¹ : ℝ) : EReal) rfl,
    IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl⟩

open Cert.KernelIdeal.Fox Cert.KernelIdeal.Gen in
/-- Over the extended reals the kernel's program and the reference's leave the same array, when the queries, the keys and the cumulative log gates are real. -/
theorem algebraic [hP : Cert.Pre_finite_scores.Facts] : Cert.algebraic_KernelIdeal_ReferenceIdeal_pre_finite_scores :=
  fun m g m' g' hpre hargs =>
    ⟨fun c => (Exact.dats m 0 c).arrAt 5 Cert.KernelIdeal.cfg0.N,
      (θ_run _ _ _).mono (fun _ h c => ⟨h.1.out_eq c 5,
        (h.1.rest_eq c Cert.KernelIdeal.main_arg0 (Pipeline.mem_restRefs_of Cert.KernelIdeal.main_arg0 (by decide) (by decide))).trans (V_main_arg0 m c),
        (h.1.rest_eq c Cert.KernelIdeal.main_arg1 (Pipeline.mem_restRefs_of Cert.KernelIdeal.main_arg1 (by decide) (by decide))).trans (V_main_arg1 m c),
        (h.1.rest_eq c Cert.KernelIdeal.main_arg2 (Pipeline.mem_restRefs_of Cert.KernelIdeal.main_arg2 (by decide) (by decide))).trans (V_main_arg2 m c),
        (h.1.rest_eq c Cert.KernelIdeal.main_arg3 (Pipeline.mem_restRefs_of Cert.KernelIdeal.main_arg3 (by decide) (by decide))).trans (V_main_arg3 m c)⟩) (Exact.run_main m g),
      (θ_run _ _ _).mono (fun _ h c => ⟨(h c).1.trans ((Cert.ReferenceIdeal.Read.val_main_v35_eq m' c).trans
        (Exact.result_eq m c _ _ _ _ (hargs c).1.symm (hargs c).2.1.symm (hargs c).2.2.1.symm (hargs c).2.2.2.symm _ _ _
          (by rw [(hargs c).1]; exact (Cert.Pre_finite_scores.Fox.real hP _ _ _ _ (hpre c)).1)
          (by rw [(hargs c).2.1]; exact (Cert.Pre_finite_scores.Fox.real hP _ _ _ _ (hpre c)).2.1)
          (by rw [(hargs c).2.2.2]; exact (Cert.Pre_finite_scores.Fox.real hP _ _ _ _ (hpre c)).2.2)).symm), (h c).2⟩)
        (Cert.ReferenceIdeal.Value.run m' g')⟩

/-- The feed-forward's reference's frame. -/
theorem reference2_frame (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0) :=
  (θ_run _ _ _).mono (fun r h => ⟨fun c => (h c).2, sem_eq_zero_of_no_sems (by decide) r.2⟩) (Cert.Reference2Ideal.Value.run m g)

/-- The feed-forward's program and the idealized one have the same bodies. -/
theorem bodies2 : Cert.Kernel2.defs₀ (F := Bits) = Cert.Kernel2Ideal.defs₀ (F := Bits) := by
  unfold Cert.Kernel2.defs₀ Cert.Kernel2Ideal.defs₀
  refine congrArg Defs.onTc ?_
  funext l x
  match l, x with
  | 0, (t, s) => rfl

/-- The feed-forward's frame: its program and the idealized one have the same text, so one run serves both. -/
theorem kernel2_frame : Cert.quiescent_Kernel2 (hKernel2 := Cert.Kernel2.Gen.facts) := fun m g _ => by
  have h := Cert.Kernel2Ideal.Gen.frame (F := Bits) m g
  unfold Cert.Kernel2Ideal.defs at h
  rw [← bodies2] at h
  exact h

/-- Over the extended reals the feed-forward's program and its reference leave the same array. -/
theorem algebraic2 : Cert.algebraic_Kernel2Ideal_Reference2Ideal (hKernel2Ideal := Cert.Kernel2Ideal.Gen.facts) (hReference2Ideal := Cert.Reference2Ideal.Gen.facts) :=
  fun m g m' g' _ hargs =>
    ⟨fun c => (Cert.Kernel2Ideal.Gen.dats m 0 c).arrAt 5 Cert.Kernel2Ideal.cfg0.N, Cert.Kernel2Ideal.Value.run_blocks m g,
      (θ_run _ _ _).mono (fun _ h c => ⟨(h c).1.trans ((Cert.Reference2Ideal.Read.val_main_v41_eq m' c).trans
        (Cert.Kernel2Ideal.Ffn.result_eq m c _ _ _ _ _ (hargs c).1.symm (hargs c).2.1.symm (hargs c).2.2.1.symm (hargs c).2.2.2.1.symm (hargs c).2.2.2.2.symm).symm), (h c).2⟩)
        (Cert.Reference2Ideal.Value.run m' g')⟩

/-- The output mix's reference's frame. -/
theorem reference3_frame : Cert.quiescent_Reference3Ideal (hReference3Ideal := Cert.Reference3Ideal.Gen.facts) := fun m g _ =>
  (θ_run _ _ _).mono (fun r h => ⟨fun c => (h c).2, sem_eq_zero_of_no_sems (by decide) r.2⟩) (Cert.Reference3Ideal.Value.run m g)

/-- The constant the output mix's idealized kernel names denotes what the table says. -/
theorem preserves3 : Cert.preserves_Kernel3_Kernel3Ideal :=
  IdealRules.named_const.statement Cert.Kernel3Ideal.κ "xscale" .f32 0x3E0293EE#32 (((11863283 / 134217728) * (Real.log 2)⁻¹ : ℝ) : EReal) rfl

/-- Over the extended reals the output mix's program with its cross-attention and its reference leave the same array, when the keys, the gains and the query weights are real. -/
theorem algebraic3 [hP : Cert.Pre_finite_keys.Facts] :
    Cert.algebraic_Kernel3Ideal_Reference3Ideal_pre_finite_keys (hKernel3Ideal := Cert.Kernel3Ideal.Gen.facts) (hReference3Ideal := Cert.Reference3Ideal.Gen.facts) :=
  fun m g m' g' hpre hargs =>
    ⟨fun c => (Cert.Kernel3Ideal.Gen.dats m 0 c).arrAt 10 Cert.Kernel3Ideal.cfg0.N, Cert.Kernel3Ideal.Value.run_blocks m g,
      (θ_run _ _ _).mono (fun _ h c => ⟨(h c).1.trans ((Cert.Reference3Ideal.Read.val_main_v49_eq m' c).trans (by
        obtain ⟨a0, a1, a2, a3, a4, a5, a6, a7, a8, a9⟩ := hargs c
        have hr := Cert.Pre_finite_keys.Mix.real hP _ _ _ _ _ _ _ _ _ _ (hpre c)
        exact (Cert.Kernel3Ideal.Mix.result_eq m c _ _ _ _ _ _ _ _ _ _ a0.symm a1.symm a2.symm a3.symm a4.symm a5.symm a6.symm a7.symm a8.symm a9.symm
          (by rw [a4]; exact hr.1) (by rw [a7]; exact hr.2.1) (by rw [a8]; exact hr.2.2)).symm)), (h c).2⟩)
        (Cert.Reference3Ideal.Value.run m' g')⟩

/-- The memory's reference's frame. -/
theorem reference4_frame : Cert.quiescent_Reference4Ideal (hReference4Ideal := Cert.Reference4Ideal.Gen.facts) := fun m g _ =>
  (θ_run _ _ _).mono (fun r h => ⟨fun c => (h c).2.2, sem_eq_zero_of_no_sems (by decide) r.2⟩) (Cert.Reference4Ideal.Value.run m g)

/-- The memory's program and the idealized one have the same bodies. -/
theorem bodies4 : Cert.Kernel4.defs₀ (F := Bits) = Cert.Kernel4Ideal.defs₀ (F := Bits) := by
  unfold Cert.Kernel4.defs₀ Cert.Kernel4Ideal.defs₀
  refine congrArg Defs.onTc ?_
  funext l x
  match l, x with
  | 0, (t, s) => rfl

/-- The memory's frame: its program and the idealized one have the same text, so one run serves both. -/
theorem kernel4_frame : Cert.quiescent_Kernel4 (hKernel4 := Cert.Kernel4.Gen.facts) := fun m g _ => by
  have h := Cert.Kernel4Ideal.Gen.frame (F := Bits) m g
  unfold Cert.Kernel4Ideal.defs at h
  rw [← bodies4] at h
  exact h

/-- Over the extended reals the memory's program and its reference leave the same keys and values. -/
theorem algebraic4 : Cert.algebraic_Kernel4Ideal_Reference4Ideal (hKernel4Ideal := Cert.Kernel4Ideal.Gen.facts) (hReference4Ideal := Cert.Reference4Ideal.Gen.facts) :=
  fun m g m' g' _ hargs =>
    ⟨fun c => (Cert.Kernel4Ideal.Gen.dats m 0 c).arrAt 3 Cert.Kernel4Ideal.cfg0.N, fun c => (Cert.Kernel4Ideal.Gen.dats m 0 c).arrAt 4 Cert.Kernel4Ideal.cfg0.N,
      Cert.Kernel4Ideal.Value.run_blocks m g,
      (θ_run _ _ _).mono (fun _ h c => ⟨(h c).1.trans ((Cert.Reference4Ideal.Read.val_main_v20_eq _ _ _).trans
          (Cert.Kernel4Ideal.Mem.keys_eq m c _ _ _ (hargs c).1.symm (hargs c).2.1.symm (hargs c).2.2.symm).symm),
        (h c).2.1.trans ((Cert.Reference4Ideal.Read.val_main_v21_eq _ _ _).trans
          (Cert.Kernel4Ideal.Mem.values_eq m c _ _ _ (hargs c).1.symm (hargs c).2.1.symm (hargs c).2.2.symm).symm), (h c).2.2⟩)
        (Cert.Reference4Ideal.Value.run m' g')⟩

/-- The reference's frame, of the feed-forward without the final norm. -/
theorem reference5_frame : Cert.quiescent_Reference5Ideal (hReference5Ideal := Cert.Reference5Ideal.Gen.facts) := fun m g _ =>
  (θ_run _ _ _).mono (fun r h => ⟨fun c => (h c).2, sem_eq_zero_of_no_sems (by decide) r.2⟩) (Cert.Reference5Ideal.Value.run m g)

/-- The program of the feed-forward without the final norm and the idealized one have the same bodies. -/
theorem bodies5 : Cert.Kernel5.defs₀ (F := Bits) = Cert.Kernel5Ideal.defs₀ (F := Bits) := by
  unfold Cert.Kernel5.defs₀ Cert.Kernel5Ideal.defs₀
  refine congrArg Defs.onTc ?_
  funext l x
  match l, x with
  | 0, (t, s) => rfl

/-- Its frame: the two programs have the same text, so one run serves both. -/
theorem kernel5_frame : Cert.quiescent_Kernel5 (hKernel5 := Cert.Kernel5.Gen.facts) := fun m g _ => by
  have h := Cert.Kernel5Ideal.Gen.frame (F := Bits) m g
  unfold Cert.Kernel5Ideal.defs at h
  rw [← bodies5] at h
  exact h

/-- Over the extended reals the program and its reference leave the same array, of the feed-forward without the final norm. -/
theorem algebraic5 : Cert.algebraic_Kernel5Ideal_Reference5Ideal (hKernel5Ideal := Cert.Kernel5Ideal.Gen.facts) (hReference5Ideal := Cert.Reference5Ideal.Gen.facts) :=
  fun m g m' g' _ hargs =>
    ⟨fun c => (Cert.Kernel5Ideal.Gen.dats m 0 c).arrAt 5 Cert.Kernel5Ideal.cfg0.N, Cert.Kernel5Ideal.Value.run_blocks m g,
      (θ_run _ _ _).mono (fun _ h c => ⟨(h c).1.trans ((Cert.Reference5Ideal.Read.val_main_v28_eq m' c).trans
        (Cert.Kernel5Ideal.Ffn.result_eq m c _ _ _ _ (hargs c).1.symm (hargs c).2.1.symm (hargs c).2.2.1.symm (hargs c).2.2.2.symm).symm), (h c).2⟩)
        (Cert.Reference5Ideal.Value.run m' g')⟩

/-- The latent attention's reference's frame. -/
theorem reference6_frame : Cert.quiescent_Reference6Ideal (hReference6Ideal := Cert.Reference6Ideal.Gen.facts) := fun m g _ =>
  (θ_run _ _ _).mono (fun r h => ⟨fun c => (h c).2, sem_eq_zero_of_no_sems (by decide) r.2⟩) (Cert.Reference6Ideal.Value.run m g)

/-- The two constants the latent attention's idealized kernel names denote what the table says. -/
theorem preserves6 : Cert.preserves_Kernel6_Kernel6Ideal :=
  ⟨IdealRules.named_const.statement Cert.Kernel6Ideal.κ "mscale" .f32 0x3E16C740#32 (((3424635 / 33554432) * (Real.log 2)⁻¹ : ℝ) : EReal) rfl,
    IdealRules.named_const.statement Cert.Kernel6Ideal.κ "mask" .f32 0xF149F2CA#32 ⊥ rfl⟩

open Cert.Kernel6Ideal.Mla Cert.Kernel6Ideal.Gen in
/-- Over the extended reals the latent attention's program and its reference leave the same array, when the queries and the keys are real. -/
theorem algebraic6 [hP : Cert.Pre_finite_heads.Facts] :
    Cert.algebraic_Kernel6Ideal_Reference6Ideal_pre_finite_heads (hKernel6Ideal := Cert.Kernel6Ideal.Gen.facts) (hReference6Ideal := Cert.Reference6Ideal.Gen.facts) :=
  fun m g m' g' hpre hargs =>
    ⟨fun c => (Exact.dats m 0 c).arrAt 3 Cert.Kernel6Ideal.cfg0.N,
      (θ_run _ _ _).mono (fun _ h c => ⟨h.1.out_eq c 3,
        (h.1.rest_eq c Cert.Kernel6Ideal.main_arg0 (Pipeline.mem_restRefs_of Cert.Kernel6Ideal.main_arg0 (by decide) (by decide))).trans (V_main_arg0 m c),
        (h.1.rest_eq c Cert.Kernel6Ideal.main_arg1 (Pipeline.mem_restRefs_of Cert.Kernel6Ideal.main_arg1 (by decide) (by decide))).trans (V_main_arg1 m c),
        (h.1.rest_eq c Cert.Kernel6Ideal.main_arg2 (Pipeline.mem_restRefs_of Cert.Kernel6Ideal.main_arg2 (by decide) (by decide))).trans (V_main_arg2 m c)⟩) (Exact.run_main m g),
      (θ_run _ _ _).mono (fun _ h c => ⟨(h c).1.trans ((Cert.Reference6Ideal.Read.val_main_v25_eq m' c).trans
        (Exact.result_eq m c _ _ _ (hargs c).1.symm (hargs c).2.1.symm (hargs c).2.2.symm _ _
          (by rw [(hargs c).1]; exact (Cert.Pre_finite_heads.Mla.real hP _ _ _ (hpre c)).1)
          (by rw [(hargs c).2.1]; exact (Cert.Pre_finite_heads.Mla.real hP _ _ _ (hpre c)).2)).symm), (h c).2⟩)
        (Cert.Reference6Ideal.Value.run m' g')⟩

/-- The certificate's claim. -/
theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Kernel4.Gen.facts, Cert.Kernel4Ideal.Gen.facts,
  Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts,
  Cert.Pre_finite_scores.Fox.facts, Cert.Pre_finite_keys.Mix.facts, Cert.Pre_finite_heads.Mla.facts,
  fun m g _ => Cert.Kernel.Fox.frame m g, fun m g _ => Cert.KernelIdeal.Fox.frame m g, fun m g _ => Cert.KernelIdeal.Fox.frame m g,
  fun m g _ => reference_frame m g, fun m g _ => reference_frame m g,
  kernel2_frame, fun m g _ => Cert.Kernel2Ideal.Gen.frame m g, fun m g _ => reference2_frame m g,
  fun m g _ => Cert.Kernel3.Gen.frame m g, fun m g _ => Cert.Kernel3Ideal.Gen.frame m g, fun m g _ => Cert.Kernel3Ideal.Gen.frame m g,
  fun m g _ => reference3_frame m g trivial, fun m g _ => reference3_frame m g trivial,
  kernel4_frame, fun m g _ => Cert.Kernel4Ideal.Gen.frame m g, reference4_frame,
  kernel5_frame, fun m g _ => Cert.Kernel5Ideal.Gen.frame m g, reference5_frame,
  fun m g _ => Cert.Kernel6.Mla.frame m g, fun m g _ => Cert.Kernel6Ideal.Mla.frame m g, fun m g _ => Cert.Kernel6Ideal.Mla.frame m g,
  fun m g _ => reference6_frame m g trivial, fun m g _ => reference6_frame m g trivial,
  preserves, algebraic (hP := Cert.Pre_finite_scores.Fox.facts), algebraic2, preserves3, algebraic3 (hP := Cert.Pre_finite_keys.Mix.facts), algebraic4, algebraic5,
  preserves6, algebraic6 (hP := Cert.Pre_finite_heads.Mla.facts)⟩

end Cert.Proof

end
